-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_pre [hPre_pre : Cert.Pre_pre.Facts] (m : (ℓ : Loc Cert.KernelIdeal.nD Cert.KernelIdeal.τ Cert.KernelIdeal.sig) → Buf (Elt Ideal) ℓ) : Prop :=
  ∀ c : Dev Cert.KernelIdeal.nD,
    (Cert.Pre_pre.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_pre [hPre_pre : Cert.Pre_pre.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pre.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pre [hKernelIdeal : Cert.KernelIdeal.Facts] [hPre_pre : Cert.Pre_pre.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pre m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pre [hReferenceIdeal : Cert.ReferenceIdeal.Facts] [hPre_pre : Cert.Pre_pre.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pre m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_pre [hKernelIdeal : Cert.KernelIdeal.Facts] [hReferenceIdeal : Cert.ReferenceIdeal.Facts] [hPre_pre : Cert.Pre_pre.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pre m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)) (v4 : (c : Dev Cert.KernelIdeal.nD) → Buf (Elt Ideal) ((c.tc : Thread Cert.KernelIdeal.nD Cert.KernelIdeal.τ).loc Cert.KernelIdeal.main_v0_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_v0_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_v82_0) = v1 c
          ∧ r.2.mem ((c.tc : Thread Cert.ReferenceIdeal.nD Cert.ReferenceIdeal.τ).loc Cert.ReferenceIdeal.main_v46) = v2 c
          ∧ r.2.mem ((c.tc : Thread Cert.ReferenceIdeal.nD Cert.ReferenceIdeal.τ).loc Cert.ReferenceIdeal.main_v82_1) = v3 c
          ∧ r.2.mem ((c.tc : Thread Cert.ReferenceIdeal.nD Cert.ReferenceIdeal.τ).loc Cert.ReferenceIdeal.main_v81) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_pre : Cert.Pre_pre.Facts),
    quiescent_Kernel (hKernel := hKernel)
    ∧ quiescent_KernelIdeal (hKernelIdeal := hKernelIdeal)
    ∧ quiescent_KernelIdeal_pre_pre (hKernelIdeal := hKernelIdeal) (hPre_pre := hPre_pre)
    ∧ quiescent_ReferenceIdeal (hReferenceIdeal := hReferenceIdeal)
    ∧ quiescent_ReferenceIdeal_pre_pre (hReferenceIdeal := hReferenceIdeal) (hPre_pre := hPre_pre)
    ∧ preserves_Kernel_KernelIdeal
    ∧ algebraic_KernelIdeal_ReferenceIdeal_pre_pre (hKernelIdeal := hKernelIdeal) (hReferenceIdeal := hReferenceIdeal) (hPre_pre := hPre_pre)
-- ==== Pre_pre.lean ====
abbrev S33792x4608 : Shape := ⟨2, ![33792, 4608]⟩
abbrev S_ : Shape := ⟨0, ![]⟩

class Facts : Prop where
  bitsLt_bf16_f32 : FTy.bits .bf16 < FTy.bits .f32
  bcast_S_S33792x4608 : S_.BroadcastsInDim S33792x4608 (![] : Fin 0 → Fin S33792x4608.rank)
  reducesTo_S33792x4608_S_d0_1 : S33792x4608.ReducesTo [0, 1] S_
  h_S_ : 0 < S_.numel

variable [Facts]

def fn {F : FTy → Type} [FloatOps F] (main_arg0 : FVec F S33792x4608 .bf16) (main_arg1 : FVec F S33792x4608 .bf16) : IVec S_ 1 :=
  let main_v0 : FVec F S33792x4608 .f32 := (extf .f32 · bitsLt_bf16_f32) main_arg1
  let main_v1 : FVec F S33792x4608 .f32 := Host.absf main_v0
  let main_cst : FVec F S_ .f32 := constant S_ .f32 0x7F7F0000#32
  let main_v2 : FVec F S33792x4608 .f32 := broadcastInDim S33792x4608 ![] bcast_S_S33792x4608 main_cst
  let main_v3 : IVec S33792x4608 1 := cmpf .ole main_v1 main_v2
  let main_c : IVec S_ 1 := constantI S_ 1 1#1
  let main_v4 : IVec S_ 1 := (fun x v => Host.reduce IntOp.andi x v reducesTo_S33792x4608_S_d0_1 h_S_) main_v3 main_c
  main_v4
-- ==== Kernel.lean ====
abbrev S33792x4608 : Shape := ⟨2, ![33792, 4608]⟩
abbrev S1x4608 : Shape := ⟨2, ![1, 4608]⟩
abbrev S33792x144 : Shape := ⟨2, ![33792, 144]⟩
abbrev S4608x33792 : Shape := ⟨2, ![4608, 33792]⟩
abbrev S4608x1056 : Shape := ⟨2, ![4608, 1056]⟩
abbrev S256x4608 : Shape := ⟨2, ![256, 4608]⟩
abbrev S256x144 : Shape := ⟨2, ![256, 144]⟩
abbrev S4608x256 : Shape := ⟨2, ![4608, 256]⟩
abbrev S4608x128 : Shape := ⟨2, ![4608, 128]⟩
abbrev S2x256x128 : Shape := ⟨3, ![2, 256, 128]⟩
abbrev S2x72x128 : Shape := ⟨3, ![2, 72, 128]⟩
abbrev S8x4608 : Shape := ⟨2, ![8, 4608]⟩
abbrev S144x256 : Shape := ⟨2, ![144, 256]⟩
abbrev S128x4608 : Shape := ⟨2, ![128, 4608]⟩
abbrev S8x256 : Shape := ⟨2, ![8, 256]⟩
abbrev S8x128 : Shape := ⟨2, ![8, 128]⟩
abbrev S32x128 : Shape := ⟨2, ![32, 128]⟩
abbrev S1x8x128 : Shape := ⟨3, ![1, 8, 128]⟩
abbrev S1x32x128 : Shape := ⟨3, ![1, 32, 128]⟩
abbrev S1x128x128 : Shape := ⟨3, ![1, 128, 128]⟩
abbrev S128x128 : Shape := ⟨2, ![128, 128]⟩
abbrev S128x256 : Shape := ⟨2, ![128, 256]⟩
abbrev S4608 : Shape := ⟨1, ![4608]⟩

abbrev nBuf : Space → Nat
  | .hbm => 7
  | .vmem => 20
  | .smem => 0
  | _ => 0

abbrev bufTy : (tb : Table) → Fin (tcTables nBuf tb) → BufTy
  | .hbm, ⟨0, _⟩ => ⟨S33792x4608, .bf16⟩
  | .hbm, ⟨1, _⟩ => ⟨S33792x4608, .bf16⟩
  | .hbm, ⟨2, _⟩ => ⟨S1x4608, .f32⟩
  | .hbm, ⟨3, _⟩ => ⟨S33792x4608, .fp8e5m2⟩
  | .hbm, ⟨4, _⟩ => ⟨S33792x144, .f32⟩
  | .hbm, ⟨5, _⟩ => ⟨S4608x33792, .fp8e5m2⟩
  | .hbm, ⟨6, _⟩ => ⟨S4608x1056, .f32⟩
  | .local _ .vmem, ⟨0, _⟩ => ⟨S256x4608, .bf16⟩
  | .local _ .vmem, ⟨1, _⟩ => ⟨S256x4608, .bf16⟩
  | .local _ .vmem, ⟨2, _⟩ => ⟨S256x4608, .bf16⟩
  | .local _ .vmem, ⟨3, _⟩ => ⟨S256x4608, .bf16⟩
  | .local _ .vmem, ⟨4, _⟩ => ⟨S1x4608, .f32⟩
  | .local _ .vmem, ⟨5, _⟩ => ⟨S256x4608, .fp8e5m2⟩
  | .local _ .vmem, ⟨6, _⟩ => ⟨S256x4608, .fp8e5m2⟩
  | .local _ .vmem, ⟨7, _⟩ => ⟨S256x144, .f32⟩
  | .local _ .vmem, ⟨8, _⟩ => ⟨S256x144, .f32⟩
  | .local _ .vmem, ⟨9, _⟩ => ⟨S4608x256, .fp8e5m2⟩
  | .local _ .vmem, ⟨10, _⟩ => ⟨S4608x256, .fp8e5m2⟩
  | .local _ .vmem, ⟨11, _⟩ => ⟨S4608x128, .f32⟩
  | .local _ .vmem, ⟨12, _⟩ => ⟨S4608x128, .f32⟩
  | .local _ .vmem, ⟨13, _⟩ => ⟨S2x256x128, .f32⟩
  | .local _ .vmem, ⟨14, _⟩ => ⟨S2x256x128, .f32⟩
  | .local _ .vmem, ⟨15, _⟩ => ⟨S2x72x128, .f32⟩
  | .local _ .vmem, ⟨16, _⟩ => ⟨S2x72x128, .f32⟩
  | .local _ .vmem, ⟨17, _⟩ => ⟨S8x4608, .f32⟩
  | .local _ .vmem, ⟨18, _⟩ => ⟨S144x256, .f32⟩
  | .local _ .vmem, ⟨19, _⟩ => ⟨S128x4608, .f32⟩
  | _, _ => ⟨S33792x4608, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev main_v0_3 : Ref sig .tc := ⟨.hbm, 5, rfl⟩
abbrev main_v0_4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_scratch3 : Ref sig .tc := ⟨.vmem, 16, rfl⟩
abbrev cc0_scratch4 : Ref sig .tc := ⟨.vmem, 17, rfl⟩
abbrev cc0_scratch5 : Ref sig .tc := ⟨.vmem, 18, rfl⟩
abbrev cc0_scratch6 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![132], ![false]⟩

@[reducible] def k0_t1_loop : Scf.Loop 32 :=
  let c0_i32_6 : BitVec 32 := 0#32
  let c18_i32 : BitVec 32 := 18#32
  let v32 : BitVec 32 := Scalar.addi c0_i32_6 c18_i32
  let c1_i32_7 : BitVec 32 := 1#32
  ⟨c0_i32_6, v32, c1_i32_7⟩
def k0_mult1 (k0_t1 : Fin k0_t1_loop.trips) : BitVec 32 :=
  let c0_i32_6 : BitVec 32 := 0#32
  let c1_i32_7 : BitVec 32 := 1#32
  let arg15 : BitVec 32 := Scf.iv c0_i32_6 c1_i32_7 k0_t1
  let c256_i32 : BitVec 32 := 256#32
  let v54 : BitVec 32 := Scalar.muli arg15 c256_i32
  v54
def k0_mult2 (k0_t1 : Fin k0_t1_loop.trips) : BitVec 32 :=
  let c0_i32_6 : BitVec 32 := 0#32
  let c1_i32_7 : BitVec 32 := 1#32
  let arg15 : BitVec 32 := Scf.iv c0_i32_6 c1_i32_7 k0_t1
  let c256_i32 : BitVec 32 := 256#32
  let v54 : BitVec 32 := Scalar.muli arg15 c256_i32
  let v55 : BitVec 32 := v54
  let c0_i32_20 : BitVec 32 := 0#32
  let v56 : BitVec 32 := Scalar.addi v55 c0_i32_20
  v56
def k0_off1 (k0_t1 : Fin k0_t1_loop.trips) (c0_i32_20 : BitVec 32) : Fin 2 → Nat :=
  let c0_21 : Index := 0#32
  let c0_i32_6 : BitVec 32 := 0#32
  let c1_i32_7 : BitVec 32 := 1#32
  let arg15 : BitVec 32 := Scf.iv c0_i32_6 c1_i32_7 k0_t1
  let c256_i32 : BitVec 32 := 256#32
  let v54 : BitVec 32 := Scalar.muli arg15 c256_i32
  let v55 : BitVec 32 := v54
  let v56 : BitVec 32 := Scalar.addi v55 c0_i32_20
  let v57 : BitVec 32 := v56
  let v58 : Index := Scalar.indexCast v57
  ![0, v58.toNat]
def k0_off2 (k0_t1 : Fin k0_t1_loop.trips) (c0_i32_20 : BitVec 32) : Fin 2 → Nat :=
  let c0_22 : Index := 0#32
  let c0_i32_6 : BitVec 32 := 0#32
  let c1_i32_7 : BitVec 32 := 1#32
  let arg15 : BitVec 32 := Scf.iv c0_i32_6 c1_i32_7 k0_t1
  let c256_i32 : BitVec 32 := 256#32
  let v54 : BitVec 32 := Scalar.muli arg15 c256_i32
  let v55 : BitVec 32 := v54
  let v56 : BitVec 32 := Scalar.addi v55 c0_i32_20
  let v57 : BitVec 32 := v56
  let v60 : Index := Scalar.indexCast v57
  ![0, v60.toNat]
def k0_off3 (k0_t1 : Fin k0_t1_loop.trips) (c0_i32_20 : BitVec 32) : Fin 2 → Nat :=
  let c32 : Index := 32#32
  let c0_i32_6 : BitVec 32 := 0#32
  let c1_i32_7 : BitVec 32 := 1#32
  let arg15 : BitVec 32 := Scf.iv c0_i32_6 c1_i32_7 k0_t1
  let c256_i32 : BitVec 32 := 256#32
  let v54 : BitVec 32 := Scalar.muli arg15 c256_i32
  let v55 : BitVec 32 := v54
  let v56 : BitVec 32 := Scalar.addi v55 c0_i32_20
  let v57 : BitVec 32 := v56
  let v111 : Index := Scalar.indexCast v57
  ![32, v111.toNat]
def k0_off4 (k0_t1 : Fin k0_t1_loop.trips) (c0_i32_20 : BitVec 32) : Fin 2 → Nat :=
  let c64 : Index := 64#32
  let c0_i32_6 : BitVec 32 := 0#32
  let c1_i32_7 : BitVec 32 := 1#32
  let arg15 : BitVec 32 := Scf.iv c0_i32_6 c1_i32_7 k0_t1
  let c256_i32 : BitVec 32 := 256#32
  let v54 : BitVec 32 := Scalar.muli arg15 c256_i32
  let v55 : BitVec 32 := v54
  let v56 : BitVec 32 := Scalar.addi v55 c0_i32_20
  let v57 : BitVec 32 := v56
  let v162 : Index := Scalar.indexCast v57
  ![64, v162.toNat]
def k0_off5 (k0_t1 : Fin k0_t1_loop.trips) (c0_i32_20 : BitVec 32) : Fin 2 → Nat :=
  let c96 : Index := 96#32
  let c0_i32_6 : BitVec 32 := 0#32
  let c1_i32_7 : BitVec 32 := 1#32
  let arg15 : BitVec 32 := Scf.iv c0_i32_6 c1_i32_7 k0_t1
  let c256_i32 : BitVec 32 := 256#32
  let v54 : BitVec 32 := Scalar.muli arg15 c256_i32
  let v55 : BitVec 32 := v54
  let v56 : BitVec 32 := Scalar.addi v55 c0_i32_20
  let v57 : BitVec 32 := v56
  let v213 : Index := Scalar.indexCast v57
  ![96, v213.toNat]
def k0_off6 (k0_t1 : Fin k0_t1_loop.trips) (c0_i32_20 : BitVec 32) : Fin 2 → Nat :=
  let c128 : Index := 128#32
  let c0_i32_6 : BitVec 32 := 0#32
  let c1_i32_7 : BitVec 32 := 1#32
  let arg15 : BitVec 32 := Scf.iv c0_i32_6 c1_i32_7 k0_t1
  let c256_i32 : BitVec 32 := 256#32
  let v54 : BitVec 32 := Scalar.muli arg15 c256_i32
  let v55 : BitVec 32 := v54
  let v56 : BitVec 32 := Scalar.addi v55 c0_i32_20
  let v57 : BitVec 32 := v56
  let v327 : Index := Scalar.indexCast v57
  ![128, v327.toNat]
def k0_off7 (k0_t1 : Fin k0_t1_loop.trips) (c0_i32_20 : BitVec 32) : Fin 2 → Nat :=
  let c160 : Index := 160#32
  let c0_i32_6 : BitVec 32 := 0#32
  let c1_i32_7 : BitVec 32 := 1#32
  let arg15 : BitVec 32 := Scf.iv c0_i32_6 c1_i32_7 k0_t1
  let c256_i32 : BitVec 32 := 256#32
  let v54 : BitVec 32 := Scalar.muli arg15 c256_i32
  let v55 : BitVec 32 := v54
  let v56 : BitVec 32 := Scalar.addi v55 c0_i32_20
  let v57 : BitVec 32 := v56
  let v378 : Index := Scalar.indexCast v57
  ![160, v378.toNat]
def k0_off8 (k0_t1 : Fin k0_t1_loop.trips) (c0_i32_20 : BitVec 32) : Fin 2 → Nat :=
  let c192 : Index := 192#32
  let c0_i32_6 : BitVec 32 := 0#32
  let c1_i32_7 : BitVec 32 := 1#32
  let arg15 : BitVec 32 := Scf.iv c0_i32_6 c1_i32_7 k0_t1
  let c256_i32 : BitVec 32 := 256#32
  let v54 : BitVec 32 := Scalar.muli arg15 c256_i32
  let v55 : BitVec 32 := v54
  let v56 : BitVec 32 := Scalar.addi v55 c0_i32_20
  let v57 : BitVec 32 := v56
  let v429 : Index := Scalar.indexCast v57
  ![192, v429.toNat]
def k0_off9 (k0_t1 : Fin k0_t1_loop.trips) (c0_i32_20 : BitVec 32) : Fin 2 → Nat :=
  let c224 : Index := 224#32
  let c0_i32_6 : BitVec 32 := 0#32
  let c1_i32_7 : BitVec 32 := 1#32
  let arg15 : BitVec 32 := Scf.iv c0_i32_6 c1_i32_7 k0_t1
  let c256_i32 : BitVec 32 := 256#32
  let v54 : BitVec 32 := Scalar.muli arg15 c256_i32
  let v55 : BitVec 32 := v54
  let v56 : BitVec 32 := Scalar.addi v55 c0_i32_20
  let v57 : BitVec 32 := v56
  let v480 : Index := Scalar.indexCast v57
  ![224, v480.toNat]
def k0_mult3 (k0_t1 : Fin k0_t1_loop.trips) : BitVec 32 :=
  let c0_i32_6 : BitVec 32 := 0#32
  let c1_i32_7 : BitVec 32 := 1#32
  let arg15 : BitVec 32 := Scf.iv c0_i32_6 c1_i32_7 k0_t1
  let c256_i32 : BitVec 32 := 256#32
  let v54 : BitVec 32 := Scalar.muli arg15 c256_i32
  let v55 : BitVec 32 := v54
  let c128_i32 : BitVec 32 := 128#32
  let v598 : BitVec 32 := Scalar.addi v55 c128_i32
  v598
def k0_mult4 (i : grid0.Coords) : BitVec 32 :=
  let arg0 : BitVec 32 := BitVec.ofNat 32 (i 0).val
  let c16_i32_395 : BitVec 32 := 16#32
  let c0_i32_396 : BitVec 32 := 0#32
  let v1216 : BitVec 1 := Scalar.cmpi .eq c16_i32_395 c0_i32_396
  let c1_i32_397 : BitVec 32 := 1#32
  let v1217 : BitVec 32 := Scalar.select v1216 c1_i32_397 c16_i32_395
  let v1218 : BitVec 32 := Scalar.remsi arg0 v1217
  let c0_i32_399 : BitVec 32 := 0#32
  let v1220 : BitVec 1 := Scalar.cmpi .slt v1218 c0_i32_399
  let c0_i32_400 : BitVec 32 := 0#32
  let v1221 : BitVec 1 := Scalar.cmpi .slt v1217 c0_i32_400
  let v1222 : BitVec 1 := Scalar.xori v1220 v1221
  let c0_i32_398 : BitVec 32 := 0#32
  let v1219 : BitVec 1 := Scalar.cmpi .ne v1218 c0_i32_398
  let v1223 : BitVec 1 := Scalar.andi v1222 v1219
  let v1224 : BitVec 32 := Scalar.addi v1218 v1217
  let v1225 : BitVec 32 := Scalar.select v1223 v1224 v1218
  let c8_i32 : BitVec 32 := 8#32
  let v1226 : BitVec 32 := Scalar.muli v1225 c8_i32
  v1226
def k0_mult5 (k0_t1 : Fin k0_t1_loop.trips) : BitVec 32 :=
  let c0_i32_6 : BitVec 32 := 0#32
  let c1_i32_7 : BitVec 32 := 1#32
  let arg15 : BitVec 32 := Scf.iv c0_i32_6 c1_i32_7 k0_t1
  let c256_i32 : BitVec 32 := 256#32
  let v54 : BitVec 32 := Scalar.muli arg15 c256_i32
  let v55 : BitVec 32 := v54
  let c0_i32_401 : BitVec 32 := 0#32
  let v1228 : BitVec 32 := Scalar.addi v55 c0_i32_401
  v1228
def k0_off10 (i : grid0.Coords) (k0_t1 : Fin k0_t1_loop.trips) (c0_i32_401 : BitVec 32) : Fin 2 → Nat :=
  let arg0 : BitVec 32 := BitVec.ofNat 32 (i 0).val
  let c16_i32_395 : BitVec 32 := 16#32
  let c0_i32_396 : BitVec 32 := 0#32
  let v1216 : BitVec 1 := Scalar.cmpi .eq c16_i32_395 c0_i32_396
  let c1_i32_397 : BitVec 32 := 1#32
  let v1217 : BitVec 32 := Scalar.select v1216 c1_i32_397 c16_i32_395
  let v1218 : BitVec 32 := Scalar.remsi arg0 v1217
  let c0_i32_399 : BitVec 32 := 0#32
  let v1220 : BitVec 1 := Scalar.cmpi .slt v1218 c0_i32_399
  let c0_i32_400 : BitVec 32 := 0#32
  let v1221 : BitVec 1 := Scalar.cmpi .slt v1217 c0_i32_400
  let v1222 : BitVec 1 := Scalar.xori v1220 v1221
  let c0_i32_398 : BitVec 32 := 0#32
  let v1219 : BitVec 1 := Scalar.cmpi .ne v1218 c0_i32_398
  let v1223 : BitVec 1 := Scalar.andi v1222 v1219
  let v1224 : BitVec 32 := Scalar.addi v1218 v1217
  let v1225 : BitVec 32 := Scalar.select v1223 v1224 v1218
  let c8_i32 : BitVec 32 := 8#32
  let v1226 : BitVec 32 := Scalar.muli v1225 c8_i32
  let v1227 : BitVec 32 := v1226
  let v1230 : Index := Scalar.indexCast v1227
  let c0_i32_6 : BitVec 32 := 0#32
  let c1_i32_7 : BitVec 32 := 1#32
  let arg15 : BitVec 32 := Scf.iv c0_i32_6 c1_i32_7 k0_t1
  let c256_i32 : BitVec 32 := 256#32
  let v54 : BitVec 32 := Scalar.muli arg15 c256_i32
  let v55 : BitVec 32 := v54
  let v1228 : BitVec 32 := Scalar.addi v55 c0_i32_401
  let v1229 : BitVec 32 := v1228
  let v1231 : Index := Scalar.indexCast v1229
  ![v1230.toNat, v1231.toNat]
def k0_mult6 (k0_t1 : Fin k0_t1_loop.trips) : BitVec 32 :=
  let c0_i32_6 : BitVec 32 := 0#32
  let c1_i32_7 : BitVec 32 := 1#32
  let arg15 : BitVec 32 := Scf.iv c0_i32_6 c1_i32_7 k0_t1
  let c8_i32_440 : BitVec 32 := 8#32
  let v1311 : BitVec 32 := Scalar.muli arg15 c8_i32_440
  v1311
def k0_off11 (k0_t1 : Fin k0_t1_loop.trips) : Fin 2 → Nat :=
  let c0_i32_6 : BitVec 32 := 0#32
  let c1_i32_7 : BitVec 32 := 1#32
  let arg15 : BitVec 32 := Scf.iv c0_i32_6 c1_i32_7 k0_t1
  let c8_i32_440 : BitVec 32 := 8#32
  let v1311 : BitVec 32 := Scalar.muli arg15 c8_i32_440
  let v1312 : BitVec 32 := v1311
  let v1313 : Index := Scalar.indexCast v1312
  let c0_441 : Index := 0#32
  ![v1313.toNat, 0]
def k0_mult7 (i : grid0.Coords) : BitVec 32 :=
  let arg0 : BitVec 32 := BitVec.ofNat 32 (i 0).val
  let c16_i32_480 : BitVec 32 := 16#32
  let c0_i32_481 : BitVec 32 := 0#32
  let v1393 : BitVec 1 := Scalar.cmpi .eq c16_i32_480 c0_i32_481
  let c1_i32_482 : BitVec 32 := 1#32
  let v1394 : BitVec 32 := Scalar.select v1393 c1_i32_482 c16_i32_480
  let v1395 : BitVec 32 := Scalar.remsi arg0 v1394
  let c0_i32_484 : BitVec 32 := 0#32
  let v1397 : BitVec 1 := Scalar.cmpi .slt v1395 c0_i32_484
  let c0_i32_485 : BitVec 32 := 0#32
  let v1398 : BitVec 1 := Scalar.cmpi .slt v1394 c0_i32_485
  let v1399 : BitVec 1 := Scalar.xori v1397 v1398
  let c0_i32_483 : BitVec 32 := 0#32
  let v1396 : BitVec 1 := Scalar.cmpi .ne v1395 c0_i32_483
  let v1400 : BitVec 1 := Scalar.andi v1399 v1396
  let v1401 : BitVec 32 := Scalar.addi v1395 v1394
  let v1402 : BitVec 32 := Scalar.select v1400 v1401 v1395
  let c8_i32_486 : BitVec 32 := 8#32
  let v1403 : BitVec 32 := Scalar.muli v1402 c8_i32_486
  v1403
def k0_mult8 (k0_t1 : Fin k0_t1_loop.trips) : BitVec 32 :=
  let c0_i32_6 : BitVec 32 := 0#32
  let c1_i32_7 : BitVec 32 := 1#32
  let arg15 : BitVec 32 := Scf.iv c0_i32_6 c1_i32_7 k0_t1
  let c256_i32 : BitVec 32 := 256#32
  let v54 : BitVec 32 := Scalar.muli arg15 c256_i32
  let v55 : BitVec 32 := v54
  let c128_i32_487 : BitVec 32 := 128#32
  let v1405 : BitVec 32 := Scalar.addi v55 c128_i32_487
  v1405
def k0_mult9 (k0_t1 : Fin k0_t1_loop.trips) : BitVec 32 :=
  let c0_i32_6 : BitVec 32 := 0#32
  let c1_i32_7 : BitVec 32 := 1#32
  let arg15 : BitVec 32 := Scf.iv c0_i32_6 c1_i32_7 k0_t1
  let c8_i32_526 : BitVec 32 := 8#32
  let v1488 : BitVec 32 := Scalar.muli arg15 c8_i32_526
  v1488
def k0_off12 (k0_t1 : Fin k0_t1_loop.trips) : Fin 2 → Nat :=
  let c0_i32_6 : BitVec 32 := 0#32
  let c1_i32_7 : BitVec 32 := 1#32
  let arg15 : BitVec 32 := Scf.iv c0_i32_6 c1_i32_7 k0_t1
  let c8_i32_526 : BitVec 32 := 8#32
  let v1488 : BitVec 32 := Scalar.muli arg15 c8_i32_526
  let v1489 : BitVec 32 := v1488
  let v1490 : Index := Scalar.indexCast v1489
  let c128_527 : Index := 128#32
  ![v1490.toNat, 128]
def k0_mult10 (k0_t1 : Fin k0_t1_loop.trips) : BitVec 32 :=
  let c0_i32_6 : BitVec 32 := 0#32
  let c1_i32_7 : BitVec 32 := 1#32
  let arg15 : BitVec 32 := Scf.iv c0_i32_6 c1_i32_7 k0_t1
  let c256_i32 : BitVec 32 := 256#32
  let v54 : BitVec 32 := Scalar.muli arg15 c256_i32
  let v55 : BitVec 32 := v54
  let c0_i32_534 : BitVec 32 := 0#32
  let v1504 : BitVec 32 := Scalar.addi v55 c0_i32_534
  v1504
def k0_off13 (k0_t1 : Fin k0_t1_loop.trips) (c0_i32_534 : BitVec 32) : Fin 2 → Nat :=
  let c0_535 : Index := 0#32
  let c0_i32_6 : BitVec 32 := 0#32
  let c1_i32_7 : BitVec 32 := 1#32
  let arg15 : BitVec 32 := Scf.iv c0_i32_6 c1_i32_7 k0_t1
  let c256_i32 : BitVec 32 := 256#32
  let v54 : BitVec 32 := Scalar.muli arg15 c256_i32
  let v55 : BitVec 32 := v54
  let v1504 : BitVec 32 := Scalar.addi v55 c0_i32_534
  let v1505 : BitVec 32 := v1504
  let v1506 : Index := Scalar.indexCast v1505
  ![0, v1506.toNat]
def k0_mult11 (k0_t1 : Fin k0_t1_loop.trips) : BitVec 32 :=
  let c0_i32_6 : BitVec 32 := 0#32
  let c1_i32_7 : BitVec 32 := 1#32
  let arg15 : BitVec 32 := Scf.iv c0_i32_6 c1_i32_7 k0_t1
  let c256_i32 : BitVec 32 := 256#32
  let v54 : BitVec 32 := Scalar.muli arg15 c256_i32
  let v55 : BitVec 32 := v54
  let c128_i32_541 : BitVec 32 := 128#32
  let v1517 : BitVec 32 := Scalar.addi v55 c128_i32_541
  v1517
def k0_mult12 (k0_t1 : Fin k0_t1_loop.trips) : BitVec 32 :=
  let c0_i32_6 : BitVec 32 := 0#32
  let c1_i32_7 : BitVec 32 := 1#32
  let arg15 : BitVec 32 := Scf.iv c0_i32_6 c1_i32_7 k0_t1
  let c256_i32 : BitVec 32 := 256#32
  let v54 : BitVec 32 := Scalar.muli arg15 c256_i32
  let v55 : BitVec 32 := v54
  let c0_i32_549 : BitVec 32 := 0#32
  let v1531 : BitVec 32 := Scalar.addi v55 c0_i32_549
  v1531
def k0_off14 (k0_t1 : Fin k0_t1_loop.trips) (c0_i32_549 : BitVec 32) : Fin 2 → Nat :=
  let c0_i32_6 : BitVec 32 := 0#32
  let c1_i32_7 : BitVec 32 := 1#32
  let arg15 : BitVec 32 := Scf.iv c0_i32_6 c1_i32_7 k0_t1
  let c256_i32 : BitVec 32 := 256#32
  let v54 : BitVec 32 := Scalar.muli arg15 c256_i32
  let v55 : BitVec 32 := v54
  let v1531 : BitVec 32 := Scalar.addi v55 c0_i32_549
  let v1532 : BitVec 32 := v1531
  let v1533 : Index := Scalar.indexCast v1532
  let c0_550 : Index := 0#32
  ![v1533.toNat, 0]
def k0_mult13 (k0_t1 : Fin k0_t1_loop.trips) : BitVec 32 :=
  let c0_i32_6 : BitVec 32 := 0#32
  let c1_i32_7 : BitVec 32 := 1#32
  let arg15 : BitVec 32 := Scf.iv c0_i32_6 c1_i32_7 k0_t1
  let c256_i32 : BitVec 32 := 256#32
  let v54 : BitVec 32 := Scalar.muli arg15 c256_i32
  let v55 : BitVec 32 := v54
  let c0_i32_556 : BitVec 32 := 0#32
  let v1544 : BitVec 32 := Scalar.addi v55 c0_i32_556
  v1544
def k0_off15 (k0_t1 : Fin k0_t1_loop.trips) (c0_i32_556 : BitVec 32) : Fin 2 → Nat :=
  let c0_i32_6 : BitVec 32 := 0#32
  let c1_i32_7 : BitVec 32 := 1#32
  let arg15 : BitVec 32 := Scf.iv c0_i32_6 c1_i32_7 k0_t1
  let c256_i32 : BitVec 32 := 256#32
  let v54 : BitVec 32 := Scalar.muli arg15 c256_i32
  let v55 : BitVec 32 := v54
  let v1544 : BitVec 32 := Scalar.addi v55 c0_i32_556
  let v1545 : BitVec 32 := v1544
  let v1546 : Index := Scalar.indexCast v1545
  let c128_557 : Index := 128#32
  ![v1546.toNat, 128]
def k0_mult14 (k0_t1 : Fin k0_t1_loop.trips) : BitVec 32 :=
  let c0_i32_6 : BitVec 32 := 0#32
  let c1_i32_7 : BitVec 32 := 1#32
  let arg15 : BitVec 32 := Scf.iv c0_i32_6 c1_i32_7 k0_t1
  let c256_i32 : BitVec 32 := 256#32
  let v54 : BitVec 32 := Scalar.muli arg15 c256_i32
  let v55 : BitVec 32 := v54
  let c0_i32_564 : BitVec 32 := 0#32
  let v1558 : BitVec 32 := Scalar.addi v55 c0_i32_564
  v1558
def k0_off16 (k0_t1 : Fin k0_t1_loop.trips) (c0_i32_564 : BitVec 32) : Fin 2 → Nat :=
  let c128_565 : Index := 128#32
  let c0_i32_6 : BitVec 32 := 0#32
  let c1_i32_7 : BitVec 32 := 1#32
  let arg15 : BitVec 32 := Scf.iv c0_i32_6 c1_i32_7 k0_t1
  let c256_i32 : BitVec 32 := 256#32
  let v54 : BitVec 32 := Scalar.muli arg15 c256_i32
  let v55 : BitVec 32 := v54
  let v1558 : BitVec 32 := Scalar.addi v55 c0_i32_564
  let v1559 : BitVec 32 := v1558
  let v1560 : Index := Scalar.indexCast v1559
  ![128, v1560.toNat]
def k0_mult15 (k0_t1 : Fin k0_t1_loop.trips) : BitVec 32 :=
  let c0_i32_6 : BitVec 32 := 0#32
  let c1_i32_7 : BitVec 32 := 1#32
  let arg15 : BitVec 32 := Scf.iv c0_i32_6 c1_i32_7 k0_t1
  let c256_i32 : BitVec 32 := 256#32
  let v54 : BitVec 32 := Scalar.muli arg15 c256_i32
  let v55 : BitVec 32 := v54
  let c128_i32_571 : BitVec 32 := 128#32
  let v1571 : BitVec 32 := Scalar.addi v55 c128_i32_571
  v1571
def k0_mult16 (k0_t1 : Fin k0_t1_loop.trips) : BitVec 32 :=
  let c0_i32_6 : BitVec 32 := 0#32
  let c1_i32_7 : BitVec 32 := 1#32
  let arg15 : BitVec 32 := Scf.iv c0_i32_6 c1_i32_7 k0_t1
  let c256_i32 : BitVec 32 := 256#32
  let v54 : BitVec 32 := Scalar.muli arg15 c256_i32
  let v55 : BitVec 32 := v54
  let c128_i32_579 : BitVec 32 := 128#32
  let v1585 : BitVec 32 := Scalar.addi v55 c128_i32_579
  v1585
def k0_mult17 (k0_t1 : Fin k0_t1_loop.trips) : BitVec 32 :=
  let c0_i32_6 : BitVec 32 := 0#32
  let c1_i32_7 : BitVec 32 := 1#32
  let arg15 : BitVec 32 := Scf.iv c0_i32_6 c1_i32_7 k0_t1
  let c256_i32 : BitVec 32 := 256#32
  let v54 : BitVec 32 := Scalar.muli arg15 c256_i32
  let v55 : BitVec 32 := v54
  let c128_i32_586 : BitVec 32 := 128#32
  let v1598 : BitVec 32 := Scalar.addi v55 c128_i32_586
  v1598
def k0_cond3 (i : grid0.Coords) : BitVec 1 :=
  let arg0 : BitVec 32 := BitVec.ofNat 32 (i 0).val
  let c131_i32_18 : BitVec 32 := 131#32
  let v51 : BitVec 1 := Scalar.cmpi .eq arg0 c131_i32_18
  let v52 : BitVec 32 := Scalar.extui v51
  let c0_i32_19 : BitVec 32 := 0#32
  let v53 : BitVec 1 := Scalar.cmpi .ne v52 c0_i32_19
  v53

def k0_cond2 (i : grid0.Coords) : BitVec 1 :=
  let arg0 : BitVec 32 := BitVec.ofNat 32 (i 0).val
  let c16_i32 : BitVec 32 := 16#32
  let c0_i32_12 : BitVec 32 := 0#32
  let v36 : BitVec 1 := Scalar.cmpi .eq c16_i32 c0_i32_12
  let c1_i32_13 : BitVec 32 := 1#32
  let v37 : BitVec 32 := Scalar.select v36 c1_i32_13 c16_i32
  let v38 : BitVec 32 := Scalar.remsi arg0 v37
  let c0_i32_15 : BitVec 32 := 0#32
  let v40 : BitVec 1 := Scalar.cmpi .slt v38 c0_i32_15
  let c0_i32_16 : BitVec 32 := 0#32
  let v41 : BitVec 1 := Scalar.cmpi .slt v37 c0_i32_16
  let v42 : BitVec 1 := Scalar.xori v40 v41
  let c0_i32_14 : BitVec 32 := 0#32
  let v39 : BitVec 1 := Scalar.cmpi .ne v38 c0_i32_14
  let v43 : BitVec 1 := Scalar.andi v42 v39
  let v44 : BitVec 32 := Scalar.addi v38 v37
  let v45 : BitVec 32 := Scalar.select v43 v44 v38
  let c15_i32 : BitVec 32 := 15#32
  let v46 : BitVec 1 := Scalar.cmpi .eq v45 c15_i32
  let c131_i32 : BitVec 32 := 131#32
  let v47 : BitVec 1 := Scalar.cmpi .eq arg0 c131_i32
  let v48 : BitVec 1 := Scalar.ori v46 v47
  let v49 : BitVec 32 := Scalar.extui v48
  let c0_i32_17 : BitVec 32 := 0#32
  let v50 : BitVec 1 := Scalar.cmpi .ne v49 c0_i32_17
  v50

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![c0_i32_4.toNat, v16.toNat]

abbrev stage0_0 : Fin 2 → Memref sig .tc .vmem S256x4608 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4608 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x4608 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x4608 .fp8e5m2 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x144 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4608x256 .fp8e5m2 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4608x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S33792x4608 : Shape := ⟨2, ![33792, 4608]⟩
abbrev S_ : Shape := ⟨0, ![]⟩
abbrev S4608 : Shape := ⟨1, ![4608]⟩
abbrev S1x4608 : Shape := ⟨2, ![1, 4608]⟩
abbrev S33792x144x32 : Shape := ⟨3, ![33792, 144, 32]⟩
abbrev S33792x144 : Shape := ⟨2, ![33792, 144]⟩
abbrev S33792x144x1 : Shape := ⟨3, ![33792, 144, 1]⟩
abbrev S1056x32x4608 : Shape := ⟨3, ![1056, 32, 4608]⟩
abbrev S1056x4608 : Shape := ⟨2, ![1056, 4608]⟩
abbrev S1056x1x4608 : Shape := ⟨3, ![1056, 1, 4608]⟩
abbrev S4608x33792 : Shape := ⟨2, ![4608, 33792]⟩
abbrev S4608x1056 : Shape := ⟨2, ![4608, 1056]⟩

abbrev nBuf : Space → Nat
  | .hbm => 129
  | .vmem => 4
  | .smem => 0
  | _ => 0

abbrev hbmTy0_0 (i : Nat) : BufTy := match i % 128 with
  | 0 => ⟨S33792x4608, .bf16⟩
  | 1 => ⟨S33792x4608, .bf16⟩
  | 2 => ⟨S33792x4608, .f32⟩
  | 3 => ⟨S33792x4608, .f32⟩
  | 4 => ⟨S_, .f32⟩
  | 5 => ⟨S33792x4608, .f32⟩
  | 6 => ⟨S33792x4608, .f32⟩
  | 7 => ⟨S_, .f32⟩
  | 8 => ⟨S33792x4608, .f32⟩
  | 9 => ⟨S33792x4608, .f32⟩
  | 10 => ⟨S33792x4608, .f32⟩
  | 11 => ⟨S33792x4608, .f32⟩
  | 12 => ⟨S33792x4608, .f32⟩
  | 13 => ⟨S33792x4608, .f32⟩
  | 14 => ⟨S_, .f32⟩
  | 15 => ⟨S33792x4608, .f32⟩
  | 16 => ⟨S33792x4608, .f32⟩
  | 17 => ⟨S_, .f32⟩
  | 18 => ⟨S33792x4608, .f32⟩
  | 19 => ⟨S33792x4608, .f32⟩
  | 20 => ⟨S_, .f32⟩
  | 21 => ⟨S33792x4608, .f32⟩
  | 22 => ⟨S33792x4608, .f32⟩
  | 23 => ⟨S33792x4608, .f32⟩
  | 24 => ⟨S_, .f32⟩
  | 25 => ⟨S33792x4608, .f32⟩
  | 26 => ⟨S33792x4608, .f32⟩
  | 27 => ⟨S33792x4608, .f32⟩
  | 28 => ⟨S_, .f32⟩
  | 29 => ⟨S33792x4608, .f32⟩
  | 30 => ⟨S33792x4608, .f32⟩
  | 31 => ⟨S33792x4608, .f32⟩
  | 32 => ⟨S_, .f32⟩
  | 33 => ⟨S33792x4608, .f32⟩
  | 34 => ⟨S33792x4608, .f32⟩
  | 35 => ⟨S33792x4608, .f32⟩
  | 36 => ⟨S33792x4608, .f32⟩
  | 37 => ⟨S33792x4608, .f32⟩
  | 38 => ⟨S_, .f32⟩
  | 39 => ⟨S4608, .f32⟩
  | 40 => ⟨S1x4608, .f32⟩
  | 41 => ⟨S33792x144x32, .f32⟩
  | 42 => ⟨S33792x144x32, .f32⟩
  | 43 => ⟨S_, .f32⟩
  | 44 => ⟨S33792x144, .f32⟩
  | 45 => ⟨S_, .f32⟩
  | 46 => ⟨S33792x144, .f32⟩
  | 47 => ⟨S33792x144, .f32⟩
  | 48 => ⟨S33792x144, .f32⟩
  | 49 => ⟨S_, .f32⟩
  | 50 => ⟨S_, .f32⟩
  | 51 => ⟨S33792x144, .f32⟩
  | 52 => ⟨S33792x144, .f32⟩
  | 53 => ⟨S33792x144, .f32⟩
  | 54 => ⟨S_, .f32⟩
  | 55 => ⟨S33792x144, .f32⟩
  | 56 => ⟨S33792x144, .f32⟩
  | 57 => ⟨S_, .f32⟩
  | 58 => ⟨S33792x144, .f32⟩
  | 59 => ⟨S33792x144, .i1⟩
  | 60 => ⟨S_, .f32⟩
  | 61 => ⟨S_, .f32⟩
  | 62 => ⟨S33792x144, .f32⟩
  | 63 => ⟨S33792x144, .f32⟩
  | 64 => ⟨S_, .f32⟩
  | 65 => ⟨S33792x144, .f32⟩
  | 66 => ⟨S33792x144, .f32⟩
  | 67 => ⟨S33792x144, .f32⟩
  | 68 => ⟨S_, .f32⟩
  | 69 => ⟨S33792x144, .f32⟩
  | 70 => ⟨S33792x144, .f32⟩
  | 71 => ⟨S33792x144x1, .f32⟩
  | 72 => ⟨S33792x144x32, .f32⟩
  | 73 => ⟨S33792x144x32, .f32⟩
  | 74 => ⟨S_, .f32⟩
  | 75 => ⟨S_, .f32⟩
  | 76 => ⟨S_, .f32⟩
  | 77 => ⟨S33792x144x32, .f32⟩
  | 78 => ⟨S33792x144x32, .f32⟩
  | 79 => ⟨S_, .f32⟩
  | 80 => ⟨S33792x144x32, .f32⟩
  | 81 => ⟨S33792x144x32, .f32⟩
  | 82 => ⟨S33792x4608, .f32⟩
  | 83 => ⟨S1056x32x4608, .f32⟩
  | 84 => ⟨S1056x32x4608, .f32⟩
  | 85 => ⟨S_, .f32⟩
  | 86 => ⟨S1056x4608, .f32⟩
  | 87 => ⟨S_, .f32⟩
  | 88 => ⟨S1056x4608, .f32⟩
  | 89 => ⟨S1056x4608, .f32⟩
  | 90 => ⟨S1056x4608, .f32⟩
  | 91 => ⟨S_, .f32⟩
  | 92 => ⟨S_, .f32⟩
  | 93 => ⟨S1056x4608, .f32⟩
  | 94 => ⟨S1056x4608, .f32⟩
  | 95 => ⟨S1056x4608, .f32⟩
  | 96 => ⟨S_, .f32⟩
  | 97 => ⟨S1056x4608, .f32⟩
  | 98 => ⟨S1056x4608, .f32⟩
  | 99 => ⟨S_, .f32⟩
  | 100 => ⟨S1056x4608, .f32⟩
  | 101 => ⟨S1056x4608, .i1⟩
  | 102 => ⟨S_, .f32⟩
  | 103 => ⟨S_, .f32⟩
  | 104 => ⟨S1056x4608, .f32⟩
  | 105 => ⟨S1056x4608, .f32⟩
  | 106 => ⟨S_, .f32⟩
  | 107 => ⟨S1056x4608, .f32⟩
  | 108 => ⟨S1056x4608, .f32⟩
  | 109 => ⟨S1056x4608, .f32⟩
  | 110 => ⟨S_, .f32⟩
  | 111 => ⟨S1056x4608, .f32⟩
  | 112 => ⟨S1056x4608, .f32⟩
  | 113 => ⟨S1056x1x4608, .f32⟩
  | 114 => ⟨S1056x32x4608, .f32⟩
  | 115 => ⟨S1056x32x4608, .f32⟩
  | 116 => ⟨S_, .f32⟩
  | 117 => ⟨S_, .f32⟩
  | 118 => ⟨S_, .f32⟩
  | 119 => ⟨S1056x32x4608, .f32⟩
  | 120 => ⟨S1056x32x4608, .f32⟩
  | 121 => ⟨S_, .f32⟩
  | 122 => ⟨S1056x32x4608, .f32⟩
  | 123 => ⟨S1056x32x4608, .f32⟩
  | 124 => ⟨S33792x4608, .f32⟩
  | 125 => ⟨S4608x33792, .f32⟩
  | 126 => ⟨S4608x1056, .f32⟩
  | 127 => ⟨S33792x4608, .fp8e5m2⟩
  | _ => ⟨S33792x4608, .bf16⟩

abbrev hbmTy0_1 (i : Nat) : BufTy := match i % 128 with
  | 0 => ⟨S4608x33792, .fp8e5m2⟩
  | _ => ⟨S33792x4608, .bf16⟩

abbrev hbmTy (i : Nat) : BufTy := match i / 128 with
  | 0 => hbmTy0_0 i
  | 1 => hbmTy0_1 i
  | _ => ⟨S33792x4608, .bf16⟩

abbrev bufTy : (tb : Table) → Fin (tcTables nBuf tb) → BufTy
  | .hbm, ⟨i, _⟩ => hbmTy i
  | .local _ .vmem, ⟨0, _⟩ => ⟨S33792x4608, .f32⟩
  | .local _ .vmem, ⟨1, _⟩ => ⟨S4608x33792, .f32⟩
  | .local _ .vmem, ⟨2, _⟩ => ⟨S33792x4608, .fp8e5m2⟩
  | .local _ .vmem, ⟨3, _⟩ => ⟨S4608x33792, .fp8e5m2⟩
  | _, _ => ⟨S33792x4608, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_cst_2 : Ref sig .tc := ⟨.hbm, 17, rfl⟩
abbrev main_v12 : Ref sig .tc := ⟨.hbm, 18, rfl⟩
abbrev main_v13 : Ref sig .tc := ⟨.hbm, 19, rfl⟩
abbrev main_cst_3 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_4 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_5 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_6 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_7 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_8 : Ref sig .tc := ⟨.hbm, 43, rfl⟩
abbrev main_v32 : Ref sig .tc := ⟨.hbm, 44, rfl⟩
abbrev main_cst_9 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_10 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_11 : Ref sig .tc := ⟨.hbm, 54, rfl⟩
abbrev main_v40 : Ref sig .tc := ⟨.hbm, 55, rfl⟩
abbrev main_v41 : Ref sig .tc := ⟨.hbm, 56, rfl⟩
abbrev main_cst_12 : Ref sig .tc := ⟨.hbm, 57, rfl⟩
abbrev main_v42 : Ref sig .tc := ⟨.hbm, 58, rfl⟩
abbrev main_v43 : Ref sig .tc := ⟨.hbm, 59, rfl⟩
abbrev main_cst_13 : Ref sig .tc := ⟨.hbm, 60, rfl⟩
abbrev main_call0_v0 : Ref sig .tc := ⟨.hbm, 61, rfl⟩
abbrev main_call0_v1 : Ref sig .tc := ⟨.hbm, 62, rfl⟩
abbrev main_v44 : Ref sig .tc := ⟨.hbm, 63, rfl⟩
abbrev main_cst_14 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_cst_15 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_cst_16 : Ref sig .tc := ⟨.hbm, 74, rfl⟩
abbrev main_cst_17 : Ref sig .tc := ⟨.hbm, 75, rfl⟩
abbrev main_call1_v0 : Ref sig .tc := ⟨.hbm, 76, rfl⟩
abbrev main_call1_v1 : Ref sig .tc := ⟨.hbm, 77, rfl⟩
abbrev main_call1_v2 : Ref sig .tc := ⟨.hbm, 78, rfl⟩
abbrev main_call1_v3 : Ref sig .tc := ⟨.hbm, 79, rfl⟩
abbrev main_call1_v4 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_cst_18 : Ref sig .tc := ⟨.hbm, 85, rfl⟩
abbrev main_v57 : Ref sig .tc := ⟨.hbm, 86, rfl⟩
abbrev main_cst_19 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_cst_20 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_cst_21 : Ref sig .tc := ⟨.hbm, 96, rfl⟩
abbrev main_v65 : Ref sig .tc := ⟨.hbm, 97, rfl⟩
abbrev main_v66 : Ref sig .tc := ⟨.hbm, 98, rfl⟩
abbrev main_cst_22 : Ref sig .tc := ⟨.hbm, 99, rfl⟩
abbrev main_v67 : Ref sig .tc := ⟨.hbm, 100, rfl⟩
abbrev main_v68 : Ref sig .tc := ⟨.hbm, 101, rfl⟩
abbrev main_cst_23 : Ref sig .tc := ⟨.hbm, 102, rfl⟩
abbrev main_call2_v0 : Ref sig .tc := ⟨.hbm, 103, rfl⟩
abbrev main_call2_v1 : Ref sig .tc := ⟨.hbm, 104, rfl⟩
abbrev main_v69 : Ref sig .tc := ⟨.hbm, 105, rfl⟩
abbrev main_cst_24 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_cst_25 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_cst_26 : Ref sig .tc := ⟨.hbm, 116, rfl⟩
abbrev main_cst_27 : Ref sig .tc := ⟨.hbm, 117, rfl⟩
abbrev main_call3_v0 : Ref sig .tc := ⟨.hbm, 118, rfl⟩
abbrev main_call3_v1 : Ref sig .tc := ⟨.hbm, 119, rfl⟩
abbrev main_call3_v2 : Ref sig .tc := ⟨.hbm, 120, rfl⟩
abbrev main_call3_v3 : Ref sig .tc := ⟨.hbm, 121, rfl⟩
abbrev main_call3_v4 : Ref sig .tc := ⟨.hbm, 122, rfl⟩
abbrev main_v78 : Ref sig .tc := ⟨.hbm, 123, rfl⟩
abbrev main_v79 : Ref sig .tc := ⟨.hbm, 124, rfl⟩
abbrev main_v80 : Ref sig .tc := ⟨.hbm, 125, rfl⟩
abbrev main_v81 : Ref sig .tc := ⟨.hbm, 126, rfl⟩
abbrev main_v82_0 : Ref sig .tc := ⟨.hbm, 127, rfl⟩
abbrev main_v82_1 : Ref sig .tc := ⟨.hbm, 128, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S33792x4608 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4608x33792 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S33792x4608 .fp8e5m2 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4608x33792 .fp8e5m2 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Proof.Kernel.Off.lean ====
/- The place of the rows a trip stores into the column-scale scratch: `k0_off10` in closed form. -/
module

public import proofs.«01_k».proof.Proof.Gen.Kernel
public import Idealize.ShloMosaic.Lib.Affine
public import Idealize.ShloMosaic.Lib.Exec

@[expose] public section

namespace Cert.Kernel.Gen

open Idealize.ShloMosaic Idealize.SL.Sem

/-- `k0_off10` in closed form, to rewrite the access's rectangle by (`simp only [Gen.k0_off10_eq]`). A line passes a row's constant as the literal `BitVec.ofNat 32 (…)` here reduces to (`rfl`). -/
theorem k0_off10_eq : ∀ (i : grid0.Coords) (k0_t1 : Fin k0_t1_loop.trips), ∀ (r : Fin 2), k0_off10 i k0_t1 (BitVec.ofNat 32 (128 * r.val)) = ![8 * ((i 0).val % 16), 256 * k0_t1.val + 128 * r.val] := by
  intro i k0_t1 r
  have r_r : r.val < 2 := r.isLt
  have h_c0_i32_401 : Affine.IsInt (BitVec.ofNat 32 (128 * r.val)) (128 * (r.val : Int)) := Affine.ofNat _ (by omega)
  have r_i0 : (i 0).val < 132 := (i 0).isLt
  have h_arg0 : Affine.IsInt (BitVec.ofNat 32 (i 0).val) (((i 0).val : Int)) := Affine.ofNat _ (by omega)
  have h_c16_i32_395 : Affine.IsInt 16#32 (16) := Affine.ofNat _ (by omega)
  have h_c0_i32_396 : Affine.IsInt 0#32 (0) := Affine.ofNat _ (by omega)
  have h_v1216 : Affine.Fails _ := Affine.eq_fails h_c16_i32_395 h_c0_i32_396 (by omega)
  have h_c1_i32_397 : Affine.IsInt 1#32 (1) := Affine.ofNat _ (by omega)
  have h_v1217 : Affine.IsInt _ (16) := Affine.select_fails h_v1216 h_c1_i32_397 h_c16_i32_395 (by omega)
  have h_v1218 : Affine.IsInt _ ((((i 0).val : Int) % 16)) := Affine.remsi h_arg0 h_v1217 (by omega)
  have h_c0_i32_399 : Affine.IsInt 0#32 (0) := Affine.ofNat _ (by omega)
  have h_v1220 : Affine.Fails _ := Affine.slt_fails h_v1218 h_c0_i32_399 (by omega)
  have h_c0_i32_400 : Affine.IsInt 0#32 (0) := Affine.ofNat _ (by omega)
  have h_v1221 : Affine.Fails _ := Affine.slt_fails h_v1217 h_c0_i32_400 (by omega)
  have h_v1222 : Affine.Fails _ := Affine.xori_ff h_v1220 h_v1221
  have h_c0_i32_398 : Affine.IsInt 0#32 (0) := Affine.ofNat _ (by omega)
  have h_v1219 : Affine.Term _ := Affine.cmpi_term .ne h_v1218 h_c0_i32_398
  have h_v1223 : Affine.Fails _ := Affine.andi_fails_left h_v1222 h_v1219
  have h_v1224 : Affine.IsInt _ ((((i 0).val : Int) % 16) + 16) := Affine.addi h_v1218 h_v1217 (by omega)
  have h_v1225 : Affine.IsInt _ ((((i 0).val : Int) % 16)) := Affine.select_fails h_v1223 h_v1224 h_v1218 (by omega)
  have h_c8_i32 : Affine.IsInt 8#32 (8) := Affine.ofNat _ (by omega)
  have h_v1226 : Affine.IsInt _ (8 * (((i 0).val : Int) % 16)) := Affine.muli h_v1225 h_c8_i32 (by omega)
  have h_v1230 : Affine.IsInt _ (8 * (((i 0).val : Int) % 16)) := Affine.indexCast h_v1226
  have h_c0_i32_6 : Affine.IsInt 0#32 (0) := Affine.ofNat _ (by omega)
  have h_c1_i32_7 : Affine.IsInt 1#32 (1) := Affine.ofNat _ (by omega)
  have r_k0_t1 : k0_t1.val < 18 := Nat.lt_of_lt_of_le k0_t1.isLt k0_t1_abs.2.1
  have h_arg15 : Affine.IsInt _ ((k0_t1.val : Int)) := Affine.iv h_c0_i32_6 h_c1_i32_7 k0_t1.val (by omega)
  have c_arg15 : (k0_t1.val : Int) ≤ 18 - 1 := Affine.iv_lt k0_t1_abs.1 k0_t1.isLt k0_t1_abs.2.2 h_arg15
  have h_c256_i32 : Affine.IsInt 256#32 (256) := Affine.ofNat _ (by omega)
  have h_v54 : Affine.IsInt _ (256 * (k0_t1.val : Int)) := Affine.muli h_arg15 h_c256_i32 (by omega)
  have h_v1228 : Affine.IsInt _ (256 * (k0_t1.val : Int) + 128 * (r.val : Int)) := Affine.addi h_v54 h_c0_i32_401 (by omega)
  have h_v1231 : Affine.IsInt _ (256 * (k0_t1.val : Int) + 128 * (r.val : Int)) := Affine.indexCast h_v1228
  exact Affine.vec_cons h_v1230 (by omega) <| Affine.vec_cons h_v1231 (by omega) <| Affine.vec_nil
instance closedOff_k0_off10_0 (i : grid0.Coords) (k0_t1 : Fin k0_t1_loop.trips) : ClosedOff (k0_off10 i k0_t1 (BitVec.ofNat 32 0)) := ⟨![8 * ((i 0).val % 16), 256 * k0_t1.val + 128 * 0], k0_off10_eq i k0_t1 ⟨0, by decide⟩⟩
instance closedOff_k0_off10_1 (i : grid0.Coords) (k0_t1 : Fin k0_t1_loop.trips) : ClosedOff (k0_off10 i k0_t1 (BitVec.ofNat 32 128)) := ⟨![8 * ((i 0).val % 16), 256 * k0_t1.val + 128 * 1], k0_off10_eq i k0_t1 ⟨1, by decide⟩⟩

end Cert.Kernel.Gen
-- ==== Proof.Kernel.Trip.lean ====
/- One trip of the kernel's loop over its eighteen column tiles, run symbolically: the pieces it stores into each buffer. -/
module

public import proofs.«01_k».proof.Proof.Gen.Kernel.Skeleton
public import proofs.«01_k».proof.Proof.Gen.Kernel.Loops
public import proofs.«01_k».proof.Proof.Kernel.Off
public import Idealize.ShloMosaic.Lib.Exec
public import Idealize.ShloMosaic.Lib.Tactic
public import Idealize.ShloMosaic.Lib.Pipeline.Kit

@[expose] public section

set_option maxRecDepth 8192
set_option maxHeartbeats 4000000

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resource algebra of the generated instances: the frame kit's (Gen/<Name>/Frame.lean). -/
local notation "𝕄G" => MT nD τ sig Unit (Elt F) ℕ (UR sig nD τ) ℕ
/-! ## `cc0_gelu_bwd_quant` -/

/-! ### `k0_t1_loop`: the generated invariant (classifier: listed) -/

/-- One trip's resources: what the region reads (arg1, arg2) at its contents, what it writes (arg4,
   arg6, arg8, arg9, arg10, arg11, arg12, arg13, arg14) at any. -/
abbrev Trip_k0_t1 (c : Dev nD) (arg1 : Memref sig .tc .vmem S256x4608 .bf16) (arg2 : Memref sig .tc .vmem S256x4608 .bf16) (arg4 : Memref sig .tc .vmem S256x4608 .fp8e5m2) (arg6 : Memref sig .tc .vmem S4608x256 .fp8e5m2) (arg8 : Memref sig .tc .vmem S2x256x128 .f32) (arg9 : Memref sig .tc .vmem S2x256x128 .f32) (arg10 : Memref sig .tc .vmem S2x72x128 .f32) (arg11 : Memref sig .tc .vmem S2x72x128 .f32) (arg12 : Memref sig .tc .vmem S8x4608 .f32) (arg13 : Memref sig .tc .vmem S144x256 .f32) (arg14 : Memref sig .tc .vmem S128x4608 .f32) (X_arg1 : BufTy.Contents (Elt F) arg1.view.ty) (X_arg2 : BufTy.Contents (Elt F) arg2.view.ty) (f_arg4 : BufTy.Contents (Elt F) arg4.view.ty) (f_arg6 : BufTy.Contents (Elt F) arg6.view.ty) (f_arg8 : BufTy.Contents (Elt F) arg8.view.ty) (f_arg9 : BufTy.Contents (Elt F) arg9.view.ty) (f_arg10 : BufTy.Contents (Elt F) arg10.view.ty) (f_arg11 : BufTy.Contents (Elt F) arg11.view.ty) (f_arg12 : BufTy.Contents (Elt F) arg12.view.ty) (f_arg13 : BufTy.Contents (Elt F) arg13.view.ty) (f_arg14 : BufTy.Contents (Elt F) arg14.view.ty) : sProp 𝕄G :=
  iprop((arg1.view.loc (c : Thread nD τ) ↦[arg1.view.set]{fullShare} X_arg1) ∗ (arg2.view.loc (c : Thread nD τ) ↦[arg2.view.set]{fullShare} X_arg2) ∗ (arg4.view.loc (c : Thread nD τ) ↦[arg4.view.set]{fullShare} f_arg4) ∗ (arg6.view.loc (c : Thread nD τ) ↦[arg6.view.set]{fullShare} f_arg6) ∗ (arg8.view.loc (c : Thread nD τ) ↦[arg8.view.set]{fullShare} f_arg8) ∗ (arg9.view.loc (c : Thread nD τ) ↦[arg9.view.set]{fullShare} f_arg9) ∗ (arg10.view.loc (c : Thread nD τ) ↦[arg10.view.set]{fullShare} f_arg10) ∗ (arg11.view.loc (c : Thread nD τ) ↦[arg11.view.set]{fullShare} f_arg11) ∗ (arg12.view.loc (c : Thread nD τ) ↦[arg12.view.set]{fullShare} f_arg12) ∗ (arg13.view.loc (c : Thread nD τ) ↦[arg13.view.set]{fullShare} f_arg13) ∗ (arg14.view.loc (c : Thread nD τ) ↦[arg14.view.set]{fullShare} f_arg14))

/-- ONE TRIP of `k0_t1_loop` at a symbolic `k`, run by `sl_exec` (its rectangles where the program's
   in-range evidence puts them, their places unread): the pieces it writes into arg4, arg6, arg8,
   arg9, arg10, arg11, arg12, arg13, arg14 are the run's own finds — the witnesses `sl_close`
   assigns handing the buffers to the continuation, as functions of the contents the trip finds in
   the memrefs it writes (the region loads some of them back). `@[irreducible]`: cited, never
   unfolded. -/
@[irreducible] def trip_k0_t1 (𝒱 : Variants) (c : Dev nD) (bd : Option 𝒱.V) (i : grid0.Coords) (arg1 : Memref sig .tc .vmem S256x4608 .bf16) (harg1 : arg1.IsWhole) (arg2 : Memref sig .tc .vmem S256x4608 .bf16) (harg2 : arg2.IsWhole) (arg3 : Memref sig .tc .vmem S1x4608 .f32) (harg3 : arg3.IsWhole) (arg4 : Memref sig .tc .vmem S256x4608 .fp8e5m2) (harg4 : arg4.IsWhole) (arg5 : Memref sig .tc .vmem S256x144 .f32) (harg5 : arg5.IsWhole) (arg6 : Memref sig .tc .vmem S4608x256 .fp8e5m2) (harg6 : arg6.IsWhole) (arg7 : Memref sig .tc .vmem S4608x128 .f32) (harg7 : arg7.IsWhole) (arg8 : Memref sig .tc .vmem S2x256x128 .f32) (harg8 : arg8.IsWhole) (arg9 : Memref sig .tc .vmem S2x256x128 .f32) (harg9 : arg9.IsWhole) (arg10 : Memref sig .tc .vmem S2x72x128 .f32) (harg10 : arg10.IsWhole) (arg11 : Memref sig .tc .vmem S2x72x128 .f32) (harg11 : arg11.IsWhole) (arg12 : Memref sig .tc .vmem S8x4608 .f32) (harg12 : arg12.IsWhole) (arg13 : Memref sig .tc .vmem S144x256 .f32) (harg13 : arg13.IsWhole) (arg14 : Memref sig .tc .vmem S128x4608 .f32) (harg14 : arg14.IsWhole) (arg0 : BitVec 32) (X_arg1 : BufTy.Contents (Elt F) arg1.view.ty) (X_arg2 : BufTy.Contents (Elt F) arg2.view.ty) (k : Fin k0_t1_loop.trips) :
    Σ' (L_arg4 : (BufTy.Contents (Elt F) arg4.view.ty → BufTy.Contents (Elt F) arg6.view.ty → BufTy.Contents (Elt F) arg8.view.ty → BufTy.Contents (Elt F) arg9.view.ty → BufTy.Contents (Elt F) arg10.view.ty → BufTy.Contents (Elt F) arg11.view.ty → BufTy.Contents (Elt F) arg12.view.ty → BufTy.Contents (Elt F) arg13.view.ty → BufTy.Contents (Elt F) arg14.view.ty → List (View.Piece (Elt F) S256x4608 .fp8e5m2))) (L_arg6 : (BufTy.Contents (Elt F) arg4.view.ty → BufTy.Contents (Elt F) arg6.view.ty → BufTy.Contents (Elt F) arg8.view.ty → BufTy.Contents (Elt F) arg9.view.ty → BufTy.Contents (Elt F) arg10.view.ty → BufTy.Contents (Elt F) arg11.view.ty → BufTy.Contents (Elt F) arg12.view.ty → BufTy.Contents (Elt F) arg13.view.ty → BufTy.Contents (Elt F) arg14.view.ty → List (View.Piece (Elt F) S4608x256 .fp8e5m2))) (L_arg8 : (BufTy.Contents (Elt F) arg4.view.ty → BufTy.Contents (Elt F) arg6.view.ty → BufTy.Contents (Elt F) arg8.view.ty → BufTy.Contents (Elt F) arg9.view.ty → BufTy.Contents (Elt F) arg10.view.ty → BufTy.Contents (Elt F) arg11.view.ty → BufTy.Contents (Elt F) arg12.view.ty → BufTy.Contents (Elt F) arg13.view.ty → BufTy.Contents (Elt F) arg14.view.ty → List (View.Piece (Elt F) S2x256x128 .f32))) (L_arg9 : (BufTy.Contents (Elt F) arg4.view.ty → BufTy.Contents (Elt F) arg6.view.ty → BufTy.Contents (Elt F) arg8.view.ty → BufTy.Contents (Elt F) arg9.view.ty → BufTy.Contents (Elt F) arg10.view.ty → BufTy.Contents (Elt F) arg11.view.ty → BufTy.Contents (Elt F) arg12.view.ty → BufTy.Contents (Elt F) arg13.view.ty → BufTy.Contents (Elt F) arg14.view.ty → List (View.Piece (Elt F) S2x256x128 .f32))) (L_arg10 : (BufTy.Contents (Elt F) arg4.view.ty → BufTy.Contents (Elt F) arg6.view.ty → BufTy.Contents (Elt F) arg8.view.ty → BufTy.Contents (Elt F) arg9.view.ty → BufTy.Contents (Elt F) arg10.view.ty → BufTy.Contents (Elt F) arg11.view.ty → BufTy.Contents (Elt F) arg12.view.ty → BufTy.Contents (Elt F) arg13.view.ty → BufTy.Contents (Elt F) arg14.view.ty → List (View.Piece (Elt F) S2x72x128 .f32))) (L_arg11 : (BufTy.Contents (Elt F) arg4.view.ty → BufTy.Contents (Elt F) arg6.view.ty → BufTy.Contents (Elt F) arg8.view.ty → BufTy.Contents (Elt F) arg9.view.ty → BufTy.Contents (Elt F) arg10.view.ty → BufTy.Contents (Elt F) arg11.view.ty → BufTy.Contents (Elt F) arg12.view.ty → BufTy.Contents (Elt F) arg13.view.ty → BufTy.Contents (Elt F) arg14.view.ty → List (View.Piece (Elt F) S2x72x128 .f32))) (L_arg12 : (BufTy.Contents (Elt F) arg4.view.ty → BufTy.Contents (Elt F) arg6.view.ty → BufTy.Contents (Elt F) arg8.view.ty → BufTy.Contents (Elt F) arg9.view.ty → BufTy.Contents (Elt F) arg10.view.ty → BufTy.Contents (Elt F) arg11.view.ty → BufTy.Contents (Elt F) arg12.view.ty → BufTy.Contents (Elt F) arg13.view.ty → BufTy.Contents (Elt F) arg14.view.ty → List (View.Piece (Elt F) S8x4608 .f32))) (L_arg13 : (BufTy.Contents (Elt F) arg4.view.ty → BufTy.Contents (Elt F) arg6.view.ty → BufTy.Contents (Elt F) arg8.view.ty → BufTy.Contents (Elt F) arg9.view.ty → BufTy.Contents (Elt F) arg10.view.ty → BufTy.Contents (Elt F) arg11.view.ty → BufTy.Contents (Elt F) arg12.view.ty → BufTy.Contents (Elt F) arg13.view.ty → BufTy.Contents (Elt F) arg14.view.ty → List (View.Piece (Elt F) S144x256 .f32))) , { L_arg14 : (BufTy.Contents (Elt F) arg4.view.ty → BufTy.Contents (Elt F) arg6.view.ty → BufTy.Contents (Elt F) arg8.view.ty → BufTy.Contents (Elt F) arg9.view.ty → BufTy.Contents (Elt F) arg10.view.ty → BufTy.Contents (Elt F) arg11.view.ty → BufTy.Contents (Elt F) arg12.view.ty → BufTy.Contents (Elt F) arg13.view.ty → BufTy.Contents (Elt F) arg14.view.ty → List (View.Piece (Elt F) S128x4608 .f32)) // ∀ (E : Set ℕ) (f_arg4 : BufTy.Contents (Elt F) arg4.view.ty) (f_arg6 : BufTy.Contents (Elt F) arg6.view.ty) (f_arg8 : BufTy.Contents (Elt F) arg8.view.ty) (f_arg9 : BufTy.Contents (Elt F) arg9.view.ty) (f_arg10 : BufTy.Contents (Elt F) arg10.view.ty) (f_arg11 : BufTy.Contents (Elt F) arg11.view.ty) (f_arg12 : BufTy.Contents (Elt F) arg12.view.ty) (f_arg13 : BufTy.Contents (Elt F) arg13.view.ty) (f_arg14 : BufTy.Contents (Elt F) arg14.view.ty),
      Trip_k0_t1 (F := F) c arg1 arg2 arg4 arg6 arg8 arg9 arg10 arg11 arg12 arg13 arg14 X_arg1 X_arg2 f_arg4 f_arg6 f_arg8 f_arg9 f_arg10 f_arg11 f_arg12 f_arg13 f_arg14
      ⊢ wp frame (wpE (defs₀ (F := F)) 𝒱 (c : Thread nD τ) bd) E (k0_t1_body (F := F) i arg1 harg1 arg2 harg2 arg3 harg3 arg4 harg4 arg5 harg5 arg6 harg6 arg7 harg7 arg8 harg8 arg9 harg9 arg10 harg10 arg11 harg11 arg12 harg12 arg13 harg13 arg14 harg14 arg0 k PUnit.unit)
          (fun _ => Trip_k0_t1 (F := F) c arg1 arg2 arg4 arg6 arg8 arg9 arg10 arg11 arg12 arg13 arg14 X_arg1 X_arg2 (arg4.view.writes (Elt F) f_arg4 (L_arg4 f_arg4 f_arg6 f_arg8 f_arg9 f_arg10 f_arg11 f_arg12 f_arg13 f_arg14)) (arg6.view.writes (Elt F) f_arg6 (L_arg6 f_arg4 f_arg6 f_arg8 f_arg9 f_arg10 f_arg11 f_arg12 f_arg13 f_arg14)) (arg8.view.writes (Elt F) f_arg8 (L_arg8 f_arg4 f_arg6 f_arg8 f_arg9 f_arg10 f_arg11 f_arg12 f_arg13 f_arg14)) (arg9.view.writes (Elt F) f_arg9 (L_arg9 f_arg4 f_arg6 f_arg8 f_arg9 f_arg10 f_arg11 f_arg12 f_arg13 f_arg14)) (arg10.view.writes (Elt F) f_arg10 (L_arg10 f_arg4 f_arg6 f_arg8 f_arg9 f_arg10 f_arg11 f_arg12 f_arg13 f_arg14)) (arg11.view.writes (Elt F) f_arg11 (L_arg11 f_arg4 f_arg6 f_arg8 f_arg9 f_arg10 f_arg11 f_arg12 f_arg13 f_arg14)) (arg12.view.writes (Elt F) f_arg12 (L_arg12 f_arg4 f_arg6 f_arg8 f_arg9 f_arg10 f_arg11 f_arg12 f_arg13 f_arg14)) (arg13.view.writes (Elt F) f_arg13 (L_arg13 f_arg4 f_arg6 f_arg8 f_arg9 f_arg10 f_arg11 f_arg12 f_arg13 f_arg14)) (arg14.view.writes (Elt F) f_arg14 (L_arg14 f_arg4 f_arg6 f_arg8 f_arg9 f_arg10 f_arg11 f_arg12 f_arg13 f_arg14))) } := by
  have hk : k.val < 18 := Nat.lt_of_lt_of_le k.isLt k0_t1_abs.2.1
  refine ⟨?_, ?_, ?_, ?_, ?_, ?_, ?_, ?_, ?_, fun E f_arg4 f_arg6 f_arg8 f_arg9 f_arg10 f_arg11 f_arg12 f_arg13 f_arg14 => ?run⟩
  case run =>
    unfold k0_t1_body
    iintro ⟨HR_arg1, HR_arg2, HW_arg4, HW_arg6, HW_arg8, HW_arg9, HW_arg10, HW_arg11, HW_arg12, HW_arg13, HW_arg14⟩
    sl_exec
    sl_step
    sl_close

end Cert.Kernel.Gen

end
-- ==== Proof.Kernel.Loop.lean ====
/- The kernel's loop over its eighteen column tiles: the pieces of the trips so far, as a recursion, and the loop by its invariant. -/
module

public import proofs.«01_k».proof.Proof.Gen.Kernel.Skeleton
public import proofs.«01_k».proof.Proof.Gen.Kernel.Loops
public import proofs.«01_k».proof.Proof.Kernel.Trip
public import Idealize.ShloMosaic.Lib.Exec
public import Idealize.ShloMosaic.Lib.Tactic
public import Idealize.ShloMosaic.Lib.Pipeline.Kit

@[expose] public section

set_option maxRecDepth 8192
set_option maxHeartbeats 4000000

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resource algebra of the generated instances: the frame kit's (Gen/<Name>/Frame.lean). -/
local notation "𝕄G" => MT nD τ sig Unit (Elt F) ℕ (UR sig nD τ) ℕ
/-- The trip's piece lists (plain projections of `trip_…`, for the recursion below to cite without
   its proof), at the contents the trip finds in the written memrefs. -/
abbrev tripL_k0_t1 (𝒱 : Variants) (c : Dev nD) (bd : Option 𝒱.V) (i : grid0.Coords) (arg1 : Memref sig .tc .vmem S256x4608 .bf16) (harg1 : arg1.IsWhole) (arg2 : Memref sig .tc .vmem S256x4608 .bf16) (harg2 : arg2.IsWhole) (arg3 : Memref sig .tc .vmem S1x4608 .f32) (harg3 : arg3.IsWhole) (arg4 : Memref sig .tc .vmem S256x4608 .fp8e5m2) (harg4 : arg4.IsWhole) (arg5 : Memref sig .tc .vmem S256x144 .f32) (harg5 : arg5.IsWhole) (arg6 : Memref sig .tc .vmem S4608x256 .fp8e5m2) (harg6 : arg6.IsWhole) (arg7 : Memref sig .tc .vmem S4608x128 .f32) (harg7 : arg7.IsWhole) (arg8 : Memref sig .tc .vmem S2x256x128 .f32) (harg8 : arg8.IsWhole) (arg9 : Memref sig .tc .vmem S2x256x128 .f32) (harg9 : arg9.IsWhole) (arg10 : Memref sig .tc .vmem S2x72x128 .f32) (harg10 : arg10.IsWhole) (arg11 : Memref sig .tc .vmem S2x72x128 .f32) (harg11 : arg11.IsWhole) (arg12 : Memref sig .tc .vmem S8x4608 .f32) (harg12 : arg12.IsWhole) (arg13 : Memref sig .tc .vmem S144x256 .f32) (harg13 : arg13.IsWhole) (arg14 : Memref sig .tc .vmem S128x4608 .f32) (harg14 : arg14.IsWhole) (arg0 : BitVec 32) (X_arg1 : BufTy.Contents (Elt F) arg1.view.ty) (X_arg2 : BufTy.Contents (Elt F) arg2.view.ty) (k : Fin k0_t1_loop.trips) (f_arg4 : BufTy.Contents (Elt F) arg4.view.ty) (f_arg6 : BufTy.Contents (Elt F) arg6.view.ty) (f_arg8 : BufTy.Contents (Elt F) arg8.view.ty) (f_arg9 : BufTy.Contents (Elt F) arg9.view.ty) (f_arg10 : BufTy.Contents (Elt F) arg10.view.ty) (f_arg11 : BufTy.Contents (Elt F) arg11.view.ty) (f_arg12 : BufTy.Contents (Elt F) arg12.view.ty) (f_arg13 : BufTy.Contents (Elt F) arg13.view.ty) (f_arg14 : BufTy.Contents (Elt F) arg14.view.ty) : List (View.Piece (Elt F) S256x4608 .fp8e5m2) × List (View.Piece (Elt F) S4608x256 .fp8e5m2) × List (View.Piece (Elt F) S2x256x128 .f32) × List (View.Piece (Elt F) S2x256x128 .f32) × List (View.Piece (Elt F) S2x72x128 .f32) × List (View.Piece (Elt F) S2x72x128 .f32) × List (View.Piece (Elt F) S8x4608 .f32) × List (View.Piece (Elt F) S144x256 .f32) × List (View.Piece (Elt F) S128x4608 .f32) :=
  ((trip_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 k).1 f_arg4 f_arg6 f_arg8 f_arg9 f_arg10 f_arg11 f_arg12 f_arg13 f_arg14, (trip_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 k).2.1 f_arg4 f_arg6 f_arg8 f_arg9 f_arg10 f_arg11 f_arg12 f_arg13 f_arg14, (trip_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 k).2.2.1 f_arg4 f_arg6 f_arg8 f_arg9 f_arg10 f_arg11 f_arg12 f_arg13 f_arg14, (trip_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 k).2.2.2.1 f_arg4 f_arg6 f_arg8 f_arg9 f_arg10 f_arg11 f_arg12 f_arg13 f_arg14, (trip_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 k).2.2.2.2.1 f_arg4 f_arg6 f_arg8 f_arg9 f_arg10 f_arg11 f_arg12 f_arg13 f_arg14, (trip_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 k).2.2.2.2.2.1 f_arg4 f_arg6 f_arg8 f_arg9 f_arg10 f_arg11 f_arg12 f_arg13 f_arg14, (trip_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 k).2.2.2.2.2.2.1 f_arg4 f_arg6 f_arg8 f_arg9 f_arg10 f_arg11 f_arg12 f_arg13 f_arg14, (trip_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 k).2.2.2.2.2.2.2.1 f_arg4 f_arg6 f_arg8 f_arg9 f_arg10 f_arg11 f_arg12 f_arg13 f_arg14, (trip_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 k).2.2.2.2.2.2.2.2.1 f_arg4 f_arg6 f_arg8 f_arg9 f_arg10 f_arg11 f_arg12 f_arg13 f_arg14)

/-- Trip `k`'s contribution to the state the recursion `pb_k0_t1` below carries (`prev`): its pieces
   in front, per written memref; past the last trip, `prev` itself. -/
@[irreducible] def pb_k0_t1Step (𝒱 : Variants) (c : Dev nD) (bd : Option 𝒱.V) (i : grid0.Coords) (arg1 : Memref sig .tc .vmem S256x4608 .bf16) (harg1 : arg1.IsWhole) (arg2 : Memref sig .tc .vmem S256x4608 .bf16) (harg2 : arg2.IsWhole) (arg3 : Memref sig .tc .vmem S1x4608 .f32) (harg3 : arg3.IsWhole) (arg4 : Memref sig .tc .vmem S256x4608 .fp8e5m2) (harg4 : arg4.IsWhole) (arg5 : Memref sig .tc .vmem S256x144 .f32) (harg5 : arg5.IsWhole) (arg6 : Memref sig .tc .vmem S4608x256 .fp8e5m2) (harg6 : arg6.IsWhole) (arg7 : Memref sig .tc .vmem S4608x128 .f32) (harg7 : arg7.IsWhole) (arg8 : Memref sig .tc .vmem S2x256x128 .f32) (harg8 : arg8.IsWhole) (arg9 : Memref sig .tc .vmem S2x256x128 .f32) (harg9 : arg9.IsWhole) (arg10 : Memref sig .tc .vmem S2x72x128 .f32) (harg10 : arg10.IsWhole) (arg11 : Memref sig .tc .vmem S2x72x128 .f32) (harg11 : arg11.IsWhole) (arg12 : Memref sig .tc .vmem S8x4608 .f32) (harg12 : arg12.IsWhole) (arg13 : Memref sig .tc .vmem S144x256 .f32) (harg13 : arg13.IsWhole) (arg14 : Memref sig .tc .vmem S128x4608 .f32) (harg14 : arg14.IsWhole) (arg0 : BitVec 32) (X_arg1 : BufTy.Contents (Elt F) arg1.view.ty) (X_arg2 : BufTy.Contents (Elt F) arg2.view.ty) (G_arg4 : BufTy.Contents (Elt F) arg4.view.ty) (G_arg6 : BufTy.Contents (Elt F) arg6.view.ty) (G_arg8 : BufTy.Contents (Elt F) arg8.view.ty) (G_arg9 : BufTy.Contents (Elt F) arg9.view.ty) (G_arg10 : BufTy.Contents (Elt F) arg10.view.ty) (G_arg11 : BufTy.Contents (Elt F) arg11.view.ty) (G_arg12 : BufTy.Contents (Elt F) arg12.view.ty) (G_arg13 : BufTy.Contents (Elt F) arg13.view.ty) (G_arg14 : BufTy.Contents (Elt F) arg14.view.ty) (k : ℕ) (prev : List (View.Piece (Elt F) S256x4608 .fp8e5m2) × List (View.Piece (Elt F) S4608x256 .fp8e5m2) × List (View.Piece (Elt F) S2x256x128 .f32) × List (View.Piece (Elt F) S2x256x128 .f32) × List (View.Piece (Elt F) S2x72x128 .f32) × List (View.Piece (Elt F) S2x72x128 .f32) × List (View.Piece (Elt F) S8x4608 .f32) × List (View.Piece (Elt F) S144x256 .f32) × List (View.Piece (Elt F) S128x4608 .f32)) : List (View.Piece (Elt F) S256x4608 .fp8e5m2) × List (View.Piece (Elt F) S4608x256 .fp8e5m2) × List (View.Piece (Elt F) S2x256x128 .f32) × List (View.Piece (Elt F) S2x256x128 .f32) × List (View.Piece (Elt F) S2x72x128 .f32) × List (View.Piece (Elt F) S2x72x128 .f32) × List (View.Piece (Elt F) S8x4608 .f32) × List (View.Piece (Elt F) S144x256 .f32) × List (View.Piece (Elt F) S128x4608 .f32) :=
  if h : k < k0_t1_loop.trips then
    ((tripL_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 ⟨k, h⟩ (arg4.view.writes (Elt F) G_arg4 prev.1) (arg6.view.writes (Elt F) G_arg6 prev.2.1) (arg8.view.writes (Elt F) G_arg8 prev.2.2.1) (arg9.view.writes (Elt F) G_arg9 prev.2.2.2.1) (arg10.view.writes (Elt F) G_arg10 prev.2.2.2.2.1) (arg11.view.writes (Elt F) G_arg11 prev.2.2.2.2.2.1) (arg12.view.writes (Elt F) G_arg12 prev.2.2.2.2.2.2.1) (arg13.view.writes (Elt F) G_arg13 prev.2.2.2.2.2.2.2.1) (arg14.view.writes (Elt F) G_arg14 prev.2.2.2.2.2.2.2.2)).1 ++ prev.1, (tripL_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 ⟨k, h⟩ (arg4.view.writes (Elt F) G_arg4 prev.1) (arg6.view.writes (Elt F) G_arg6 prev.2.1) (arg8.view.writes (Elt F) G_arg8 prev.2.2.1) (arg9.view.writes (Elt F) G_arg9 prev.2.2.2.1) (arg10.view.writes (Elt F) G_arg10 prev.2.2.2.2.1) (arg11.view.writes (Elt F) G_arg11 prev.2.2.2.2.2.1) (arg12.view.writes (Elt F) G_arg12 prev.2.2.2.2.2.2.1) (arg13.view.writes (Elt F) G_arg13 prev.2.2.2.2.2.2.2.1) (arg14.view.writes (Elt F) G_arg14 prev.2.2.2.2.2.2.2.2)).2.1 ++ prev.2.1, (tripL_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 ⟨k, h⟩ (arg4.view.writes (Elt F) G_arg4 prev.1) (arg6.view.writes (Elt F) G_arg6 prev.2.1) (arg8.view.writes (Elt F) G_arg8 prev.2.2.1) (arg9.view.writes (Elt F) G_arg9 prev.2.2.2.1) (arg10.view.writes (Elt F) G_arg10 prev.2.2.2.2.1) (arg11.view.writes (Elt F) G_arg11 prev.2.2.2.2.2.1) (arg12.view.writes (Elt F) G_arg12 prev.2.2.2.2.2.2.1) (arg13.view.writes (Elt F) G_arg13 prev.2.2.2.2.2.2.2.1) (arg14.view.writes (Elt F) G_arg14 prev.2.2.2.2.2.2.2.2)).2.2.1 ++ prev.2.2.1, (tripL_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 ⟨k, h⟩ (arg4.view.writes (Elt F) G_arg4 prev.1) (arg6.view.writes (Elt F) G_arg6 prev.2.1) (arg8.view.writes (Elt F) G_arg8 prev.2.2.1) (arg9.view.writes (Elt F) G_arg9 prev.2.2.2.1) (arg10.view.writes (Elt F) G_arg10 prev.2.2.2.2.1) (arg11.view.writes (Elt F) G_arg11 prev.2.2.2.2.2.1) (arg12.view.writes (Elt F) G_arg12 prev.2.2.2.2.2.2.1) (arg13.view.writes (Elt F) G_arg13 prev.2.2.2.2.2.2.2.1) (arg14.view.writes (Elt F) G_arg14 prev.2.2.2.2.2.2.2.2)).2.2.2.1 ++ prev.2.2.2.1, (tripL_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 ⟨k, h⟩ (arg4.view.writes (Elt F) G_arg4 prev.1) (arg6.view.writes (Elt F) G_arg6 prev.2.1) (arg8.view.writes (Elt F) G_arg8 prev.2.2.1) (arg9.view.writes (Elt F) G_arg9 prev.2.2.2.1) (arg10.view.writes (Elt F) G_arg10 prev.2.2.2.2.1) (arg11.view.writes (Elt F) G_arg11 prev.2.2.2.2.2.1) (arg12.view.writes (Elt F) G_arg12 prev.2.2.2.2.2.2.1) (arg13.view.writes (Elt F) G_arg13 prev.2.2.2.2.2.2.2.1) (arg14.view.writes (Elt F) G_arg14 prev.2.2.2.2.2.2.2.2)).2.2.2.2.1 ++ prev.2.2.2.2.1, (tripL_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 ⟨k, h⟩ (arg4.view.writes (Elt F) G_arg4 prev.1) (arg6.view.writes (Elt F) G_arg6 prev.2.1) (arg8.view.writes (Elt F) G_arg8 prev.2.2.1) (arg9.view.writes (Elt F) G_arg9 prev.2.2.2.1) (arg10.view.writes (Elt F) G_arg10 prev.2.2.2.2.1) (arg11.view.writes (Elt F) G_arg11 prev.2.2.2.2.2.1) (arg12.view.writes (Elt F) G_arg12 prev.2.2.2.2.2.2.1) (arg13.view.writes (Elt F) G_arg13 prev.2.2.2.2.2.2.2.1) (arg14.view.writes (Elt F) G_arg14 prev.2.2.2.2.2.2.2.2)).2.2.2.2.2.1 ++ prev.2.2.2.2.2.1, (tripL_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 ⟨k, h⟩ (arg4.view.writes (Elt F) G_arg4 prev.1) (arg6.view.writes (Elt F) G_arg6 prev.2.1) (arg8.view.writes (Elt F) G_arg8 prev.2.2.1) (arg9.view.writes (Elt F) G_arg9 prev.2.2.2.1) (arg10.view.writes (Elt F) G_arg10 prev.2.2.2.2.1) (arg11.view.writes (Elt F) G_arg11 prev.2.2.2.2.2.1) (arg12.view.writes (Elt F) G_arg12 prev.2.2.2.2.2.2.1) (arg13.view.writes (Elt F) G_arg13 prev.2.2.2.2.2.2.2.1) (arg14.view.writes (Elt F) G_arg14 prev.2.2.2.2.2.2.2.2)).2.2.2.2.2.2.1 ++ prev.2.2.2.2.2.2.1, (tripL_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 ⟨k, h⟩ (arg4.view.writes (Elt F) G_arg4 prev.1) (arg6.view.writes (Elt F) G_arg6 prev.2.1) (arg8.view.writes (Elt F) G_arg8 prev.2.2.1) (arg9.view.writes (Elt F) G_arg9 prev.2.2.2.1) (arg10.view.writes (Elt F) G_arg10 prev.2.2.2.2.1) (arg11.view.writes (Elt F) G_arg11 prev.2.2.2.2.2.1) (arg12.view.writes (Elt F) G_arg12 prev.2.2.2.2.2.2.1) (arg13.view.writes (Elt F) G_arg13 prev.2.2.2.2.2.2.2.1) (arg14.view.writes (Elt F) G_arg14 prev.2.2.2.2.2.2.2.2)).2.2.2.2.2.2.2.1 ++ prev.2.2.2.2.2.2.2.1, (tripL_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 ⟨k, h⟩ (arg4.view.writes (Elt F) G_arg4 prev.1) (arg6.view.writes (Elt F) G_arg6 prev.2.1) (arg8.view.writes (Elt F) G_arg8 prev.2.2.1) (arg9.view.writes (Elt F) G_arg9 prev.2.2.2.1) (arg10.view.writes (Elt F) G_arg10 prev.2.2.2.2.1) (arg11.view.writes (Elt F) G_arg11 prev.2.2.2.2.2.1) (arg12.view.writes (Elt F) G_arg12 prev.2.2.2.2.2.2.1) (arg13.view.writes (Elt F) G_arg13 prev.2.2.2.2.2.2.2.1) (arg14.view.writes (Elt F) G_arg14 prev.2.2.2.2.2.2.2.2)).2.2.2.2.2.2.2.2 ++ prev.2.2.2.2.2.2.2.2)
  else prev

/-- The pieces of the trips before `k` (last first), per written memref, starting from the contents
   `G_·` at loop entry; each trip's pieces taken at the contents the earlier trips left. -/
def pb_k0_t1 (𝒱 : Variants) (c : Dev nD) (bd : Option 𝒱.V) (i : grid0.Coords) (arg1 : Memref sig .tc .vmem S256x4608 .bf16) (harg1 : arg1.IsWhole) (arg2 : Memref sig .tc .vmem S256x4608 .bf16) (harg2 : arg2.IsWhole) (arg3 : Memref sig .tc .vmem S1x4608 .f32) (harg3 : arg3.IsWhole) (arg4 : Memref sig .tc .vmem S256x4608 .fp8e5m2) (harg4 : arg4.IsWhole) (arg5 : Memref sig .tc .vmem S256x144 .f32) (harg5 : arg5.IsWhole) (arg6 : Memref sig .tc .vmem S4608x256 .fp8e5m2) (harg6 : arg6.IsWhole) (arg7 : Memref sig .tc .vmem S4608x128 .f32) (harg7 : arg7.IsWhole) (arg8 : Memref sig .tc .vmem S2x256x128 .f32) (harg8 : arg8.IsWhole) (arg9 : Memref sig .tc .vmem S2x256x128 .f32) (harg9 : arg9.IsWhole) (arg10 : Memref sig .tc .vmem S2x72x128 .f32) (harg10 : arg10.IsWhole) (arg11 : Memref sig .tc .vmem S2x72x128 .f32) (harg11 : arg11.IsWhole) (arg12 : Memref sig .tc .vmem S8x4608 .f32) (harg12 : arg12.IsWhole) (arg13 : Memref sig .tc .vmem S144x256 .f32) (harg13 : arg13.IsWhole) (arg14 : Memref sig .tc .vmem S128x4608 .f32) (harg14 : arg14.IsWhole) (arg0 : BitVec 32) (X_arg1 : BufTy.Contents (Elt F) arg1.view.ty) (X_arg2 : BufTy.Contents (Elt F) arg2.view.ty) (G_arg4 : BufTy.Contents (Elt F) arg4.view.ty) (G_arg6 : BufTy.Contents (Elt F) arg6.view.ty) (G_arg8 : BufTy.Contents (Elt F) arg8.view.ty) (G_arg9 : BufTy.Contents (Elt F) arg9.view.ty) (G_arg10 : BufTy.Contents (Elt F) arg10.view.ty) (G_arg11 : BufTy.Contents (Elt F) arg11.view.ty) (G_arg12 : BufTy.Contents (Elt F) arg12.view.ty) (G_arg13 : BufTy.Contents (Elt F) arg13.view.ty) (G_arg14 : BufTy.Contents (Elt F) arg14.view.ty) : ℕ → List (View.Piece (Elt F) S256x4608 .fp8e5m2) × List (View.Piece (Elt F) S4608x256 .fp8e5m2) × List (View.Piece (Elt F) S2x256x128 .f32) × List (View.Piece (Elt F) S2x256x128 .f32) × List (View.Piece (Elt F) S2x72x128 .f32) × List (View.Piece (Elt F) S2x72x128 .f32) × List (View.Piece (Elt F) S8x4608 .f32) × List (View.Piece (Elt F) S144x256 .f32) × List (View.Piece (Elt F) S128x4608 .f32)
  | 0 => ([], [], [], [], [], [], [], [], [])
  | k + 1 => pb_k0_t1Step 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 k (pb_k0_t1 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 k)

theorem pb_k0_t1_succ (𝒱 : Variants) (c : Dev nD) (bd : Option 𝒱.V) (i : grid0.Coords) (arg1 : Memref sig .tc .vmem S256x4608 .bf16) (harg1 : arg1.IsWhole) (arg2 : Memref sig .tc .vmem S256x4608 .bf16) (harg2 : arg2.IsWhole) (arg3 : Memref sig .tc .vmem S1x4608 .f32) (harg3 : arg3.IsWhole) (arg4 : Memref sig .tc .vmem S256x4608 .fp8e5m2) (harg4 : arg4.IsWhole) (arg5 : Memref sig .tc .vmem S256x144 .f32) (harg5 : arg5.IsWhole) (arg6 : Memref sig .tc .vmem S4608x256 .fp8e5m2) (harg6 : arg6.IsWhole) (arg7 : Memref sig .tc .vmem S4608x128 .f32) (harg7 : arg7.IsWhole) (arg8 : Memref sig .tc .vmem S2x256x128 .f32) (harg8 : arg8.IsWhole) (arg9 : Memref sig .tc .vmem S2x256x128 .f32) (harg9 : arg9.IsWhole) (arg10 : Memref sig .tc .vmem S2x72x128 .f32) (harg10 : arg10.IsWhole) (arg11 : Memref sig .tc .vmem S2x72x128 .f32) (harg11 : arg11.IsWhole) (arg12 : Memref sig .tc .vmem S8x4608 .f32) (harg12 : arg12.IsWhole) (arg13 : Memref sig .tc .vmem S144x256 .f32) (harg13 : arg13.IsWhole) (arg14 : Memref sig .tc .vmem S128x4608 .f32) (harg14 : arg14.IsWhole) (arg0 : BitVec 32) (X_arg1 : BufTy.Contents (Elt F) arg1.view.ty) (X_arg2 : BufTy.Contents (Elt F) arg2.view.ty) (G_arg4 : BufTy.Contents (Elt F) arg4.view.ty) (G_arg6 : BufTy.Contents (Elt F) arg6.view.ty) (G_arg8 : BufTy.Contents (Elt F) arg8.view.ty) (G_arg9 : BufTy.Contents (Elt F) arg9.view.ty) (G_arg10 : BufTy.Contents (Elt F) arg10.view.ty) (G_arg11 : BufTy.Contents (Elt F) arg11.view.ty) (G_arg12 : BufTy.Contents (Elt F) arg12.view.ty) (G_arg13 : BufTy.Contents (Elt F) arg13.view.ty) (G_arg14 : BufTy.Contents (Elt F) arg14.view.ty) (k : Fin k0_t1_loop.trips) :
    pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 (k.val + 1)
      = ((tripL_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 k (arg4.view.writes (Elt F) G_arg4 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 k.val).1) (arg6.view.writes (Elt F) G_arg6 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 k.val).2.1) (arg8.view.writes (Elt F) G_arg8 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 k.val).2.2.1) (arg9.view.writes (Elt F) G_arg9 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 k.val).2.2.2.1) (arg10.view.writes (Elt F) G_arg10 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 k.val).2.2.2.2.1) (arg11.view.writes (Elt F) G_arg11 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 k.val).2.2.2.2.2.1) (arg12.view.writes (Elt F) G_arg12 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 k.val).2.2.2.2.2.2.1) (arg13.view.writes (Elt F) G_arg13 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 k.val).2.2.2.2.2.2.2.1) (arg14.view.writes (Elt F) G_arg14 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 k.val).2.2.2.2.2.2.2.2)).1 ++ (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 k.val).1, (tripL_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 k (arg4.view.writes (Elt F) G_arg4 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 k.val).1) (arg6.view.writes (Elt F) G_arg6 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 k.val).2.1) (arg8.view.writes (Elt F) G_arg8 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 k.val).2.2.1) (arg9.view.writes (Elt F) G_arg9 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 k.val).2.2.2.1) (arg10.view.writes (Elt F) G_arg10 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 k.val).2.2.2.2.1) (arg11.view.writes (Elt F) G_arg11 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 k.val).2.2.2.2.2.1) (arg12.view.writes (Elt F) G_arg12 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 k.val).2.2.2.2.2.2.1) (arg13.view.writes (Elt F) G_arg13 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 k.val).2.2.2.2.2.2.2.1) (arg14.view.writes (Elt F) G_arg14 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 k.val).2.2.2.2.2.2.2.2)).2.1 ++ (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 k.val).2.1, (tripL_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 k (arg4.view.writes (Elt F) G_arg4 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 k.val).1) (arg6.view.writes (Elt F) G_arg6 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 k.val).2.1) (arg8.view.writes (Elt F) G_arg8 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 k.val).2.2.1) (arg9.view.writes (Elt F) G_arg9 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 k.val).2.2.2.1) (arg10.view.writes (Elt F) G_arg10 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 k.val).2.2.2.2.1) (arg11.view.writes (Elt F) G_arg11 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 k.val).2.2.2.2.2.1) (arg12.view.writes (Elt F) G_arg12 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 k.val).2.2.2.2.2.2.1) (arg13.view.writes (Elt F) G_arg13 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 k.val).2.2.2.2.2.2.2.1) (arg14.view.writes (Elt F) G_arg14 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 k.val).2.2.2.2.2.2.2.2)).2.2.1 ++ (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 k.val).2.2.1, (tripL_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 k (arg4.view.writes (Elt F) G_arg4 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 k.val).1) (arg6.view.writes (Elt F) G_arg6 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 k.val).2.1) (arg8.view.writes (Elt F) G_arg8 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 k.val).2.2.1) (arg9.view.writes (Elt F) G_arg9 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 k.val).2.2.2.1) (arg10.view.writes (Elt F) G_arg10 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 k.val).2.2.2.2.1) (arg11.view.writes (Elt F) G_arg11 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 k.val).2.2.2.2.2.1) (arg12.view.writes (Elt F) G_arg12 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 k.val).2.2.2.2.2.2.1) (arg13.view.writes (Elt F) G_arg13 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 k.val).2.2.2.2.2.2.2.1) (arg14.view.writes (Elt F) G_arg14 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 k.val).2.2.2.2.2.2.2.2)).2.2.2.1 ++ (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 k.val).2.2.2.1, (tripL_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 k (arg4.view.writes (Elt F) G_arg4 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 k.val).1) (arg6.view.writes (Elt F) G_arg6 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 k.val).2.1) (arg8.view.writes (Elt F) G_arg8 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 k.val).2.2.1) (arg9.view.writes (Elt F) G_arg9 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 k.val).2.2.2.1) (arg10.view.writes (Elt F) G_arg10 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 k.val).2.2.2.2.1) (arg11.view.writes (Elt F) G_arg11 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 k.val).2.2.2.2.2.1) (arg12.view.writes (Elt F) G_arg12 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 k.val).2.2.2.2.2.2.1) (arg13.view.writes (Elt F) G_arg13 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 k.val).2.2.2.2.2.2.2.1) (arg14.view.writes (Elt F) G_arg14 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 k.val).2.2.2.2.2.2.2.2)).2.2.2.2.1 ++ (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 k.val).2.2.2.2.1, (tripL_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 k (arg4.view.writes (Elt F) G_arg4 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 k.val).1) (arg6.view.writes (Elt F) G_arg6 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 k.val).2.1) (arg8.view.writes (Elt F) G_arg8 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 k.val).2.2.1) (arg9.view.writes (Elt F) G_arg9 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 k.val).2.2.2.1) (arg10.view.writes (Elt F) G_arg10 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 k.val).2.2.2.2.1) (arg11.view.writes (Elt F) G_arg11 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 k.val).2.2.2.2.2.1) (arg12.view.writes (Elt F) G_arg12 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 k.val).2.2.2.2.2.2.1) (arg13.view.writes (Elt F) G_arg13 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 k.val).2.2.2.2.2.2.2.1) (arg14.view.writes (Elt F) G_arg14 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 k.val).2.2.2.2.2.2.2.2)).2.2.2.2.2.1 ++ (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 k.val).2.2.2.2.2.1, (tripL_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 k (arg4.view.writes (Elt F) G_arg4 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 k.val).1) (arg6.view.writes (Elt F) G_arg6 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 k.val).2.1) (arg8.view.writes (Elt F) G_arg8 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 k.val).2.2.1) (arg9.view.writes (Elt F) G_arg9 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 k.val).2.2.2.1) (arg10.view.writes (Elt F) G_arg10 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 k.val).2.2.2.2.1) (arg11.view.writes (Elt F) G_arg11 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 k.val).2.2.2.2.2.1) (arg12.view.writes (Elt F) G_arg12 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 k.val).2.2.2.2.2.2.1) (arg13.view.writes (Elt F) G_arg13 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 k.val).2.2.2.2.2.2.2.1) (arg14.view.writes (Elt F) G_arg14 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 k.val).2.2.2.2.2.2.2.2)).2.2.2.2.2.2.1 ++ (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 k.val).2.2.2.2.2.2.1, (tripL_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 k (arg4.view.writes (Elt F) G_arg4 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 k.val).1) (arg6.view.writes (Elt F) G_arg6 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 k.val).2.1) (arg8.view.writes (Elt F) G_arg8 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 k.val).2.2.1) (arg9.view.writes (Elt F) G_arg9 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 k.val).2.2.2.1) (arg10.view.writes (Elt F) G_arg10 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 k.val).2.2.2.2.1) (arg11.view.writes (Elt F) G_arg11 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 k.val).2.2.2.2.2.1) (arg12.view.writes (Elt F) G_arg12 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 k.val).2.2.2.2.2.2.1) (arg13.view.writes (Elt F) G_arg13 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 k.val).2.2.2.2.2.2.2.1) (arg14.view.writes (Elt F) G_arg14 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 k.val).2.2.2.2.2.2.2.2)).2.2.2.2.2.2.2.1 ++ (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 k.val).2.2.2.2.2.2.2.1, (tripL_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 k (arg4.view.writes (Elt F) G_arg4 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 k.val).1) (arg6.view.writes (Elt F) G_arg6 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 k.val).2.1) (arg8.view.writes (Elt F) G_arg8 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 k.val).2.2.1) (arg9.view.writes (Elt F) G_arg9 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 k.val).2.2.2.1) (arg10.view.writes (Elt F) G_arg10 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 k.val).2.2.2.2.1) (arg11.view.writes (Elt F) G_arg11 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 k.val).2.2.2.2.2.1) (arg12.view.writes (Elt F) G_arg12 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 k.val).2.2.2.2.2.2.1) (arg13.view.writes (Elt F) G_arg13 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 k.val).2.2.2.2.2.2.2.1) (arg14.view.writes (Elt F) G_arg14 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 k.val).2.2.2.2.2.2.2.2)).2.2.2.2.2.2.2.2 ++ (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 k.val).2.2.2.2.2.2.2.2) := by
  rw [pb_k0_t1.eq_2]; unfold pb_k0_t1Step; exact dif_pos k.isLt

/-- THE INVARIANT before trip `k`: arg1, arg2 read at `X_·`; arg4, arg6, arg8, arg9, arg10, arg11,
   arg12, arg13, arg14 holding the pieces of the trips before `k` written over the contents at loop
   entry `G_·` (stated `∃ f, … ∗ ⌜f = …⌝`, so that a hypothesis of any contents matches and the
   equation is what is proved). -/
abbrev inv_k0_t1 (𝒱 : Variants) (c : Dev nD) (bd : Option 𝒱.V) (i : grid0.Coords) (arg1 : Memref sig .tc .vmem S256x4608 .bf16) (harg1 : arg1.IsWhole) (arg2 : Memref sig .tc .vmem S256x4608 .bf16) (harg2 : arg2.IsWhole) (arg3 : Memref sig .tc .vmem S1x4608 .f32) (harg3 : arg3.IsWhole) (arg4 : Memref sig .tc .vmem S256x4608 .fp8e5m2) (harg4 : arg4.IsWhole) (arg5 : Memref sig .tc .vmem S256x144 .f32) (harg5 : arg5.IsWhole) (arg6 : Memref sig .tc .vmem S4608x256 .fp8e5m2) (harg6 : arg6.IsWhole) (arg7 : Memref sig .tc .vmem S4608x128 .f32) (harg7 : arg7.IsWhole) (arg8 : Memref sig .tc .vmem S2x256x128 .f32) (harg8 : arg8.IsWhole) (arg9 : Memref sig .tc .vmem S2x256x128 .f32) (harg9 : arg9.IsWhole) (arg10 : Memref sig .tc .vmem S2x72x128 .f32) (harg10 : arg10.IsWhole) (arg11 : Memref sig .tc .vmem S2x72x128 .f32) (harg11 : arg11.IsWhole) (arg12 : Memref sig .tc .vmem S8x4608 .f32) (harg12 : arg12.IsWhole) (arg13 : Memref sig .tc .vmem S144x256 .f32) (harg13 : arg13.IsWhole) (arg14 : Memref sig .tc .vmem S128x4608 .f32) (harg14 : arg14.IsWhole) (arg0 : BitVec 32) (X_arg1 : BufTy.Contents (Elt F) arg1.view.ty) (X_arg2 : BufTy.Contents (Elt F) arg2.view.ty) (G_arg4 : BufTy.Contents (Elt F) arg4.view.ty) (G_arg6 : BufTy.Contents (Elt F) arg6.view.ty) (G_arg8 : BufTy.Contents (Elt F) arg8.view.ty) (G_arg9 : BufTy.Contents (Elt F) arg9.view.ty) (G_arg10 : BufTy.Contents (Elt F) arg10.view.ty) (G_arg11 : BufTy.Contents (Elt F) arg11.view.ty) (G_arg12 : BufTy.Contents (Elt F) arg12.view.ty) (G_arg13 : BufTy.Contents (Elt F) arg13.view.ty) (G_arg14 : BufTy.Contents (Elt F) arg14.view.ty) (k : ℕ) (_u : PUnit) : sProp 𝕄G :=
  iprop((arg1.view.loc (c : Thread nD τ) ↦[arg1.view.set]{fullShare} X_arg1) ∗ (arg2.view.loc (c : Thread nD τ) ↦[arg2.view.set]{fullShare} X_arg2) ∗ (∃ f, (arg4.view.loc (c : Thread nD τ) ↦[arg4.view.set]{fullShare} f) ∗ ⌜f = arg4.view.writes (Elt F) G_arg4 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 k).1⌝) ∗ (∃ f, (arg6.view.loc (c : Thread nD τ) ↦[arg6.view.set]{fullShare} f) ∗ ⌜f = arg6.view.writes (Elt F) G_arg6 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 k).2.1⌝) ∗ (∃ f, (arg8.view.loc (c : Thread nD τ) ↦[arg8.view.set]{fullShare} f) ∗ ⌜f = arg8.view.writes (Elt F) G_arg8 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 k).2.2.1⌝) ∗ (∃ f, (arg9.view.loc (c : Thread nD τ) ↦[arg9.view.set]{fullShare} f) ∗ ⌜f = arg9.view.writes (Elt F) G_arg9 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 k).2.2.2.1⌝) ∗ (∃ f, (arg10.view.loc (c : Thread nD τ) ↦[arg10.view.set]{fullShare} f) ∗ ⌜f = arg10.view.writes (Elt F) G_arg10 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 k).2.2.2.2.1⌝) ∗ (∃ f, (arg11.view.loc (c : Thread nD τ) ↦[arg11.view.set]{fullShare} f) ∗ ⌜f = arg11.view.writes (Elt F) G_arg11 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 k).2.2.2.2.2.1⌝) ∗ (∃ f, (arg12.view.loc (c : Thread nD τ) ↦[arg12.view.set]{fullShare} f) ∗ ⌜f = arg12.view.writes (Elt F) G_arg12 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 k).2.2.2.2.2.2.1⌝) ∗ (∃ f, (arg13.view.loc (c : Thread nD τ) ↦[arg13.view.set]{fullShare} f) ∗ ⌜f = arg13.view.writes (Elt F) G_arg13 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 k).2.2.2.2.2.2.2.1⌝) ∗ (∃ f, (arg14.view.loc (c : Thread nD τ) ↦[arg14.view.set]{fullShare} f) ∗ ⌜f = arg14.view.writes (Elt F) G_arg14 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 k).2.2.2.2.2.2.2.2⌝))

set_option warn.classDefReducibility false in
/-- THE LOOP BY ITS INVARIANT — (`@[sl_loop]`: `sl_exec` finds it meeting `k0_t1_loop`,
   fixing `X_· G_·` against the context; after the loop each written memref holds `writes G (pb …
   trips)`). -/
@[sl_loop] def loopInv_k0_t1 (𝒱 : Variants) (c : Dev nD) (bd : Option 𝒱.V) (E : Set ℕ) (i : grid0.Coords) (arg1 : Memref sig .tc .vmem S256x4608 .bf16) (harg1 : arg1.IsWhole) (arg2 : Memref sig .tc .vmem S256x4608 .bf16) (harg2 : arg2.IsWhole) (arg3 : Memref sig .tc .vmem S1x4608 .f32) (harg3 : arg3.IsWhole) (arg4 : Memref sig .tc .vmem S256x4608 .fp8e5m2) (harg4 : arg4.IsWhole) (arg5 : Memref sig .tc .vmem S256x144 .f32) (harg5 : arg5.IsWhole) (arg6 : Memref sig .tc .vmem S4608x256 .fp8e5m2) (harg6 : arg6.IsWhole) (arg7 : Memref sig .tc .vmem S4608x128 .f32) (harg7 : arg7.IsWhole) (arg8 : Memref sig .tc .vmem S2x256x128 .f32) (harg8 : arg8.IsWhole) (arg9 : Memref sig .tc .vmem S2x256x128 .f32) (harg9 : arg9.IsWhole) (arg10 : Memref sig .tc .vmem S2x72x128 .f32) (harg10 : arg10.IsWhole) (arg11 : Memref sig .tc .vmem S2x72x128 .f32) (harg11 : arg11.IsWhole) (arg12 : Memref sig .tc .vmem S8x4608 .f32) (harg12 : arg12.IsWhole) (arg13 : Memref sig .tc .vmem S144x256 .f32) (harg13 : arg13.IsWhole) (arg14 : Memref sig .tc .vmem S128x4608 .f32) (harg14 : arg14.IsWhole) (arg0 : BitVec 32) (X_arg1 : BufTy.Contents (Elt F) arg1.view.ty) (X_arg2 : BufTy.Contents (Elt F) arg2.view.ty) (G_arg4 : BufTy.Contents (Elt F) arg4.view.ty) (G_arg6 : BufTy.Contents (Elt F) arg6.view.ty) (G_arg8 : BufTy.Contents (Elt F) arg8.view.ty) (G_arg9 : BufTy.Contents (Elt F) arg9.view.ty) (G_arg10 : BufTy.Contents (Elt F) arg10.view.ty) (G_arg11 : BufTy.Contents (Elt F) arg11.view.ty) (G_arg12 : BufTy.Contents (Elt F) arg12.view.ty) (G_arg13 : BufTy.Contents (Elt F) arg13.view.ty) (G_arg14 : BufTy.Contents (Elt F) arg14.view.ty) :
    LoopInvTy_k0_t1 (F := F) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg0 where
  inv := inv_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14
  step k acc := by
    iintro ⟨HR_arg1, HR_arg2, ⟨%f_arg4, HW_arg4, %h_arg4⟩, ⟨%f_arg6, HW_arg6, %h_arg6⟩, ⟨%f_arg8, HW_arg8, %h_arg8⟩, ⟨%f_arg9, HW_arg9, %h_arg9⟩, ⟨%f_arg10, HW_arg10, %h_arg10⟩, ⟨%f_arg11, HW_arg11, %h_arg11⟩, ⟨%f_arg12, HW_arg12, %h_arg12⟩, ⟨%f_arg13, HW_arg13, %h_arg13⟩, ⟨%f_arg14, HW_arg14, %h_arg14⟩⟩
    iapply (wp_wand_r Idealize.ShloMosaic.frame (wpE (defs₀ (F := F)) 𝒱 (c : Thread nD τ) bd) E)
    isplitl [HR_arg1 HR_arg2 HW_arg4 HW_arg6 HW_arg8 HW_arg9 HW_arg10 HW_arg11 HW_arg12 HW_arg13 HW_arg14]
    · iapply ((trip_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 k).2.2.2.2.2.2.2.2.2 E f_arg4 f_arg6 f_arg8 f_arg9 f_arg10 f_arg11 f_arg12 f_arg13 f_arg14)
      isplitl [HR_arg1]; · iexact HR_arg1
      isplitl [HR_arg2]; · iexact HR_arg2
      isplitl [HW_arg4]; · iexact HW_arg4
      isplitl [HW_arg6]; · iexact HW_arg6
      isplitl [HW_arg8]; · iexact HW_arg8
      isplitl [HW_arg9]; · iexact HW_arg9
      isplitl [HW_arg10]; · iexact HW_arg10
      isplitl [HW_arg11]; · iexact HW_arg11
      isplitl [HW_arg12]; · iexact HW_arg12
      isplitl [HW_arg13]; · iexact HW_arg13
      iexact HW_arg14
    · iintro %_ ⟨HR_arg1, HR_arg2, HW_arg4, HW_arg6, HW_arg8, HW_arg9, HW_arg10, HW_arg11, HW_arg12, HW_arg13, HW_arg14⟩
      isplitl [HR_arg1]; · iexact HR_arg1
      isplitl [HR_arg2]; · iexact HR_arg2
      rw [pb_k0_t1_succ]
      isplitl [HW_arg4]
      · iexists _; isplitl [HW_arg4]; · iexact HW_arg4
        ipureintro; rw [h_arg4, h_arg6, h_arg8, h_arg9, h_arg10, h_arg11, h_arg12, h_arg13, h_arg14, ← View.writes_append]
      isplitl [HW_arg6]
      · iexists _; isplitl [HW_arg6]; · iexact HW_arg6
        ipureintro; rw [h_arg4, h_arg6, h_arg8, h_arg9, h_arg10, h_arg11, h_arg12, h_arg13, h_arg14, ← View.writes_append]
      isplitl [HW_arg8]
      · iexists _; isplitl [HW_arg8]; · iexact HW_arg8
        ipureintro; rw [h_arg4, h_arg6, h_arg8, h_arg9, h_arg10, h_arg11, h_arg12, h_arg13, h_arg14, ← View.writes_append]
      isplitl [HW_arg9]
      · iexists _; isplitl [HW_arg9]; · iexact HW_arg9
        ipureintro; rw [h_arg4, h_arg6, h_arg8, h_arg9, h_arg10, h_arg11, h_arg12, h_arg13, h_arg14, ← View.writes_append]
      isplitl [HW_arg10]
      · iexists _; isplitl [HW_arg10]; · iexact HW_arg10
        ipureintro; rw [h_arg4, h_arg6, h_arg8, h_arg9, h_arg10, h_arg11, h_arg12, h_arg13, h_arg14, ← View.writes_append]
      isplitl [HW_arg11]
      · iexists _; isplitl [HW_arg11]; · iexact HW_arg11
        ipureintro; rw [h_arg4, h_arg6, h_arg8, h_arg9, h_arg10, h_arg11, h_arg12, h_arg13, h_arg14, ← View.writes_append]
      isplitl [HW_arg12]
      · iexists _; isplitl [HW_arg12]; · iexact HW_arg12
        ipureintro; rw [h_arg4, h_arg6, h_arg8, h_arg9, h_arg10, h_arg11, h_arg12, h_arg13, h_arg14, ← View.writes_append]
      isplitl [HW_arg13]
      · iexists _; isplitl [HW_arg13]; · iexact HW_arg13
        ipureintro; rw [h_arg4, h_arg6, h_arg8, h_arg9, h_arg10, h_arg11, h_arg12, h_arg13, h_arg14, ← View.writes_append]
      iexists _; isplitl [HW_arg14]; · iexact HW_arg14
      ipureintro; rw [h_arg4, h_arg6, h_arg8, h_arg9, h_arg10, h_arg11, h_arg12, h_arg13, h_arg14, ← View.writes_append]

end Cert.Kernel.Gen

end
-- ==== Proof.Kernel.Run.lean ====
/- One grid point of the kernel, run symbolically in each of the four cases of its conditions. -/
module

public import proofs.«01_k».proof.Proof.Kernel.Loop
public import proofs.«01_k».proof.Proof.Gen.Kernel.Frame

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

/-- The condition of the body's first `if`: whether the point is the first. -/
abbrev cond0_0 (i : grid0.Coords) : Prop := (Scalar.cmpi .ne (Scalar.extui (Scalar.cmpi .eq (BitVec.ofNat 32 (i 0).val) 0#32)) 0#32) = 1#1
/-- The condition of the second: whether the column scales are handed out. -/
abbrev cond0_1 (i : grid0.Coords) : Prop := k0_cond2 i = 1#1
/-- The condition of the third: whether the point is the last. -/
abbrev cond0_2 (i : grid0.Coords) : Prop := k0_cond3 i = 1#1

set_option maxHeartbeats 4000000 in
/-- One grid point with the body's three conditions as named: the inputs' blocks come back as they were, every other buffer at some contents. -/
theorem kernelRun_A (c : Dev nD) (i : grid0.Coords) (arg1 : Memref sig .tc .vmem S256x4608 .bf16) (harg1 : arg1.IsWhole) (arg2 : Memref sig .tc .vmem S256x4608 .bf16) (harg2 : arg2.IsWhole) (arg3 : Memref sig .tc .vmem S1x4608 .f32) (harg3 : arg3.IsWhole) (arg4 : Memref sig .tc .vmem S256x4608 .fp8e5m2) (harg4 : arg4.IsWhole) (arg5 : Memref sig .tc .vmem S256x144 .f32) (harg5 : arg5.IsWhole) (arg6 : Memref sig .tc .vmem S4608x256 .fp8e5m2) (harg6 : arg6.IsWhole) (arg7 : Memref sig .tc .vmem S4608x128 .f32) (harg7 : arg7.IsWhole) (arg8 : Memref sig .tc .vmem S2x256x128 .f32) (harg8 : arg8.IsWhole) (arg9 : Memref sig .tc .vmem S2x256x128 .f32) (harg9 : arg9.IsWhole) (arg10 : Memref sig .tc .vmem S2x72x128 .f32) (harg10 : arg10.IsWhole) (arg11 : Memref sig .tc .vmem S2x72x128 .f32) (harg11 : arg11.IsWhole) (arg12 : Memref sig .tc .vmem S8x4608 .f32) (harg12 : arg12.IsWhole) (arg13 : Memref sig .tc .vmem S144x256 .f32) (harg13 : arg13.IsWhole) (arg14 : Memref sig .tc .vmem S128x4608 .f32) (harg14 : arg14.IsWhole)
    (hc0 : cond0_0 i) (hc1 : ¬cond0_1 i) (hc2 : ¬cond0_2 i) (x0 : Vec F S256x4608 .bf16) (x1 : Vec F S256x4608 .bf16) (E : Set ℕ) (K : PUnit → sProp 𝕄) :
    iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
        ∗ (iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)) -∗ K ⟨⟩))
      ⊢ wp frame (wpE (defs₀ (F := F)) Variants.none c none) E (cc0_gelu_bwd_quant i arg1 harg1 arg2 harg2 arg3 harg3 arg4 harg4 arg5 harg5 arg6 harg6 arg7 harg7 arg8 harg8 arg9 harg9 arg10 harg10 arg11 harg11 arg12 harg12 arg13 harg13 arg14 harg14) K := by
  simp only [cc0_gelu_bwd_quant_eq_skeleton]; unfold cc0_gelu_bwd_quant_skel
  simp only [k0_part38_eq_skeleton]
  unfold owns
  iintro ⟨⟨%f1, %hf1, H1⟩, ⟨%f2, %hf2, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, Hk⟩
  obtain rfl := harg1.eq_unread hf1; obtain rfl := harg2.eq_unread hf2
  sl_exec (disch := first | sl_exact hc0 | sl_exact hc1 | sl_exact hc2)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _, _; isplitr; swap; · iexact H3
    ipureintro; rfl
  isplitl [H4]
  · iexists _, _; isplitr; swap; · iexact H4
    ipureintro; rfl
  isplitl [H5]
  · iexists _, _; isplitr; swap; · iexact H5
    ipureintro; rfl
  isplitl [H6]
  · iexists _, _; isplitr; swap; · iexact H6
    ipureintro; rfl
  isplitl [H7]
  · iexists _, _; isplitr; swap; · iexact H7
    ipureintro; rfl
  isplitl [H8]
  · iexists _, _; isplitr; swap; · iexact H8
    ipureintro; rfl
  isplitl [H9]
  · iexists _, _; isplitr; swap; · iexact H9
    ipureintro; rfl
  isplitl [H10]
  · iexists _, _; isplitr; swap; · iexact H10
    ipureintro; rfl
  isplitl [H11]
  · iexists _, _; isplitr; swap; · iexact H11
    ipureintro; rfl
  isplitl [H12]
  · iexists _, _; isplitr; swap; · iexact H12
    ipureintro; rfl
  isplitl [H13]
  · iexists _, _; isplitr; swap; · iexact H13
    ipureintro; rfl
  iexists _, _; isplitr; swap; · iexact H14
  ipureintro; rfl

set_option maxHeartbeats 4000000 in
/-- One grid point with the body's three conditions as named: the inputs' blocks come back as they were, every other buffer at some contents. -/
theorem kernelRun_B (c : Dev nD) (i : grid0.Coords) (arg1 : Memref sig .tc .vmem S256x4608 .bf16) (harg1 : arg1.IsWhole) (arg2 : Memref sig .tc .vmem S256x4608 .bf16) (harg2 : arg2.IsWhole) (arg3 : Memref sig .tc .vmem S1x4608 .f32) (harg3 : arg3.IsWhole) (arg4 : Memref sig .tc .vmem S256x4608 .fp8e5m2) (harg4 : arg4.IsWhole) (arg5 : Memref sig .tc .vmem S256x144 .f32) (harg5 : arg5.IsWhole) (arg6 : Memref sig .tc .vmem S4608x256 .fp8e5m2) (harg6 : arg6.IsWhole) (arg7 : Memref sig .tc .vmem S4608x128 .f32) (harg7 : arg7.IsWhole) (arg8 : Memref sig .tc .vmem S2x256x128 .f32) (harg8 : arg8.IsWhole) (arg9 : Memref sig .tc .vmem S2x256x128 .f32) (harg9 : arg9.IsWhole) (arg10 : Memref sig .tc .vmem S2x72x128 .f32) (harg10 : arg10.IsWhole) (arg11 : Memref sig .tc .vmem S2x72x128 .f32) (harg11 : arg11.IsWhole) (arg12 : Memref sig .tc .vmem S8x4608 .f32) (harg12 : arg12.IsWhole) (arg13 : Memref sig .tc .vmem S144x256 .f32) (harg13 : arg13.IsWhole) (arg14 : Memref sig .tc .vmem S128x4608 .f32) (harg14 : arg14.IsWhole)
    (hc0 : ¬cond0_0 i) (hc1 : ¬cond0_1 i) (hc2 : ¬cond0_2 i) (x0 : Vec F S256x4608 .bf16) (x1 : Vec F S256x4608 .bf16) (E : Set ℕ) (K : PUnit → sProp 𝕄) :
    iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
        ∗ (iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)) -∗ K ⟨⟩))
      ⊢ wp frame (wpE (defs₀ (F := F)) Variants.none c none) E (cc0_gelu_bwd_quant i arg1 harg1 arg2 harg2 arg3 harg3 arg4 harg4 arg5 harg5 arg6 harg6 arg7 harg7 arg8 harg8 arg9 harg9 arg10 harg10 arg11 harg11 arg12 harg12 arg13 harg13 arg14 harg14) K := by
  simp only [cc0_gelu_bwd_quant_eq_skeleton]; unfold cc0_gelu_bwd_quant_skel
  simp only [k0_part38_eq_skeleton]
  unfold owns
  iintro ⟨⟨%f1, %hf1, H1⟩, ⟨%f2, %hf2, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, Hk⟩
  obtain rfl := harg1.eq_unread hf1; obtain rfl := harg2.eq_unread hf2
  sl_exec (disch := first | sl_exact hc0 | sl_exact hc1 | sl_exact hc2)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _, _; isplitr; swap; · iexact H3
    ipureintro; rfl
  isplitl [H4]
  · iexists _, _; isplitr; swap; · iexact H4
    ipureintro; rfl
  isplitl [H5]
  · iexists _, _; isplitr; swap; · iexact H5
    ipureintro; rfl
  isplitl [H6]
  · iexists _, _; isplitr; swap; · iexact H6
    ipureintro; rfl
  isplitl [H7]
  · iexists _, _; isplitr; swap; · iexact H7
    ipureintro; rfl
  isplitl [H8]
  · iexists _, _; isplitr; swap; · iexact H8
    ipureintro; rfl
  isplitl [H9]
  · iexists _, _; isplitr; swap; · iexact H9
    ipureintro; rfl
  isplitl [H10]
  · iexists _, _; isplitr; swap; · iexact H10
    ipureintro; rfl
  isplitl [H11]
  · iexists _, _; isplitr; swap; · iexact H11
    ipureintro; rfl
  isplitl [H12]
  · iexists _, _; isplitr; swap; · iexact H12
    ipureintro; rfl
  isplitl [H13]
  · iexists _, _; isplitr; swap; · iexact H13
    ipureintro; rfl
  iexists _, _; isplitr; swap; · iexact H14
  ipureintro; rfl

set_option maxHeartbeats 4000000 in
/-- One grid point with the body's three conditions as named: the inputs' blocks come back as they were, every other buffer at some contents. -/
theorem kernelRun_C (c : Dev nD) (i : grid0.Coords) (arg1 : Memref sig .tc .vmem S256x4608 .bf16) (harg1 : arg1.IsWhole) (arg2 : Memref sig .tc .vmem S256x4608 .bf16) (harg2 : arg2.IsWhole) (arg3 : Memref sig .tc .vmem S1x4608 .f32) (harg3 : arg3.IsWhole) (arg4 : Memref sig .tc .vmem S256x4608 .fp8e5m2) (harg4 : arg4.IsWhole) (arg5 : Memref sig .tc .vmem S256x144 .f32) (harg5 : arg5.IsWhole) (arg6 : Memref sig .tc .vmem S4608x256 .fp8e5m2) (harg6 : arg6.IsWhole) (arg7 : Memref sig .tc .vmem S4608x128 .f32) (harg7 : arg7.IsWhole) (arg8 : Memref sig .tc .vmem S2x256x128 .f32) (harg8 : arg8.IsWhole) (arg9 : Memref sig .tc .vmem S2x256x128 .f32) (harg9 : arg9.IsWhole) (arg10 : Memref sig .tc .vmem S2x72x128 .f32) (harg10 : arg10.IsWhole) (arg11 : Memref sig .tc .vmem S2x72x128 .f32) (harg11 : arg11.IsWhole) (arg12 : Memref sig .tc .vmem S8x4608 .f32) (harg12 : arg12.IsWhole) (arg13 : Memref sig .tc .vmem S144x256 .f32) (harg13 : arg13.IsWhole) (arg14 : Memref sig .tc .vmem S128x4608 .f32) (harg14 : arg14.IsWhole)
    (hc0 : ¬cond0_0 i) (hc1 : cond0_1 i) (hc2 : ¬cond0_2 i) (x0 : Vec F S256x4608 .bf16) (x1 : Vec F S256x4608 .bf16) (E : Set ℕ) (K : PUnit → sProp 𝕄) :
    iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
        ∗ (iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)) -∗ K ⟨⟩))
      ⊢ wp frame (wpE (defs₀ (F := F)) Variants.none c none) E (cc0_gelu_bwd_quant i arg1 harg1 arg2 harg2 arg3 harg3 arg4 harg4 arg5 harg5 arg6 harg6 arg7 harg7 arg8 harg8 arg9 harg9 arg10 harg10 arg11 harg11 arg12 harg12 arg13 harg13 arg14 harg14) K := by
  simp only [cc0_gelu_bwd_quant_eq_skeleton]; unfold cc0_gelu_bwd_quant_skel
  simp only [k0_part38_eq_skeleton]
  unfold owns
  iintro ⟨⟨%f1, %hf1, H1⟩, ⟨%f2, %hf2, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, Hk⟩
  obtain rfl := harg1.eq_unread hf1; obtain rfl := harg2.eq_unread hf2
  sl_exec (disch := first | sl_exact hc0 | sl_exact hc1 | sl_exact hc2)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _, _; isplitr; swap; · iexact H3
    ipureintro; rfl
  isplitl [H4]
  · iexists _, _; isplitr; swap; · iexact H4
    ipureintro; rfl
  isplitl [H5]
  · iexists _, _; isplitr; swap; · iexact H5
    ipureintro; rfl
  isplitl [H6]
  · iexists _, _; isplitr; swap; · iexact H6
    ipureintro; rfl
  isplitl [H7]
  · iexists _, _; isplitr; swap; · iexact H7
    ipureintro; rfl
  isplitl [H8]
  · iexists _, _; isplitr; swap; · iexact H8
    ipureintro; rfl
  isplitl [H9]
  · iexists _, _; isplitr; swap; · iexact H9
    ipureintro; rfl
  isplitl [H10]
  · iexists _, _; isplitr; swap; · iexact H10
    ipureintro; rfl
  isplitl [H11]
  · iexists _, _; isplitr; swap; · iexact H11
    ipureintro; rfl
  isplitl [H12]
  · iexists _, _; isplitr; swap; · iexact H12
    ipureintro; rfl
  isplitl [H13]
  · iexists _, _; isplitr; swap; · iexact H13
    ipureintro; rfl
  iexists _, _; isplitr; swap; · iexact H14
  ipureintro; rfl

set_option maxHeartbeats 4000000 in
/-- One grid point with the body's three conditions as named: the inputs' blocks come back as they were, every other buffer at some contents. -/
theorem kernelRun_D (c : Dev nD) (i : grid0.Coords) (arg1 : Memref sig .tc .vmem S256x4608 .bf16) (harg1 : arg1.IsWhole) (arg2 : Memref sig .tc .vmem S256x4608 .bf16) (harg2 : arg2.IsWhole) (arg3 : Memref sig .tc .vmem S1x4608 .f32) (harg3 : arg3.IsWhole) (arg4 : Memref sig .tc .vmem S256x4608 .fp8e5m2) (harg4 : arg4.IsWhole) (arg5 : Memref sig .tc .vmem S256x144 .f32) (harg5 : arg5.IsWhole) (arg6 : Memref sig .tc .vmem S4608x256 .fp8e5m2) (harg6 : arg6.IsWhole) (arg7 : Memref sig .tc .vmem S4608x128 .f32) (harg7 : arg7.IsWhole) (arg8 : Memref sig .tc .vmem S2x256x128 .f32) (harg8 : arg8.IsWhole) (arg9 : Memref sig .tc .vmem S2x256x128 .f32) (harg9 : arg9.IsWhole) (arg10 : Memref sig .tc .vmem S2x72x128 .f32) (harg10 : arg10.IsWhole) (arg11 : Memref sig .tc .vmem S2x72x128 .f32) (harg11 : arg11.IsWhole) (arg12 : Memref sig .tc .vmem S8x4608 .f32) (harg12 : arg12.IsWhole) (arg13 : Memref sig .tc .vmem S144x256 .f32) (harg13 : arg13.IsWhole) (arg14 : Memref sig .tc .vmem S128x4608 .f32) (harg14 : arg14.IsWhole)
    (hc0 : ¬cond0_0 i) (hc1 : cond0_1 i) (hc2 : cond0_2 i) (x0 : Vec F S256x4608 .bf16) (x1 : Vec F S256x4608 .bf16) (E : Set ℕ) (K : PUnit → sProp 𝕄) :
    iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
        ∗ (iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)) -∗ K ⟨⟩))
      ⊢ wp frame (wpE (defs₀ (F := F)) Variants.none c none) E (cc0_gelu_bwd_quant i arg1 harg1 arg2 harg2 arg3 harg3 arg4 harg4 arg5 harg5 arg6 harg6 arg7 harg7 arg8 harg8 arg9 harg9 arg10 harg10 arg11 harg11 arg12 harg12 arg13 harg13 arg14 harg14) K := by
  simp only [cc0_gelu_bwd_quant_eq_skeleton]; unfold cc0_gelu_bwd_quant_skel
  simp only [k0_part38_eq_skeleton]
  unfold owns
  iintro ⟨⟨%f1, %hf1, H1⟩, ⟨%f2, %hf2, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, Hk⟩
  obtain rfl := harg1.eq_unread hf1; obtain rfl := harg2.eq_unread hf2
  sl_exec (disch := first | sl_exact hc0 | sl_exact hc1 | sl_exact hc2)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _, _; isplitr; swap; · iexact H3
    ipureintro; rfl
  isplitl [H4]
  · iexists _, _; isplitr; swap; · iexact H4
    ipureintro; rfl
  isplitl [H5]
  · iexists _, _; isplitr; swap; · iexact H5
    ipureintro; rfl
  isplitl [H6]
  · iexists _, _; isplitr; swap; · iexact H6
    ipureintro; rfl
  isplitl [H7]
  · iexists _, _; isplitr; swap; · iexact H7
    ipureintro; rfl
  isplitl [H8]
  · iexists _, _; isplitr; swap; · iexact H8
    ipureintro; rfl
  isplitl [H9]
  · iexists _, _; isplitr; swap; · iexact H9
    ipureintro; rfl
  isplitl [H10]
  · iexists _, _; isplitr; swap; · iexact H10
    ipureintro; rfl
  isplitl [H11]
  · iexists _, _; isplitr; swap; · iexact H11
    ipureintro; rfl
  isplitl [H12]
  · iexists _, _; isplitr; swap; · iexact H12
    ipureintro; rfl
  isplitl [H13]
  · iexists _, _; isplitr; swap; · iexact H13
    ipureintro; rfl
  iexists _, _; isplitr; swap; · iexact H14
  ipureintro; rfl

end Cert.Kernel.Gen

end
-- ==== Proof.Kernel.Frame.lean ====
/- The kernel's frame: the pipeline run with what the outputs hold left open. -/
module

public import proofs.«01_k».proof.Proof.Kernel.Run
public import proofs.«01_k».proof.Proof.Gen.Kernel.Frame
public import Idealize.ShloMosaic.Lib.Pipeline.DatRel
public import Idealize.ShloMosaic.Lib.Pipeline.ArrRel

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- It holds at the first point only — by arithmetic of the point. -/
theorem hcond0_0 : ∀ t : Fin cfg0.N, cond0_0 (grid0.coords t) ↔ t.val % 132 = 0 :=
  (fun t => by
    have ht : t.val < 132 := Nat.lt_of_lt_of_eq t.isLt N_0
    have e0 : (grid0.coords t 0).val = t.val / 1 % 132 := Pipeline.Grid.coords_val t 0 (by decide) rfl
    simp only [cond0_0, e0]
    word_cmp
   : ∀ t : Fin grid0.N, cond0_0 (grid0.coords t) ↔ t.val % 132 = 0)

/-- It holds at points 15, 31, 47, 63, 79, 95, 111, 127 and 131 only — decided over the grid. -/
theorem hcond0_1 : ∀ t : Fin cfg0.N, cond0_1 (grid0.coords t) ↔ (t.val % 132 = 15 ∨ t.val % 132 = 31 ∨ t.val % 132 = 47 ∨ t.val % 132 = 63 ∨ t.val % 132 = 79 ∨ t.val % 132 = 95 ∨ t.val % 132 = 111 ∨ t.val % 132 = 127 ∨ t.val % 132 = 131) :=
  (by decide +kernel : ∀ t : Fin grid0.N, cond0_1 (grid0.coords t) ↔ (t.val % 132 = 15 ∨ t.val % 132 = 31 ∨ t.val % 132 = 47 ∨ t.val % 132 = 63 ∨ t.val % 132 = 79 ∨ t.val % 132 = 95 ∨ t.val % 132 = 111 ∨ t.val % 132 = 127 ∨ t.val % 132 = 131))

/-- It holds at the last point only — by arithmetic of the point. -/
theorem hcond0_2 : ∀ t : Fin cfg0.N, cond0_2 (grid0.coords t) ↔ t.val % 132 = 131 :=
  (fun t => by
    have ht : t.val < 132 := Nat.lt_of_lt_of_eq t.isLt N_0
    have e0 : (grid0.coords t 0).val = t.val / 1 % 132 := Pipeline.Grid.coords_val t 0 (by decide) rfl
    simp only [cond0_2, k0_cond3, e0]
    word_cmp
   : ∀ t : Fin grid0.N, cond0_2 (grid0.coords t) ↔ t.val % 132 = 131)

/-- The windows' staging buffers at a point, and the scratch buffers, as the body is handed them. -/
abbrev ms0_0 (t : Fin cfg0.N) : Memref sig .tc .vmem S256x4608 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x4608 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x4608 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x4608 .fp8e5m2 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256x144 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S4608x256 .fp8e5m2 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S4608x128 .f32 := win0_6.stage (cfg0.slots t 6)
abbrev hs0_6 (t : Fin cfg0.N) : (ms0_6 t).IsWhole := hstage0_6 ((cfg0.slots t 6).cast nbuf0_6)
abbrev scM0_0 : Memref sig .tc .vmem S2x256x128 .f32 := Memref.whole cc0_scratch0
abbrev scM0_1 : Memref sig .tc .vmem S2x256x128 .f32 := Memref.whole cc0_scratch1
abbrev scM0_2 : Memref sig .tc .vmem S2x72x128 .f32 := Memref.whole cc0_scratch2
abbrev scM0_3 : Memref sig .tc .vmem S2x72x128 .f32 := Memref.whole cc0_scratch3
abbrev scM0_4 : Memref sig .tc .vmem S8x4608 .f32 := Memref.whole cc0_scratch4
abbrev scM0_5 : Memref sig .tc .vmem S144x256 .f32 := Memref.whole cc0_scratch5
abbrev scM0_6 : Memref sig .tc .vmem S128x4608 .f32 := Memref.whole cc0_scratch6

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d)) ∗ (∃ r, prngReg c r)) := by
  unfold Pipeline.ΦA; rw [scopedRest0_eq]; simp only [scM0_0, scM0_1, scM0_2, scM0_3, scM0_4, scM0_5, scM0_6, owns_whole]; try rfl

/-- The output windows: nothing is said of what the body leaves in them. -/
def outs (w : Fin cfg0.W) : Bool := decide (2 ≤ w.val)

/-- The proof data: the arrays as the region finds them, each input's block left in place, the scratch at anything between points. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => Dat.unnamed 2 t
    | ⟨3, _⟩ => Dat.unnamed 3 t
    | ⟨4, _⟩ => Dat.unnamed 4 t
    | ⟨5, _⟩ => Dat.unnamed 5 t
    | ⟨6, _⟩ => Dat.unnamed 6 t
  Φ t := Pipeline.ΦA spec0 c
  q _ := fullShare
  owed _ := 0

/-- What is asked of the outputs: nothing. -/
abbrev Rl (w : Fin cfg0.W) (_ : Fin cfg0.N) (_ : (cfg0.win w).block.Idx → Elt F (cfg0.win w).elt) : Prop := True

/-- The arrays of the proof data. -/
theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ Y, ⌜((dats m 0 c).toRRel outs Rl).Finds 2 t Y⌝ ∗ owns (c : Thread nD τ) (ms0_2 t) fullShare Y)
    ∗ (∃ Y, ⌜((dats m 0 c).toRRel outs Rl).Finds 3 t Y⌝ ∗ owns (c : Thread nD τ) (ms0_3 t) fullShare Y)
    ∗ (∃ Y, ⌜((dats m 0 c).toRRel outs Rl).Finds 4 t Y⌝ ∗ owns (c : Thread nD τ) (ms0_4 t) fullShare Y)
    ∗ (∃ Y, ⌜((dats m 0 c).toRRel outs Rl).Finds 5 t Y⌝ ∗ owns (c : Thread nD τ) (ms0_5 t) fullShare Y)
    ∗ (∃ Y, ⌜((dats m 0 c).toRRel outs Rl).Finds 6 t Y⌝ ∗ owns (c : Thread nD τ) (ms0_6 t) fullShare Y))

/-- What it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ (∃ X, ⌜Rl (F := F) 2 t X⌝ ∗ owns (c : Thread nD τ) (ms0_2 t) fullShare X)
    ∗ (∃ X, ⌜Rl (F := F) 3 t X⌝ ∗ owns (c : Thread nD τ) (ms0_3 t) fullShare X)
    ∗ (∃ X, ⌜Rl (F := F) 4 t X⌝ ∗ owns (c : Thread nD τ) (ms0_4 t) fullShare X)
    ∗ (∃ X, ⌜Rl (F := F) 5 t X⌝ ∗ owns (c : Thread nD τ) (ms0_5 t) fullShare X)
    ∗ (∃ X, ⌜Rl (F := F) 6 t X⌝ ∗ owns (c : Thread nD τ) (ms0_6 t) fullShare X))

set_option maxHeartbeats 4000000 in
/-- The body at any point meets what the pipeline asks of it. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, after0_0, after0_1]
  rw [show (dats m 0 c).owesAt () t.succ = (dats m 0 c).owesAt () t.castSucc from rfl]
  rw [show (dats m 0 c).Φ t.castSucc = Pipeline.ΦA spec0 c from rfl, show (dats m 0 c).Φ t.succ = Pipeline.ΦA spec0 c from rfl, PhiA0_eq]
  have hN : t.val < 132 := lt_of_lt_of_eq t.isLt (show cfg0.N = 132 from N_0)
  by_cases h0 : t.val % 132 = 0
  · have h1 : ¬(t.val % 132 = 15 ∨ t.val % 132 = 31 ∨ t.val % 132 = 47 ∨ t.val % 132 = 63 ∨ t.val % 132 = 79 ∨ t.val % 132 = 95 ∨ t.val % 132 = 111 ∨ t.val % 132 = 127 ∨ t.val % 132 = 131) := by omega
    have h2 : ¬t.val % 132 = 131 := by omega
    iintro ⟨⟨⟨HS0, HS1, HS2, HS3, HS4, HS5, HS6⟩, Hg⟩, Ho, ⟨%d0, H0⟩, ⟨%d1, H1⟩, ⟨%Y2, -, H2⟩, ⟨%Y3, -, H3⟩, ⟨%Y4, -, H4⟩, ⟨%Y5, -, H5⟩, ⟨%Y6, -, H6⟩⟩
    iapply kernelRun_A c (grid0.coords t) _ _ _ _ _ _ _ _ _ _ _ _ _ _ _ _ _ _ _ _ _ _ _ _ _ _ _ _ ((hcond0_0 t).mpr h0) (fun h => h1 ((hcond0_1 t).mp h)) (fun h => h2 ((hcond0_2 t).mp h)) (iblk m c 0 t) (iblk m c 1 t) Set.univ _
    isplitl [H0]; · iexact H0
    isplitl [H1]; · iexact H1
    isplitl [H2]; · iexists _; iexact H2
    isplitl [H3]; · iexists _; iexact H3
    isplitl [H4]; · iexists _; iexact H4
    isplitl [H5]; · iexists _; iexact H5
    isplitl [H6]; · iexists _; iexact H6
    isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    iintro ⟨H0, H1, H2, H3, H4, H5, H6, HS0, HS1, HS2, HS3, HS4, HS5, HS6⟩
    isplitl [HS0 HS1 HS2 HS3 HS4 HS5 HS6 Hg]
    · isplitl [HS0 HS1 HS2 HS3 HS4 HS5 HS6]
      · isplitl [HS0]; · iexact HS0
        isplitl [HS1]; · iexact HS1
        isplitl [HS2]; · iexact HS2
        isplitl [HS3]; · iexact HS3
        isplitl [HS4]; · iexact HS4
        isplitl [HS5]; · iexact HS5
        iexact HS6
      iexact Hg
    isplitl [Ho]; · iexact Ho
    isplitl [H0]; · iexact H0
    isplitl [H1]; · iexact H1
    isplitl [H2]
    · icases H2 with ⟨%X, H2⟩; iexists X; isplitr; · ipureintro; trivial
      iexact H2
    isplitl [H3]
    · icases H3 with ⟨%X, H3⟩; iexists X; isplitr; · ipureintro; trivial
      iexact H3
    isplitl [H4]
    · icases H4 with ⟨%X, H4⟩; iexists X; isplitr; · ipureintro; trivial
      iexact H4
    isplitl [H5]
    · icases H5 with ⟨%X, H5⟩; iexists X; isplitr; · ipureintro; trivial
      iexact H5
    icases H6 with ⟨%X, H6⟩; iexists X; isplitr; · ipureintro; trivial
    iexact H6
  · by_cases h1 : (t.val % 132 = 15 ∨ t.val % 132 = 31 ∨ t.val % 132 = 47 ∨ t.val % 132 = 63 ∨ t.val % 132 = 79 ∨ t.val % 132 = 95 ∨ t.val % 132 = 111 ∨ t.val % 132 = 127 ∨ t.val % 132 = 131)
    · by_cases h2 : t.val % 132 = 131
      · iintro ⟨⟨⟨HS0, HS1, HS2, HS3, HS4, HS5, HS6⟩, Hg⟩, Ho, ⟨%d0, H0⟩, ⟨%d1, H1⟩, ⟨%Y2, -, H2⟩, ⟨%Y3, -, H3⟩, ⟨%Y4, -, H4⟩, ⟨%Y5, -, H5⟩, ⟨%Y6, -, H6⟩⟩
        iapply kernelRun_D c (grid0.coords t) _ _ _ _ _ _ _ _ _ _ _ _ _ _ _ _ _ _ _ _ _ _ _ _ _ _ _ _ (fun h => h0 ((hcond0_0 t).mp h)) ((hcond0_1 t).mpr h1) ((hcond0_2 t).mpr h2) (iblk m c 0 t) (iblk m c 1 t) Set.univ _
        isplitl [H0]; · iexact H0
        isplitl [H1]; · iexact H1
        isplitl [H2]; · iexists _; iexact H2
        isplitl [H3]; · iexists _; iexact H3
        isplitl [H4]; · iexists _; iexact H4
        isplitl [H5]; · iexists _; iexact H5
        isplitl [H6]; · iexists _; iexact H6
        isplitl [HS0]; · iexact HS0
        isplitl [HS1]; · iexact HS1
        isplitl [HS2]; · iexact HS2
        isplitl [HS3]; · iexact HS3
        isplitl [HS4]; · iexact HS4
        isplitl [HS5]; · iexact HS5
        isplitl [HS6]; · iexact HS6
        iintro ⟨H0, H1, H2, H3, H4, H5, H6, HS0, HS1, HS2, HS3, HS4, HS5, HS6⟩
        isplitl [HS0 HS1 HS2 HS3 HS4 HS5 HS6 Hg]
        · isplitl [HS0 HS1 HS2 HS3 HS4 HS5 HS6]
          · isplitl [HS0]; · iexact HS0
            isplitl [HS1]; · iexact HS1
            isplitl [HS2]; · iexact HS2
            isplitl [HS3]; · iexact HS3
            isplitl [HS4]; · iexact HS4
            isplitl [HS5]; · iexact HS5
            iexact HS6
          iexact Hg
        isplitl [Ho]; · iexact Ho
        isplitl [H0]; · iexact H0
        isplitl [H1]; · iexact H1
        isplitl [H2]
        · icases H2 with ⟨%X, H2⟩; iexists X; isplitr; · ipureintro; trivial
          iexact H2
        isplitl [H3]
        · icases H3 with ⟨%X, H3⟩; iexists X; isplitr; · ipureintro; trivial
          iexact H3
        isplitl [H4]
        · icases H4 with ⟨%X, H4⟩; iexists X; isplitr; · ipureintro; trivial
          iexact H4
        isplitl [H5]
        · icases H5 with ⟨%X, H5⟩; iexists X; isplitr; · ipureintro; trivial
          iexact H5
        icases H6 with ⟨%X, H6⟩; iexists X; isplitr; · ipureintro; trivial
        iexact H6
      · iintro ⟨⟨⟨HS0, HS1, HS2, HS3, HS4, HS5, HS6⟩, Hg⟩, Ho, ⟨%d0, H0⟩, ⟨%d1, H1⟩, ⟨%Y2, -, H2⟩, ⟨%Y3, -, H3⟩, ⟨%Y4, -, H4⟩, ⟨%Y5, -, H5⟩, ⟨%Y6, -, H6⟩⟩
        iapply kernelRun_C c (grid0.coords t) _ _ _ _ _ _ _ _ _ _ _ _ _ _ _ _ _ _ _ _ _ _ _ _ _ _ _ _ (fun h => h0 ((hcond0_0 t).mp h)) ((hcond0_1 t).mpr h1) (fun h => h2 ((hcond0_2 t).mp h)) (iblk m c 0 t) (iblk m c 1 t) Set.univ _
        isplitl [H0]; · iexact H0
        isplitl [H1]; · iexact H1
        isplitl [H2]; · iexists _; iexact H2
        isplitl [H3]; · iexists _; iexact H3
        isplitl [H4]; · iexists _; iexact H4
        isplitl [H5]; · iexists _; iexact H5
        isplitl [H6]; · iexists _; iexact H6
        isplitl [HS0]; · iexact HS0
        isplitl [HS1]; · iexact HS1
        isplitl [HS2]; · iexact HS2
        isplitl [HS3]; · iexact HS3
        isplitl [HS4]; · iexact HS4
        isplitl [HS5]; · iexact HS5
        isplitl [HS6]; · iexact HS6
        iintro ⟨H0, H1, H2, H3, H4, H5, H6, HS0, HS1, HS2, HS3, HS4, HS5, HS6⟩
        isplitl [HS0 HS1 HS2 HS3 HS4 HS5 HS6 Hg]
        · isplitl [HS0 HS1 HS2 HS3 HS4 HS5 HS6]
          · isplitl [HS0]; · iexact HS0
            isplitl [HS1]; · iexact HS1
            isplitl [HS2]; · iexact HS2
            isplitl [HS3]; · iexact HS3
            isplitl [HS4]; · iexact HS4
            isplitl [HS5]; · iexact HS5
            iexact HS6
          iexact Hg
        isplitl [Ho]; · iexact Ho
        isplitl [H0]; · iexact H0
        isplitl [H1]; · iexact H1
        isplitl [H2]
        · icases H2 with ⟨%X, H2⟩; iexists X; isplitr; · ipureintro; trivial
          iexact H2
        isplitl [H3]
        · icases H3 with ⟨%X, H3⟩; iexists X; isplitr; · ipureintro; trivial
          iexact H3
        isplitl [H4]
        · icases H4 with ⟨%X, H4⟩; iexists X; isplitr; · ipureintro; trivial
          iexact H4
        isplitl [H5]
        · icases H5 with ⟨%X, H5⟩; iexists X; isplitr; · ipureintro; trivial
          iexact H5
        icases H6 with ⟨%X, H6⟩; iexists X; isplitr; · ipureintro; trivial
        iexact H6
    · have h2 : ¬t.val % 132 = 131 := by omega
      iintro ⟨⟨⟨HS0, HS1, HS2, HS3, HS4, HS5, HS6⟩, Hg⟩, Ho, ⟨%d0, H0⟩, ⟨%d1, H1⟩, ⟨%Y2, -, H2⟩, ⟨%Y3, -, H3⟩, ⟨%Y4, -, H4⟩, ⟨%Y5, -, H5⟩, ⟨%Y6, -, H6⟩⟩
      iapply kernelRun_B c (grid0.coords t) _ _ _ _ _ _ _ _ _ _ _ _ _ _ _ _ _ _ _ _ _ _ _ _ _ _ _ _ (fun h => h0 ((hcond0_0 t).mp h)) (fun h => h1 ((hcond0_1 t).mp h)) (fun h => h2 ((hcond0_2 t).mp h)) (iblk m c 0 t) (iblk m c 1 t) Set.univ _
      isplitl [H0]; · iexact H0
      isplitl [H1]; · iexact H1
      isplitl [H2]; · iexists _; iexact H2
      isplitl [H3]; · iexists _; iexact H3
      isplitl [H4]; · iexists _; iexact H4
      isplitl [H5]; · iexists _; iexact H5
      isplitl [H6]; · iexists _; iexact H6
      isplitl [HS0]; · iexact HS0
      isplitl [HS1]; · iexact HS1
      isplitl [HS2]; · iexact HS2
      isplitl [HS3]; · iexact HS3
      isplitl [HS4]; · iexact HS4
      isplitl [HS5]; · iexact HS5
      isplitl [HS6]; · iexact HS6
      iintro ⟨H0, H1, H2, H3, H4, H5, H6, HS0, HS1, HS2, HS3, HS4, HS5, HS6⟩
      isplitl [HS0 HS1 HS2 HS3 HS4 HS5 HS6 Hg]
      · isplitl [HS0 HS1 HS2 HS3 HS4 HS5 HS6]
        · isplitl [HS0]; · iexact HS0
          isplitl [HS1]; · iexact HS1
          isplitl [HS2]; · iexact HS2
          isplitl [HS3]; · iexact HS3
          isplitl [HS4]; · iexact HS4
          isplitl [HS5]; · iexact HS5
          iexact HS6
        iexact Hg
      isplitl [Ho]; · iexact Ho
      isplitl [H0]; · iexact H0
      isplitl [H1]; · iexact H1
      isplitl [H2]
      · icases H2 with ⟨%X, H2⟩; iexists X; isplitr; · ipureintro; trivial
        iexact H2
      isplitl [H3]
      · icases H3 with ⟨%X, H3⟩; iexists X; isplitr; · ipureintro; trivial
        iexact H3
      isplitl [H4]
      · icases H4 with ⟨%X, H4⟩; iexists X; isplitr; · ipureintro; trivial
        iexact H4
      isplitl [H5]
      · icases H5 with ⟨%X, H5⟩; iexists X; isplitr; · ipureintro; trivial
        iexact H5
      icases H6 with ⟨%X, H6⟩; iexists X; isplitr; · ipureintro; trivial
      iexact H6

/-- The body table's row at point `t`. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : Pipeline.BodyObligationRel (dats (F := F) m 0 c) (defs₀ (F := F)) Variants.none () Set.univ outs Rl := fun t => by
  rw [bigSep_W0, bigSep_W0, defs₀_row]
  exact triple_restated (sound_body m c t) rfl .rfl fun _ => .rfl

set_option backward.isDefEq.respectTransparency.types false in
/-- The launch: the run ends with every array as the relation says and every semaphore counter at zero. -/
theorem run_main_quiescent : θ_run defs (onTc (τ := τ) (main (F := F))) (s₀ m ρ)
    (fun r => RDat.FramePost cfg0 (fun c => (dats m 0 c).toRRel outs Rl) (V m) r ∧ r.2.sem = fun _ => 0) :=
  RDat.θ_run_frame_track (Q' := _) cfgs (0 : Fin 1) launch0 defs₀ Variants.none (fun c => (dats m 0 c).toRRel outs Rl) m ρ main
    (hbody := fun c => (body_obligation m c).toRRel) (hshare := fun c => (dats m 0 c).share_full fun _ => rfl)
    (howed := fun _ _ => rfl) (V := V m) (hmain := hmain m Variants.none) (hA := A_eq m)
    (hin := fun _ => Idealize.SL.BI.Entails.refl _) (hout := fun _ => Idealize.SL.BI.Entails.refl _)

/-- The frame: every weakly fair execution ends, the arguments as they were, every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c => ⟨(h.1.arr_in c 0 rfl).trans (A_eq m c 0), (h.1.arr_in c 1 rfl).trans (A_eq m c 1)⟩, h.2⟩) (run_main_quiescent m ρ)

end Cert.Kernel.Gen

end
-- ==== Proof.KernelIdeal.Off.lean ====
/- The place of the rows a trip stores into the column-scale scratch: `k0_off10` in closed form. -/
module

public import proofs.«01_k».proof.Proof.Gen.KernelIdeal
public import Idealize.ShloMosaic.Lib.Affine
public import Idealize.ShloMosaic.Lib.Exec

@[expose] public section

namespace Cert.KernelIdeal.Gen

open Idealize.ShloMosaic Idealize.SL.Sem

/-- `k0_off10` in closed form, to rewrite the access's rectangle by (`simp only [Gen.k0_off10_eq]`). A line passes a row's constant as the literal `BitVec.ofNat 32 (…)` here reduces to (`rfl`). -/
theorem k0_off10_eq : ∀ (i : grid0.Coords) (k0_t1 : Fin k0_t1_loop.trips), ∀ (r : Fin 2), k0_off10 i k0_t1 (BitVec.ofNat 32 (128 * r.val)) = ![8 * ((i 0).val % 16), 256 * k0_t1.val + 128 * r.val] := by
  intro i k0_t1 r
  have r_r : r.val < 2 := r.isLt
  have h_c0_i32_401 : Affine.IsInt (BitVec.ofNat 32 (128 * r.val)) (128 * (r.val : Int)) := Affine.ofNat _ (by omega)
  have r_i0 : (i 0).val < 132 := (i 0).isLt
  have h_arg0 : Affine.IsInt (BitVec.ofNat 32 (i 0).val) (((i 0).val : Int)) := Affine.ofNat _ (by omega)
  have h_c16_i32_395 : Affine.IsInt 16#32 (16) := Affine.ofNat _ (by omega)
  have h_c0_i32_396 : Affine.IsInt 0#32 (0) := Affine.ofNat _ (by omega)
  have h_v1216 : Affine.Fails _ := Affine.eq_fails h_c16_i32_395 h_c0_i32_396 (by omega)
  have h_c1_i32_397 : Affine.IsInt 1#32 (1) := Affine.ofNat _ (by omega)
  have h_v1217 : Affine.IsInt _ (16) := Affine.select_fails h_v1216 h_c1_i32_397 h_c16_i32_395 (by omega)
  have h_v1218 : Affine.IsInt _ ((((i 0).val : Int) % 16)) := Affine.remsi h_arg0 h_v1217 (by omega)
  have h_c0_i32_399 : Affine.IsInt 0#32 (0) := Affine.ofNat _ (by omega)
  have h_v1220 : Affine.Fails _ := Affine.slt_fails h_v1218 h_c0_i32_399 (by omega)
  have h_c0_i32_400 : Affine.IsInt 0#32 (0) := Affine.ofNat _ (by omega)
  have h_v1221 : Affine.Fails _ := Affine.slt_fails h_v1217 h_c0_i32_400 (by omega)
  have h_v1222 : Affine.Fails _ := Affine.xori_ff h_v1220 h_v1221
  have h_c0_i32_398 : Affine.IsInt 0#32 (0) := Affine.ofNat _ (by omega)
  have h_v1219 : Affine.Term _ := Affine.cmpi_term .ne h_v1218 h_c0_i32_398
  have h_v1223 : Affine.Fails _ := Affine.andi_fails_left h_v1222 h_v1219
  have h_v1224 : Affine.IsInt _ ((((i 0).val : Int) % 16) + 16) := Affine.addi h_v1218 h_v1217 (by omega)
  have h_v1225 : Affine.IsInt _ ((((i 0).val : Int) % 16)) := Affine.select_fails h_v1223 h_v1224 h_v1218 (by omega)
  have h_c8_i32 : Affine.IsInt 8#32 (8) := Affine.ofNat _ (by omega)
  have h_v1226 : Affine.IsInt _ (8 * (((i 0).val : Int) % 16)) := Affine.muli h_v1225 h_c8_i32 (by omega)
  have h_v1230 : Affine.IsInt _ (8 * (((i 0).val : Int) % 16)) := Affine.indexCast h_v1226
  have h_c0_i32_6 : Affine.IsInt 0#32 (0) := Affine.ofNat _ (by omega)
  have h_c1_i32_7 : Affine.IsInt 1#32 (1) := Affine.ofNat _ (by omega)
  have r_k0_t1 : k0_t1.val < 18 := Nat.lt_of_lt_of_le k0_t1.isLt k0_t1_abs.2.1
  have h_arg15 : Affine.IsInt _ ((k0_t1.val : Int)) := Affine.iv h_c0_i32_6 h_c1_i32_7 k0_t1.val (by omega)
  have c_arg15 : (k0_t1.val : Int) ≤ 18 - 1 := Affine.iv_lt k0_t1_abs.1 k0_t1.isLt k0_t1_abs.2.2 h_arg15
  have h_c256_i32 : Affine.IsInt 256#32 (256) := Affine.ofNat _ (by omega)
  have h_v54 : Affine.IsInt _ (256 * (k0_t1.val : Int)) := Affine.muli h_arg15 h_c256_i32 (by omega)
  have h_v1228 : Affine.IsInt _ (256 * (k0_t1.val : Int) + 128 * (r.val : Int)) := Affine.addi h_v54 h_c0_i32_401 (by omega)
  have h_v1231 : Affine.IsInt _ (256 * (k0_t1.val : Int) + 128 * (r.val : Int)) := Affine.indexCast h_v1228
  exact Affine.vec_cons h_v1230 (by omega) <| Affine.vec_cons h_v1231 (by omega) <| Affine.vec_nil
instance closedOff_k0_off10_0 (i : grid0.Coords) (k0_t1 : Fin k0_t1_loop.trips) : ClosedOff (k0_off10 i k0_t1 (BitVec.ofNat 32 0)) := ⟨![8 * ((i 0).val % 16), 256 * k0_t1.val + 128 * 0], k0_off10_eq i k0_t1 ⟨0, by decide⟩⟩
instance closedOff_k0_off10_1 (i : grid0.Coords) (k0_t1 : Fin k0_t1_loop.trips) : ClosedOff (k0_off10 i k0_t1 (BitVec.ofNat 32 128)) := ⟨![8 * ((i 0).val % 16), 256 * k0_t1.val + 128 * 1], k0_off10_eq i k0_t1 ⟨1, by decide⟩⟩

end Cert.KernelIdeal.Gen
-- ==== Proof.KernelIdeal.Trip.lean ====
/- One trip of the kernel's loop over its eighteen column tiles, run symbolically: the pieces it stores into each buffer. -/
module

public import proofs.«01_k».proof.Proof.Gen.KernelIdeal.Skeleton
public import proofs.«01_k».proof.Proof.Gen.KernelIdeal.Loops
public import proofs.«01_k».proof.Proof.KernelIdeal.Off
public import Idealize.ShloMosaic.Lib.Exec
public import Idealize.ShloMosaic.Lib.Tactic
public import Idealize.ShloMosaic.Lib.Pipeline.Kit

@[expose] public section

set_option maxRecDepth 8192
set_option maxHeartbeats 4000000

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resource algebra of the generated instances: the frame kit's (Gen/<Name>/Frame.lean). -/
local notation "𝕄G" => MT nD τ sig Unit (Elt F) ℕ (UR sig nD τ) ℕ
/-! ## `cc0_gelu_bwd_quant` -/

/-! ### `k0_t1_loop`: the generated invariant (classifier: listed) -/

/-- One trip's resources: what the region reads (arg1, arg2) at its contents, what it writes (arg4,
   arg6, arg8, arg9, arg10, arg11, arg12, arg13, arg14) at any. -/
abbrev Trip_k0_t1 (c : Dev nD) (arg1 : Memref sig .tc .vmem S256x4608 .bf16) (arg2 : Memref sig .tc .vmem S256x4608 .bf16) (arg4 : Memref sig .tc .vmem S256x4608 .fp8e5m2) (arg6 : Memref sig .tc .vmem S4608x256 .fp8e5m2) (arg8 : Memref sig .tc .vmem S2x256x128 .f32) (arg9 : Memref sig .tc .vmem S2x256x128 .f32) (arg10 : Memref sig .tc .vmem S2x72x128 .f32) (arg11 : Memref sig .tc .vmem S2x72x128 .f32) (arg12 : Memref sig .tc .vmem S8x4608 .f32) (arg13 : Memref sig .tc .vmem S144x256 .f32) (arg14 : Memref sig .tc .vmem S128x4608 .f32) (X_arg1 : BufTy.Contents (Elt F) arg1.view.ty) (X_arg2 : BufTy.Contents (Elt F) arg2.view.ty) (f_arg4 : BufTy.Contents (Elt F) arg4.view.ty) (f_arg6 : BufTy.Contents (Elt F) arg6.view.ty) (f_arg8 : BufTy.Contents (Elt F) arg8.view.ty) (f_arg9 : BufTy.Contents (Elt F) arg9.view.ty) (f_arg10 : BufTy.Contents (Elt F) arg10.view.ty) (f_arg11 : BufTy.Contents (Elt F) arg11.view.ty) (f_arg12 : BufTy.Contents (Elt F) arg12.view.ty) (f_arg13 : BufTy.Contents (Elt F) arg13.view.ty) (f_arg14 : BufTy.Contents (Elt F) arg14.view.ty) : sProp 𝕄G :=
  iprop((arg1.view.loc (c : Thread nD τ) ↦[arg1.view.set]{fullShare} X_arg1) ∗ (arg2.view.loc (c : Thread nD τ) ↦[arg2.view.set]{fullShare} X_arg2) ∗ (arg4.view.loc (c : Thread nD τ) ↦[arg4.view.set]{fullShare} f_arg4) ∗ (arg6.view.loc (c : Thread nD τ) ↦[arg6.view.set]{fullShare} f_arg6) ∗ (arg8.view.loc (c : Thread nD τ) ↦[arg8.view.set]{fullShare} f_arg8) ∗ (arg9.view.loc (c : Thread nD τ) ↦[arg9.view.set]{fullShare} f_arg9) ∗ (arg10.view.loc (c : Thread nD τ) ↦[arg10.view.set]{fullShare} f_arg10) ∗ (arg11.view.loc (c : Thread nD τ) ↦[arg11.view.set]{fullShare} f_arg11) ∗ (arg12.view.loc (c : Thread nD τ) ↦[arg12.view.set]{fullShare} f_arg12) ∗ (arg13.view.loc (c : Thread nD τ) ↦[arg13.view.set]{fullShare} f_arg13) ∗ (arg14.view.loc (c : Thread nD τ) ↦[arg14.view.set]{fullShare} f_arg14))

/-- ONE TRIP of `k0_t1_loop` at a symbolic `k`, run by `sl_exec` (its rectangles where the program's
   in-range evidence puts them, their places unread): the pieces it writes into arg4, arg6, arg8,
   arg9, arg10, arg11, arg12, arg13, arg14 are the run's own finds — the witnesses `sl_close`
   assigns handing the buffers to the continuation, as functions of the contents the trip finds in
   the memrefs it writes (the region loads some of them back). `@[irreducible]`: cited, never
   unfolded. -/
@[irreducible] def trip_k0_t1 (𝒱 : Variants) (c : Dev nD) (bd : Option 𝒱.V) (i : grid0.Coords) (arg1 : Memref sig .tc .vmem S256x4608 .bf16) (harg1 : arg1.IsWhole) (arg2 : Memref sig .tc .vmem S256x4608 .bf16) (harg2 : arg2.IsWhole) (arg3 : Memref sig .tc .vmem S1x4608 .f32) (harg3 : arg3.IsWhole) (arg4 : Memref sig .tc .vmem S256x4608 .fp8e5m2) (harg4 : arg4.IsWhole) (arg5 : Memref sig .tc .vmem S256x144 .f32) (harg5 : arg5.IsWhole) (arg6 : Memref sig .tc .vmem S4608x256 .fp8e5m2) (harg6 : arg6.IsWhole) (arg7 : Memref sig .tc .vmem S4608x128 .f32) (harg7 : arg7.IsWhole) (arg8 : Memref sig .tc .vmem S2x256x128 .f32) (harg8 : arg8.IsWhole) (arg9 : Memref sig .tc .vmem S2x256x128 .f32) (harg9 : arg9.IsWhole) (arg10 : Memref sig .tc .vmem S2x72x128 .f32) (harg10 : arg10.IsWhole) (arg11 : Memref sig .tc .vmem S2x72x128 .f32) (harg11 : arg11.IsWhole) (arg12 : Memref sig .tc .vmem S8x4608 .f32) (harg12 : arg12.IsWhole) (arg13 : Memref sig .tc .vmem S144x256 .f32) (harg13 : arg13.IsWhole) (arg14 : Memref sig .tc .vmem S128x4608 .f32) (harg14 : arg14.IsWhole) (arg0 : BitVec 32) (X_arg1 : BufTy.Contents (Elt F) arg1.view.ty) (X_arg2 : BufTy.Contents (Elt F) arg2.view.ty) (k : Fin k0_t1_loop.trips) :
    Σ' (L_arg4 : (BufTy.Contents (Elt F) arg4.view.ty → BufTy.Contents (Elt F) arg6.view.ty → BufTy.Contents (Elt F) arg8.view.ty → BufTy.Contents (Elt F) arg9.view.ty → BufTy.Contents (Elt F) arg10.view.ty → BufTy.Contents (Elt F) arg11.view.ty → BufTy.Contents (Elt F) arg12.view.ty → BufTy.Contents (Elt F) arg13.view.ty → BufTy.Contents (Elt F) arg14.view.ty → List (View.Piece (Elt F) S256x4608 .fp8e5m2))) (L_arg6 : (BufTy.Contents (Elt F) arg4.view.ty → BufTy.Contents (Elt F) arg6.view.ty → BufTy.Contents (Elt F) arg8.view.ty → BufTy.Contents (Elt F) arg9.view.ty → BufTy.Contents (Elt F) arg10.view.ty → BufTy.Contents (Elt F) arg11.view.ty → BufTy.Contents (Elt F) arg12.view.ty → BufTy.Contents (Elt F) arg13.view.ty → BufTy.Contents (Elt F) arg14.view.ty → List (View.Piece (Elt F) S4608x256 .fp8e5m2))) (L_arg8 : (BufTy.Contents (Elt F) arg4.view.ty → BufTy.Contents (Elt F) arg6.view.ty → BufTy.Contents (Elt F) arg8.view.ty → BufTy.Contents (Elt F) arg9.view.ty → BufTy.Contents (Elt F) arg10.view.ty → BufTy.Contents (Elt F) arg11.view.ty → BufTy.Contents (Elt F) arg12.view.ty → BufTy.Contents (Elt F) arg13.view.ty → BufTy.Contents (Elt F) arg14.view.ty → List (View.Piece (Elt F) S2x256x128 .f32))) (L_arg9 : (BufTy.Contents (Elt F) arg4.view.ty → BufTy.Contents (Elt F) arg6.view.ty → BufTy.Contents (Elt F) arg8.view.ty → BufTy.Contents (Elt F) arg9.view.ty → BufTy.Contents (Elt F) arg10.view.ty → BufTy.Contents (Elt F) arg11.view.ty → BufTy.Contents (Elt F) arg12.view.ty → BufTy.Contents (Elt F) arg13.view.ty → BufTy.Contents (Elt F) arg14.view.ty → List (View.Piece (Elt F) S2x256x128 .f32))) (L_arg10 : (BufTy.Contents (Elt F) arg4.view.ty → BufTy.Contents (Elt F) arg6.view.ty → BufTy.Contents (Elt F) arg8.view.ty → BufTy.Contents (Elt F) arg9.view.ty → BufTy.Contents (Elt F) arg10.view.ty → BufTy.Contents (Elt F) arg11.view.ty → BufTy.Contents (Elt F) arg12.view.ty → BufTy.Contents (Elt F) arg13.view.ty → BufTy.Contents (Elt F) arg14.view.ty → List (View.Piece (Elt F) S2x72x128 .f32))) (L_arg11 : (BufTy.Contents (Elt F) arg4.view.ty → BufTy.Contents (Elt F) arg6.view.ty → BufTy.Contents (Elt F) arg8.view.ty → BufTy.Contents (Elt F) arg9.view.ty → BufTy.Contents (Elt F) arg10.view.ty → BufTy.Contents (Elt F) arg11.view.ty → BufTy.Contents (Elt F) arg12.view.ty → BufTy.Contents (Elt F) arg13.view.ty → BufTy.Contents (Elt F) arg14.view.ty → List (View.Piece (Elt F) S2x72x128 .f32))) (L_arg12 : (BufTy.Contents (Elt F) arg4.view.ty → BufTy.Contents (Elt F) arg6.view.ty → BufTy.Contents (Elt F) arg8.view.ty → BufTy.Contents (Elt F) arg9.view.ty → BufTy.Contents (Elt F) arg10.view.ty → BufTy.Contents (Elt F) arg11.view.ty → BufTy.Contents (Elt F) arg12.view.ty → BufTy.Contents (Elt F) arg13.view.ty → BufTy.Contents (Elt F) arg14.view.ty → List (View.Piece (Elt F) S8x4608 .f32))) (L_arg13 : (BufTy.Contents (Elt F) arg4.view.ty → BufTy.Contents (Elt F) arg6.view.ty → BufTy.Contents (Elt F) arg8.view.ty → BufTy.Contents (Elt F) arg9.view.ty → BufTy.Contents (Elt F) arg10.view.ty → BufTy.Contents (Elt F) arg11.view.ty → BufTy.Contents (Elt F) arg12.view.ty → BufTy.Contents (Elt F) arg13.view.ty → BufTy.Contents (Elt F) arg14.view.ty → List (View.Piece (Elt F) S144x256 .f32))) , { L_arg14 : (BufTy.Contents (Elt F) arg4.view.ty → BufTy.Contents (Elt F) arg6.view.ty → BufTy.Contents (Elt F) arg8.view.ty → BufTy.Contents (Elt F) arg9.view.ty → BufTy.Contents (Elt F) arg10.view.ty → BufTy.Contents (Elt F) arg11.view.ty → BufTy.Contents (Elt F) arg12.view.ty → BufTy.Contents (Elt F) arg13.view.ty → BufTy.Contents (Elt F) arg14.view.ty → List (View.Piece (Elt F) S128x4608 .f32)) // ∀ (E : Set ℕ) (f_arg4 : BufTy.Contents (Elt F) arg4.view.ty) (f_arg6 : BufTy.Contents (Elt F) arg6.view.ty) (f_arg8 : BufTy.Contents (Elt F) arg8.view.ty) (f_arg9 : BufTy.Contents (Elt F) arg9.view.ty) (f_arg10 : BufTy.Contents (Elt F) arg10.view.ty) (f_arg11 : BufTy.Contents (Elt F) arg11.view.ty) (f_arg12 : BufTy.Contents (Elt F) arg12.view.ty) (f_arg13 : BufTy.Contents (Elt F) arg13.view.ty) (f_arg14 : BufTy.Contents (Elt F) arg14.view.ty),
      Trip_k0_t1 (F := F) c arg1 arg2 arg4 arg6 arg8 arg9 arg10 arg11 arg12 arg13 arg14 X_arg1 X_arg2 f_arg4 f_arg6 f_arg8 f_arg9 f_arg10 f_arg11 f_arg12 f_arg13 f_arg14
      ⊢ wp frame (wpE (defs₀ (F := F)) 𝒱 (c : Thread nD τ) bd) E (k0_t1_body (F := F) i arg1 harg1 arg2 harg2 arg3 harg3 arg4 harg4 arg5 harg5 arg6 harg6 arg7 harg7 arg8 harg8 arg9 harg9 arg10 harg10 arg11 harg11 arg12 harg12 arg13 harg13 arg14 harg14 arg0 k PUnit.unit)
          (fun _ => Trip_k0_t1 (F := F) c arg1 arg2 arg4 arg6 arg8 arg9 arg10 arg11 arg12 arg13 arg14 X_arg1 X_arg2 (arg4.view.writes (Elt F) f_arg4 (L_arg4 f_arg4 f_arg6 f_arg8 f_arg9 f_arg10 f_arg11 f_arg12 f_arg13 f_arg14)) (arg6.view.writes (Elt F) f_arg6 (L_arg6 f_arg4 f_arg6 f_arg8 f_arg9 f_arg10 f_arg11 f_arg12 f_arg13 f_arg14)) (arg8.view.writes (Elt F) f_arg8 (L_arg8 f_arg4 f_arg6 f_arg8 f_arg9 f_arg10 f_arg11 f_arg12 f_arg13 f_arg14)) (arg9.view.writes (Elt F) f_arg9 (L_arg9 f_arg4 f_arg6 f_arg8 f_arg9 f_arg10 f_arg11 f_arg12 f_arg13 f_arg14)) (arg10.view.writes (Elt F) f_arg10 (L_arg10 f_arg4 f_arg6 f_arg8 f_arg9 f_arg10 f_arg11 f_arg12 f_arg13 f_arg14)) (arg11.view.writes (Elt F) f_arg11 (L_arg11 f_arg4 f_arg6 f_arg8 f_arg9 f_arg10 f_arg11 f_arg12 f_arg13 f_arg14)) (arg12.view.writes (Elt F) f_arg12 (L_arg12 f_arg4 f_arg6 f_arg8 f_arg9 f_arg10 f_arg11 f_arg12 f_arg13 f_arg14)) (arg13.view.writes (Elt F) f_arg13 (L_arg13 f_arg4 f_arg6 f_arg8 f_arg9 f_arg10 f_arg11 f_arg12 f_arg13 f_arg14)) (arg14.view.writes (Elt F) f_arg14 (L_arg14 f_arg4 f_arg6 f_arg8 f_arg9 f_arg10 f_arg11 f_arg12 f_arg13 f_arg14))) } := by
  have hk : k.val < 18 := Nat.lt_of_lt_of_le k.isLt k0_t1_abs.2.1
  refine ⟨?_, ?_, ?_, ?_, ?_, ?_, ?_, ?_, ?_, fun E f_arg4 f_arg6 f_arg8 f_arg9 f_arg10 f_arg11 f_arg12 f_arg13 f_arg14 => ?run⟩
  case run =>
    unfold k0_t1_body
    iintro ⟨HR_arg1, HR_arg2, HW_arg4, HW_arg6, HW_arg8, HW_arg9, HW_arg10, HW_arg11, HW_arg12, HW_arg13, HW_arg14⟩
    sl_exec
    sl_step
    sl_close

end Cert.KernelIdeal.Gen

end
-- ==== Proof.KernelIdeal.Loop.lean ====
/- The kernel's loop over its eighteen column tiles: the pieces of the trips so far, as a recursion, and the loop by its invariant. -/
module

public import proofs.«01_k».proof.Proof.Gen.KernelIdeal.Skeleton
public import proofs.«01_k».proof.Proof.Gen.KernelIdeal.Loops
public import proofs.«01_k».proof.Proof.KernelIdeal.Trip
public import Idealize.ShloMosaic.Lib.Exec
public import Idealize.ShloMosaic.Lib.Tactic
public import Idealize.ShloMosaic.Lib.Pipeline.Kit

@[expose] public section

set_option maxRecDepth 8192
set_option maxHeartbeats 4000000

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resource algebra of the generated instances: the frame kit's (Gen/<Name>/Frame.lean). -/
local notation "𝕄G" => MT nD τ sig Unit (Elt F) ℕ (UR sig nD τ) ℕ
/-- The trip's piece lists (plain projections of `trip_…`, for the recursion below to cite without
   its proof), at the contents the trip finds in the written memrefs. -/
abbrev tripL_k0_t1 (𝒱 : Variants) (c : Dev nD) (bd : Option 𝒱.V) (i : grid0.Coords) (arg1 : Memref sig .tc .vmem S256x4608 .bf16) (harg1 : arg1.IsWhole) (arg2 : Memref sig .tc .vmem S256x4608 .bf16) (harg2 : arg2.IsWhole) (arg3 : Memref sig .tc .vmem S1x4608 .f32) (harg3 : arg3.IsWhole) (arg4 : Memref sig .tc .vmem S256x4608 .fp8e5m2) (harg4 : arg4.IsWhole) (arg5 : Memref sig .tc .vmem S256x144 .f32) (harg5 : arg5.IsWhole) (arg6 : Memref sig .tc .vmem S4608x256 .fp8e5m2) (harg6 : arg6.IsWhole) (arg7 : Memref sig .tc .vmem S4608x128 .f32) (harg7 : arg7.IsWhole) (arg8 : Memref sig .tc .vmem S2x256x128 .f32) (harg8 : arg8.IsWhole) (arg9 : Memref sig .tc .vmem S2x256x128 .f32) (harg9 : arg9.IsWhole) (arg10 : Memref sig .tc .vmem S2x72x128 .f32) (harg10 : arg10.IsWhole) (arg11 : Memref sig .tc .vmem S2x72x128 .f32) (harg11 : arg11.IsWhole) (arg12 : Memref sig .tc .vmem S8x4608 .f32) (harg12 : arg12.IsWhole) (arg13 : Memref sig .tc .vmem S144x256 .f32) (harg13 : arg13.IsWhole) (arg14 : Memref sig .tc .vmem S128x4608 .f32) (harg14 : arg14.IsWhole) (arg0 : BitVec 32) (X_arg1 : BufTy.Contents (Elt F) arg1.view.ty) (X_arg2 : BufTy.Contents (Elt F) arg2.view.ty) (k : Fin k0_t1_loop.trips) (f_arg4 : BufTy.Contents (Elt F) arg4.view.ty) (f_arg6 : BufTy.Contents (Elt F) arg6.view.ty) (f_arg8 : BufTy.Contents (Elt F) arg8.view.ty) (f_arg9 : BufTy.Contents (Elt F) arg9.view.ty) (f_arg10 : BufTy.Contents (Elt F) arg10.view.ty) (f_arg11 : BufTy.Contents (Elt F) arg11.view.ty) (f_arg12 : BufTy.Contents (Elt F) arg12.view.ty) (f_arg13 : BufTy.Contents (Elt F) arg13.view.ty) (f_arg14 : BufTy.Contents (Elt F) arg14.view.ty) : List (View.Piece (Elt F) S256x4608 .fp8e5m2) × List (View.Piece (Elt F) S4608x256 .fp8e5m2) × List (View.Piece (Elt F) S2x256x128 .f32) × List (View.Piece (Elt F) S2x256x128 .f32) × List (View.Piece (Elt F) S2x72x128 .f32) × List (View.Piece (Elt F) S2x72x128 .f32) × List (View.Piece (Elt F) S8x4608 .f32) × List (View.Piece (Elt F) S144x256 .f32) × List (View.Piece (Elt F) S128x4608 .f32) :=
  ((trip_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 k).1 f_arg4 f_arg6 f_arg8 f_arg9 f_arg10 f_arg11 f_arg12 f_arg13 f_arg14, (trip_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 k).2.1 f_arg4 f_arg6 f_arg8 f_arg9 f_arg10 f_arg11 f_arg12 f_arg13 f_arg14, (trip_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 k).2.2.1 f_arg4 f_arg6 f_arg8 f_arg9 f_arg10 f_arg11 f_arg12 f_arg13 f_arg14, (trip_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 k).2.2.2.1 f_arg4 f_arg6 f_arg8 f_arg9 f_arg10 f_arg11 f_arg12 f_arg13 f_arg14, (trip_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 k).2.2.2.2.1 f_arg4 f_arg6 f_arg8 f_arg9 f_arg10 f_arg11 f_arg12 f_arg13 f_arg14, (trip_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 k).2.2.2.2.2.1 f_arg4 f_arg6 f_arg8 f_arg9 f_arg10 f_arg11 f_arg12 f_arg13 f_arg14, (trip_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 k).2.2.2.2.2.2.1 f_arg4 f_arg6 f_arg8 f_arg9 f_arg10 f_arg11 f_arg12 f_arg13 f_arg14, (trip_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 k).2.2.2.2.2.2.2.1 f_arg4 f_arg6 f_arg8 f_arg9 f_arg10 f_arg11 f_arg12 f_arg13 f_arg14, (trip_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 k).2.2.2.2.2.2.2.2.1 f_arg4 f_arg6 f_arg8 f_arg9 f_arg10 f_arg11 f_arg12 f_arg13 f_arg14)

/-- Trip `k`'s contribution to the state the recursion `pb_k0_t1` below carries (`prev`): its pieces
   in front, per written memref; past the last trip, `prev` itself. -/
@[irreducible] def pb_k0_t1Step (𝒱 : Variants) (c : Dev nD) (bd : Option 𝒱.V) (i : grid0.Coords) (arg1 : Memref sig .tc .vmem S256x4608 .bf16) (harg1 : arg1.IsWhole) (arg2 : Memref sig .tc .vmem S256x4608 .bf16) (harg2 : arg2.IsWhole) (arg3 : Memref sig .tc .vmem S1x4608 .f32) (harg3 : arg3.IsWhole) (arg4 : Memref sig .tc .vmem S256x4608 .fp8e5m2) (harg4 : arg4.IsWhole) (arg5 : Memref sig .tc .vmem S256x144 .f32) (harg5 : arg5.IsWhole) (arg6 : Memref sig .tc .vmem S4608x256 .fp8e5m2) (harg6 : arg6.IsWhole) (arg7 : Memref sig .tc .vmem S4608x128 .f32) (harg7 : arg7.IsWhole) (arg8 : Memref sig .tc .vmem S2x256x128 .f32) (harg8 : arg8.IsWhole) (arg9 : Memref sig .tc .vmem S2x256x128 .f32) (harg9 : arg9.IsWhole) (arg10 : Memref sig .tc .vmem S2x72x128 .f32) (harg10 : arg10.IsWhole) (arg11 : Memref sig .tc .vmem S2x72x128 .f32) (harg11 : arg11.IsWhole) (arg12 : Memref sig .tc .vmem S8x4608 .f32) (harg12 : arg12.IsWhole) (arg13 : Memref sig .tc .vmem S144x256 .f32) (harg13 : arg13.IsWhole) (arg14 : Memref sig .tc .vmem S128x4608 .f32) (harg14 : arg14.IsWhole) (arg0 : BitVec 32) (X_arg1 : BufTy.Contents (Elt F) arg1.view.ty) (X_arg2 : BufTy.Contents (Elt F) arg2.view.ty) (G_arg4 : BufTy.Contents (Elt F) arg4.view.ty) (G_arg6 : BufTy.Contents (Elt F) arg6.view.ty) (G_arg8 : BufTy.Contents (Elt F) arg8.view.ty) (G_arg9 : BufTy.Contents (Elt F) arg9.view.ty) (G_arg10 : BufTy.Contents (Elt F) arg10.view.ty) (G_arg11 : BufTy.Contents (Elt F) arg11.view.ty) (G_arg12 : BufTy.Contents (Elt F) arg12.view.ty) (G_arg13 : BufTy.Contents (Elt F) arg13.view.ty) (G_arg14 : BufTy.Contents (Elt F) arg14.view.ty) (k : ℕ) (prev : List (View.Piece (Elt F) S256x4608 .fp8e5m2) × List (View.Piece (Elt F) S4608x256 .fp8e5m2) × List (View.Piece (Elt F) S2x256x128 .f32) × List (View.Piece (Elt F) S2x256x128 .f32) × List (View.Piece (Elt F) S2x72x128 .f32) × List (View.Piece (Elt F) S2x72x128 .f32) × List (View.Piece (Elt F) S8x4608 .f32) × List (View.Piece (Elt F) S144x256 .f32) × List (View.Piece (Elt F) S128x4608 .f32)) : List (View.Piece (Elt F) S256x4608 .fp8e5m2) × List (View.Piece (Elt F) S4608x256 .fp8e5m2) × List (View.Piece (Elt F) S2x256x128 .f32) × List (View.Piece (Elt F) S2x256x128 .f32) × List (View.Piece (Elt F) S2x72x128 .f32) × List (View.Piece (Elt F) S2x72x128 .f32) × List (View.Piece (Elt F) S8x4608 .f32) × List (View.Piece (Elt F) S144x256 .f32) × List (View.Piece (Elt F) S128x4608 .f32) :=
  if h : k < k0_t1_loop.trips then
    ((tripL_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 ⟨k, h⟩ (arg4.view.writes (Elt F) G_arg4 prev.1) (arg6.view.writes (Elt F) G_arg6 prev.2.1) (arg8.view.writes (Elt F) G_arg8 prev.2.2.1) (arg9.view.writes (Elt F) G_arg9 prev.2.2.2.1) (arg10.view.writes (Elt F) G_arg10 prev.2.2.2.2.1) (arg11.view.writes (Elt F) G_arg11 prev.2.2.2.2.2.1) (arg12.view.writes (Elt F) G_arg12 prev.2.2.2.2.2.2.1) (arg13.view.writes (Elt F) G_arg13 prev.2.2.2.2.2.2.2.1) (arg14.view.writes (Elt F) G_arg14 prev.2.2.2.2.2.2.2.2)).1 ++ prev.1, (tripL_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 ⟨k, h⟩ (arg4.view.writes (Elt F) G_arg4 prev.1) (arg6.view.writes (Elt F) G_arg6 prev.2.1) (arg8.view.writes (Elt F) G_arg8 prev.2.2.1) (arg9.view.writes (Elt F) G_arg9 prev.2.2.2.1) (arg10.view.writes (Elt F) G_arg10 prev.2.2.2.2.1) (arg11.view.writes (Elt F) G_arg11 prev.2.2.2.2.2.1) (arg12.view.writes (Elt F) G_arg12 prev.2.2.2.2.2.2.1) (arg13.view.writes (Elt F) G_arg13 prev.2.2.2.2.2.2.2.1) (arg14.view.writes (Elt F) G_arg14 prev.2.2.2.2.2.2.2.2)).2.1 ++ prev.2.1, (tripL_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 ⟨k, h⟩ (arg4.view.writes (Elt F) G_arg4 prev.1) (arg6.view.writes (Elt F) G_arg6 prev.2.1) (arg8.view.writes (Elt F) G_arg8 prev.2.2.1) (arg9.view.writes (Elt F) G_arg9 prev.2.2.2.1) (arg10.view.writes (Elt F) G_arg10 prev.2.2.2.2.1) (arg11.view.writes (Elt F) G_arg11 prev.2.2.2.2.2.1) (arg12.view.writes (Elt F) G_arg12 prev.2.2.2.2.2.2.1) (arg13.view.writes (Elt F) G_arg13 prev.2.2.2.2.2.2.2.1) (arg14.view.writes (Elt F) G_arg14 prev.2.2.2.2.2.2.2.2)).2.2.1 ++ prev.2.2.1, (tripL_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 ⟨k, h⟩ (arg4.view.writes (Elt F) G_arg4 prev.1) (arg6.view.writes (Elt F) G_arg6 prev.2.1) (arg8.view.writes (Elt F) G_arg8 prev.2.2.1) (arg9.view.writes (Elt F) G_arg9 prev.2.2.2.1) (arg10.view.writes (Elt F) G_arg10 prev.2.2.2.2.1) (arg11.view.writes (Elt F) G_arg11 prev.2.2.2.2.2.1) (arg12.view.writes (Elt F) G_arg12 prev.2.2.2.2.2.2.1) (arg13.view.writes (Elt F) G_arg13 prev.2.2.2.2.2.2.2.1) (arg14.view.writes (Elt F) G_arg14 prev.2.2.2.2.2.2.2.2)).2.2.2.1 ++ prev.2.2.2.1, (tripL_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 ⟨k, h⟩ (arg4.view.writes (Elt F) G_arg4 prev.1) (arg6.view.writes (Elt F) G_arg6 prev.2.1) (arg8.view.writes (Elt F) G_arg8 prev.2.2.1) (arg9.view.writes (Elt F) G_arg9 prev.2.2.2.1) (arg10.view.writes (Elt F) G_arg10 prev.2.2.2.2.1) (arg11.view.writes (Elt F) G_arg11 prev.2.2.2.2.2.1) (arg12.view.writes (Elt F) G_arg12 prev.2.2.2.2.2.2.1) (arg13.view.writes (Elt F) G_arg13 prev.2.2.2.2.2.2.2.1) (arg14.view.writes (Elt F) G_arg14 prev.2.2.2.2.2.2.2.2)).2.2.2.2.1 ++ prev.2.2.2.2.1, (tripL_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 ⟨k, h⟩ (arg4.view.writes (Elt F) G_arg4 prev.1) (arg6.view.writes (Elt F) G_arg6 prev.2.1) (arg8.view.writes (Elt F) G_arg8 prev.2.2.1) (arg9.view.writes (Elt F) G_arg9 prev.2.2.2.1) (arg10.view.writes (Elt F) G_arg10 prev.2.2.2.2.1) (arg11.view.writes (Elt F) G_arg11 prev.2.2.2.2.2.1) (arg12.view.writes (Elt F) G_arg12 prev.2.2.2.2.2.2.1) (arg13.view.writes (Elt F) G_arg13 prev.2.2.2.2.2.2.2.1) (arg14.view.writes (Elt F) G_arg14 prev.2.2.2.2.2.2.2.2)).2.2.2.2.2.1 ++ prev.2.2.2.2.2.1, (tripL_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 ⟨k, h⟩ (arg4.view.writes (Elt F) G_arg4 prev.1) (arg6.view.writes (Elt F) G_arg6 prev.2.1) (arg8.view.writes (Elt F) G_arg8 prev.2.2.1) (arg9.view.writes (Elt F) G_arg9 prev.2.2.2.1) (arg10.view.writes (Elt F) G_arg10 prev.2.2.2.2.1) (arg11.view.writes (Elt F) G_arg11 prev.2.2.2.2.2.1) (arg12.view.writes (Elt F) G_arg12 prev.2.2.2.2.2.2.1) (arg13.view.writes (Elt F) G_arg13 prev.2.2.2.2.2.2.2.1) (arg14.view.writes (Elt F) G_arg14 prev.2.2.2.2.2.2.2.2)).2.2.2.2.2.2.1 ++ prev.2.2.2.2.2.2.1, (tripL_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 ⟨k, h⟩ (arg4.view.writes (Elt F) G_arg4 prev.1) (arg6.view.writes (Elt F) G_arg6 prev.2.1) (arg8.view.writes (Elt F) G_arg8 prev.2.2.1) (arg9.view.writes (Elt F) G_arg9 prev.2.2.2.1) (arg10.view.writes (Elt F) G_arg10 prev.2.2.2.2.1) (arg11.view.writes (Elt F) G_arg11 prev.2.2.2.2.2.1) (arg12.view.writes (Elt F) G_arg12 prev.2.2.2.2.2.2.1) (arg13.view.writes (Elt F) G_arg13 prev.2.2.2.2.2.2.2.1) (arg14.view.writes (Elt F) G_arg14 prev.2.2.2.2.2.2.2.2)).2.2.2.2.2.2.2.1 ++ prev.2.2.2.2.2.2.2.1, (tripL_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 ⟨k, h⟩ (arg4.view.writes (Elt F) G_arg4 prev.1) (arg6.view.writes (Elt F) G_arg6 prev.2.1) (arg8.view.writes (Elt F) G_arg8 prev.2.2.1) (arg9.view.writes (Elt F) G_arg9 prev.2.2.2.1) (arg10.view.writes (Elt F) G_arg10 prev.2.2.2.2.1) (arg11.view.writes (Elt F) G_arg11 prev.2.2.2.2.2.1) (arg12.view.writes (Elt F) G_arg12 prev.2.2.2.2.2.2.1) (arg13.view.writes (Elt F) G_arg13 prev.2.2.2.2.2.2.2.1) (arg14.view.writes (Elt F) G_arg14 prev.2.2.2.2.2.2.2.2)).2.2.2.2.2.2.2.2 ++ prev.2.2.2.2.2.2.2.2)
  else prev

/-- The pieces of the trips before `k` (last first), per written memref, starting from the contents
   `G_·` at loop entry; each trip's pieces taken at the contents the earlier trips left. -/
def pb_k0_t1 (𝒱 : Variants) (c : Dev nD) (bd : Option 𝒱.V) (i : grid0.Coords) (arg1 : Memref sig .tc .vmem S256x4608 .bf16) (harg1 : arg1.IsWhole) (arg2 : Memref sig .tc .vmem S256x4608 .bf16) (harg2 : arg2.IsWhole) (arg3 : Memref sig .tc .vmem S1x4608 .f32) (harg3 : arg3.IsWhole) (arg4 : Memref sig .tc .vmem S256x4608 .fp8e5m2) (harg4 : arg4.IsWhole) (arg5 : Memref sig .tc .vmem S256x144 .f32) (harg5 : arg5.IsWhole) (arg6 : Memref sig .tc .vmem S4608x256 .fp8e5m2) (harg6 : arg6.IsWhole) (arg7 : Memref sig .tc .vmem S4608x128 .f32) (harg7 : arg7.IsWhole) (arg8 : Memref sig .tc .vmem S2x256x128 .f32) (harg8 : arg8.IsWhole) (arg9 : Memref sig .tc .vmem S2x256x128 .f32) (harg9 : arg9.IsWhole) (arg10 : Memref sig .tc .vmem S2x72x128 .f32) (harg10 : arg10.IsWhole) (arg11 : Memref sig .tc .vmem S2x72x128 .f32) (harg11 : arg11.IsWhole) (arg12 : Memref sig .tc .vmem S8x4608 .f32) (harg12 : arg12.IsWhole) (arg13 : Memref sig .tc .vmem S144x256 .f32) (harg13 : arg13.IsWhole) (arg14 : Memref sig .tc .vmem S128x4608 .f32) (harg14 : arg14.IsWhole) (arg0 : BitVec 32) (X_arg1 : BufTy.Contents (Elt F) arg1.view.ty) (X_arg2 : BufTy.Contents (Elt F) arg2.view.ty) (G_arg4 : BufTy.Contents (Elt F) arg4.view.ty) (G_arg6 : BufTy.Contents (Elt F) arg6.view.ty) (G_arg8 : BufTy.Contents (Elt F) arg8.view.ty) (G_arg9 : BufTy.Contents (Elt F) arg9.view.ty) (G_arg10 : BufTy.Contents (Elt F) arg10.view.ty) (G_arg11 : BufTy.Contents (Elt F) arg11.view.ty) (G_arg12 : BufTy.Contents (Elt F) arg12.view.ty) (G_arg13 : BufTy.Contents (Elt F) arg13.view.ty) (G_arg14 : BufTy.Contents (Elt F) arg14.view.ty) : ℕ → List (View.Piece (Elt F) S256x4608 .fp8e5m2) × List (View.Piece (Elt F) S4608x256 .fp8e5m2) × List (View.Piece (Elt F) S2x256x128 .f32) × List (View.Piece (Elt F) S2x256x128 .f32) × List (View.Piece (Elt F) S2x72x128 .f32) × List (View.Piece (Elt F) S2x72x128 .f32) × List (View.Piece (Elt F) S8x4608 .f32) × List (View.Piece (Elt F) S144x256 .f32) × List (View.Piece (Elt F) S128x4608 .f32)
  | 0 => ([], [], [], [], [], [], [], [], [])
  | k + 1 => pb_k0_t1Step 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 k (pb_k0_t1 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 k)

theorem pb_k0_t1_succ (𝒱 : Variants) (c : Dev nD) (bd : Option 𝒱.V) (i : grid0.Coords) (arg1 : Memref sig .tc .vmem S256x4608 .bf16) (harg1 : arg1.IsWhole) (arg2 : Memref sig .tc .vmem S256x4608 .bf16) (harg2 : arg2.IsWhole) (arg3 : Memref sig .tc .vmem S1x4608 .f32) (harg3 : arg3.IsWhole) (arg4 : Memref sig .tc .vmem S256x4608 .fp8e5m2) (harg4 : arg4.IsWhole) (arg5 : Memref sig .tc .vmem S256x144 .f32) (harg5 : arg5.IsWhole) (arg6 : Memref sig .tc .vmem S4608x256 .fp8e5m2) (harg6 : arg6.IsWhole) (arg7 : Memref sig .tc .vmem S4608x128 .f32) (harg7 : arg7.IsWhole) (arg8 : Memref sig .tc .vmem S2x256x128 .f32) (harg8 : arg8.IsWhole) (arg9 : Memref sig .tc .vmem S2x256x128 .f32) (harg9 : arg9.IsWhole) (arg10 : Memref sig .tc .vmem S2x72x128 .f32) (harg10 : arg10.IsWhole) (arg11 : Memref sig .tc .vmem S2x72x128 .f32) (harg11 : arg11.IsWhole) (arg12 : Memref sig .tc .vmem S8x4608 .f32) (harg12 : arg12.IsWhole) (arg13 : Memref sig .tc .vmem S144x256 .f32) (harg13 : arg13.IsWhole) (arg14 : Memref sig .tc .vmem S128x4608 .f32) (harg14 : arg14.IsWhole) (arg0 : BitVec 32) (X_arg1 : BufTy.Contents (Elt F) arg1.view.ty) (X_arg2 : BufTy.Contents (Elt F) arg2.view.ty) (G_arg4 : BufTy.Contents (Elt F) arg4.view.ty) (G_arg6 : BufTy.Contents (Elt F) arg6.view.ty) (G_arg8 : BufTy.Contents (Elt F) arg8.view.ty) (G_arg9 : BufTy.Contents (Elt F) arg9.view.ty) (G_arg10 : BufTy.Contents (Elt F) arg10.view.ty) (G_arg11 : BufTy.Contents (Elt F) arg11.view.ty) (G_arg12 : BufTy.Contents (Elt F) arg12.view.ty) (G_arg13 : BufTy.Contents (Elt F) arg13.view.ty) (G_arg14 : BufTy.Contents (Elt F) arg14.view.ty) (k : Fin k0_t1_loop.trips) :
    pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 (k.val + 1)
      = ((tripL_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 k (arg4.view.writes (Elt F) G_arg4 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 k.val).1) (arg6.view.writes (Elt F) G_arg6 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 k.val).2.1) (arg8.view.writes (Elt F) G_arg8 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 k.val).2.2.1) (arg9.view.writes (Elt F) G_arg9 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 k.val).2.2.2.1) (arg10.view.writes (Elt F) G_arg10 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 k.val).2.2.2.2.1) (arg11.view.writes (Elt F) G_arg11 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 k.val).2.2.2.2.2.1) (arg12.view.writes (Elt F) G_arg12 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 k.val).2.2.2.2.2.2.1) (arg13.view.writes (Elt F) G_arg13 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 k.val).2.2.2.2.2.2.2.1) (arg14.view.writes (Elt F) G_arg14 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 k.val).2.2.2.2.2.2.2.2)).1 ++ (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 k.val).1, (tripL_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 k (arg4.view.writes (Elt F) G_arg4 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 k.val).1) (arg6.view.writes (Elt F) G_arg6 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 k.val).2.1) (arg8.view.writes (Elt F) G_arg8 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 k.val).2.2.1) (arg9.view.writes (Elt F) G_arg9 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 k.val).2.2.2.1) (arg10.view.writes (Elt F) G_arg10 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 k.val).2.2.2.2.1) (arg11.view.writes (Elt F) G_arg11 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 k.val).2.2.2.2.2.1) (arg12.view.writes (Elt F) G_arg12 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 k.val).2.2.2.2.2.2.1) (arg13.view.writes (Elt F) G_arg13 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 k.val).2.2.2.2.2.2.2.1) (arg14.view.writes (Elt F) G_arg14 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 k.val).2.2.2.2.2.2.2.2)).2.1 ++ (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 k.val).2.1, (tripL_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 k (arg4.view.writes (Elt F) G_arg4 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 k.val).1) (arg6.view.writes (Elt F) G_arg6 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 k.val).2.1) (arg8.view.writes (Elt F) G_arg8 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 k.val).2.2.1) (arg9.view.writes (Elt F) G_arg9 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 k.val).2.2.2.1) (arg10.view.writes (Elt F) G_arg10 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 k.val).2.2.2.2.1) (arg11.view.writes (Elt F) G_arg11 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 k.val).2.2.2.2.2.1) (arg12.view.writes (Elt F) G_arg12 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 k.val).2.2.2.2.2.2.1) (arg13.view.writes (Elt F) G_arg13 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 k.val).2.2.2.2.2.2.2.1) (arg14.view.writes (Elt F) G_arg14 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 k.val).2.2.2.2.2.2.2.2)).2.2.1 ++ (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 k.val).2.2.1, (tripL_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 k (arg4.view.writes (Elt F) G_arg4 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 k.val).1) (arg6.view.writes (Elt F) G_arg6 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 k.val).2.1) (arg8.view.writes (Elt F) G_arg8 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 k.val).2.2.1) (arg9.view.writes (Elt F) G_arg9 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 k.val).2.2.2.1) (arg10.view.writes (Elt F) G_arg10 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 k.val).2.2.2.2.1) (arg11.view.writes (Elt F) G_arg11 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 k.val).2.2.2.2.2.1) (arg12.view.writes (Elt F) G_arg12 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 k.val).2.2.2.2.2.2.1) (arg13.view.writes (Elt F) G_arg13 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 k.val).2.2.2.2.2.2.2.1) (arg14.view.writes (Elt F) G_arg14 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 k.val).2.2.2.2.2.2.2.2)).2.2.2.1 ++ (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 k.val).2.2.2.1, (tripL_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 k (arg4.view.writes (Elt F) G_arg4 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 k.val).1) (arg6.view.writes (Elt F) G_arg6 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 k.val).2.1) (arg8.view.writes (Elt F) G_arg8 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 k.val).2.2.1) (arg9.view.writes (Elt F) G_arg9 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 k.val).2.2.2.1) (arg10.view.writes (Elt F) G_arg10 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 k.val).2.2.2.2.1) (arg11.view.writes (Elt F) G_arg11 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 k.val).2.2.2.2.2.1) (arg12.view.writes (Elt F) G_arg12 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 k.val).2.2.2.2.2.2.1) (arg13.view.writes (Elt F) G_arg13 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 k.val).2.2.2.2.2.2.2.1) (arg14.view.writes (Elt F) G_arg14 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 k.val).2.2.2.2.2.2.2.2)).2.2.2.2.1 ++ (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 k.val).2.2.2.2.1, (tripL_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 k (arg4.view.writes (Elt F) G_arg4 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 k.val).1) (arg6.view.writes (Elt F) G_arg6 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 k.val).2.1) (arg8.view.writes (Elt F) G_arg8 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 k.val).2.2.1) (arg9.view.writes (Elt F) G_arg9 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 k.val).2.2.2.1) (arg10.view.writes (Elt F) G_arg10 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 k.val).2.2.2.2.1) (arg11.view.writes (Elt F) G_arg11 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 k.val).2.2.2.2.2.1) (arg12.view.writes (Elt F) G_arg12 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 k.val).2.2.2.2.2.2.1) (arg13.view.writes (Elt F) G_arg13 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 k.val).2.2.2.2.2.2.2.1) (arg14.view.writes (Elt F) G_arg14 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 k.val).2.2.2.2.2.2.2.2)).2.2.2.2.2.1 ++ (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 k.val).2.2.2.2.2.1, (tripL_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 k (arg4.view.writes (Elt F) G_arg4 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 k.val).1) (arg6.view.writes (Elt F) G_arg6 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 k.val).2.1) (arg8.view.writes (Elt F) G_arg8 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 k.val).2.2.1) (arg9.view.writes (Elt F) G_arg9 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 k.val).2.2.2.1) (arg10.view.writes (Elt F) G_arg10 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 k.val).2.2.2.2.1) (arg11.view.writes (Elt F) G_arg11 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 k.val).2.2.2.2.2.1) (arg12.view.writes (Elt F) G_arg12 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 k.val).2.2.2.2.2.2.1) (arg13.view.writes (Elt F) G_arg13 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 k.val).2.2.2.2.2.2.2.1) (arg14.view.writes (Elt F) G_arg14 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 k.val).2.2.2.2.2.2.2.2)).2.2.2.2.2.2.1 ++ (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 k.val).2.2.2.2.2.2.1, (tripL_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 k (arg4.view.writes (Elt F) G_arg4 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 k.val).1) (arg6.view.writes (Elt F) G_arg6 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 k.val).2.1) (arg8.view.writes (Elt F) G_arg8 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 k.val).2.2.1) (arg9.view.writes (Elt F) G_arg9 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 k.val).2.2.2.1) (arg10.view.writes (Elt F) G_arg10 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 k.val).2.2.2.2.1) (arg11.view.writes (Elt F) G_arg11 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 k.val).2.2.2.2.2.1) (arg12.view.writes (Elt F) G_arg12 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 k.val).2.2.2.2.2.2.1) (arg13.view.writes (Elt F) G_arg13 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 k.val).2.2.2.2.2.2.2.1) (arg14.view.writes (Elt F) G_arg14 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 k.val).2.2.2.2.2.2.2.2)).2.2.2.2.2.2.2.1 ++ (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 k.val).2.2.2.2.2.2.2.1, (tripL_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 k (arg4.view.writes (Elt F) G_arg4 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 k.val).1) (arg6.view.writes (Elt F) G_arg6 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 k.val).2.1) (arg8.view.writes (Elt F) G_arg8 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 k.val).2.2.1) (arg9.view.writes (Elt F) G_arg9 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 k.val).2.2.2.1) (arg10.view.writes (Elt F) G_arg10 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 k.val).2.2.2.2.1) (arg11.view.writes (Elt F) G_arg11 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 k.val).2.2.2.2.2.1) (arg12.view.writes (Elt F) G_arg12 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 k.val).2.2.2.2.2.2.1) (arg13.view.writes (Elt F) G_arg13 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 k.val).2.2.2.2.2.2.2.1) (arg14.view.writes (Elt F) G_arg14 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 k.val).2.2.2.2.2.2.2.2)).2.2.2.2.2.2.2.2 ++ (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 k.val).2.2.2.2.2.2.2.2) := by
  rw [pb_k0_t1.eq_2]; unfold pb_k0_t1Step; exact dif_pos k.isLt

/-- THE INVARIANT before trip `k`: arg1, arg2 read at `X_·`; arg4, arg6, arg8, arg9, arg10, arg11,
   arg12, arg13, arg14 holding the pieces of the trips before `k` written over the contents at loop
   entry `G_·` (stated `∃ f, … ∗ ⌜f = …⌝`, so that a hypothesis of any contents matches and the
   equation is what is proved). -/
abbrev inv_k0_t1 (𝒱 : Variants) (c : Dev nD) (bd : Option 𝒱.V) (i : grid0.Coords) (arg1 : Memref sig .tc .vmem S256x4608 .bf16) (harg1 : arg1.IsWhole) (arg2 : Memref sig .tc .vmem S256x4608 .bf16) (harg2 : arg2.IsWhole) (arg3 : Memref sig .tc .vmem S1x4608 .f32) (harg3 : arg3.IsWhole) (arg4 : Memref sig .tc .vmem S256x4608 .fp8e5m2) (harg4 : arg4.IsWhole) (arg5 : Memref sig .tc .vmem S256x144 .f32) (harg5 : arg5.IsWhole) (arg6 : Memref sig .tc .vmem S4608x256 .fp8e5m2) (harg6 : arg6.IsWhole) (arg7 : Memref sig .tc .vmem S4608x128 .f32) (harg7 : arg7.IsWhole) (arg8 : Memref sig .tc .vmem S2x256x128 .f32) (harg8 : arg8.IsWhole) (arg9 : Memref sig .tc .vmem S2x256x128 .f32) (harg9 : arg9.IsWhole) (arg10 : Memref sig .tc .vmem S2x72x128 .f32) (harg10 : arg10.IsWhole) (arg11 : Memref sig .tc .vmem S2x72x128 .f32) (harg11 : arg11.IsWhole) (arg12 : Memref sig .tc .vmem S8x4608 .f32) (harg12 : arg12.IsWhole) (arg13 : Memref sig .tc .vmem S144x256 .f32) (harg13 : arg13.IsWhole) (arg14 : Memref sig .tc .vmem S128x4608 .f32) (harg14 : arg14.IsWhole) (arg0 : BitVec 32) (X_arg1 : BufTy.Contents (Elt F) arg1.view.ty) (X_arg2 : BufTy.Contents (Elt F) arg2.view.ty) (G_arg4 : BufTy.Contents (Elt F) arg4.view.ty) (G_arg6 : BufTy.Contents (Elt F) arg6.view.ty) (G_arg8 : BufTy.Contents (Elt F) arg8.view.ty) (G_arg9 : BufTy.Contents (Elt F) arg9.view.ty) (G_arg10 : BufTy.Contents (Elt F) arg10.view.ty) (G_arg11 : BufTy.Contents (Elt F) arg11.view.ty) (G_arg12 : BufTy.Contents (Elt F) arg12.view.ty) (G_arg13 : BufTy.Contents (Elt F) arg13.view.ty) (G_arg14 : BufTy.Contents (Elt F) arg14.view.ty) (k : ℕ) (_u : PUnit) : sProp 𝕄G :=
  iprop((arg1.view.loc (c : Thread nD τ) ↦[arg1.view.set]{fullShare} X_arg1) ∗ (arg2.view.loc (c : Thread nD τ) ↦[arg2.view.set]{fullShare} X_arg2) ∗ (∃ f, (arg4.view.loc (c : Thread nD τ) ↦[arg4.view.set]{fullShare} f) ∗ ⌜f = arg4.view.writes (Elt F) G_arg4 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 k).1⌝) ∗ (∃ f, (arg6.view.loc (c : Thread nD τ) ↦[arg6.view.set]{fullShare} f) ∗ ⌜f = arg6.view.writes (Elt F) G_arg6 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 k).2.1⌝) ∗ (∃ f, (arg8.view.loc (c : Thread nD τ) ↦[arg8.view.set]{fullShare} f) ∗ ⌜f = arg8.view.writes (Elt F) G_arg8 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 k).2.2.1⌝) ∗ (∃ f, (arg9.view.loc (c : Thread nD τ) ↦[arg9.view.set]{fullShare} f) ∗ ⌜f = arg9.view.writes (Elt F) G_arg9 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 k).2.2.2.1⌝) ∗ (∃ f, (arg10.view.loc (c : Thread nD τ) ↦[arg10.view.set]{fullShare} f) ∗ ⌜f = arg10.view.writes (Elt F) G_arg10 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 k).2.2.2.2.1⌝) ∗ (∃ f, (arg11.view.loc (c : Thread nD τ) ↦[arg11.view.set]{fullShare} f) ∗ ⌜f = arg11.view.writes (Elt F) G_arg11 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 k).2.2.2.2.2.1⌝) ∗ (∃ f, (arg12.view.loc (c : Thread nD τ) ↦[arg12.view.set]{fullShare} f) ∗ ⌜f = arg12.view.writes (Elt F) G_arg12 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 k).2.2.2.2.2.2.1⌝) ∗ (∃ f, (arg13.view.loc (c : Thread nD τ) ↦[arg13.view.set]{fullShare} f) ∗ ⌜f = arg13.view.writes (Elt F) G_arg13 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 k).2.2.2.2.2.2.2.1⌝) ∗ (∃ f, (arg14.view.loc (c : Thread nD τ) ↦[arg14.view.set]{fullShare} f) ∗ ⌜f = arg14.view.writes (Elt F) G_arg14 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 k).2.2.2.2.2.2.2.2⌝))

set_option warn.classDefReducibility false in
/-- THE LOOP BY ITS INVARIANT — (`@[sl_loop]`: `sl_exec` finds it meeting `k0_t1_loop`,
   fixing `X_· G_·` against the context; after the loop each written memref holds `writes G (pb …
   trips)`). -/
@[sl_loop] def loopInv_k0_t1 (𝒱 : Variants) (c : Dev nD) (bd : Option 𝒱.V) (E : Set ℕ) (i : grid0.Coords) (arg1 : Memref sig .tc .vmem S256x4608 .bf16) (harg1 : arg1.IsWhole) (arg2 : Memref sig .tc .vmem S256x4608 .bf16) (harg2 : arg2.IsWhole) (arg3 : Memref sig .tc .vmem S1x4608 .f32) (harg3 : arg3.IsWhole) (arg4 : Memref sig .tc .vmem S256x4608 .fp8e5m2) (harg4 : arg4.IsWhole) (arg5 : Memref sig .tc .vmem S256x144 .f32) (harg5 : arg5.IsWhole) (arg6 : Memref sig .tc .vmem S4608x256 .fp8e5m2) (harg6 : arg6.IsWhole) (arg7 : Memref sig .tc .vmem S4608x128 .f32) (harg7 : arg7.IsWhole) (arg8 : Memref sig .tc .vmem S2x256x128 .f32) (harg8 : arg8.IsWhole) (arg9 : Memref sig .tc .vmem S2x256x128 .f32) (harg9 : arg9.IsWhole) (arg10 : Memref sig .tc .vmem S2x72x128 .f32) (harg10 : arg10.IsWhole) (arg11 : Memref sig .tc .vmem S2x72x128 .f32) (harg11 : arg11.IsWhole) (arg12 : Memref sig .tc .vmem S8x4608 .f32) (harg12 : arg12.IsWhole) (arg13 : Memref sig .tc .vmem S144x256 .f32) (harg13 : arg13.IsWhole) (arg14 : Memref sig .tc .vmem S128x4608 .f32) (harg14 : arg14.IsWhole) (arg0 : BitVec 32) (X_arg1 : BufTy.Contents (Elt F) arg1.view.ty) (X_arg2 : BufTy.Contents (Elt F) arg2.view.ty) (G_arg4 : BufTy.Contents (Elt F) arg4.view.ty) (G_arg6 : BufTy.Contents (Elt F) arg6.view.ty) (G_arg8 : BufTy.Contents (Elt F) arg8.view.ty) (G_arg9 : BufTy.Contents (Elt F) arg9.view.ty) (G_arg10 : BufTy.Contents (Elt F) arg10.view.ty) (G_arg11 : BufTy.Contents (Elt F) arg11.view.ty) (G_arg12 : BufTy.Contents (Elt F) arg12.view.ty) (G_arg13 : BufTy.Contents (Elt F) arg13.view.ty) (G_arg14 : BufTy.Contents (Elt F) arg14.view.ty) :
    LoopInvTy_k0_t1 (F := F) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg0 where
  inv := inv_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14
  step k acc := by
    iintro ⟨HR_arg1, HR_arg2, ⟨%f_arg4, HW_arg4, %h_arg4⟩, ⟨%f_arg6, HW_arg6, %h_arg6⟩, ⟨%f_arg8, HW_arg8, %h_arg8⟩, ⟨%f_arg9, HW_arg9, %h_arg9⟩, ⟨%f_arg10, HW_arg10, %h_arg10⟩, ⟨%f_arg11, HW_arg11, %h_arg11⟩, ⟨%f_arg12, HW_arg12, %h_arg12⟩, ⟨%f_arg13, HW_arg13, %h_arg13⟩, ⟨%f_arg14, HW_arg14, %h_arg14⟩⟩
    iapply (wp_wand_r Idealize.ShloMosaic.frame (wpE (defs₀ (F := F)) 𝒱 (c : Thread nD τ) bd) E)
    isplitl [HR_arg1 HR_arg2 HW_arg4 HW_arg6 HW_arg8 HW_arg9 HW_arg10 HW_arg11 HW_arg12 HW_arg13 HW_arg14]
    · iapply ((trip_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 k).2.2.2.2.2.2.2.2.2 E f_arg4 f_arg6 f_arg8 f_arg9 f_arg10 f_arg11 f_arg12 f_arg13 f_arg14)
      isplitl [HR_arg1]; · iexact HR_arg1
      isplitl [HR_arg2]; · iexact HR_arg2
      isplitl [HW_arg4]; · iexact HW_arg4
      isplitl [HW_arg6]; · iexact HW_arg6
      isplitl [HW_arg8]; · iexact HW_arg8
      isplitl [HW_arg9]; · iexact HW_arg9
      isplitl [HW_arg10]; · iexact HW_arg10
      isplitl [HW_arg11]; · iexact HW_arg11
      isplitl [HW_arg12]; · iexact HW_arg12
      isplitl [HW_arg13]; · iexact HW_arg13
      iexact HW_arg14
    · iintro %_ ⟨HR_arg1, HR_arg2, HW_arg4, HW_arg6, HW_arg8, HW_arg9, HW_arg10, HW_arg11, HW_arg12, HW_arg13, HW_arg14⟩
      isplitl [HR_arg1]; · iexact HR_arg1
      isplitl [HR_arg2]; · iexact HR_arg2
      rw [pb_k0_t1_succ]
      isplitl [HW_arg4]
      · iexists _; isplitl [HW_arg4]; · iexact HW_arg4
        ipureintro; rw [h_arg4, h_arg6, h_arg8, h_arg9, h_arg10, h_arg11, h_arg12, h_arg13, h_arg14, ← View.writes_append]
      isplitl [HW_arg6]
      · iexists _; isplitl [HW_arg6]; · iexact HW_arg6
        ipureintro; rw [h_arg4, h_arg6, h_arg8, h_arg9, h_arg10, h_arg11, h_arg12, h_arg13, h_arg14, ← View.writes_append]
      isplitl [HW_arg8]
      · iexists _; isplitl [HW_arg8]; · iexact HW_arg8
        ipureintro; rw [h_arg4, h_arg6, h_arg8, h_arg9, h_arg10, h_arg11, h_arg12, h_arg13, h_arg14, ← View.writes_append]
      isplitl [HW_arg9]
      · iexists _; isplitl [HW_arg9]; · iexact HW_arg9
        ipureintro; rw [h_arg4, h_arg6, h_arg8, h_arg9, h_arg10, h_arg11, h_arg12, h_arg13, h_arg14, ← View.writes_append]
      isplitl [HW_arg10]
      · iexists _; isplitl [HW_arg10]; · iexact HW_arg10
        ipureintro; rw [h_arg4, h_arg6, h_arg8, h_arg9, h_arg10, h_arg11, h_arg12, h_arg13, h_arg14, ← View.writes_append]
      isplitl [HW_arg11]
      · iexists _; isplitl [HW_arg11]; · iexact HW_arg11
        ipureintro; rw [h_arg4, h_arg6, h_arg8, h_arg9, h_arg10, h_arg11, h_arg12, h_arg13, h_arg14, ← View.writes_append]
      isplitl [HW_arg12]
      · iexists _; isplitl [HW_arg12]; · iexact HW_arg12
        ipureintro; rw [h_arg4, h_arg6, h_arg8, h_arg9, h_arg10, h_arg11, h_arg12, h_arg13, h_arg14, ← View.writes_append]
      isplitl [HW_arg13]
      · iexists _; isplitl [HW_arg13]; · iexact HW_arg13
        ipureintro; rw [h_arg4, h_arg6, h_arg8, h_arg9, h_arg10, h_arg11, h_arg12, h_arg13, h_arg14, ← View.writes_append]
      iexists _; isplitl [HW_arg14]; · iexact HW_arg14
      ipureintro; rw [h_arg4, h_arg6, h_arg8, h_arg9, h_arg10, h_arg11, h_arg12, h_arg13, h_arg14, ← View.writes_append]

end Cert.KernelIdeal.Gen

end
-- ==== Proof.KernelIdeal.Run.lean ====
/- One grid point of the kernel, run symbolically in each of the four cases of its conditions. -/
module

public import proofs.«01_k».proof.Proof.KernelIdeal.Loop
public import proofs.«01_k».proof.Proof.Gen.KernelIdeal.Frame

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

/-- The condition of the body's first `if`: whether the point is the first. -/
abbrev cond0_0 (i : grid0.Coords) : Prop := (Scalar.cmpi .ne (Scalar.extui (Scalar.cmpi .eq (BitVec.ofNat 32 (i 0).val) 0#32)) 0#32) = 1#1
/-- The condition of the second: whether the column scales are handed out. -/
abbrev cond0_1 (i : grid0.Coords) : Prop := k0_cond2 i = 1#1
/-- The condition of the third: whether the point is the last. -/
abbrev cond0_2 (i : grid0.Coords) : Prop := k0_cond3 i = 1#1

set_option maxHeartbeats 4000000 in
/-- One grid point with the body's three conditions as named: the inputs' blocks come back as they were, every other buffer at some contents. -/
theorem kernelRun_A (c : Dev nD) (i : grid0.Coords) (arg1 : Memref sig .tc .vmem S256x4608 .bf16) (harg1 : arg1.IsWhole) (arg2 : Memref sig .tc .vmem S256x4608 .bf16) (harg2 : arg2.IsWhole) (arg3 : Memref sig .tc .vmem S1x4608 .f32) (harg3 : arg3.IsWhole) (arg4 : Memref sig .tc .vmem S256x4608 .fp8e5m2) (harg4 : arg4.IsWhole) (arg5 : Memref sig .tc .vmem S256x144 .f32) (harg5 : arg5.IsWhole) (arg6 : Memref sig .tc .vmem S4608x256 .fp8e5m2) (harg6 : arg6.IsWhole) (arg7 : Memref sig .tc .vmem S4608x128 .f32) (harg7 : arg7.IsWhole) (arg8 : Memref sig .tc .vmem S2x256x128 .f32) (harg8 : arg8.IsWhole) (arg9 : Memref sig .tc .vmem S2x256x128 .f32) (harg9 : arg9.IsWhole) (arg10 : Memref sig .tc .vmem S2x72x128 .f32) (harg10 : arg10.IsWhole) (arg11 : Memref sig .tc .vmem S2x72x128 .f32) (harg11 : arg11.IsWhole) (arg12 : Memref sig .tc .vmem S8x4608 .f32) (harg12 : arg12.IsWhole) (arg13 : Memref sig .tc .vmem S144x256 .f32) (harg13 : arg13.IsWhole) (arg14 : Memref sig .tc .vmem S128x4608 .f32) (harg14 : arg14.IsWhole)
    (hc0 : cond0_0 i) (hc1 : ¬cond0_1 i) (hc2 : ¬cond0_2 i) (x0 : Vec F S256x4608 .bf16) (x1 : Vec F S256x4608 .bf16) (E : Set ℕ) (K : PUnit → sProp 𝕄) :
    iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
        ∗ (iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)) -∗ K ⟨⟩))
      ⊢ wp frame (wpE (defs₀ (F := F)) Variants.none c none) E (cc0_gelu_bwd_quant i arg1 harg1 arg2 harg2 arg3 harg3 arg4 harg4 arg5 harg5 arg6 harg6 arg7 harg7 arg8 harg8 arg9 harg9 arg10 harg10 arg11 harg11 arg12 harg12 arg13 harg13 arg14 harg14) K := by
  simp only [cc0_gelu_bwd_quant_eq_skeleton]; unfold cc0_gelu_bwd_quant_skel
  simp only [k0_part38_eq_skeleton]
  unfold owns
  iintro ⟨⟨%f1, %hf1, H1⟩, ⟨%f2, %hf2, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, Hk⟩
  obtain rfl := harg1.eq_unread hf1; obtain rfl := harg2.eq_unread hf2
  sl_exec (disch := first | sl_exact hc0 | sl_exact hc1 | sl_exact hc2)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _, _; isplitr; swap; · iexact H3
    ipureintro; rfl
  isplitl [H4]
  · iexists _, _; isplitr; swap; · iexact H4
    ipureintro; rfl
  isplitl [H5]
  · iexists _, _; isplitr; swap; · iexact H5
    ipureintro; rfl
  isplitl [H6]
  · iexists _, _; isplitr; swap; · iexact H6
    ipureintro; rfl
  isplitl [H7]
  · iexists _, _; isplitr; swap; · iexact H7
    ipureintro; rfl
  isplitl [H8]
  · iexists _, _; isplitr; swap; · iexact H8
    ipureintro; rfl
  isplitl [H9]
  · iexists _, _; isplitr; swap; · iexact H9
    ipureintro; rfl
  isplitl [H10]
  · iexists _, _; isplitr; swap; · iexact H10
    ipureintro; rfl
  isplitl [H11]
  · iexists _, _; isplitr; swap; · iexact H11
    ipureintro; rfl
  isplitl [H12]
  · iexists _, _; isplitr; swap; · iexact H12
    ipureintro; rfl
  isplitl [H13]
  · iexists _, _; isplitr; swap; · iexact H13
    ipureintro; rfl
  iexists _, _; isplitr; swap; · iexact H14
  ipureintro; rfl

set_option maxHeartbeats 4000000 in
/-- One grid point with the body's three conditions as named: the inputs' blocks come back as they were, every other buffer at some contents. -/
theorem kernelRun_B (c : Dev nD) (i : grid0.Coords) (arg1 : Memref sig .tc .vmem S256x4608 .bf16) (harg1 : arg1.IsWhole) (arg2 : Memref sig .tc .vmem S256x4608 .bf16) (harg2 : arg2.IsWhole) (arg3 : Memref sig .tc .vmem S1x4608 .f32) (harg3 : arg3.IsWhole) (arg4 : Memref sig .tc .vmem S256x4608 .fp8e5m2) (harg4 : arg4.IsWhole) (arg5 : Memref sig .tc .vmem S256x144 .f32) (harg5 : arg5.IsWhole) (arg6 : Memref sig .tc .vmem S4608x256 .fp8e5m2) (harg6 : arg6.IsWhole) (arg7 : Memref sig .tc .vmem S4608x128 .f32) (harg7 : arg7.IsWhole) (arg8 : Memref sig .tc .vmem S2x256x128 .f32) (harg8 : arg8.IsWhole) (arg9 : Memref sig .tc .vmem S2x256x128 .f32) (harg9 : arg9.IsWhole) (arg10 : Memref sig .tc .vmem S2x72x128 .f32) (harg10 : arg10.IsWhole) (arg11 : Memref sig .tc .vmem S2x72x128 .f32) (harg11 : arg11.IsWhole) (arg12 : Memref sig .tc .vmem S8x4608 .f32) (harg12 : arg12.IsWhole) (arg13 : Memref sig .tc .vmem S144x256 .f32) (harg13 : arg13.IsWhole) (arg14 : Memref sig .tc .vmem S128x4608 .f32) (harg14 : arg14.IsWhole)
    (hc0 : ¬cond0_0 i) (hc1 : ¬cond0_1 i) (hc2 : ¬cond0_2 i) (x0 : Vec F S256x4608 .bf16) (x1 : Vec F S256x4608 .bf16) (E : Set ℕ) (K : PUnit → sProp 𝕄) :
    iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
        ∗ (iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)) -∗ K ⟨⟩))
      ⊢ wp frame (wpE (defs₀ (F := F)) Variants.none c none) E (cc0_gelu_bwd_quant i arg1 harg1 arg2 harg2 arg3 harg3 arg4 harg4 arg5 harg5 arg6 harg6 arg7 harg7 arg8 harg8 arg9 harg9 arg10 harg10 arg11 harg11 arg12 harg12 arg13 harg13 arg14 harg14) K := by
  simp only [cc0_gelu_bwd_quant_eq_skeleton]; unfold cc0_gelu_bwd_quant_skel
  simp only [k0_part38_eq_skeleton]
  unfold owns
  iintro ⟨⟨%f1, %hf1, H1⟩, ⟨%f2, %hf2, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, Hk⟩
  obtain rfl := harg1.eq_unread hf1; obtain rfl := harg2.eq_unread hf2
  sl_exec (disch := first | sl_exact hc0 | sl_exact hc1 | sl_exact hc2)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _, _; isplitr; swap; · iexact H3
    ipureintro; rfl
  isplitl [H4]
  · iexists _, _; isplitr; swap; · iexact H4
    ipureintro; rfl
  isplitl [H5]
  · iexists _, _; isplitr; swap; · iexact H5
    ipureintro; rfl
  isplitl [H6]
  · iexists _, _; isplitr; swap; · iexact H6
    ipureintro; rfl
  isplitl [H7]
  · iexists _, _; isplitr; swap; · iexact H7
    ipureintro; rfl
  isplitl [H8]
  · iexists _, _; isplitr; swap; · iexact H8
    ipureintro; rfl
  isplitl [H9]
  · iexists _, _; isplitr; swap; · iexact H9
    ipureintro; rfl
  isplitl [H10]
  · iexists _, _; isplitr; swap; · iexact H10
    ipureintro; rfl
  isplitl [H11]
  · iexists _, _; isplitr; swap; · iexact H11
    ipureintro; rfl
  isplitl [H12]
  · iexists _, _; isplitr; swap; · iexact H12
    ipureintro; rfl
  isplitl [H13]
  · iexists _, _; isplitr; swap; · iexact H13
    ipureintro; rfl
  iexists _, _; isplitr; swap; · iexact H14
  ipureintro; rfl

set_option maxHeartbeats 4000000 in
/-- One grid point with the body's three conditions as named: the inputs' blocks come back as they were, every other buffer at some contents. -/
theorem kernelRun_C (c : Dev nD) (i : grid0.Coords) (arg1 : Memref sig .tc .vmem S256x4608 .bf16) (harg1 : arg1.IsWhole) (arg2 : Memref sig .tc .vmem S256x4608 .bf16) (harg2 : arg2.IsWhole) (arg3 : Memref sig .tc .vmem S1x4608 .f32) (harg3 : arg3.IsWhole) (arg4 : Memref sig .tc .vmem S256x4608 .fp8e5m2) (harg4 : arg4.IsWhole) (arg5 : Memref sig .tc .vmem S256x144 .f32) (harg5 : arg5.IsWhole) (arg6 : Memref sig .tc .vmem S4608x256 .fp8e5m2) (harg6 : arg6.IsWhole) (arg7 : Memref sig .tc .vmem S4608x128 .f32) (harg7 : arg7.IsWhole) (arg8 : Memref sig .tc .vmem S2x256x128 .f32) (harg8 : arg8.IsWhole) (arg9 : Memref sig .tc .vmem S2x256x128 .f32) (harg9 : arg9.IsWhole) (arg10 : Memref sig .tc .vmem S2x72x128 .f32) (harg10 : arg10.IsWhole) (arg11 : Memref sig .tc .vmem S2x72x128 .f32) (harg11 : arg11.IsWhole) (arg12 : Memref sig .tc .vmem S8x4608 .f32) (harg12 : arg12.IsWhole) (arg13 : Memref sig .tc .vmem S144x256 .f32) (harg13 : arg13.IsWhole) (arg14 : Memref sig .tc .vmem S128x4608 .f32) (harg14 : arg14.IsWhole)
    (hc0 : ¬cond0_0 i) (hc1 : cond0_1 i) (hc2 : ¬cond0_2 i) (x0 : Vec F S256x4608 .bf16) (x1 : Vec F S256x4608 .bf16) (E : Set ℕ) (K : PUnit → sProp 𝕄) :
    iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
        ∗ (iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)) -∗ K ⟨⟩))
      ⊢ wp frame (wpE (defs₀ (F := F)) Variants.none c none) E (cc0_gelu_bwd_quant i arg1 harg1 arg2 harg2 arg3 harg3 arg4 harg4 arg5 harg5 arg6 harg6 arg7 harg7 arg8 harg8 arg9 harg9 arg10 harg10 arg11 harg11 arg12 harg12 arg13 harg13 arg14 harg14) K := by
  simp only [cc0_gelu_bwd_quant_eq_skeleton]; unfold cc0_gelu_bwd_quant_skel
  simp only [k0_part38_eq_skeleton]
  unfold owns
  iintro ⟨⟨%f1, %hf1, H1⟩, ⟨%f2, %hf2, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, Hk⟩
  obtain rfl := harg1.eq_unread hf1; obtain rfl := harg2.eq_unread hf2
  sl_exec (disch := first | sl_exact hc0 | sl_exact hc1 | sl_exact hc2)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _, _; isplitr; swap; · iexact H3
    ipureintro; rfl
  isplitl [H4]
  · iexists _, _; isplitr; swap; · iexact H4
    ipureintro; rfl
  isplitl [H5]
  · iexists _, _; isplitr; swap; · iexact H5
    ipureintro; rfl
  isplitl [H6]
  · iexists _, _; isplitr; swap; · iexact H6
    ipureintro; rfl
  isplitl [H7]
  · iexists _, _; isplitr; swap; · iexact H7
    ipureintro; rfl
  isplitl [H8]
  · iexists _, _; isplitr; swap; · iexact H8
    ipureintro; rfl
  isplitl [H9]
  · iexists _, _; isplitr; swap; · iexact H9
    ipureintro; rfl
  isplitl [H10]
  · iexists _, _; isplitr; swap; · iexact H10
    ipureintro; rfl
  isplitl [H11]
  · iexists _, _; isplitr; swap; · iexact H11
    ipureintro; rfl
  isplitl [H12]
  · iexists _, _; isplitr; swap; · iexact H12
    ipureintro; rfl
  isplitl [H13]
  · iexists _, _; isplitr; swap; · iexact H13
    ipureintro; rfl
  iexists _, _; isplitr; swap; · iexact H14
  ipureintro; rfl

set_option maxHeartbeats 4000000 in
/-- One grid point with the body's three conditions as named: the inputs' blocks come back as they were, every other buffer at some contents. -/
theorem kernelRun_D (c : Dev nD) (i : grid0.Coords) (arg1 : Memref sig .tc .vmem S256x4608 .bf16) (harg1 : arg1.IsWhole) (arg2 : Memref sig .tc .vmem S256x4608 .bf16) (harg2 : arg2.IsWhole) (arg3 : Memref sig .tc .vmem S1x4608 .f32) (harg3 : arg3.IsWhole) (arg4 : Memref sig .tc .vmem S256x4608 .fp8e5m2) (harg4 : arg4.IsWhole) (arg5 : Memref sig .tc .vmem S256x144 .f32) (harg5 : arg5.IsWhole) (arg6 : Memref sig .tc .vmem S4608x256 .fp8e5m2) (harg6 : arg6.IsWhole) (arg7 : Memref sig .tc .vmem S4608x128 .f32) (harg7 : arg7.IsWhole) (arg8 : Memref sig .tc .vmem S2x256x128 .f32) (harg8 : arg8.IsWhole) (arg9 : Memref sig .tc .vmem S2x256x128 .f32) (harg9 : arg9.IsWhole) (arg10 : Memref sig .tc .vmem S2x72x128 .f32) (harg10 : arg10.IsWhole) (arg11 : Memref sig .tc .vmem S2x72x128 .f32) (harg11 : arg11.IsWhole) (arg12 : Memref sig .tc .vmem S8x4608 .f32) (harg12 : arg12.IsWhole) (arg13 : Memref sig .tc .vmem S144x256 .f32) (harg13 : arg13.IsWhole) (arg14 : Memref sig .tc .vmem S128x4608 .f32) (harg14 : arg14.IsWhole)
    (hc0 : ¬cond0_0 i) (hc1 : cond0_1 i) (hc2 : cond0_2 i) (x0 : Vec F S256x4608 .bf16) (x1 : Vec F S256x4608 .bf16) (E : Set ℕ) (K : PUnit → sProp 𝕄) :
    iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
        ∗ (iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)) -∗ K ⟨⟩))
      ⊢ wp frame (wpE (defs₀ (F := F)) Variants.none c none) E (cc0_gelu_bwd_quant i arg1 harg1 arg2 harg2 arg3 harg3 arg4 harg4 arg5 harg5 arg6 harg6 arg7 harg7 arg8 harg8 arg9 harg9 arg10 harg10 arg11 harg11 arg12 harg12 arg13 harg13 arg14 harg14) K := by
  simp only [cc0_gelu_bwd_quant_eq_skeleton]; unfold cc0_gelu_bwd_quant_skel
  simp only [k0_part38_eq_skeleton]
  unfold owns
  iintro ⟨⟨%f1, %hf1, H1⟩, ⟨%f2, %hf2, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, Hk⟩
  obtain rfl := harg1.eq_unread hf1; obtain rfl := harg2.eq_unread hf2
  sl_exec (disch := first | sl_exact hc0 | sl_exact hc1 | sl_exact hc2)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _, _; isplitr; swap; · iexact H3
    ipureintro; rfl
  isplitl [H4]
  · iexists _, _; isplitr; swap; · iexact H4
    ipureintro; rfl
  isplitl [H5]
  · iexists _, _; isplitr; swap; · iexact H5
    ipureintro; rfl
  isplitl [H6]
  · iexists _, _; isplitr; swap; · iexact H6
    ipureintro; rfl
  isplitl [H7]
  · iexists _, _; isplitr; swap; · iexact H7
    ipureintro; rfl
  isplitl [H8]
  · iexists _, _; isplitr; swap; · iexact H8
    ipureintro; rfl
  isplitl [H9]
  · iexists _, _; isplitr; swap; · iexact H9
    ipureintro; rfl
  isplitl [H10]
  · iexists _, _; isplitr; swap; · iexact H10
    ipureintro; rfl
  isplitl [H11]
  · iexists _, _; isplitr; swap; · iexact H11
    ipureintro; rfl
  isplitl [H12]
  · iexists _, _; isplitr; swap; · iexact H12
    ipureintro; rfl
  isplitl [H13]
  · iexists _, _; isplitr; swap; · iexact H13
    ipureintro; rfl
  iexists _, _; isplitr; swap; · iexact H14
  ipureintro; rfl

end Cert.KernelIdeal.Gen

end
-- ==== Proof.KernelIdeal.Frame.lean ====
/- The kernel's frame: the pipeline run with what the outputs hold left open. -/
module

public import proofs.«01_k».proof.Proof.KernelIdeal.Run
public import proofs.«01_k».proof.Proof.Gen.KernelIdeal.Frame
public import Idealize.ShloMosaic.Lib.Pipeline.DatRel
public import Idealize.ShloMosaic.Lib.Pipeline.ArrRel

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- It holds at the first point only — by arithmetic of the point. -/
theorem hcond0_0 : ∀ t : Fin cfg0.N, cond0_0 (grid0.coords t) ↔ t.val % 132 = 0 :=
  (fun t => by
    have ht : t.val < 132 := Nat.lt_of_lt_of_eq t.isLt N_0
    have e0 : (grid0.coords t 0).val = t.val / 1 % 132 := Pipeline.Grid.coords_val t 0 (by decide) rfl
    simp only [cond0_0, e0]
    word_cmp
   : ∀ t : Fin grid0.N, cond0_0 (grid0.coords t) ↔ t.val % 132 = 0)

/-- It holds at points 15, 31, 47, 63, 79, 95, 111, 127 and 131 only — decided over the grid. -/
theorem hcond0_1 : ∀ t : Fin cfg0.N, cond0_1 (grid0.coords t) ↔ (t.val % 132 = 15 ∨ t.val % 132 = 31 ∨ t.val % 132 = 47 ∨ t.val % 132 = 63 ∨ t.val % 132 = 79 ∨ t.val % 132 = 95 ∨ t.val % 132 = 111 ∨ t.val % 132 = 127 ∨ t.val % 132 = 131) :=
  (by decide +kernel : ∀ t : Fin grid0.N, cond0_1 (grid0.coords t) ↔ (t.val % 132 = 15 ∨ t.val % 132 = 31 ∨ t.val % 132 = 47 ∨ t.val % 132 = 63 ∨ t.val % 132 = 79 ∨ t.val % 132 = 95 ∨ t.val % 132 = 111 ∨ t.val % 132 = 127 ∨ t.val % 132 = 131))

/-- It holds at the last point only — by arithmetic of the point. -/
theorem hcond0_2 : ∀ t : Fin cfg0.N, cond0_2 (grid0.coords t) ↔ t.val % 132 = 131 :=
  (fun t => by
    have ht : t.val < 132 := Nat.lt_of_lt_of_eq t.isLt N_0
    have e0 : (grid0.coords t 0).val = t.val / 1 % 132 := Pipeline.Grid.coords_val t 0 (by decide) rfl
    simp only [cond0_2, k0_cond3, e0]
    word_cmp
   : ∀ t : Fin grid0.N, cond0_2 (grid0.coords t) ↔ t.val % 132 = 131)

/-- The windows' staging buffers at a point, and the scratch buffers, as the body is handed them. -/
abbrev ms0_0 (t : Fin cfg0.N) : Memref sig .tc .vmem S256x4608 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x4608 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x4608 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x4608 .fp8e5m2 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256x144 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S4608x256 .fp8e5m2 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S4608x128 .f32 := win0_6.stage (cfg0.slots t 6)
abbrev hs0_6 (t : Fin cfg0.N) : (ms0_6 t).IsWhole := hstage0_6 ((cfg0.slots t 6).cast nbuf0_6)
abbrev scM0_0 : Memref sig .tc .vmem S2x256x128 .f32 := Memref.whole cc0_scratch0
abbrev scM0_1 : Memref sig .tc .vmem S2x256x128 .f32 := Memref.whole cc0_scratch1
abbrev scM0_2 : Memref sig .tc .vmem S2x72x128 .f32 := Memref.whole cc0_scratch2
abbrev scM0_3 : Memref sig .tc .vmem S2x72x128 .f32 := Memref.whole cc0_scratch3
abbrev scM0_4 : Memref sig .tc .vmem S8x4608 .f32 := Memref.whole cc0_scratch4
abbrev scM0_5 : Memref sig .tc .vmem S144x256 .f32 := Memref.whole cc0_scratch5
abbrev scM0_6 : Memref sig .tc .vmem S128x4608 .f32 := Memref.whole cc0_scratch6

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d)) ∗ (∃ r, prngReg c r)) := by
  unfold Pipeline.ΦA; rw [scopedRest0_eq]; simp only [scM0_0, scM0_1, scM0_2, scM0_3, scM0_4, scM0_5, scM0_6, owns_whole]; try rfl

/-- The output windows: nothing is said of what the body leaves in them. -/
def outs (w : Fin cfg0.W) : Bool := decide (2 ≤ w.val)

/-- The proof data: the arrays as the region finds them, each input's block left in place, the scratch at anything between points. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => Dat.unnamed 2 t
    | ⟨3, _⟩ => Dat.unnamed 3 t
    | ⟨4, _⟩ => Dat.unnamed 4 t
    | ⟨5, _⟩ => Dat.unnamed 5 t
    | ⟨6, _⟩ => Dat.unnamed 6 t
  Φ t := Pipeline.ΦA spec0 c
  q _ := fullShare
  owed _ := 0

/-- What is asked of the outputs: nothing. -/
abbrev Rl (w : Fin cfg0.W) (_ : Fin cfg0.N) (_ : (cfg0.win w).block.Idx → Elt F (cfg0.win w).elt) : Prop := True

/-- The arrays of the proof data. -/
theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ Y, ⌜((dats m 0 c).toRRel outs Rl).Finds 2 t Y⌝ ∗ owns (c : Thread nD τ) (ms0_2 t) fullShare Y)
    ∗ (∃ Y, ⌜((dats m 0 c).toRRel outs Rl).Finds 3 t Y⌝ ∗ owns (c : Thread nD τ) (ms0_3 t) fullShare Y)
    ∗ (∃ Y, ⌜((dats m 0 c).toRRel outs Rl).Finds 4 t Y⌝ ∗ owns (c : Thread nD τ) (ms0_4 t) fullShare Y)
    ∗ (∃ Y, ⌜((dats m 0 c).toRRel outs Rl).Finds 5 t Y⌝ ∗ owns (c : Thread nD τ) (ms0_5 t) fullShare Y)
    ∗ (∃ Y, ⌜((dats m 0 c).toRRel outs Rl).Finds 6 t Y⌝ ∗ owns (c : Thread nD τ) (ms0_6 t) fullShare Y))

/-- What it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ (∃ X, ⌜Rl (F := F) 2 t X⌝ ∗ owns (c : Thread nD τ) (ms0_2 t) fullShare X)
    ∗ (∃ X, ⌜Rl (F := F) 3 t X⌝ ∗ owns (c : Thread nD τ) (ms0_3 t) fullShare X)
    ∗ (∃ X, ⌜Rl (F := F) 4 t X⌝ ∗ owns (c : Thread nD τ) (ms0_4 t) fullShare X)
    ∗ (∃ X, ⌜Rl (F := F) 5 t X⌝ ∗ owns (c : Thread nD τ) (ms0_5 t) fullShare X)
    ∗ (∃ X, ⌜Rl (F := F) 6 t X⌝ ∗ owns (c : Thread nD τ) (ms0_6 t) fullShare X))

set_option maxHeartbeats 4000000 in
/-- The body at any point meets what the pipeline asks of it. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, after0_0, after0_1]
  rw [show (dats m 0 c).owesAt () t.succ = (dats m 0 c).owesAt () t.castSucc from rfl]
  rw [show (dats m 0 c).Φ t.castSucc = Pipeline.ΦA spec0 c from rfl, show (dats m 0 c).Φ t.succ = Pipeline.ΦA spec0 c from rfl, PhiA0_eq]
  have hN : t.val < 132 := lt_of_lt_of_eq t.isLt (show cfg0.N = 132 from N_0)
  by_cases h0 : t.val % 132 = 0
  · have h1 : ¬(t.val % 132 = 15 ∨ t.val % 132 = 31 ∨ t.val % 132 = 47 ∨ t.val % 132 = 63 ∨ t.val % 132 = 79 ∨ t.val % 132 = 95 ∨ t.val % 132 = 111 ∨ t.val % 132 = 127 ∨ t.val % 132 = 131) := by omega
    have h2 : ¬t.val % 132 = 131 := by omega
    iintro ⟨⟨⟨HS0, HS1, HS2, HS3, HS4, HS5, HS6⟩, Hg⟩, Ho, ⟨%d0, H0⟩, ⟨%d1, H1⟩, ⟨%Y2, -, H2⟩, ⟨%Y3, -, H3⟩, ⟨%Y4, -, H4⟩, ⟨%Y5, -, H5⟩, ⟨%Y6, -, H6⟩⟩
    iapply kernelRun_A c (grid0.coords t) _ _ _ _ _ _ _ _ _ _ _ _ _ _ _ _ _ _ _ _ _ _ _ _ _ _ _ _ ((hcond0_0 t).mpr h0) (fun h => h1 ((hcond0_1 t).mp h)) (fun h => h2 ((hcond0_2 t).mp h)) (iblk m c 0 t) (iblk m c 1 t) Set.univ _
    isplitl [H0]; · iexact H0
    isplitl [H1]; · iexact H1
    isplitl [H2]; · iexists _; iexact H2
    isplitl [H3]; · iexists _; iexact H3
    isplitl [H4]; · iexists _; iexact H4
    isplitl [H5]; · iexists _; iexact H5
    isplitl [H6]; · iexists _; iexact H6
    isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    iintro ⟨H0, H1, H2, H3, H4, H5, H6, HS0, HS1, HS2, HS3, HS4, HS5, HS6⟩
    isplitl [HS0 HS1 HS2 HS3 HS4 HS5 HS6 Hg]
    · isplitl [HS0 HS1 HS2 HS3 HS4 HS5 HS6]
      · isplitl [HS0]; · iexact HS0
        isplitl [HS1]; · iexact HS1
        isplitl [HS2]; · iexact HS2
        isplitl [HS3]; · iexact HS3
        isplitl [HS4]; · iexact HS4
        isplitl [HS5]; · iexact HS5
        iexact HS6
      iexact Hg
    isplitl [Ho]; · iexact Ho
    isplitl [H0]; · iexact H0
    isplitl [H1]; · iexact H1
    isplitl [H2]
    · icases H2 with ⟨%X, H2⟩; iexists X; isplitr; · ipureintro; trivial
      iexact H2
    isplitl [H3]
    · icases H3 with ⟨%X, H3⟩; iexists X; isplitr; · ipureintro; trivial
      iexact H3
    isplitl [H4]
    · icases H4 with ⟨%X, H4⟩; iexists X; isplitr; · ipureintro; trivial
      iexact H4
    isplitl [H5]
    · icases H5 with ⟨%X, H5⟩; iexists X; isplitr; · ipureintro; trivial
      iexact H5
    icases H6 with ⟨%X, H6⟩; iexists X; isplitr; · ipureintro; trivial
    iexact H6
  · by_cases h1 : (t.val % 132 = 15 ∨ t.val % 132 = 31 ∨ t.val % 132 = 47 ∨ t.val % 132 = 63 ∨ t.val % 132 = 79 ∨ t.val % 132 = 95 ∨ t.val % 132 = 111 ∨ t.val % 132 = 127 ∨ t.val % 132 = 131)
    · by_cases h2 : t.val % 132 = 131
      · iintro ⟨⟨⟨HS0, HS1, HS2, HS3, HS4, HS5, HS6⟩, Hg⟩, Ho, ⟨%d0, H0⟩, ⟨%d1, H1⟩, ⟨%Y2, -, H2⟩, ⟨%Y3, -, H3⟩, ⟨%Y4, -, H4⟩, ⟨%Y5, -, H5⟩, ⟨%Y6, -, H6⟩⟩
        iapply kernelRun_D c (grid0.coords t) _ _ _ _ _ _ _ _ _ _ _ _ _ _ _ _ _ _ _ _ _ _ _ _ _ _ _ _ (fun h => h0 ((hcond0_0 t).mp h)) ((hcond0_1 t).mpr h1) ((hcond0_2 t).mpr h2) (iblk m c 0 t) (iblk m c 1 t) Set.univ _
        isplitl [H0]; · iexact H0
        isplitl [H1]; · iexact H1
        isplitl [H2]; · iexists _; iexact H2
        isplitl [H3]; · iexists _; iexact H3
        isplitl [H4]; · iexists _; iexact H4
        isplitl [H5]; · iexists _; iexact H5
        isplitl [H6]; · iexists _; iexact H6
        isplitl [HS0]; · iexact HS0
        isplitl [HS1]; · iexact HS1
        isplitl [HS2]; · iexact HS2
        isplitl [HS3]; · iexact HS3
        isplitl [HS4]; · iexact HS4
        isplitl [HS5]; · iexact HS5
        isplitl [HS6]; · iexact HS6
        iintro ⟨H0, H1, H2, H3, H4, H5, H6, HS0, HS1, HS2, HS3, HS4, HS5, HS6⟩
        isplitl [HS0 HS1 HS2 HS3 HS4 HS5 HS6 Hg]
        · isplitl [HS0 HS1 HS2 HS3 HS4 HS5 HS6]
          · isplitl [HS0]; · iexact HS0
            isplitl [HS1]; · iexact HS1
            isplitl [HS2]; · iexact HS2
            isplitl [HS3]; · iexact HS3
            isplitl [HS4]; · iexact HS4
            isplitl [HS5]; · iexact HS5
            iexact HS6
          iexact Hg
        isplitl [Ho]; · iexact Ho
        isplitl [H0]; · iexact H0
        isplitl [H1]; · iexact H1
        isplitl [H2]
        · icases H2 with ⟨%X, H2⟩; iexists X; isplitr; · ipureintro; trivial
          iexact H2
        isplitl [H3]
        · icases H3 with ⟨%X, H3⟩; iexists X; isplitr; · ipureintro; trivial
          iexact H3
        isplitl [H4]
        · icases H4 with ⟨%X, H4⟩; iexists X; isplitr; · ipureintro; trivial
          iexact H4
        isplitl [H5]
        · icases H5 with ⟨%X, H5⟩; iexists X; isplitr; · ipureintro; trivial
          iexact H5
        icases H6 with ⟨%X, H6⟩; iexists X; isplitr; · ipureintro; trivial
        iexact H6
      · iintro ⟨⟨⟨HS0, HS1, HS2, HS3, HS4, HS5, HS6⟩, Hg⟩, Ho, ⟨%d0, H0⟩, ⟨%d1, H1⟩, ⟨%Y2, -, H2⟩, ⟨%Y3, -, H3⟩, ⟨%Y4, -, H4⟩, ⟨%Y5, -, H5⟩, ⟨%Y6, -, H6⟩⟩
        iapply kernelRun_C c (grid0.coords t) _ _ _ _ _ _ _ _ _ _ _ _ _ _ _ _ _ _ _ _ _ _ _ _ _ _ _ _ (fun h => h0 ((hcond0_0 t).mp h)) ((hcond0_1 t).mpr h1) (fun h => h2 ((hcond0_2 t).mp h)) (iblk m c 0 t) (iblk m c 1 t) Set.univ _
        isplitl [H0]; · iexact H0
        isplitl [H1]; · iexact H1
        isplitl [H2]; · iexists _; iexact H2
        isplitl [H3]; · iexists _; iexact H3
        isplitl [H4]; · iexists _; iexact H4
        isplitl [H5]; · iexists _; iexact H5
        isplitl [H6]; · iexists _; iexact H6
        isplitl [HS0]; · iexact HS0
        isplitl [HS1]; · iexact HS1
        isplitl [HS2]; · iexact HS2
        isplitl [HS3]; · iexact HS3
        isplitl [HS4]; · iexact HS4
        isplitl [HS5]; · iexact HS5
        isplitl [HS6]; · iexact HS6
        iintro ⟨H0, H1, H2, H3, H4, H5, H6, HS0, HS1, HS2, HS3, HS4, HS5, HS6⟩
        isplitl [HS0 HS1 HS2 HS3 HS4 HS5 HS6 Hg]
        · isplitl [HS0 HS1 HS2 HS3 HS4 HS5 HS6]
          · isplitl [HS0]; · iexact HS0
            isplitl [HS1]; · iexact HS1
            isplitl [HS2]; · iexact HS2
            isplitl [HS3]; · iexact HS3
            isplitl [HS4]; · iexact HS4
            isplitl [HS5]; · iexact HS5
            iexact HS6
          iexact Hg
        isplitl [Ho]; · iexact Ho
        isplitl [H0]; · iexact H0
        isplitl [H1]; · iexact H1
        isplitl [H2]
        · icases H2 with ⟨%X, H2⟩; iexists X; isplitr; · ipureintro; trivial
          iexact H2
        isplitl [H3]
        · icases H3 with ⟨%X, H3⟩; iexists X; isplitr; · ipureintro; trivial
          iexact H3
        isplitl [H4]
        · icases H4 with ⟨%X, H4⟩; iexists X; isplitr; · ipureintro; trivial
          iexact H4
        isplitl [H5]
        · icases H5 with ⟨%X, H5⟩; iexists X; isplitr; · ipureintro; trivial
          iexact H5
        icases H6 with ⟨%X, H6⟩; iexists X; isplitr; · ipureintro; trivial
        iexact H6
    · have h2 : ¬t.val % 132 = 131 := by omega
      iintro ⟨⟨⟨HS0, HS1, HS2, HS3, HS4, HS5, HS6⟩, Hg⟩, Ho, ⟨%d0, H0⟩, ⟨%d1, H1⟩, ⟨%Y2, -, H2⟩, ⟨%Y3, -, H3⟩, ⟨%Y4, -, H4⟩, ⟨%Y5, -, H5⟩, ⟨%Y6, -, H6⟩⟩
      iapply kernelRun_B c (grid0.coords t) _ _ _ _ _ _ _ _ _ _ _ _ _ _ _ _ _ _ _ _ _ _ _ _ _ _ _ _ (fun h => h0 ((hcond0_0 t).mp h)) (fun h => h1 ((hcond0_1 t).mp h)) (fun h => h2 ((hcond0_2 t).mp h)) (iblk m c 0 t) (iblk m c 1 t) Set.univ _
      isplitl [H0]; · iexact H0
      isplitl [H1]; · iexact H1
      isplitl [H2]; · iexists _; iexact H2
      isplitl [H3]; · iexists _; iexact H3
      isplitl [H4]; · iexists _; iexact H4
      isplitl [H5]; · iexists _; iexact H5
      isplitl [H6]; · iexists _; iexact H6
      isplitl [HS0]; · iexact HS0
      isplitl [HS1]; · iexact HS1
      isplitl [HS2]; · iexact HS2
      isplitl [HS3]; · iexact HS3
      isplitl [HS4]; · iexact HS4
      isplitl [HS5]; · iexact HS5
      isplitl [HS6]; · iexact HS6
      iintro ⟨H0, H1, H2, H3, H4, H5, H6, HS0, HS1, HS2, HS3, HS4, HS5, HS6⟩
      isplitl [HS0 HS1 HS2 HS3 HS4 HS5 HS6 Hg]
      · isplitl [HS0 HS1 HS2 HS3 HS4 HS5 HS6]
        · isplitl [HS0]; · iexact HS0
          isplitl [HS1]; · iexact HS1
          isplitl [HS2]; · iexact HS2
          isplitl [HS3]; · iexact HS3
          isplitl [HS4]; · iexact HS4
          isplitl [HS5]; · iexact HS5
          iexact HS6
        iexact Hg
      isplitl [Ho]; · iexact Ho
      isplitl [H0]; · iexact H0
      isplitl [H1]; · iexact H1
      isplitl [H2]
      · icases H2 with ⟨%X, H2⟩; iexists X; isplitr; · ipureintro; trivial
        iexact H2
      isplitl [H3]
      · icases H3 with ⟨%X, H3⟩; iexists X; isplitr; · ipureintro; trivial
        iexact H3
      isplitl [H4]
      · icases H4 with ⟨%X, H4⟩; iexists X; isplitr; · ipureintro; trivial
        iexact H4
      isplitl [H5]
      · icases H5 with ⟨%X, H5⟩; iexists X; isplitr; · ipureintro; trivial
        iexact H5
      icases H6 with ⟨%X, H6⟩; iexists X; isplitr; · ipureintro; trivial
      iexact H6

/-- The body table's row at point `t`. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : Pipeline.BodyObligationRel (dats (F := F) m 0 c) (defs₀ (F := F)) Variants.none () Set.univ outs Rl := fun t => by
  rw [bigSep_W0, bigSep_W0, defs₀_row]
  exact triple_restated (sound_body m c t) rfl .rfl fun _ => .rfl

set_option backward.isDefEq.respectTransparency.types false in
/-- The launch: the run ends with every array as the relation says and every semaphore counter at zero. -/
theorem run_main_quiescent : θ_run defs (onTc (τ := τ) (main (F := F))) (s₀ m ρ)
    (fun r => RDat.FramePost cfg0 (fun c => (dats m 0 c).toRRel outs Rl) (V m) r ∧ r.2.sem = fun _ => 0) :=
  RDat.θ_run_frame_track (Q' := _) cfgs (0 : Fin 1) launch0 defs₀ Variants.none (fun c => (dats m 0 c).toRRel outs Rl) m ρ main
    (hbody := fun c => (body_obligation m c).toRRel) (hshare := fun c => (dats m 0 c).share_full fun _ => rfl)
    (howed := fun _ _ => rfl) (V := V m) (hmain := hmain m Variants.none) (hA := A_eq m)
    (hin := fun _ => Idealize.SL.BI.Entails.refl _) (hout := fun _ => Idealize.SL.BI.Entails.refl _)

/-- The frame: every weakly fair execution ends, the arguments as they were, every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c => ⟨(h.1.arr_in c 0 rfl).trans (A_eq m c 0), (h.1.arr_in c 1 rfl).trans (A_eq m c 1)⟩, h.2⟩) (run_main_quiescent m ρ)

end Cert.KernelIdeal.Gen

end
-- ==== Proof.KernelIdeal.Sem.lean ====
/- What the kernel's stored vectors are, element by element, over the extended reals. -/
module

public import proofs.«01_k».proof.Proof.Gen.KernelIdeal.Skeleton
public import proofs.«01_k».proof.Proof.KernelIdeal.Trip
public import Idealize.ShloMosaic.Lib.Exec
public import Idealize.ShloMosaic.Lib.Writes
public import Idealize.ShloMosaic.Lib.Pointwise.Contract
public import Idealize.ShloMosaic.Lib.Pipeline.Value
public import Idealize.ShloMosaic.PureOps.Ideal

@[expose] public section

set_option maxRecDepth 8192
set_option maxHeartbeats 1000000

noncomputable section

namespace Cert.KernelIdeal.Gen

open Idealize.ShloMosaic Idealize.ShloMosaic.TcCoe

/-- A 32-bit pattern read as a float. -/
def cst (b : BitVec 32) : EReal := (FloatOps.ofBits (F := Ideal) FTy.f32 b : Ideal .f32)

/-- The kernel's product of one gradient element and the derivative at one element. -/
def kd (x g : EReal) : EReal :=
  g * (cst 0x3F000000#32 * ((cst 0x3F800000#32 + Ideal.tanh (x * (cst 0x3F4C422A#32 + cst 0x3D122279#32 * (x * x))))
    * (cst 0x3F800000#32 + (cst 0x3F800000#32 - Ideal.tanh (x * (cst 0x3F4C422A#32 + cst 0x3D122279#32 * (x * x))))
      * (x * (cst 0x3F4C422A#32 + cst 0x3DDB33B6#32 * (x * x))))))

/-- The absolute value as the lattice has it. -/
def eabs (a : EReal) : EReal := max a (-a)

/-- The maximum of four absolute values eight apart. -/
def gpm (f : ℕ → EReal) (b : ℕ) : EReal :=
  max (max (eabs (f b)) (eabs (f (b + 8)))) (max (eabs (f (b + 16))) (eabs (f (b + 24))))

/-- The maximum of the 32 absolute values from `b`. -/
def amaxN (f : ℕ → EReal) (b : ℕ) : EReal :=
  max (max (max (max (max (max (max (gpm f b) (gpm f (b + 1))) (gpm f (b + 2))) (gpm f (b + 3))) (gpm f (b + 4)))
    (gpm f (b + 5))) (gpm f (b + 6))) (gpm f (b + 7))

/-- One step of the search for the exponent field of `y`. -/
def kstep (y : EReal) (b m : BitVec 32) : BitVec 32 :=
  Scalar.select (FloatOps.cmpf (F := Ideal) (φ := .f32) .olt y (cst (b + m))) b (b + m)

/-- The exponent field of `y`. -/
def kbits (y : EReal) : BitVec 32 :=
  kstep y (kstep y (kstep y (kstep y (kstep y (kstep y (kstep y (kstep y 0#32 1073741824#32) 536870912#32) 268435456#32)
    134217728#32) 67108864#32) 33554432#32) 16777216#32) 8388608#32

/-- The scale's bit pattern from the exponent field. -/
def ksb (b : BitVec 32) : BitVec 32 := Scalar.select (IntOp.cmpi .eq b 0#32) 1065353216#32 (b + 8388608#32)

/-- The scale of a group whose largest absolute value is `a`. -/
def kscale (a : EReal) : EReal := cst (ksb (kbits (a * cst 0x37924925#32)))
/-- The scale's inverse of a group whose largest absolute value is `a`. -/
def kinv (a : EReal) : EReal := cst (2130706432#32 - ksb (kbits (a * cst 0x37924925#32)))

/-- A quantised value before the cast. -/
def kclip (v i : EReal) : EReal := min (cst 0x47600000#32) (max (cst 0xC7600000#32) (v * i))

/-- An element of a rank-2 array by two naturals, zero outside. -/
def ext2 {a b : ℕ} (x : (⟨2, ![a, b]⟩ : Shape).Idx → EReal) (r c : ℕ) : EReal :=
  if h : r < a ∧ c < b then x (fun ax => match ax with | ⟨0, _⟩ => ⟨r, h.1⟩ | ⟨1, _⟩ => ⟨c, h.2⟩) else 0

theorem ext2_idx {a b : ℕ} (x : (⟨2, ![a, b]⟩ : Shape).Idx → EReal) (j : (⟨2, ![a, b]⟩ : Shape).Idx) :
    ext2 x (j 0).val (j 1).val = x j := by
  unfold ext2
  rw [dif_pos ⟨(j 0).isLt, (j 1).isLt⟩]
  exact congrArg x (funext fun ax => match ax with | ⟨0, _⟩ => rfl | ⟨1, _⟩ => rfl)

theorem pay3_apply (x g : Vec Ideal S32x128 .bf16) (i : S32x128.Idx) : k0_pay3 x g i = kd (x i) (g i) := rfl

/-- A stored tile of the derivative. -/
theorem tile8_apply (v : FVec Ideal S32x128 .f32) (h) (y : S1x32x128.Idx) (i : S32x128.Idx)
    (hi0 : (i 0).val = (y 1).val) (hi1 : (i 1).val = (y 2).val) :
    shapeCast S1x32x128 v h y = v i := by
  refine (shapeCast_addUnit_apply (n := 2) ![32, 128] v h y).trans (congrArg v (Shape.idx_ext₂ ?_ ?_))
  · exact hi0.symm
  · exact hi1.symm

/-- The partial group maximum of a 32-row tile. -/
def gmaxV (v : FVec Ideal S32x128 .f32) : FVec Ideal S1x8x128 .f32 :=
  k0_pay8 v (extractStridedSlice S8x128 ![0, 0] v slices_S32x128_o0_0_S8x128)
   (extractStridedSlice S8x128 ![8, 0] v slices_S32x128_o8_0_S8x128)

end Cert.KernelIdeal.Gen
end
-- ==== Proof.KernelIdeal.Sc.lean ====
/- The scales' bit patterns, element by element. -/
module

public import proofs.«01_k».proof.Proof.KernelIdeal.Sem

@[expose] public section

set_option maxRecDepth 8192
set_option maxHeartbeats 60000

noncomputable section

namespace Cert.KernelIdeal.Gen

open Idealize.ShloMosaic Idealize.ShloMosaic.TcCoe

/-- One step of the search for the exponent field, on a vector. -/
def vstep (Y : FVec Ideal S8x128 .f32) (b m : IVec S8x128 32) : IVec S8x128 32 :=
  select (cmpf .olt Y (bitcastToFloat .f32 (addi b m))) b (addi b m)

theorem vstep_apply (Y : FVec Ideal S8x128 .f32) (b m : IVec S8x128 32) (i : S8x128.Idx) : vstep Y b m i = kstep (Y i) (b i) (m i) := rfl

/-- The scale's bit pattern, on a vector. -/
def vsb (b : IVec S8x128 32) : IVec S8x128 32 :=
  select (cmpi .eq b (broadcast S8x128 0#32)) (broadcast S8x128 1065353216#32) (addi b (broadcast S8x128 8388608#32))

theorem vsb_apply (b : IVec S8x128 32) (i : S8x128.Idx) : vsb b i = ksb (b i) := rfl

/-- The search for the exponent field, on a vector. -/
def vbits (Y : FVec Ideal S8x128 .f32) : IVec S8x128 32 :=
  vstep Y (vstep Y (vstep Y (vstep Y (vstep Y (vstep Y (vstep Y (vstep Y (broadcast S8x128 0#32) (broadcast S8x128 1073741824#32)) (broadcast S8x128 536870912#32)) (broadcast S8x128 268435456#32))
    (broadcast S8x128 134217728#32)) (broadcast S8x128 67108864#32)) (broadcast S8x128 33554432#32)) (broadcast S8x128 16777216#32)) (broadcast S8x128 8388608#32)

theorem vst (Y : FVec Ideal S8x128 .f32) (b : IVec S8x128 32) (m b' : BitVec 32) (i : S8x128.Idx) (h : b i = b') :
    vstep Y b (broadcast S8x128 m) i = kstep (Y i) b' m := by
  subst h; rfl

theorem vbits_apply (Y : FVec Ideal S8x128 .f32) (i : S8x128.Idx) : vbits Y i = kbits (Y i) :=
  vst _ _ _ _ i (vst _ _ _ _ i (vst _ _ _ _ i (vst _ _ _ _ i (vst _ _ _ _ i (vst _ _ _ _ i (vst _ _ _ _ i (vst _ _ _ _ i rfl)))))))

/-- The scale, from its vector of bit patterns. -/
theorem vscale_apply (A : FVec Ideal S8x128 .f32) (h) (i : S8x128.Idx) :
    shapeCast S8x128 (bitcastToFloat (F := Ideal) .f32 (vsb (vbits (mulf A (broadcast S8x128 (FloatOps.ofBits (F := Ideal) FTy.f32 0x37924925#32)))))) h i = kscale (A i) := by
  refine (congrFun (shapeCast_self _ h) i).trans ?_
  exact congrArg (fun b => cst (ksb b)) (vbits_apply _ i)

theorem vinv_apply (A : FVec Ideal S8x128 .f32) (i : S8x128.Idx) :
    bitcastToFloat (F := Ideal) .f32 (subi (broadcast S8x128 2130706432#32) (vsb (vbits (mulf A (broadcast S8x128 (FloatOps.ofBits (F := Ideal) FTy.f32 0x37924925#32)))))) i = kinv (A i) :=
  congrArg (fun b => cst (2130706432#32 - ksb b)) (vbits_apply _ i)

end Cert.KernelIdeal.Gen
end
-- ==== Proof.KernelIdeal.TripA.lean ====
/- The tiles one trip stores of the derivative and of its partial maxima, element by element. -/
module

public import proofs.«01_k».proof.Proof.KernelIdeal.Sem

@[expose] public section

set_option maxRecDepth 8192
set_option maxHeartbeats 2000000

noncomputable section

namespace Cert.KernelIdeal.Gen

open Idealize.ShloMosaic Idealize.ShloMosaic.TcCoe

variable (arg1 arg2 : Memref sig .tc .vmem S256x4608 .bf16)
  (X_arg1 : BufTy.Contents (Elt Ideal) arg1.view.ty) (X_arg2 : BufTy.Contents (Elt Ideal) arg2.view.ty) (k : Fin k0_t1_loop.trips)

/-- The value at one element of a block. -/
def VV (r c : ℕ) : EReal :=
  kd (ext2 (a := 256) (b := 4608) (arg1.view.read (Elt Ideal) X_arg1) r c) (ext2 (a := 256) (b := 4608) (arg2.view.read (Elt Ideal) X_arg2) r c)

/-- What a trip leaves in the first tile scratch. -/
def S8 (j : S2x256x128.Idx) : EReal := VV arg1 arg2 X_arg1 X_arg2 (j 1).val (256 * k.val + 128 * (j 0).val + (j 2).val)
/-- What a trip leaves in the second tile scratch, the transposed tiles. -/
def S9 (j : S2x256x128.Idx) : EReal := VV arg1 arg2 X_arg1 X_arg2 (128 * (j 0).val + (j 2).val) (256 * k.val + (j 1).val)
/-- What a trip leaves in the column maxima's scratch. -/
def S10 (j : S2x72x128.Idx) : EReal :=
  gpm (fun r => VV arg1 arg2 X_arg1 X_arg2 r (256 * k.val + 128 * (j 0).val + (j 2).val)) (32 * ((j 1).val / 9) + (j 1).val % 9)
/-- What a trip leaves in the row maxima's scratch. -/
def S11 (j : S2x72x128.Idx) : EReal :=
  gpm (fun c => VV arg1 arg2 X_arg1 X_arg2 (128 * (j 0).val + (j 2).val) c) (256 * k.val + (32 * ((j 1).val / 9) + (j 1).val % 9))

/-- The derivative on one tile of the two input windows. -/
abbrev DG (off : Fin 2 → ℕ) (inb : ∀ a, off a + S32x128.size a ≤ S256x4608.size a) : FVec Ideal S32x128 .f32 :=
  k0_pay3 (F := Ideal) (View.readAt (Elt Ideal) arg1.view (Rect.unit (s := S256x4608) off S32x128.size inb).toLoadRect X_arg1)
      (View.readAt (Elt Ideal) arg2.view (Rect.unit (s := S256x4608) off S32x128.size inb).toLoadRect X_arg2)

/-- The value read through the two input windows at a tile. -/
theorem pc3 (off : Fin 2 → ℕ) (inb) (r0 c0 : ℕ) (hoff : off = ![r0, c0]) (i : S32x128.Idx) :
    DG arg1 arg2 X_arg1 X_arg2 off inb i = VV arg1 arg2 X_arg1 X_arg2 (r0 + (i 0).val) (c0 + (i 1).val) := by
  subst hoff
  refine (pay3_apply _ _ i).trans ?_
  have h0 : r0 + (i 0).val < 256 := by
    have h := inb 0; have h' := (i 0).isLt; simp at h h'; omega
  have h1 : c0 + (i 1).val < 4608 := by
    have h := inb 1; have h' := (i 1).isLt; simp at h h'; omega
  unfold VV ext2
  rw [dif_pos ⟨h0, h1⟩, dif_pos ⟨h0, h1⟩]
  refine congrArg₂ kd ?_ ?_ <;>
  · rw [View.readAt_apply]
    refine congrArg _ (funext fun ax => Fin.ext ?_)
    match ax with
    | ⟨0, _⟩ => show r0 + 1 * (i 0).val = r0 + (i 0).val; omega
    | ⟨1, _⟩ => show c0 + 1 * (i 1).val = c0 + (i 1).val; omega

/-- A tile's payload against the scratch's index. -/
theorem pc8 (off : Fin 2 → ℕ) (inb) (l r0 : ℕ) (hoff : off = ![r0, 256 * k.val + 128 * l]) (h)
    (inb8) (y : (Rect.unit (s := S2x256x128) ![l, r0, 0] S1x32x128.size inb8).shape.Idx) :
    shapeCast S1x32x128 (DG arg1 arg2 X_arg1 X_arg2 off inb) h y
      = S8 arg1 arg2 X_arg1 X_arg2 k ((Rect.unit (s := S2x256x128) ![l, r0, 0] S1x32x128.size inb8).emb y) := by
  refine (shapeCast_addUnit_apply (n := 2) ![32, 128] _ h y).trans ((pc3 arg1 arg2 X_arg1 X_arg2 off inb r0 _ hoff _).trans ?_)
  have hy : (y 0).val = 0 := by have := (y 0).isLt; simp at this; omega
  unfold S8
  refine congrArg₂ (VV arg1 arg2 X_arg1 X_arg2) ?_ ?_
  · show r0 + (y 1).val = r0 + 1 * (y 1).val; omega
  · show 256 * k.val + 128 * l + (y 2).val = 256 * k.val + 128 * (l + 1 * (y 0).val) + (0 + 1 * (y 2).val); omega

/-- The four-way maximum of a tile, element by element. -/
theorem gmax_apply (v : FVec Ideal S32x128 .f32) (s0 s8 s16 s24 h) (y : S1x8x128.Idx) (f : ℕ → EReal) (b : ℕ)
    (hf : ∀ i : S32x128.Idx, (i 1).val = (y 2).val → v i = f (b + (i 0).val)) :
    shapeCast S1x8x128 (maximumf (maximumf (extractStridedSlice S8x128 ![0, 0] (absf v) s0) (extractStridedSlice S8x128 ![8, 0] (absf v) s8))
      (maximumf (extractStridedSlice S8x128 ![16, 0] (absf v) s16) (extractStridedSlice S8x128 ![24, 0] (absf v) s24))) h y
      = gpm f (b + (y 1).val) := by
  refine (shapeCast_addUnit_apply (n := 2) ![8, 128] _ h y).trans ?_
  have hy1 : (y 1).val < 8 := (y 1).isLt
  have hy2 : (y 2).val < 128 := (y 2).isLt
  have hs : ∀ (o : ℕ) (ho : o ≤ 24) (s : S32x128.Slices ![o, 0] S8x128),
      extractStridedSlice S8x128 ![o, 0] (absf v) s (fun a => y a.succ) = eabs (f (b + (y 1).val + o)) := by
    intro o ho s
    refine (extractStridedSlice_apply ![o, 0] (absf v) s (fun a => y a.succ)
      (fun a => match a with | ⟨0, _⟩ => ⟨o + (y 1).val, by show _ < 32; omega⟩ | ⟨1, _⟩ => ⟨(y 2).val, hy2⟩) ?_).trans ?_
    · intro a; match a with
      | ⟨0, _⟩ => rfl
      | ⟨1, _⟩ => show (y 2).val = 0 + (y 2).val; omega
    · refine (congrArg eabs (hf _ rfl)).trans ?_
      show eabs (f (b + (o + (y 1).val))) = _
      congr 2; omega
  unfold gpm
  exact congrArg₂ max (congrArg₂ max (hs 0 (by omega) s0) (hs 8 (by omega) s8)) (congrArg₂ max (hs 16 (by omega) s16) (hs 24 (by omega) s24))

/-- The four-way maximum of a tile, as the kernel prints it. -/
abbrev GM (v : FVec Ideal S32x128 .f32) : FVec Ideal S1x8x128 .f32 :=
  shapeCast S1x8x128 (maximumf (maximumf (extractStridedSlice S8x128 ![0, 0] (absf v) slices_S32x128_o0_0_S8x128) (extractStridedSlice S8x128 ![8, 0] (absf v) slices_S32x128_o8_0_S8x128))
      (maximumf (extractStridedSlice S8x128 ![16, 0] (absf v) slices_S32x128_o16_0_S8x128) (extractStridedSlice S8x128 ![24, 0] (absf v) slices_S32x128_o24_0_S8x128))) shapeCasts_S8x128_S1x8x128

/-- A column maximum's payload against the scratch's index. -/
theorem pc10 (off : Fin 2 → ℕ) (inb) (l gi p : ℕ) (hoff : off = ![32 * gi, 256 * k.val + 128 * l]) (hp : p = 9 * gi)
    (inb8) (y : (Rect.unit (s := S2x72x128) ![l, p, 0] S1x8x128.size inb8).shape.Idx) :
    GM (DG arg1 arg2 X_arg1 X_arg2 off inb) y
      = S10 arg1 arg2 X_arg1 X_arg2 k ((Rect.unit (s := S2x72x128) ![l, p, 0] S1x8x128.size inb8).emb y) := by
  subst hp
  have hy : (y 0).val = 0 := by have := (y 0).isLt; simp at this; omega
  have hy1 : (y 1).val < 8 := (y 1).isLt
  refine (gmax_apply _ _ _ _ _ _ y (fun r => VV arg1 arg2 X_arg1 X_arg2 r (256 * k.val + 128 * l + (y 2).val)) (32 * gi) ?_).trans ?_
  · intro i hi
    refine (pc3 arg1 arg2 X_arg1 X_arg2 off inb _ _ hoff _).trans ?_
    rw [hi]
  · unfold S10
    have e0 : (((Rect.unit (s := S2x72x128) ![l, 9 * gi, 0] S1x8x128.size inb8).emb y) 0).val = l := by
      show l + 1 * (y 0).val = l; omega
    have e1 : (((Rect.unit (s := S2x72x128) ![l, 9 * gi, 0] S1x8x128.size inb8).emb y) 1).val = 9 * gi + (y 1).val := by
      show 9 * gi + 1 * (y 1).val = _; omega
    have e2 : (((Rect.unit (s := S2x72x128) ![l, 9 * gi, 0] S1x8x128.size inb8).emb y) 2).val = (y 2).val := by
      show 0 + 1 * (y 2).val = _; omega
    rw [e0, e1, e2]
    congr 1
    omega

/-- A load that a list of stores covers, when every store is of `G`. -/
theorem readCov_spec {κ sp} {s : Shape} {e} (v : View sig κ sp s e) (L : List (View.Piece (Elt Ideal) s e)) (G : s.Idx → Elt Ideal e)
    (hG : ∀ p ∈ L, ∀ y, p.2 y = G (p.1.emb y)) (B : LoadRect s) (x : B.shape.Idx) (hc : ∃ p ∈ L, B.idx x ∈ p.1.set) :
    View.readCov (Val := Elt Ideal) v L B x = G (B.idx x) :=
  View.read_writes_apply_of_pieces v _ G L hG _ hc

theorem mem8 (l r0 : ℕ) (inb) (j : S2x256x128.Idx) : j ∈ (Rect.unit (s := S2x256x128) ![l, r0, 0] ![1, 32, 128] inb).set
    ↔ (j 0).val = l ∧ r0 ≤ (j 1).val ∧ (j 1).val < r0 + 32 := by
  rw [Rect.mem_set_unit]
  constructor
  · intro h
    have h0 := h 0; have h1 := h 1
    simp at h0 h1; omega
  · intro h a
    have h2 := (j 2).isLt
    match a with
    | ⟨0, _⟩ => show l ≤ (j 0).val ∧ (j 0).val < l + 1; omega
    | ⟨1, _⟩ => show r0 ≤ (j 1).val ∧ (j 1).val < r0 + 32; omega
    | ⟨2, _⟩ => exact ⟨Nat.zero_le _, by show (j 2).val < 0 + 128; have : (j 2).val < 128 := h2; omega⟩

theorem mem10 (l r0 : ℕ) (inb) (j : S2x72x128.Idx) : j ∈ (Rect.unit (s := S2x72x128) ![l, r0, 0] ![1, 8, 128] inb).set
    ↔ (j 0).val = l ∧ r0 ≤ (j 1).val ∧ (j 1).val < r0 + 8 := by
  rw [Rect.mem_set_unit]
  constructor
  · intro h
    have h0 := h 0; have h1 := h 1
    simp at h0 h1; omega
  · intro h a
    have h2 := (j 2).isLt
    match a with
    | ⟨0, _⟩ => show l ≤ (j 0).val ∧ (j 0).val < l + 1; omega
    | ⟨1, _⟩ => show r0 ≤ (j 1).val ∧ (j 1).val < r0 + 8; omega
    | ⟨2, _⟩ => exact ⟨Nat.zero_le _, by show (j 2).val < 0 + 128; have : (j 2).val < 128 := h2; omega⟩

theorem HW_arg8_4_spec : ∀ p ∈ trip_k0_t1.sl.HW_arg8_4 arg1 arg2 X_arg1 X_arg2 k, ∀ y, p.2 y = S8 arg1 arg2 X_arg1 X_arg2 k (p.1.emb y) := by
  unfold trip_k0_t1.sl.HW_arg8_4
  simp only [List.forall_mem_cons]
  refine ⟨?_, ?_, ?_, ?_, fun p hp => absurd hp List.not_mem_nil⟩
  · intro y; exact pc8 arg1 arg2 X_arg1 X_arg2 k (k0_off5 k 0#32) (k0_off5_inb k 0) 0 96 (k0_off5_eq k 0) _ _ y
  · intro y; exact pc8 arg1 arg2 X_arg1 X_arg2 k (k0_off4 k 0#32) (k0_off4_inb k 0) 0 64 (k0_off4_eq k 0) _ _ y
  · intro y; exact pc8 arg1 arg2 X_arg1 X_arg2 k (k0_off3 k 0#32) (k0_off3_inb k 0) 0 32 (k0_off3_eq k 0) _ _ y
  · intro y; exact pc8 arg1 arg2 X_arg1 X_arg2 k (k0_off2 k 0#32) (k0_off2_inb k 0) 0 0 (k0_off2_eq k 0) _ _ y

theorem HW_arg8_8_spec : ∀ p ∈ trip_k0_t1.sl.HW_arg8_8 arg1 arg2 X_arg1 X_arg2 k, ∀ y, p.2 y = S8 arg1 arg2 X_arg1 X_arg2 k (p.1.emb y) := by
  unfold trip_k0_t1.sl.HW_arg8_8
  simp only [List.forall_mem_cons]
  refine ⟨?_, ?_, ?_, ?_, HW_arg8_4_spec arg1 arg2 X_arg1 X_arg2 k⟩
  · intro y; exact pc8 arg1 arg2 X_arg1 X_arg2 k (k0_off9 k 0#32) (k0_off9_inb k 0) 0 224 (k0_off9_eq k 0) _ _ y
  · intro y; exact pc8 arg1 arg2 X_arg1 X_arg2 k (k0_off8 k 0#32) (k0_off8_inb k 0) 0 192 (k0_off8_eq k 0) _ _ y
  · intro y; exact pc8 arg1 arg2 X_arg1 X_arg2 k (k0_off7 k 0#32) (k0_off7_inb k 0) 0 160 (k0_off7_eq k 0) _ _ y
  · intro y; exact pc8 arg1 arg2 X_arg1 X_arg2 k (k0_off6 k 0#32) (k0_off6_inb k 0) 0 128 (k0_off6_eq k 0) _ _ y

theorem HW_arg8_12_spec : ∀ p ∈ trip_k0_t1.sl.HW_arg8_12 arg1 arg2 X_arg1 X_arg2 k, ∀ y, p.2 y = S8 arg1 arg2 X_arg1 X_arg2 k (p.1.emb y) := by
  unfold trip_k0_t1.sl.HW_arg8_12
  simp only [List.forall_mem_cons]
  refine ⟨?_, ?_, ?_, ?_, HW_arg8_8_spec arg1 arg2 X_arg1 X_arg2 k⟩
  · intro y; exact pc8 arg1 arg2 X_arg1 X_arg2 k (k0_off5 k 128#32) (k0_off5_inb k 1) 1 96 (k0_off5_eq k 1) _ _ y
  · intro y; exact pc8 arg1 arg2 X_arg1 X_arg2 k (k0_off4 k 128#32) (k0_off4_inb k 1) 1 64 (k0_off4_eq k 1) _ _ y
  · intro y; exact pc8 arg1 arg2 X_arg1 X_arg2 k (k0_off3 k 128#32) (k0_off3_inb k 1) 1 32 (k0_off3_eq k 1) _ _ y
  · intro y; exact pc8 arg1 arg2 X_arg1 X_arg2 k (k0_off2 k 128#32) (k0_off2_inb k 1) 1 0 (k0_off2_eq k 1) _ _ y

theorem HW_arg8_16_spec : ∀ p ∈ trip_k0_t1.sl.HW_arg8_16 arg1 arg2 X_arg1 X_arg2 k, ∀ y, p.2 y = S8 arg1 arg2 X_arg1 X_arg2 k (p.1.emb y) := by
  unfold trip_k0_t1.sl.HW_arg8_16
  simp only [List.forall_mem_cons]
  refine ⟨?_, ?_, ?_, ?_, HW_arg8_12_spec arg1 arg2 X_arg1 X_arg2 k⟩
  · intro y; exact pc8 arg1 arg2 X_arg1 X_arg2 k (k0_off9 k 128#32) (k0_off9_inb k 1) 1 224 (k0_off9_eq k 1) _ _ y
  · intro y; exact pc8 arg1 arg2 X_arg1 X_arg2 k (k0_off8 k 128#32) (k0_off8_inb k 1) 1 192 (k0_off8_eq k 1) _ _ y
  · intro y; exact pc8 arg1 arg2 X_arg1 X_arg2 k (k0_off7 k 128#32) (k0_off7_inb k 1) 1 160 (k0_off7_eq k 1) _ _ y
  · intro y; exact pc8 arg1 arg2 X_arg1 X_arg2 k (k0_off6 k 128#32) (k0_off6_inb k 1) 1 128 (k0_off6_eq k 1) _ _ y

theorem HW_arg10_16_spec : ∀ p ∈ trip_k0_t1.sl.HW_arg10_16 arg1 arg2 X_arg1 X_arg2 k, ∀ y, p.2 y = S10 arg1 arg2 X_arg1 X_arg2 k (p.1.emb y) := by
  unfold trip_k0_t1.sl.HW_arg10_16
  simp only [List.forall_mem_cons]
  refine ⟨?_, ?_, ?_, ?_, ?_, ?_, ?_, ?_, ?_, ?_, ?_, ?_, ?_, ?_, ?_, ?_, fun p hp => absurd hp List.not_mem_nil⟩
  · intro y; exact pc10 arg1 arg2 X_arg1 X_arg2 k (k0_off9 k 128#32) (k0_off9_inb k 1) 1 7 63 (k0_off9_eq k 1) rfl _ y
  · intro y; exact pc10 arg1 arg2 X_arg1 X_arg2 k (k0_off8 k 128#32) (k0_off8_inb k 1) 1 6 54 (k0_off8_eq k 1) rfl _ y
  · intro y; exact pc10 arg1 arg2 X_arg1 X_arg2 k (k0_off7 k 128#32) (k0_off7_inb k 1) 1 5 45 (k0_off7_eq k 1) rfl _ y
  · intro y; exact pc10 arg1 arg2 X_arg1 X_arg2 k (k0_off6 k 128#32) (k0_off6_inb k 1) 1 4 36 (k0_off6_eq k 1) rfl _ y
  · intro y; exact pc10 arg1 arg2 X_arg1 X_arg2 k (k0_off5 k 128#32) (k0_off5_inb k 1) 1 3 27 (k0_off5_eq k 1) rfl _ y
  · intro y; exact pc10 arg1 arg2 X_arg1 X_arg2 k (k0_off4 k 128#32) (k0_off4_inb k 1) 1 2 18 (k0_off4_eq k 1) rfl _ y
  · intro y; exact pc10 arg1 arg2 X_arg1 X_arg2 k (k0_off3 k 128#32) (k0_off3_inb k 1) 1 1 9 (k0_off3_eq k 1) rfl _ y
  · intro y; exact pc10 arg1 arg2 X_arg1 X_arg2 k (k0_off2 k 128#32) (k0_off2_inb k 1) 1 0 0 (k0_off2_eq k 1) rfl _ y
  · intro y; exact pc10 arg1 arg2 X_arg1 X_arg2 k (k0_off9 k 0#32) (k0_off9_inb k 0) 0 7 63 (k0_off9_eq k 0) rfl _ y
  · intro y; exact pc10 arg1 arg2 X_arg1 X_arg2 k (k0_off8 k 0#32) (k0_off8_inb k 0) 0 6 54 (k0_off8_eq k 0) rfl _ y
  · intro y; exact pc10 arg1 arg2 X_arg1 X_arg2 k (k0_off7 k 0#32) (k0_off7_inb k 0) 0 5 45 (k0_off7_eq k 0) rfl _ y
  · intro y; exact pc10 arg1 arg2 X_arg1 X_arg2 k (k0_off6 k 0#32) (k0_off6_inb k 0) 0 4 36 (k0_off6_eq k 0) rfl _ y
  · intro y; exact pc10 arg1 arg2 X_arg1 X_arg2 k (k0_off5 k 0#32) (k0_off5_inb k 0) 0 3 27 (k0_off5_eq k 0) rfl _ y
  · intro y; exact pc10 arg1 arg2 X_arg1 X_arg2 k (k0_off4 k 0#32) (k0_off4_inb k 0) 0 2 18 (k0_off4_eq k 0) rfl _ y
  · intro y; exact pc10 arg1 arg2 X_arg1 X_arg2 k (k0_off3 k 0#32) (k0_off3_inb k 0) 0 1 9 (k0_off3_eq k 0) rfl _ y
  · intro y; exact pc10 arg1 arg2 X_arg1 X_arg2 k (k0_off2 k 0#32) (k0_off2_inb k 0) 0 0 0 (k0_off2_eq k 0) rfl _ y

theorem cov8_4 (j : S2x256x128.Idx) (h : (j 0).val = 0 ∧ (j 1).val < 128) : ∃ p ∈ trip_k0_t1.sl.HW_arg8_4 arg1 arg2 X_arg1 X_arg2 k, j ∈ p.1.set := by
  unfold trip_k0_t1.sl.HW_arg8_4
  simp only [List.exists_mem_cons_iff, mem8]
  have h0 : (j 0).val < 2 := (j 0).isLt
  have h1 : (j 1).val < 256 := (j 1).isLt
  omega

theorem cov8_8 (j : S2x256x128.Idx) (h : (j 0).val = 0) : ∃ p ∈ trip_k0_t1.sl.HW_arg8_8 arg1 arg2 X_arg1 X_arg2 k, j ∈ p.1.set := by
  unfold trip_k0_t1.sl.HW_arg8_8 trip_k0_t1.sl.HW_arg8_4
  simp only [List.exists_mem_cons_iff, mem8]
  have h0 : (j 0).val < 2 := (j 0).isLt
  have h1 : (j 1).val < 256 := (j 1).isLt
  omega

theorem cov8_12 (j : S2x256x128.Idx) (h : (j 0).val = 0 ∨ (j 1).val < 128) : ∃ p ∈ trip_k0_t1.sl.HW_arg8_12 arg1 arg2 X_arg1 X_arg2 k, j ∈ p.1.set := by
  unfold trip_k0_t1.sl.HW_arg8_12 trip_k0_t1.sl.HW_arg8_8 trip_k0_t1.sl.HW_arg8_4
  simp only [List.exists_mem_cons_iff, mem8]
  have h0 : (j 0).val < 2 := (j 0).isLt
  have h1 : (j 1).val < 256 := (j 1).isLt
  omega

theorem cov8_16 (j : S2x256x128.Idx)  : ∃ p ∈ trip_k0_t1.sl.HW_arg8_16 arg1 arg2 X_arg1 X_arg2 k, j ∈ p.1.set := by
  unfold trip_k0_t1.sl.HW_arg8_16 trip_k0_t1.sl.HW_arg8_12 trip_k0_t1.sl.HW_arg8_8 trip_k0_t1.sl.HW_arg8_4
  simp only [List.exists_mem_cons_iff, mem8]
  have h0 : (j 0).val < 2 := (j 0).isLt
  have h1 : (j 1).val < 256 := (j 1).isLt
  omega

theorem cov10 (j : S2x72x128.Idx) (h : (j 1).val % 9 < 8) : ∃ p ∈ trip_k0_t1.sl.HW_arg10_16 arg1 arg2 X_arg1 X_arg2 k, j ∈ p.1.set := by
  unfold trip_k0_t1.sl.HW_arg10_16
  simp only [List.exists_mem_cons_iff, mem10]
  have h0 : (j 0).val < 2 := (j 0).isLt
  have h1 : (j 1).val < 72 := (j 1).isLt
  omega

end Cert.KernelIdeal.Gen
end
-- ==== Proof.KernelIdeal.TripB.lean ====
/- The transposed tiles one trip stores, their partial maxima, and the scales and inverses it computes, element by element. -/
module

public import proofs.«01_k».proof.Proof.KernelIdeal.TripA

@[expose] public section

set_option maxRecDepth 8192
set_option maxHeartbeats 2000000

noncomputable section

namespace Cert.KernelIdeal.Gen

open Idealize.ShloMosaic Idealize.ShloMosaic.TcCoe

variable (arg1 arg2 : Memref sig .tc .vmem S256x4608 .bf16)
  (X_arg1 : BufTy.Contents (Elt Ideal) arg1.view.ty) (X_arg2 : BufTy.Contents (Elt Ideal) arg2.view.ty) (k : Fin k0_t1_loop.trips)

variable (arg8 arg9 : Memref sig .tc .vmem S2x256x128 .f32) (arg10 arg11 : Memref sig .tc .vmem S2x72x128 .f32)

/-- A load of one square tile back from the first tile scratch. -/
theorem tload (L : List (View.Piece (Elt Ideal) S2x256x128 .f32)) (hG : ∀ p ∈ L, ∀ y, p.2 y = S8 arg1 arg2 X_arg1 X_arg2 k (p.1.emb y))
    (l t o : ℕ) (ho : o = 128 * t) (inb) (hc : ∀ j : S2x256x128.Idx, (j 0).val = l → 128 * t ≤ (j 1).val → (j 1).val < 128 * t + 128 → ∃ p ∈ L, j ∈ p.1.set)
    (y : S1x128x128.Idx) :
    View.readCov (Val := Elt Ideal) arg8.view L (Rect.unit (s := S2x256x128) ![l, o, 0] S1x128x128.size inb).toLoadRect y
      = VV arg1 arg2 X_arg1 X_arg2 (128 * t + (y 1).val) (256 * k.val + 128 * l + (y 2).val) := by
  subst ho
  have h0 : (y 0).val < 1 := (y 0).isLt
  have h1 : (y 1).val < 128 := (y 1).isLt
  have e0 : ((((Rect.unit (s := S2x256x128) ![l, 128 * t, 0] S1x128x128.size inb).toLoadRect.idx y) 0).val) = l := by
    show l + 1 * (y 0).val = l; omega
  have e1 : ((((Rect.unit (s := S2x256x128) ![l, 128 * t, 0] S1x128x128.size inb).toLoadRect.idx y) 1).val) = 128 * t + (y 1).val := by
    show 128 * t + 1 * (y 1).val = _; omega
  have e2 : ((((Rect.unit (s := S2x256x128) ![l, 128 * t, 0] S1x128x128.size inb).toLoadRect.idx y) 2).val) = (y 2).val := by
    show 0 + 1 * (y 2).val = _; omega
  refine (readCov_spec arg8.view L _ hG (Rect.unit (s := S2x256x128) ![l, 128 * t, 0] S1x128x128.size inb).toLoadRect y (hc _ e0 (by rw [e1]; omega) (by rw [e1]; omega))).trans ?_
  unfold S8
  rw [e0, e1, e2]

/-- One quarter of a transposed square tile. -/
theorem part_apply (w : FVec Ideal S1x128x128 .f32) (o : ℕ) (ho : o ≤ 96) (hs) (ht) (hc) (i : S32x128.Idx) (G : ℕ → ℕ → EReal)
    (hw : ∀ y, w y = G (y 1).val (y 2).val) :
    extractStridedSlice S32x128 ![o, 0] (transpose S128x128 [1, 0] (shapeCast S128x128 w hc) ht) hs i = G (i 1).val (o + (i 0).val) := by
  have h0 : (i 0).val < 32 := (i 0).isLt
  have h1 : (i 1).val < 128 := (i 1).isLt
  refine (extractStridedSlice_apply (s := S128x128) ![o, 0] _ hs i
    (fun a => match a with | ⟨0, _⟩ => ⟨o + (i 0).val, by show _ < 128; omega⟩ | ⟨1, _⟩ => ⟨(i 1).val, h1⟩) ?_).trans ?_
  · intro a; match a with
    | ⟨0, _⟩ => rfl
    | ⟨1, _⟩ => show (i 1).val = 0 + (i 1).val; omega
  refine (transpose_apply (s := S128x128) [1, 0] _ ht _
    (fun a => match a with | ⟨0, _⟩ => ⟨(i 1).val, h1⟩ | ⟨1, _⟩ => ⟨o + (i 0).val, by show _ < 128; omega⟩) ?_).trans ?_
  · intro b; match b with
    | ⟨0, _⟩ => rfl
    | ⟨1, _⟩ => rfl
  refine (shapeCast_dropUnit_apply (n := 2) ![128, 128] w hc _).trans ((hw _).trans ?_)
  rfl

/-- One quarter of a transposed square tile, as the kernel prints it. -/
abbrev PT (w : FVec Ideal S1x128x128 .f32) (o : ℕ) (hs : S128x128.Slices ![o, 0] S32x128) : FVec Ideal S32x128 .f32 :=
  extractStridedSlice S32x128 ![o, 0] (transpose S128x128 [1, 0] (shapeCast S128x128 w shapeCasts_S1x128x128_S128x128) transposes_S128x128_p1_0_S128x128) hs

/-- A transposed tile's payload against the scratch's index. -/
theorem pc9 (w : FVec Ideal S1x128x128 .f32) (t l q p o : ℕ) (hq : q < 4) (hp : p = 32 * (4 * l + q)) (ho : o = 32 * q) (hs)
    (hw : ∀ y, w y = VV arg1 arg2 X_arg1 X_arg2 (128 * t + (y 1).val) (256 * k.val + 128 * l + (y 2).val)) (h)
    (inb9) (y : (Rect.unit (s := S2x256x128) ![t, p, 0] S1x32x128.size inb9).shape.Idx) :
    shapeCast S1x32x128 (PT w o hs) h y
      = S9 arg1 arg2 X_arg1 X_arg2 k ((Rect.unit (s := S2x256x128) ![t, p, 0] S1x32x128.size inb9).emb y) := by
  subst hp ho
  refine (shapeCast_addUnit_apply (n := 2) ![32, 128] _ h y).trans
    ((part_apply w (32 * q) (by omega) hs _ _ _ (fun a b => VV arg1 arg2 X_arg1 X_arg2 (128 * t + a) (256 * k.val + 128 * l + b)) hw).trans ?_)
  have hy : (y 0).val = 0 := by have := (y 0).isLt; simp at this; omega
  unfold S9
  refine congrArg₂ (VV arg1 arg2 X_arg1 X_arg2) ?_ ?_
  · show 128 * t + (y 2).val = 128 * (t + 1 * (y 0).val) + (0 + 1 * (y 2).val); omega
  · show 256 * k.val + 128 * l + (32 * q + (y 1).val) = 256 * k.val + (32 * (4 * l + q) + 1 * (y 1).val); omega

/-- A row maximum's payload against the scratch's index. -/
theorem pc11 (w : FVec Ideal S1x128x128 .f32) (t l q p o : ℕ) (hq : q < 4) (hp : p = 9 * (4 * l + q)) (ho : o = 32 * q) (hs)
    (hw : ∀ y, w y = VV arg1 arg2 X_arg1 X_arg2 (128 * t + (y 1).val) (256 * k.val + 128 * l + (y 2).val))
    (inb8) (y : (Rect.unit (s := S2x72x128) ![t, p, 0] S1x8x128.size inb8).shape.Idx) :
    GM (PT w o hs) y
      = S11 arg1 arg2 X_arg1 X_arg2 k ((Rect.unit (s := S2x72x128) ![t, p, 0] S1x8x128.size inb8).emb y) := by
  subst hp ho
  have hy : (y 0).val = 0 := by have := (y 0).isLt; simp at this; omega
  have hy1 : (y 1).val < 8 := (y 1).isLt
  refine (gmax_apply _ _ _ _ _ _ y (fun c => VV arg1 arg2 X_arg1 X_arg2 (128 * t + (y 2).val) c) (256 * k.val + 128 * l + 32 * q) ?_).trans ?_
  · intro i hi
    refine (part_apply w (32 * q) (by omega) hs _ _ i (fun a b => VV arg1 arg2 X_arg1 X_arg2 (128 * t + a) (256 * k.val + 128 * l + b)) hw).trans ?_
    rw [hi, Nat.add_assoc (256 * k.val + 128 * l)]
  · unfold S11
    have e0 : (((Rect.unit (s := S2x72x128) ![t, 9 * (4 * l + q), 0] S1x8x128.size inb8).emb y) 0).val = t := by
      show t + 1 * (y 0).val = t; omega
    have e1 : (((Rect.unit (s := S2x72x128) ![t, 9 * (4 * l + q), 0] S1x8x128.size inb8).emb y) 1).val = 9 * (4 * l + q) + (y 1).val := by
      show 9 * (4 * l + q) + 1 * (y 1).val = _; omega
    have e2 : (((Rect.unit (s := S2x72x128) ![t, 9 * (4 * l + q), 0] S1x8x128.size inb8).emb y) 2).val = (y 2).val := by
      show 0 + 1 * (y 2).val = _; omega
    rw [e0, e1, e2]
    congr 1
    omega

/-- A strided load from the column maxima's scratch: one sublane of the eight groups. -/
theorem ld10 (l s : ℕ) (hs : s < 8) (inb) (y : S1x8x128.Idx) :
    View.readCov (Val := Elt Ideal) arg10.view (trip_k0_t1.sl.HW_arg10_16 arg1 arg2 X_arg1 X_arg2 k)
      { off := ![l, s, 0], size := S1x8x128.size, stride := ![1, 9, 1], inb := inb } y
      = gpm (fun r => VV arg1 arg2 X_arg1 X_arg2 r (256 * k.val + 128 * l + (y 2).val)) (32 * (y 1).val + s) := by
  have h0 : (y 0).val < 1 := (y 0).isLt
  have h1 : (y 1).val < 8 := (y 1).isLt
  let B : LoadRect S2x72x128 := { off := ![l, s, 0], size := S1x8x128.size, stride := ![1, 9, 1], inb := inb }
  have e0 : ((B.idx y) 0).val = l := by show l + 1 * (y 0).val = l; omega
  have e1 : ((B.idx y) 1).val = s + 9 * (y 1).val := rfl
  have e2 : ((B.idx y) 2).val = (y 2).val := by show 0 + 1 * (y 2).val = _; omega
  refine (readCov_spec arg10.view _ _ (HW_arg10_16_spec arg1 arg2 X_arg1 X_arg2 k) B y (cov10 arg1 arg2 X_arg1 X_arg2 k _ (by rw [e1]; omega))).trans ?_
  unfold S10
  rw [e0, e1, e2]
  congr 1
  omega

theorem v264_spec (y : S1x128x128.Idx) : trip_k0_t1.sl.v264 arg1 arg2 arg8 X_arg1 X_arg2 k y
    = VV arg1 arg2 X_arg1 X_arg2 (128 * 0 + (y 1).val) (256 * k.val + 128 * 0 + (y 2).val) :=
  tload arg1 arg2 X_arg1 X_arg2 k arg8 _ (HW_arg8_4_spec arg1 arg2 X_arg1 X_arg2 k) 0 0 0 rfl _
    (fun j h0 h1 h2 => cov8_4 arg1 arg2 X_arg1 X_arg2 k j ⟨h0, by omega⟩) y

theorem v531_spec (y : S1x128x128.Idx) : trip_k0_t1.sl.v531 arg1 arg2 arg8 X_arg1 X_arg2 k y
    = VV arg1 arg2 X_arg1 X_arg2 (128 * 1 + (y 1).val) (256 * k.val + 128 * 0 + (y 2).val) :=
  tload arg1 arg2 X_arg1 X_arg2 k arg8 _ (HW_arg8_8_spec arg1 arg2 X_arg1 X_arg2 k) 0 1 128 rfl _
    (fun j h0 h1 h2 => cov8_8 arg1 arg2 X_arg1 X_arg2 k j h0) y

theorem v806_spec (y : S1x128x128.Idx) : trip_k0_t1.sl.v806 arg1 arg2 arg8 X_arg1 X_arg2 k y
    = VV arg1 arg2 X_arg1 X_arg2 (128 * 0 + (y 1).val) (256 * k.val + 128 * 1 + (y 2).val) :=
  tload arg1 arg2 X_arg1 X_arg2 k arg8 _ (HW_arg8_12_spec arg1 arg2 X_arg1 X_arg2 k) 1 0 0 rfl _
    (fun j h0 h1 h2 => cov8_12 arg1 arg2 X_arg1 X_arg2 k j (.inr (by omega))) y

theorem v1073_spec (y : S1x128x128.Idx) : trip_k0_t1.sl.v1073 arg1 arg2 arg8 X_arg1 X_arg2 k y
    = VV arg1 arg2 X_arg1 X_arg2 (128 * 1 + (y 1).val) (256 * k.val + 128 * 1 + (y 2).val) :=
  tload arg1 arg2 X_arg1 X_arg2 k arg8 _ (HW_arg8_16_spec arg1 arg2 X_arg1 X_arg2 k) 1 1 128 rfl _
    (fun j h0 h1 h2 => cov8_16 arg1 arg2 X_arg1 X_arg2 k j ) y

theorem v1495_spec (y : S1x128x128.Idx) : trip_k0_t1.sl.v1495 arg1 arg2 arg8 X_arg1 X_arg2 k y
    = VV arg1 arg2 X_arg1 X_arg2 (128 * 0 + (y 1).val) (256 * k.val + 128 * 0 + (y 2).val) :=
  tload arg1 arg2 X_arg1 X_arg2 k arg8 _ (HW_arg8_16_spec arg1 arg2 X_arg1 X_arg2 k) 0 0 0 rfl _
    (fun j h0 h1 h2 => cov8_16 arg1 arg2 X_arg1 X_arg2 k j ) y

theorem v1508_spec (y : S1x128x128.Idx) : trip_k0_t1.sl.v1508 arg1 arg2 arg8 X_arg1 X_arg2 k y
    = VV arg1 arg2 X_arg1 X_arg2 (128 * 0 + (y 1).val) (256 * k.val + 128 * 1 + (y 2).val) :=
  tload arg1 arg2 X_arg1 X_arg2 k arg8 _ (HW_arg8_16_spec arg1 arg2 X_arg1 X_arg2 k) 1 0 0 rfl _
    (fun j h0 h1 h2 => cov8_16 arg1 arg2 X_arg1 X_arg2 k j ) y

theorem v1549_spec (y : S1x128x128.Idx) : trip_k0_t1.sl.v1549 arg1 arg2 arg8 X_arg1 X_arg2 k y
    = VV arg1 arg2 X_arg1 X_arg2 (128 * 1 + (y 1).val) (256 * k.val + 128 * 0 + (y 2).val) :=
  tload arg1 arg2 X_arg1 X_arg2 k arg8 _ (HW_arg8_16_spec arg1 arg2 X_arg1 X_arg2 k) 0 1 128 rfl _
    (fun j h0 h1 h2 => cov8_16 arg1 arg2 X_arg1 X_arg2 k j ) y

theorem HW_arg9_16_spec : ∀ p ∈ trip_k0_t1.sl.HW_arg9_16 arg1 arg2 arg8 X_arg1 X_arg2 k, ∀ y, p.2 y = S9 arg1 arg2 X_arg1 X_arg2 k (p.1.emb y) := by
  unfold trip_k0_t1.sl.HW_arg9_16
  simp only [List.forall_mem_cons]
  refine ⟨?_, ?_, ?_, ?_, ?_, ?_, ?_, ?_, ?_, ?_, ?_, ?_, ?_, ?_, ?_, ?_, fun p hp => absurd hp List.not_mem_nil⟩
  · intro y; exact pc9 arg1 arg2 X_arg1 X_arg2 k (trip_k0_t1.sl.v1073 arg1 arg2 arg8 X_arg1 X_arg2 k) 1 1 3 224 96 (by decide) rfl rfl slices_S128x128_o96_0_S32x128 (v1073_spec arg1 arg2 X_arg1 X_arg2 k arg8) _ _ y
  · intro y; exact pc9 arg1 arg2 X_arg1 X_arg2 k (trip_k0_t1.sl.v1073 arg1 arg2 arg8 X_arg1 X_arg2 k) 1 1 2 192 64 (by decide) rfl rfl slices_S128x128_o64_0_S32x128 (v1073_spec arg1 arg2 X_arg1 X_arg2 k arg8) _ _ y
  · intro y; exact pc9 arg1 arg2 X_arg1 X_arg2 k (trip_k0_t1.sl.v1073 arg1 arg2 arg8 X_arg1 X_arg2 k) 1 1 1 160 32 (by decide) rfl rfl slices_S128x128_o32_0_S32x128 (v1073_spec arg1 arg2 X_arg1 X_arg2 k arg8) _ _ y
  · intro y; exact pc9 arg1 arg2 X_arg1 X_arg2 k (trip_k0_t1.sl.v1073 arg1 arg2 arg8 X_arg1 X_arg2 k) 1 1 0 128 0 (by decide) rfl rfl slices_S128x128_o0_0_S32x128 (v1073_spec arg1 arg2 X_arg1 X_arg2 k arg8) _ _ y
  · intro y; exact pc9 arg1 arg2 X_arg1 X_arg2 k (trip_k0_t1.sl.v806 arg1 arg2 arg8 X_arg1 X_arg2 k) 0 1 3 224 96 (by decide) rfl rfl slices_S128x128_o96_0_S32x128 (v806_spec arg1 arg2 X_arg1 X_arg2 k arg8) _ _ y
  · intro y; exact pc9 arg1 arg2 X_arg1 X_arg2 k (trip_k0_t1.sl.v806 arg1 arg2 arg8 X_arg1 X_arg2 k) 0 1 2 192 64 (by decide) rfl rfl slices_S128x128_o64_0_S32x128 (v806_spec arg1 arg2 X_arg1 X_arg2 k arg8) _ _ y
  · intro y; exact pc9 arg1 arg2 X_arg1 X_arg2 k (trip_k0_t1.sl.v806 arg1 arg2 arg8 X_arg1 X_arg2 k) 0 1 1 160 32 (by decide) rfl rfl slices_S128x128_o32_0_S32x128 (v806_spec arg1 arg2 X_arg1 X_arg2 k arg8) _ _ y
  · intro y; exact pc9 arg1 arg2 X_arg1 X_arg2 k (trip_k0_t1.sl.v806 arg1 arg2 arg8 X_arg1 X_arg2 k) 0 1 0 128 0 (by decide) rfl rfl slices_S128x128_o0_0_S32x128 (v806_spec arg1 arg2 X_arg1 X_arg2 k arg8) _ _ y
  · intro y; exact pc9 arg1 arg2 X_arg1 X_arg2 k (trip_k0_t1.sl.v531 arg1 arg2 arg8 X_arg1 X_arg2 k) 1 0 3 96 96 (by decide) rfl rfl slices_S128x128_o96_0_S32x128 (v531_spec arg1 arg2 X_arg1 X_arg2 k arg8) _ _ y
  · intro y; exact pc9 arg1 arg2 X_arg1 X_arg2 k (trip_k0_t1.sl.v531 arg1 arg2 arg8 X_arg1 X_arg2 k) 1 0 2 64 64 (by decide) rfl rfl slices_S128x128_o64_0_S32x128 (v531_spec arg1 arg2 X_arg1 X_arg2 k arg8) _ _ y
  · intro y; exact pc9 arg1 arg2 X_arg1 X_arg2 k (trip_k0_t1.sl.v531 arg1 arg2 arg8 X_arg1 X_arg2 k) 1 0 1 32 32 (by decide) rfl rfl slices_S128x128_o32_0_S32x128 (v531_spec arg1 arg2 X_arg1 X_arg2 k arg8) _ _ y
  · intro y; exact pc9 arg1 arg2 X_arg1 X_arg2 k (trip_k0_t1.sl.v531 arg1 arg2 arg8 X_arg1 X_arg2 k) 1 0 0 0 0 (by decide) rfl rfl slices_S128x128_o0_0_S32x128 (v531_spec arg1 arg2 X_arg1 X_arg2 k arg8) _ _ y
  · intro y; exact pc9 arg1 arg2 X_arg1 X_arg2 k (trip_k0_t1.sl.v264 arg1 arg2 arg8 X_arg1 X_arg2 k) 0 0 3 96 96 (by decide) rfl rfl slices_S128x128_o96_0_S32x128 (v264_spec arg1 arg2 X_arg1 X_arg2 k arg8) _ _ y
  · intro y; exact pc9 arg1 arg2 X_arg1 X_arg2 k (trip_k0_t1.sl.v264 arg1 arg2 arg8 X_arg1 X_arg2 k) 0 0 2 64 64 (by decide) rfl rfl slices_S128x128_o64_0_S32x128 (v264_spec arg1 arg2 X_arg1 X_arg2 k arg8) _ _ y
  · intro y; exact pc9 arg1 arg2 X_arg1 X_arg2 k (trip_k0_t1.sl.v264 arg1 arg2 arg8 X_arg1 X_arg2 k) 0 0 1 32 32 (by decide) rfl rfl slices_S128x128_o32_0_S32x128 (v264_spec arg1 arg2 X_arg1 X_arg2 k arg8) _ _ y
  · intro y; exact pc9 arg1 arg2 X_arg1 X_arg2 k (trip_k0_t1.sl.v264 arg1 arg2 arg8 X_arg1 X_arg2 k) 0 0 0 0 0 (by decide) rfl rfl slices_S128x128_o0_0_S32x128 (v264_spec arg1 arg2 X_arg1 X_arg2 k arg8) _ _ y

theorem HW_arg11_16_spec : ∀ p ∈ trip_k0_t1.sl.HW_arg11_16 arg1 arg2 arg8 X_arg1 X_arg2 k, ∀ y, p.2 y = S11 arg1 arg2 X_arg1 X_arg2 k (p.1.emb y) := by
  unfold trip_k0_t1.sl.HW_arg11_16
  simp only [List.forall_mem_cons]
  refine ⟨?_, ?_, ?_, ?_, ?_, ?_, ?_, ?_, ?_, ?_, ?_, ?_, ?_, ?_, ?_, ?_, fun p hp => absurd hp List.not_mem_nil⟩
  · intro y; exact pc11 arg1 arg2 X_arg1 X_arg2 k (trip_k0_t1.sl.v1073 arg1 arg2 arg8 X_arg1 X_arg2 k) 1 1 3 63 96 (by decide) rfl rfl slices_S128x128_o96_0_S32x128 (v1073_spec arg1 arg2 X_arg1 X_arg2 k arg8) _ y
  · intro y; exact pc11 arg1 arg2 X_arg1 X_arg2 k (trip_k0_t1.sl.v1073 arg1 arg2 arg8 X_arg1 X_arg2 k) 1 1 2 54 64 (by decide) rfl rfl slices_S128x128_o64_0_S32x128 (v1073_spec arg1 arg2 X_arg1 X_arg2 k arg8) _ y
  · intro y; exact pc11 arg1 arg2 X_arg1 X_arg2 k (trip_k0_t1.sl.v1073 arg1 arg2 arg8 X_arg1 X_arg2 k) 1 1 1 45 32 (by decide) rfl rfl slices_S128x128_o32_0_S32x128 (v1073_spec arg1 arg2 X_arg1 X_arg2 k arg8) _ y
  · intro y; exact pc11 arg1 arg2 X_arg1 X_arg2 k (trip_k0_t1.sl.v1073 arg1 arg2 arg8 X_arg1 X_arg2 k) 1 1 0 36 0 (by decide) rfl rfl slices_S128x128_o0_0_S32x128 (v1073_spec arg1 arg2 X_arg1 X_arg2 k arg8) _ y
  · intro y; exact pc11 arg1 arg2 X_arg1 X_arg2 k (trip_k0_t1.sl.v806 arg1 arg2 arg8 X_arg1 X_arg2 k) 0 1 3 63 96 (by decide) rfl rfl slices_S128x128_o96_0_S32x128 (v806_spec arg1 arg2 X_arg1 X_arg2 k arg8) _ y
  · intro y; exact pc11 arg1 arg2 X_arg1 X_arg2 k (trip_k0_t1.sl.v806 arg1 arg2 arg8 X_arg1 X_arg2 k) 0 1 2 54 64 (by decide) rfl rfl slices_S128x128_o64_0_S32x128 (v806_spec arg1 arg2 X_arg1 X_arg2 k arg8) _ y
  · intro y; exact pc11 arg1 arg2 X_arg1 X_arg2 k (trip_k0_t1.sl.v806 arg1 arg2 arg8 X_arg1 X_arg2 k) 0 1 1 45 32 (by decide) rfl rfl slices_S128x128_o32_0_S32x128 (v806_spec arg1 arg2 X_arg1 X_arg2 k arg8) _ y
  · intro y; exact pc11 arg1 arg2 X_arg1 X_arg2 k (trip_k0_t1.sl.v806 arg1 arg2 arg8 X_arg1 X_arg2 k) 0 1 0 36 0 (by decide) rfl rfl slices_S128x128_o0_0_S32x128 (v806_spec arg1 arg2 X_arg1 X_arg2 k arg8) _ y
  · intro y; exact pc11 arg1 arg2 X_arg1 X_arg2 k (trip_k0_t1.sl.v531 arg1 arg2 arg8 X_arg1 X_arg2 k) 1 0 3 27 96 (by decide) rfl rfl slices_S128x128_o96_0_S32x128 (v531_spec arg1 arg2 X_arg1 X_arg2 k arg8) _ y
  · intro y; exact pc11 arg1 arg2 X_arg1 X_arg2 k (trip_k0_t1.sl.v531 arg1 arg2 arg8 X_arg1 X_arg2 k) 1 0 2 18 64 (by decide) rfl rfl slices_S128x128_o64_0_S32x128 (v531_spec arg1 arg2 X_arg1 X_arg2 k arg8) _ y
  · intro y; exact pc11 arg1 arg2 X_arg1 X_arg2 k (trip_k0_t1.sl.v531 arg1 arg2 arg8 X_arg1 X_arg2 k) 1 0 1 9 32 (by decide) rfl rfl slices_S128x128_o32_0_S32x128 (v531_spec arg1 arg2 X_arg1 X_arg2 k arg8) _ y
  · intro y; exact pc11 arg1 arg2 X_arg1 X_arg2 k (trip_k0_t1.sl.v531 arg1 arg2 arg8 X_arg1 X_arg2 k) 1 0 0 0 0 (by decide) rfl rfl slices_S128x128_o0_0_S32x128 (v531_spec arg1 arg2 X_arg1 X_arg2 k arg8) _ y
  · intro y; exact pc11 arg1 arg2 X_arg1 X_arg2 k (trip_k0_t1.sl.v264 arg1 arg2 arg8 X_arg1 X_arg2 k) 0 0 3 27 96 (by decide) rfl rfl slices_S128x128_o96_0_S32x128 (v264_spec arg1 arg2 X_arg1 X_arg2 k arg8) _ y
  · intro y; exact pc11 arg1 arg2 X_arg1 X_arg2 k (trip_k0_t1.sl.v264 arg1 arg2 arg8 X_arg1 X_arg2 k) 0 0 2 18 64 (by decide) rfl rfl slices_S128x128_o64_0_S32x128 (v264_spec arg1 arg2 X_arg1 X_arg2 k arg8) _ y
  · intro y; exact pc11 arg1 arg2 X_arg1 X_arg2 k (trip_k0_t1.sl.v264 arg1 arg2 arg8 X_arg1 X_arg2 k) 0 0 1 9 32 (by decide) rfl rfl slices_S128x128_o32_0_S32x128 (v264_spec arg1 arg2 X_arg1 X_arg2 k arg8) _ y
  · intro y; exact pc11 arg1 arg2 X_arg1 X_arg2 k (trip_k0_t1.sl.v264 arg1 arg2 arg8 X_arg1 X_arg2 k) 0 0 0 0 0 (by decide) rfl rfl slices_S128x128_o0_0_S32x128 (v264_spec arg1 arg2 X_arg1 X_arg2 k arg8) _ y

theorem cov9 (j : S2x256x128.Idx) : ∃ p ∈ trip_k0_t1.sl.HW_arg9_16 arg1 arg2 arg8 X_arg1 X_arg2 k, j ∈ p.1.set := by
  unfold trip_k0_t1.sl.HW_arg9_16
  simp only [List.exists_mem_cons_iff, mem8]
  have h0 : (j 0).val < 2 := (j 0).isLt
  have h1 : (j 1).val < 256 := (j 1).isLt
  omega

theorem cov11 (j : S2x72x128.Idx) (h : (j 1).val % 9 < 8) : ∃ p ∈ trip_k0_t1.sl.HW_arg11_16 arg1 arg2 arg8 X_arg1 X_arg2 k, j ∈ p.1.set := by
  unfold trip_k0_t1.sl.HW_arg11_16
  simp only [List.exists_mem_cons_iff, mem10]
  have h0 : (j 0).val < 2 := (j 0).isLt
  have h1 : (j 1).val < 72 := (j 1).isLt
  omega

/-- A strided load from the row maxima's scratch: one sublane of the eight groups. -/
theorem ld11 (t s : ℕ) (hs : s < 8) (inb) (y : S1x8x128.Idx) :
    View.readCov (Val := Elt Ideal) arg11.view (trip_k0_t1.sl.HW_arg11_16 arg1 arg2 arg8 X_arg1 X_arg2 k)
      { off := ![t, s, 0], size := S1x8x128.size, stride := ![1, 9, 1], inb := inb } y
      = gpm (fun c => VV arg1 arg2 X_arg1 X_arg2 (128 * t + (y 2).val) c) (256 * k.val + 32 * (y 1).val + s) := by
  have h0 : (y 0).val < 1 := (y 0).isLt
  have h1 : (y 1).val < 8 := (y 1).isLt
  let B : LoadRect S2x72x128 := { off := ![t, s, 0], size := S1x8x128.size, stride := ![1, 9, 1], inb := inb }
  have e0 : ((B.idx y) 0).val = t := by show t + 1 * (y 0).val = t; omega
  have e1 : ((B.idx y) 1).val = s + 9 * (y 1).val := rfl
  have e2 : ((B.idx y) 2).val = (y 2).val := by show 0 + 1 * (y 2).val = _; omega
  refine (readCov_spec arg11.view _ _ (HW_arg11_16_spec arg1 arg2 X_arg1 X_arg2 k arg8) B y (cov11 arg1 arg2 X_arg1 X_arg2 k arg8 _ (by rw [e1]; omega))).trans ?_
  unfold S11
  rw [e0, e1, e2]
  congr 1
  omega

/-- A load of one square tile back from the second tile scratch. -/
theorem tload9 (t l o : ℕ) (ho : o = 128 * l) (inb) (y : S1x128x128.Idx) :
    View.readCov (Val := Elt Ideal) arg9.view (trip_k0_t1.sl.HW_arg9_16 arg1 arg2 arg8 X_arg1 X_arg2 k) (Rect.unit (s := S2x256x128) ![t, o, 0] S1x128x128.size inb).toLoadRect y
      = VV arg1 arg2 X_arg1 X_arg2 (128 * t + (y 2).val) (256 * k.val + 128 * l + (y 1).val) := by
  subst ho
  have h0 : (y 0).val < 1 := (y 0).isLt
  have e0 : ((((Rect.unit (s := S2x256x128) ![t, 128 * l, 0] S1x128x128.size inb).toLoadRect.idx y) 0).val) = t := by
    show t + 1 * (y 0).val = t; omega
  have e1 : ((((Rect.unit (s := S2x256x128) ![t, 128 * l, 0] S1x128x128.size inb).toLoadRect.idx y) 1).val) = 128 * l + (y 1).val := by
    show 128 * l + 1 * (y 1).val = _; omega
  have e2 : ((((Rect.unit (s := S2x256x128) ![t, 128 * l, 0] S1x128x128.size inb).toLoadRect.idx y) 2).val) = (y 2).val := by
    show 0 + 1 * (y 2).val = _; omega
  refine (readCov_spec arg9.view _ _ (HW_arg9_16_spec arg1 arg2 X_arg1 X_arg2 k arg8) (Rect.unit (s := S2x256x128) ![t, 128 * l, 0] S1x128x128.size inb).toLoadRect y (cov9 arg1 arg2 X_arg1 X_arg2 k arg8 _)).trans ?_
  unfold S9
  rw [e0, e1, e2, Nat.add_assoc (256 * k.val)]

/-- The maximum of the eight strided loads, as the kernel prints it. -/
abbrev FIN (w0 w1 w2 w3 w4 w5 w6 w7 : FVec Ideal S1x8x128 .f32) : FVec Ideal S8x128 .f32 :=
  maximumf (maximumf (maximumf (maximumf (maximumf (maximumf (maximumf (shapeCast S8x128 w0 shapeCasts_S1x8x128_S8x128) (shapeCast S8x128 w1 shapeCasts_S1x8x128_S8x128))
    (shapeCast S8x128 w2 shapeCasts_S1x8x128_S8x128)) (shapeCast S8x128 w3 shapeCasts_S1x8x128_S8x128)) (shapeCast S8x128 w4 shapeCasts_S1x8x128_S8x128))
    (shapeCast S8x128 w5 shapeCasts_S1x8x128_S8x128)) (shapeCast S8x128 w6 shapeCasts_S1x8x128_S8x128)) (shapeCast S8x128 w7 shapeCasts_S1x8x128_S8x128)

theorem fin_apply (w0 w1 w2 w3 w4 w5 w6 w7 : FVec Ideal S1x8x128 .f32) (G : ℕ → ℕ → EReal) (b0 : ℕ)
    (h0 : ∀ y, w0 y = gpm (G (y 2).val) (b0 + 32 * (y 1).val + 0)) (h1 : ∀ y, w1 y = gpm (G (y 2).val) (b0 + 32 * (y 1).val + 1))
    (h2 : ∀ y, w2 y = gpm (G (y 2).val) (b0 + 32 * (y 1).val + 2)) (h3 : ∀ y, w3 y = gpm (G (y 2).val) (b0 + 32 * (y 1).val + 3))
    (h4 : ∀ y, w4 y = gpm (G (y 2).val) (b0 + 32 * (y 1).val + 4)) (h5 : ∀ y, w5 y = gpm (G (y 2).val) (b0 + 32 * (y 1).val + 5))
    (h6 : ∀ y, w6 y = gpm (G (y 2).val) (b0 + 32 * (y 1).val + 6)) (h7 : ∀ y, w7 y = gpm (G (y 2).val) (b0 + 32 * (y 1).val + 7)) (i : S8x128.Idx) :
    FIN w0 w1 w2 w3 w4 w5 w6 w7 i = amaxN (G (i 1).val) (b0 + 32 * (i 0).val) := by
  have hh : ∀ (w : FVec Ideal S1x8x128 .f32) (s : ℕ) (h : ∀ y, w y = gpm (G (y 2).val) (b0 + 32 * (y 1).val + s)),
      shapeCast S8x128 w shapeCasts_S1x8x128_S8x128 i = gpm (G (i 1).val) (b0 + 32 * (i 0).val + s) := fun w s h =>
    (shapeCast_dropUnit_apply (n := 2) ![8, 128] w _ i).trans (h _)
  exact congrArg₂ max (congrArg₂ max (congrArg₂ max (congrArg₂ max (congrArg₂ max (congrArg₂ max (congrArg₂ max
    (hh w0 0 h0) (hh w1 1 h1)) (hh w2 2 h2)) (hh w3 3 h3)) (hh w4 4 h4)) (hh w5 5 h5)) (hh w6 6 h6)) (hh w7 7 h7)

/-- The largest absolute values of one tile's groups. -/
def AMc0 : FVec Ideal S8x128 .f32 := FIN (trip_k0_t1.sl.v1140 arg1 arg2 arg10 X_arg1 X_arg2 k) (trip_k0_t1.sl.v1142 arg1 arg2 arg10 X_arg1 X_arg2 k) (trip_k0_t1.sl.v1145 arg1 arg2 arg10 X_arg1 X_arg2 k) (trip_k0_t1.sl.v1148 arg1 arg2 arg10 X_arg1 X_arg2 k) (trip_k0_t1.sl.v1151 arg1 arg2 arg10 X_arg1 X_arg2 k) (trip_k0_t1.sl.v1154 arg1 arg2 arg10 X_arg1 X_arg2 k) (trip_k0_t1.sl.v1157 arg1 arg2 arg10 X_arg1 X_arg2 k) (trip_k0_t1.sl.v1160 arg1 arg2 arg10 X_arg1 X_arg2 k)

theorem AMc0_apply (i : S8x128.Idx) : AMc0 arg1 arg2 X_arg1 X_arg2 k arg10 i
    = amaxN ((fun m r => VV arg1 arg2 X_arg1 X_arg2 r (256 * k.val + 128 * 0 + m)) (i 1).val) (0 + 32 * (i 0).val) :=
  fin_apply _ _ _ _ _ _ _ _ (fun m r => VV arg1 arg2 X_arg1 X_arg2 r (256 * k.val + 128 * 0 + m)) 0 (fun y => (ld10 arg1 arg2 X_arg1 X_arg2 k arg10 0 0 (by decide) _ y).trans (by rw [Nat.zero_add])) (fun y => (ld10 arg1 arg2 X_arg1 X_arg2 k arg10 0 1 (by decide) _ y).trans (by rw [Nat.zero_add])) (fun y => (ld10 arg1 arg2 X_arg1 X_arg2 k arg10 0 2 (by decide) _ y).trans (by rw [Nat.zero_add])) (fun y => (ld10 arg1 arg2 X_arg1 X_arg2 k arg10 0 3 (by decide) _ y).trans (by rw [Nat.zero_add])) (fun y => (ld10 arg1 arg2 X_arg1 X_arg2 k arg10 0 4 (by decide) _ y).trans (by rw [Nat.zero_add])) (fun y => (ld10 arg1 arg2 X_arg1 X_arg2 k arg10 0 5 (by decide) _ y).trans (by rw [Nat.zero_add])) (fun y => (ld10 arg1 arg2 X_arg1 X_arg2 k arg10 0 6 (by decide) _ y).trans (by rw [Nat.zero_add])) (fun y => (ld10 arg1 arg2 X_arg1 X_arg2 k arg10 0 7 (by decide) _ y).trans (by rw [Nat.zero_add])) i

/-- The largest absolute values of one tile's groups. -/
def AMc1 : FVec Ideal S8x128 .f32 := FIN (trip_k0_t1.sl.v1317 arg1 arg2 arg10 X_arg1 X_arg2 k) (trip_k0_t1.sl.v1319 arg1 arg2 arg10 X_arg1 X_arg2 k) (trip_k0_t1.sl.v1322 arg1 arg2 arg10 X_arg1 X_arg2 k) (trip_k0_t1.sl.v1325 arg1 arg2 arg10 X_arg1 X_arg2 k) (trip_k0_t1.sl.v1328 arg1 arg2 arg10 X_arg1 X_arg2 k) (trip_k0_t1.sl.v1331 arg1 arg2 arg10 X_arg1 X_arg2 k) (trip_k0_t1.sl.v1334 arg1 arg2 arg10 X_arg1 X_arg2 k) (trip_k0_t1.sl.v1337 arg1 arg2 arg10 X_arg1 X_arg2 k)

theorem AMc1_apply (i : S8x128.Idx) : AMc1 arg1 arg2 X_arg1 X_arg2 k arg10 i
    = amaxN ((fun m r => VV arg1 arg2 X_arg1 X_arg2 r (256 * k.val + 128 * 1 + m)) (i 1).val) (0 + 32 * (i 0).val) :=
  fin_apply _ _ _ _ _ _ _ _ (fun m r => VV arg1 arg2 X_arg1 X_arg2 r (256 * k.val + 128 * 1 + m)) 0 (fun y => (ld10 arg1 arg2 X_arg1 X_arg2 k arg10 1 0 (by decide) _ y).trans (by rw [Nat.zero_add])) (fun y => (ld10 arg1 arg2 X_arg1 X_arg2 k arg10 1 1 (by decide) _ y).trans (by rw [Nat.zero_add])) (fun y => (ld10 arg1 arg2 X_arg1 X_arg2 k arg10 1 2 (by decide) _ y).trans (by rw [Nat.zero_add])) (fun y => (ld10 arg1 arg2 X_arg1 X_arg2 k arg10 1 3 (by decide) _ y).trans (by rw [Nat.zero_add])) (fun y => (ld10 arg1 arg2 X_arg1 X_arg2 k arg10 1 4 (by decide) _ y).trans (by rw [Nat.zero_add])) (fun y => (ld10 arg1 arg2 X_arg1 X_arg2 k arg10 1 5 (by decide) _ y).trans (by rw [Nat.zero_add])) (fun y => (ld10 arg1 arg2 X_arg1 X_arg2 k arg10 1 6 (by decide) _ y).trans (by rw [Nat.zero_add])) (fun y => (ld10 arg1 arg2 X_arg1 X_arg2 k arg10 1 7 (by decide) _ y).trans (by rw [Nat.zero_add])) i

/-- The largest absolute values of one tile's groups. -/
def AMr0 : FVec Ideal S8x128 .f32 := FIN (trip_k0_t1.sl.v1235 arg1 arg2 arg8 arg11 X_arg1 X_arg2 k) (trip_k0_t1.sl.v1237 arg1 arg2 arg8 arg11 X_arg1 X_arg2 k) (trip_k0_t1.sl.v1240 arg1 arg2 arg8 arg11 X_arg1 X_arg2 k) (trip_k0_t1.sl.v1243 arg1 arg2 arg8 arg11 X_arg1 X_arg2 k) (trip_k0_t1.sl.v1246 arg1 arg2 arg8 arg11 X_arg1 X_arg2 k) (trip_k0_t1.sl.v1249 arg1 arg2 arg8 arg11 X_arg1 X_arg2 k) (trip_k0_t1.sl.v1252 arg1 arg2 arg8 arg11 X_arg1 X_arg2 k) (trip_k0_t1.sl.v1255 arg1 arg2 arg8 arg11 X_arg1 X_arg2 k)

theorem AMr0_apply (i : S8x128.Idx) : AMr0 arg1 arg2 X_arg1 X_arg2 k arg8 arg11 i
    = amaxN ((fun m c => VV arg1 arg2 X_arg1 X_arg2 (128 * 0 + m) c) (i 1).val) ((256 * k.val) + 32 * (i 0).val) :=
  fin_apply _ _ _ _ _ _ _ _ (fun m c => VV arg1 arg2 X_arg1 X_arg2 (128 * 0 + m) c) (256 * k.val) (fun y => ld11 arg1 arg2 X_arg1 X_arg2 k arg8 arg11 0 0 (by decide) _ y) (fun y => ld11 arg1 arg2 X_arg1 X_arg2 k arg8 arg11 0 1 (by decide) _ y) (fun y => ld11 arg1 arg2 X_arg1 X_arg2 k arg8 arg11 0 2 (by decide) _ y) (fun y => ld11 arg1 arg2 X_arg1 X_arg2 k arg8 arg11 0 3 (by decide) _ y) (fun y => ld11 arg1 arg2 X_arg1 X_arg2 k arg8 arg11 0 4 (by decide) _ y) (fun y => ld11 arg1 arg2 X_arg1 X_arg2 k arg8 arg11 0 5 (by decide) _ y) (fun y => ld11 arg1 arg2 X_arg1 X_arg2 k arg8 arg11 0 6 (by decide) _ y) (fun y => ld11 arg1 arg2 X_arg1 X_arg2 k arg8 arg11 0 7 (by decide) _ y) i

/-- The largest absolute values of one tile's groups. -/
def AMr1 : FVec Ideal S8x128 .f32 := FIN (trip_k0_t1.sl.v1412 arg1 arg2 arg8 arg11 X_arg1 X_arg2 k) (trip_k0_t1.sl.v1414 arg1 arg2 arg8 arg11 X_arg1 X_arg2 k) (trip_k0_t1.sl.v1417 arg1 arg2 arg8 arg11 X_arg1 X_arg2 k) (trip_k0_t1.sl.v1420 arg1 arg2 arg8 arg11 X_arg1 X_arg2 k) (trip_k0_t1.sl.v1423 arg1 arg2 arg8 arg11 X_arg1 X_arg2 k) (trip_k0_t1.sl.v1426 arg1 arg2 arg8 arg11 X_arg1 X_arg2 k) (trip_k0_t1.sl.v1429 arg1 arg2 arg8 arg11 X_arg1 X_arg2 k) (trip_k0_t1.sl.v1432 arg1 arg2 arg8 arg11 X_arg1 X_arg2 k)

theorem AMr1_apply (i : S8x128.Idx) : AMr1 arg1 arg2 X_arg1 X_arg2 k arg8 arg11 i
    = amaxN ((fun m c => VV arg1 arg2 X_arg1 X_arg2 (128 * 1 + m) c) (i 1).val) ((256 * k.val) + 32 * (i 0).val) :=
  fin_apply _ _ _ _ _ _ _ _ (fun m c => VV arg1 arg2 X_arg1 X_arg2 (128 * 1 + m) c) (256 * k.val) (fun y => ld11 arg1 arg2 X_arg1 X_arg2 k arg8 arg11 1 0 (by decide) _ y) (fun y => ld11 arg1 arg2 X_arg1 X_arg2 k arg8 arg11 1 1 (by decide) _ y) (fun y => ld11 arg1 arg2 X_arg1 X_arg2 k arg8 arg11 1 2 (by decide) _ y) (fun y => ld11 arg1 arg2 X_arg1 X_arg2 k arg8 arg11 1 3 (by decide) _ y) (fun y => ld11 arg1 arg2 X_arg1 X_arg2 k arg8 arg11 1 4 (by decide) _ y) (fun y => ld11 arg1 arg2 X_arg1 X_arg2 k arg8 arg11 1 5 (by decide) _ y) (fun y => ld11 arg1 arg2 X_arg1 X_arg2 k arg8 arg11 1 6 (by decide) _ y) (fun y => ld11 arg1 arg2 X_arg1 X_arg2 k arg8 arg11 1 7 (by decide) _ y) i

end Cert.KernelIdeal.Gen
end
-- ==== Proof.KernelIdeal.TripC.lean ====
/- The scales and inverses one trip computes, element by element. -/
module

public import proofs.«01_k».proof.Proof.KernelIdeal.Sc
public import proofs.«01_k».proof.Proof.KernelIdeal.TripB

@[expose] public section

set_option maxRecDepth 8192
set_option maxHeartbeats 2000000

noncomputable section

namespace Cert.KernelIdeal.Gen

open Idealize.ShloMosaic Idealize.ShloMosaic.TcCoe

variable (arg1 arg2 : Memref sig .tc .vmem S256x4608 .bf16)
  (X_arg1 : BufTy.Contents (Elt Ideal) arg1.view.ty) (X_arg2 : BufTy.Contents (Elt Ideal) arg2.view.ty) (k : Fin k0_t1_loop.trips)

variable (arg8 arg9 : Memref sig .tc .vmem S2x256x128 .f32) (arg10 arg11 : Memref sig .tc .vmem S2x72x128 .f32)

theorem SCc0 (i : S8x128.Idx) : (k0_pay187 (trip_k0_t1.sl.r_85 arg1 arg2 arg10 X_arg1 X_arg2 k) (trip_k0_t1.sl.r_86 arg1 arg2 arg10 X_arg1 X_arg2 k) k0_pay184 : FVec Ideal S8x128 .f32) i = kscale (AMc0 arg1 arg2 X_arg1 X_arg2 k arg10 i) :=
  vscale_apply (AMc0 arg1 arg2 X_arg1 X_arg2 k arg10) shapeCasts_S8x128_S8x128 i
theorem IVc0 (i : S8x128.Idx) : (trip_k0_t1.sl.r_87 arg1 arg2 arg10 X_arg1 X_arg2 k : FVec Ideal S8x128 .f32) i = kinv (AMc0 arg1 arg2 X_arg1 X_arg2 k arg10 i) :=
  vinv_apply (AMc0 arg1 arg2 X_arg1 X_arg2 k arg10) i

theorem SCc1 (i : S8x128.Idx) : (k0_pay202 (trip_k0_t1.sl.r_97 arg1 arg2 arg10 X_arg1 X_arg2 k) : FVec Ideal S8x128 .f32) i = kscale (AMc1 arg1 arg2 X_arg1 X_arg2 k arg10 i) :=
  vscale_apply (AMc1 arg1 arg2 X_arg1 X_arg2 k arg10) shapeCasts_S8x128_S8x128 i
theorem IVc1 (i : S8x128.Idx) : (trip_k0_t1.sl.r_98 arg1 arg2 arg10 X_arg1 X_arg2 k : FVec Ideal S8x128 .f32) i = kinv (AMc1 arg1 arg2 X_arg1 X_arg2 k arg10 i) :=
  vinv_apply (AMc1 arg1 arg2 X_arg1 X_arg2 k arg10) i

theorem SCr0 (i : S8x128.Idx) : (k0_pay195 (trip_k0_t1.sl.r_89 arg1 arg2 arg8 arg11 X_arg1 X_arg2 k) (trip_k0_t1.sl.r_90 arg1 arg2 arg8 arg11 X_arg1 X_arg2 k) (trip_k0_t1.sl.r_91 arg1 arg2 arg8 arg11 X_arg1 X_arg2 k) (trip_k0_t1.sl.r_92 arg1 arg2 arg8 arg11 X_arg1 X_arg2 k) : FVec Ideal S8x128 .f32) i = kscale (AMr0 arg1 arg2 X_arg1 X_arg2 k arg8 arg11 i) :=
  vscale_apply (AMr0 arg1 arg2 X_arg1 X_arg2 k arg8 arg11) shapeCasts_S8x128_S8x128 i
theorem IVr0 (i : S8x128.Idx) : (trip_k0_t1.sl.r_93 arg1 arg2 arg8 arg11 X_arg1 X_arg2 k : FVec Ideal S8x128 .f32) i = kinv (AMr0 arg1 arg2 X_arg1 X_arg2 k arg8 arg11 i) :=
  vinv_apply (AMr0 arg1 arg2 X_arg1 X_arg2 k arg8 arg11) i

theorem SCr1 (i : S8x128.Idx) : (k0_pay207 (trip_k0_t1.sl.r_100 arg1 arg2 arg8 arg11 X_arg1 X_arg2 k) : FVec Ideal S8x128 .f32) i = kscale (AMr1 arg1 arg2 X_arg1 X_arg2 k arg8 arg11 i) :=
  vscale_apply (AMr1 arg1 arg2 X_arg1 X_arg2 k arg8 arg11) shapeCasts_S8x128_S8x128 i
theorem IVr1 (i : S8x128.Idx) : (trip_k0_t1.sl.r_101 arg1 arg2 arg8 arg11 X_arg1 X_arg2 k : FVec Ideal S8x128 .f32) i = kinv (AMr1 arg1 arg2 X_arg1 X_arg2 k arg8 arg11 i) :=
  vinv_apply (AMr1 arg1 arg2 X_arg1 X_arg2 k arg8 arg11) i

end Cert.KernelIdeal.Gen
end
-- ==== Proof.KernelIdeal.TripD.lean ====
/- The quantised tiles one trip stores, element by element. -/
module

public import proofs.«01_k».proof.Proof.KernelIdeal.TripC
public import Idealize.ShloMosaic.PureOps.Ideal.Laws

@[expose] public section

set_option maxRecDepth 8192
set_option maxHeartbeats 2000000

noncomputable section

namespace Cert.KernelIdeal.Gen

open Idealize.ShloMosaic Idealize.ShloMosaic.TcCoe

/-- The integer the one-hot expansion holds for group `r` at column `c`. -/
def ohb (r c : BitVec 32) : BitVec 32 :=
  BitVec.setWidth 32 (IntOp.cmpi .eq (Scalar.select (IntOp.andi (IntOp.cmpi .ne (IntOp.subi (BitVec.setWidth 32 (IntOp.cmpi .sgt c 0#32))
    (BitVec.setWidth 32 (IntOp.cmpi .slt c 0#32))) 1#32) (IntOp.cmpi .ne (IntOp.remsi .vector c 32#32) 0#32)) (IntOp.subi (IntOp.divsi .vector c 32#32) 1#32) (IntOp.divsi .vector c 32#32)) r)

theorem ohb_eq : ∀ (r : Fin 8) (c : Fin 256), ohb (BitVec.ofNat 32 r.val) (BitVec.ofNat 32 c.val) = if c.val / 32 = r.val then 1#32 else 0#32 := by
  decide +kernel

theorem pay221_bits (j : S8x256.Idx) : k0_pay221 (F := Ideal) j = FloatOps.sitofp (F := Ideal) FTy.f32 (ohb (BitVec.ofNat 32 (j 0).val) (BitVec.ofNat 32 (j 1).val)) := by
  have a0 := iota_single_apply .tc S8x256 32 _ iota_S8x256_d0_w32 j
  have a1 := iota_single_apply .tc S8x256 32 _ iota_S8x256_d1_w32 j
  rw [← a0, ← a1]
  rfl

theorem pay221_apply (j : S8x256.Idx) : k0_pay221 (F := Ideal) j = if (j 1).val / 32 = (j 0).val then (1 : EReal) else 0 := by
  rw [pay221_bits, ohb_eq ⟨(j 0).val, (j 0).isLt⟩ ⟨(j 1).val, (j 1).isLt⟩]
  split
  · show (((1#32).toInt : ℝ) : EReal) = 1
    simp
  · show (((0#32).toInt : ℝ) : EReal) = 0
    simp

/-- The product with the one-hot expansion picks the group's inverse. -/
theorem expand_apply (inv : FVec Ideal S8x128 .f32) (j : S128x256.Idx) :
    matmul (F := Ideal) dot_S8x128_S8x256_S128x256_0_0_1_1_n_n none inv k0_pay221 (constant S128x256 .f32 0x00000000#32) j
      = ext2 (a := 8) (b := 128) inv ((j 1).val / 32) (j 0).val := by
  have h1 : (j 1).val < 256 := (j 1).isLt
  have h0 : (j 0).val < 128 := (j 0).isLt
  have e : matmul (F := Ideal) dot_S8x128_S8x256_S128x256_0_0_1_1_n_n none inv k0_pay221 (constant S128x256 .f32 0x00000000#32) j
      = _ := Ideal.matmul_apply₁_of dot_S8x128_S8x256_S128x256_0_0_1_1_n_n (a := 0) rfl (K := 8) rfl inv (k0_pay221 (F := Ideal)) _ j
        (fun g => fun ax => match ax with | ⟨0, _⟩ => g | ⟨1, _⟩ => j 0) (fun g => fun ax => match ax with | ⟨0, _⟩ => g | ⟨1, _⟩ => j 1)
        (fun g => Shape.idx_ext₂ rfl rfl) (fun g => Shape.idx_ext₂ rfl rfl)
  rw [e]
  have z : (constant (F := Ideal) S128x256 .f32 0x00000000#32) j = (0 : EReal) := by
    exact Ideal.ofBits_zero_f32
  rw [z, zero_add, Finset.sum_eq_single (⟨(j 1).val / 32, by omega⟩ : Fin 8)]
  · rw [pay221_apply, if_pos rfl, mul_one]
    unfold ext2
    rw [dif_pos ⟨by omega, h0⟩]
    exact congrArg inv (Shape.idx_ext₂ rfl rfl)
  · intro g _ hg
    rw [pay221_apply, if_neg, mul_zero]
    intro h
    exact hg (Fin.ext h.symm)
  · intro h; exact absurd (Finset.mem_univ _) h

/-- A quantised tile. -/
abbrev CODE (inv : FVec Ideal S8x128 .f32) (w : Vec Ideal S1x128x128 .f32) (o : ℕ) (hs : S128x256.Slices ![0, o] S128x128) : FVec Ideal S128x128 .fp8e5m2 :=
  truncf .fp8e5m2 (minimumf (broadcast S128x128 (FloatOps.ofBits (F := Ideal) .f32 0x47600000#32)) (maximumf (broadcast S128x128 (FloatOps.ofBits (F := Ideal) .f32 0xC7600000#32))
    (mulf (shapeCast S128x128 w shapeCasts_S1x128x128_S128x128)
      (extractStridedSlice S128x128 ![0, o] (matmul (F := Ideal) dot_S8x128_S8x256_S128x256_0_0_1_1_n_n none inv k0_pay221 (constant S128x256 .f32 0x00000000#32)) hs)))) bitsLt_fp8e5m2_f32

theorem code_apply (inv : FVec Ideal S8x128 .f32) (w : Vec Ideal S1x128x128 .f32) (o : ℕ) (hs) (y : S128x128.Idx) (a b : EReal)
    (ha : ∀ z : S1x128x128.Idx, (z 1).val = (y 0).val → (z 2).val = (y 1).val → w z = a)
    (hb : ∀ z : S8x128.Idx, (z 0).val = (o + (y 1).val) / 32 → (z 1).val = (y 0).val → inv z = b) :
    CODE inv w o hs y = kclip a b := by
  have h1 : (y 1).val < 128 := (y 1).isLt
  have h0 : (y 0).val < 128 := (y 0).isLt
  have e1 : shapeCast S128x128 w shapeCasts_S1x128x128_S128x128 y = a := by
    refine (shapeCast_dropUnit_apply (n := 2) ![128, 128] w _ y).trans ?_
    exact ha _ rfl rfl
  have ho : o ≤ 128 := by
    have h := hs.2 1
    simp at h; omega
  have e2 : extractStridedSlice S128x128 ![0, o] (matmul (F := Ideal) dot_S8x128_S8x256_S128x256_0_0_1_1_n_n none inv k0_pay221 (constant S128x256 .f32 0x00000000#32)) hs y = b := by
    refine (extractStridedSlice_apply (s := S128x256) ![0, o] _ hs y
      (fun a => match a with | ⟨0, _⟩ => ⟨(y 0).val, h0⟩ | ⟨1, _⟩ => ⟨o + (y 1).val, by show _ < 256; omega⟩) ?_).trans ?_
    · intro a; match a with
      | ⟨0, _⟩ => show (y 0).val = 0 + (y 0).val; omega
      | ⟨1, _⟩ => rfl
    rw [expand_apply]
    unfold ext2
    rw [dif_pos ⟨by show (o + (y 1).val) / 32 < 8; omega, h0⟩]
    exact hb _ rfl rfl
  exact congrArg₂ kclip e1 e2

variable (arg1 arg2 : Memref sig .tc .vmem S256x4608 .bf16)
  (X_arg1 : BufTy.Contents (Elt Ideal) arg1.view.ty) (X_arg2 : BufTy.Contents (Elt Ideal) arg2.view.ty) (k : Fin k0_t1_loop.trips)

/-- The codes along the rows. -/
def SRC (j : S256x4608.Idx) : EReal :=
  kclip (VV arg1 arg2 X_arg1 X_arg2 (j 0).val (j 1).val) (kinv (amaxN (fun c => VV arg1 arg2 X_arg1 X_arg2 (j 0).val c) (32 * ((j 1).val / 32))))
/-- The codes along the columns. -/
def SCC (j : S4608x256.Idx) : EReal :=
  kclip (VV arg1 arg2 X_arg1 X_arg2 (j 1).val (j 0).val) (kinv (amaxN (fun r => VV arg1 arg2 X_arg1 X_arg2 r (j 0).val) (32 * ((j 1).val / 32))))
/-- The scales along the rows. -/
def SRS (j : S144x256.Idx) : EReal := kscale (amaxN (fun c => VV arg1 arg2 X_arg1 X_arg2 (j 1).val c) (32 * (j 0).val))
/-- The scales along the columns. -/
def SCS (j : S128x4608.Idx) : EReal := kscale (amaxN (fun r => VV arg1 arg2 X_arg1 X_arg2 r (j 1).val) (32 * ((j 0).val % 8)))

theorem pcRC (off : Fin 2 → ℕ) (inb) (t l o : ℕ) (ho : o = 128 * l) (hoff : off = ![128 * t, 256 * k.val + 128 * l]) (inv : FVec Ideal S8x128 .f32) (w : Vec Ideal S1x128x128 .f32) (hs)
    (hw : ∀ y, w y = VV arg1 arg2 X_arg1 X_arg2 (128 * t + (y 1).val) (256 * k.val + 128 * l + (y 2).val))
    (hinv : ∀ z : S8x128.Idx, inv z = kinv (amaxN ((fun m c => VV arg1 arg2 X_arg1 X_arg2 (128 * t + m) c) (z 1).val) ((256 * k.val) + 32 * (z 0).val)))
    (y : (Rect.unit (s := S256x4608) off S128x128.size inb).shape.Idx) :
    CODE inv w o hs y = SRC arg1 arg2 X_arg1 X_arg2 ((Rect.unit (s := S256x4608) off S128x128.size inb).emb y) := by
  subst hoff ho
  have h1 : (y 1).val < 128 := (y 1).isLt
  have e0 : (((Rect.unit (s := S256x4608) ![128 * t, 256 * k.val + 128 * l] S128x128.size inb).emb y) 0).val = 128 * t + (y 0).val := by
    show 128 * t + 1 * (y 0).val = _; omega
  have e1 : (((Rect.unit (s := S256x4608) ![128 * t, 256 * k.val + 128 * l] S128x128.size inb).emb y) 1).val = 256 * k.val + 128 * l + (y 1).val := by
    show 256 * k.val + 128 * l + 1 * (y 1).val = _; omega
  refine code_apply inv w _ hs y _ _ ?_ ?_
  · intro z z1 z2; rw [hw, z1, z2, e0, e1]
  · intro z z0 z1; rw [hinv, z0, z1, e0, e1]
    congr 2
    omega

theorem pcCC (off : Fin 2 → ℕ) (inb) (t l o : ℕ) (ho : o = 128 * t) (hoff : off = ![256 * k.val + 128 * l, 128 * t]) (inv : FVec Ideal S8x128 .f32) (w : Vec Ideal S1x128x128 .f32) (hs)
    (hw : ∀ y, w y = VV arg1 arg2 X_arg1 X_arg2 (128 * t + (y 2).val) (256 * k.val + 128 * l + (y 1).val))
    (hinv : ∀ z : S8x128.Idx, inv z = kinv (amaxN ((fun m r => VV arg1 arg2 X_arg1 X_arg2 r (256 * k.val + 128 * l + m)) (z 1).val) (0 + 32 * (z 0).val)))
    (y : (Rect.unit (s := S4608x256) off S128x128.size inb).shape.Idx) :
    CODE inv w o hs y = SCC arg1 arg2 X_arg1 X_arg2 ((Rect.unit (s := S4608x256) off S128x128.size inb).emb y) := by
  subst hoff ho
  have h1 : (y 1).val < 128 := (y 1).isLt
  have e0 : (((Rect.unit (s := S4608x256) ![256 * k.val + 128 * l, 128 * t] S128x128.size inb).emb y) 0).val = 256 * k.val + 128 * l + (y 0).val := by
    show 256 * k.val + 128 * l + 1 * (y 0).val = _; omega
  have e1 : (((Rect.unit (s := S4608x256) ![256 * k.val + 128 * l, 128 * t] S128x128.size inb).emb y) 1).val = 128 * t + (y 1).val := by
    show 128 * t + 1 * (y 1).val = _; omega
  refine code_apply inv w _ hs y _ _ ?_ ?_
  · intro z z1 z2; rw [hw, z1, z2, e0, e1]
  · intro z z0 z1; rw [hinv, z0, z1, e0, e1]
    congr 2
    omega

theorem pcRS (off : Fin 2 → ℕ) (inb) (t o : ℕ) (ho : o = 128 * t) (hoff : off = ![8 * k.val, o]) (sc : FVec Ideal S8x128 .f32)
    (hsc : ∀ z : S8x128.Idx, sc z = kscale (amaxN ((fun m c => VV arg1 arg2 X_arg1 X_arg2 (128 * t + m) c) (z 1).val) ((256 * k.val) + 32 * (z 0).val)))
    (y : (Rect.unit (s := S144x256) off S8x128.size inb).shape.Idx) :
    sc y = SRS arg1 arg2 X_arg1 X_arg2 ((Rect.unit (s := S144x256) off S8x128.size inb).emb y) := by
  subst hoff ho
  have e0 : (((Rect.unit (s := S144x256) ![8 * k.val, 128 * t] S8x128.size inb).emb y) 0).val = 8 * k.val + (y 0).val := by
    show 8 * k.val + 1 * (y 0).val = _; omega
  have e1 : (((Rect.unit (s := S144x256) ![8 * k.val, 128 * t] S8x128.size inb).emb y) 1).val = 128 * t + (y 1).val := by
    show 128 * t + 1 * (y 1).val = _; omega
  rw [hsc]; unfold SRS; rw [e0, e1]
  congr 2
  omega

theorem pcCS (b : ℕ) (off : Fin 2 → ℕ) (inb) (l : ℕ) (hoff : off = ![8 * b, 256 * k.val + 128 * l]) (sc : FVec Ideal S8x128 .f32)
    (hsc : ∀ z : S8x128.Idx, sc z = kscale (amaxN ((fun m r => VV arg1 arg2 X_arg1 X_arg2 r (256 * k.val + 128 * l + m)) (z 1).val) (0 + 32 * (z 0).val)))
    (y : (Rect.unit (s := S128x4608) off S8x128.size inb).shape.Idx) :
    sc y = SCS arg1 arg2 X_arg1 X_arg2 ((Rect.unit (s := S128x4608) off S8x128.size inb).emb y) := by
  subst hoff
  have h0 : (y 0).val < 8 := (y 0).isLt
  have e0 : (((Rect.unit (s := S128x4608) ![8 * b, 256 * k.val + 128 * l] S8x128.size inb).emb y) 0).val = 8 * b + (y 0).val := by
    show 8 * b + 1 * (y 0).val = _; omega
  have e1 : (((Rect.unit (s := S128x4608) ![8 * b, 256 * k.val + 128 * l] S8x128.size inb).emb y) 1).val = 256 * k.val + 128 * l + (y 1).val := by
    show 256 * k.val + 128 * l + 1 * (y 1).val = _; omega
  rw [hsc]; unfold SCS; rw [e0, e1]
  congr 2
  omega

/-- The sum of four elements eight apart. -/
def grp (f : ℕ → EReal) (b : ℕ) : EReal := (f b + f (b + 8)) + (f (b + 16) + f (b + 24))
/-- What one block adds to an accumulator element. -/
def accN (a : EReal) (f : ℕ → EReal) (s : ℕ) : EReal :=
  a + grp f (0 + s) + grp f (32 + s) + grp f (64 + s) + grp f (96 + s) + grp f (128 + s) + grp f (160 + s) + grp f (192 + s) + grp f (224 + s)

/-- One 32-row tile added to the accumulator. -/
abbrev ADDV (A : FVec Ideal S8x128 .f32) (v : FVec Ideal S32x128 .f32) : FVec Ideal S8x128 .f32 :=
  addf A (addf (addf (extractStridedSlice S8x128 ![0, 0] v slices_S32x128_o0_0_S8x128) (extractStridedSlice S8x128 ![8, 0] v slices_S32x128_o8_0_S8x128))
    (addf (extractStridedSlice S8x128 ![16, 0] v slices_S32x128_o16_0_S8x128) (extractStridedSlice S8x128 ![24, 0] v slices_S32x128_o24_0_S8x128)))

theorem addv_apply (A : FVec Ideal S8x128 .f32) (v : FVec Ideal S32x128 .f32) (y : S8x128.Idx) (f : ℕ → EReal) (b : ℕ) (a : EReal) (hA : A y = a)
    (hf : ∀ i : S32x128.Idx, (i 1).val = (y 1).val → v i = f (b + (i 0).val)) : ADDV A v y = a + grp f (b + (y 0).val) := by
  have h0 : (y 0).val < 8 := (y 0).isLt
  have h1 : (y 1).val < 128 := (y 1).isLt
  have e : ∀ (o : ℕ) (ho : o ≤ 24) (hs), extractStridedSlice S8x128 ![o, 0] v hs y = f (b + (y 0).val + o) := by
    intro o ho hs
    refine (extractStridedSlice_apply (s := S32x128) ![o, 0] _ hs y
      (fun a => match a with | ⟨0, _⟩ => ⟨o + (y 0).val, by show _ < 32; omega⟩ | ⟨1, _⟩ => ⟨(y 1).val, h1⟩) ?_).trans ?_
    · intro a; match a with
      | ⟨0, _⟩ => rfl
      | ⟨1, _⟩ => show (y 1).val = 0 + (y 1).val; omega
    rw [hf _ rfl]
    show f (b + (o + (y 0).val)) = _
    congr 1; omega
  show A y + ((_ + _) + (_ + _)) = _
  rw [hA, e 0 (by decide), e 8 (by decide), e 16 (by decide), e 24 (by decide)]
  rfl

variable (arg12 : Memref sig .tc .vmem S8x4608 .f32) (f_arg12 : BufTy.Contents (Elt Ideal) arg12.view.ty)

/-- What a trip leaves in its columns of the accumulator. -/
def SAC (j : S8x4608.Idx) : EReal :=
  accN (arg12.view.read (Elt Ideal) f_arg12 j) (fun r => VV arg1 arg2 X_arg1 X_arg2 r (j 1).val) (j 0).val

theorem pcAC (off : Fin 2 → ℕ) (inb) (l : ℕ) (hoff : off = ![0, 256 * k.val + 128 * l]) (h)
    (o1 o2 o3 o4 o5 o6 o7 o8) (i1 i2 i3 i4 i5 i6 i7 i8)
    (h1 : o1 = ![0, 256 * k.val + 128 * l]) (h2 : o2 = ![32, 256 * k.val + 128 * l]) (h3 : o3 = ![64, 256 * k.val + 128 * l]) (h4 : o4 = ![96, 256 * k.val + 128 * l])
    (h5 : o5 = ![128, 256 * k.val + 128 * l]) (h6 : o6 = ![160, 256 * k.val + 128 * l]) (h7 : o7 = ![192, 256 * k.val + 128 * l]) (h8 : o8 = ![224, 256 * k.val + 128 * l])
    (y : (Rect.unit (s := S8x4608) off S8x128.size inb).shape.Idx) :
    shapeCast S8x128 (ADDV (ADDV (ADDV (ADDV (ADDV (ADDV (ADDV (ADDV (View.readAt (Elt Ideal) arg12.view (Rect.unit (s := S8x4608) off S8x128.size inb).toLoadRect f_arg12)
      (DG arg1 arg2 X_arg1 X_arg2 o1 i1)) (DG arg1 arg2 X_arg1 X_arg2 o2 i2)) (DG arg1 arg2 X_arg1 X_arg2 o3 i3)) (DG arg1 arg2 X_arg1 X_arg2 o4 i4))
      (DG arg1 arg2 X_arg1 X_arg2 o5 i5)) (DG arg1 arg2 X_arg1 X_arg2 o6 i6)) (DG arg1 arg2 X_arg1 X_arg2 o7 i7)) (DG arg1 arg2 X_arg1 X_arg2 o8 i8)) h y
      = SAC arg1 arg2 X_arg1 X_arg2 arg12 f_arg12 ((Rect.unit (s := S8x4608) off S8x128.size inb).emb y) := by
  subst hoff
  have e0 : (((Rect.unit (s := S8x4608) ![0, 256 * k.val + 128 * l] S8x128.size inb).emb y) 0).val = (y 0).val := by
    show 0 + 1 * (y 0).val = _; omega
  have e1 : (((Rect.unit (s := S8x4608) ![0, 256 * k.val + 128 * l] S8x128.size inb).emb y) 1).val = 256 * k.val + 128 * l + (y 1).val := by
    show 256 * k.val + 128 * l + 1 * (y 1).val = _; omega
  refine (congrFun (shapeCast_self _ h) y).trans ?_
  have hd : ∀ (o : Fin 2 → ℕ) (i) (r0 : ℕ) (ho : o = ![r0, 256 * k.val + 128 * l]) (z : S32x128.Idx), (z 1).val = (y 1).val →
      DG arg1 arg2 X_arg1 X_arg2 o i z = (fun r => VV arg1 arg2 X_arg1 X_arg2 r (256 * k.val + 128 * l + (y 1).val)) (r0 + (z 0).val) := by
    intro o i r0 ho z hz
    rw [pc3 arg1 arg2 X_arg1 X_arg2 o i r0 _ ho z, hz]
  unfold SAC accN
  rw [e0, e1]
  exact addv_apply _ _ y _ 224 _ (addv_apply _ _ y _ 192 _ (addv_apply _ _ y _ 160 _ (addv_apply _ _ y _ 128 _ (addv_apply _ _ y _ 96 _ (addv_apply _ _ y _ 64 _
    (addv_apply _ _ y _ 32 _ (addv_apply _ _ y _ 0 _ rfl (hd o1 i1 0 h1)) (hd o2 i2 32 h2)) (hd o3 i3 64 h3)) (hd o4 i4 96 h4)) (hd o5 i5 128 h5)) (hd o6 i6 160 h6)) (hd o7 i7 192 h7)) (hd o8 i8 224 h8)

end Cert.KernelIdeal.Gen
end
-- ==== Proof.KernelIdeal.TripE.lean ====
/- The pieces one trip stores, element by element, and the rectangles they cover. -/
module

public import proofs.«01_k».proof.Proof.KernelIdeal.TripD

@[expose] public section

set_option maxRecDepth 8192
set_option maxHeartbeats 2000000

noncomputable section

namespace Cert.KernelIdeal.Gen

open Idealize.ShloMosaic Idealize.ShloMosaic.TcCoe

variable (𝒱 : Variants) (c : Dev nD) (bd : Option 𝒱.V) (i : grid0.Coords) (arg1 : Memref sig .tc .vmem S256x4608 .bf16) (harg1 : arg1.IsWhole) (arg2 : Memref sig .tc .vmem S256x4608 .bf16) (harg2 : arg2.IsWhole) (arg3 : Memref sig .tc .vmem S1x4608 .f32) (harg3 : arg3.IsWhole) (arg4 : Memref sig .tc .vmem S256x4608 .fp8e5m2) (harg4 : arg4.IsWhole) (arg5 : Memref sig .tc .vmem S256x144 .f32) (harg5 : arg5.IsWhole) (arg6 : Memref sig .tc .vmem S4608x256 .fp8e5m2) (harg6 : arg6.IsWhole) (arg7 : Memref sig .tc .vmem S4608x128 .f32) (harg7 : arg7.IsWhole) (arg8 : Memref sig .tc .vmem S2x256x128 .f32) (harg8 : arg8.IsWhole) (arg9 : Memref sig .tc .vmem S2x256x128 .f32) (harg9 : arg9.IsWhole) (arg10 : Memref sig .tc .vmem S2x72x128 .f32) (harg10 : arg10.IsWhole) (arg11 : Memref sig .tc .vmem S2x72x128 .f32) (harg11 : arg11.IsWhole) (arg12 : Memref sig .tc .vmem S8x4608 .f32) (harg12 : arg12.IsWhole) (arg13 : Memref sig .tc .vmem S144x256 .f32) (harg13 : arg13.IsWhole) (arg14 : Memref sig .tc .vmem S128x4608 .f32) (harg14 : arg14.IsWhole) (arg0 : BitVec 32) (X_arg1 : BufTy.Contents (Elt Ideal) arg1.view.ty) (X_arg2 : BufTy.Contents (Elt Ideal) arg2.view.ty) (k : Fin k0_t1_loop.trips)
 (f_arg4 : BufTy.Contents (Elt Ideal) arg4.view.ty) (f_arg6 : BufTy.Contents (Elt Ideal) arg6.view.ty) (f_arg8 : BufTy.Contents (Elt Ideal) arg8.view.ty) (f_arg9 : BufTy.Contents (Elt Ideal) arg9.view.ty) (f_arg10 : BufTy.Contents (Elt Ideal) arg10.view.ty) (f_arg11 : BufTy.Contents (Elt Ideal) arg11.view.ty) (f_arg12 : BufTy.Contents (Elt Ideal) arg12.view.ty) (f_arg13 : BufTy.Contents (Elt Ideal) arg13.view.ty) (f_arg14 : BufTy.Contents (Elt Ideal) arg14.view.ty)

theorem spec4 : ∀ p ∈ (trip_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 k).1 f_arg4 f_arg6 f_arg8 f_arg9 f_arg10 f_arg11 f_arg12 f_arg13 f_arg14, ∀ y, p.2 y = SRC arg1 arg2 X_arg1 X_arg2 (p.1.emb y) := by
  unfold trip_k0_t1
  simp only [List.forall_mem_cons]
  refine ⟨?_, ?_, ?_, ?_, fun p hp => absurd hp List.not_mem_nil⟩
  · intro y; exact pcRC arg1 arg2 X_arg1 X_arg2 k (k0_off16 k 128#32) (k0_off16_inb k 1) 1 1 128 rfl (k0_off16_eq k 1) (trip_k0_t1.sl.r_101 arg1 arg2 arg8 arg11 X_arg1 X_arg2 k)  (trip_k0_t1.sl.v1073 arg1 arg2 arg8 X_arg1 X_arg2 k) slices_S128x256_o0_128_S128x128 (v1073_spec arg1 arg2 X_arg1 X_arg2 k arg8) (fun z => (IVr1 arg1 arg2 X_arg1 X_arg2 k arg8 arg11 z).trans (congrArg kinv (AMr1_apply arg1 arg2 X_arg1 X_arg2 k arg8 arg11 z))) y
  · intro y; exact pcRC arg1 arg2 X_arg1 X_arg2 k (k0_off16 k 0#32) (k0_off16_inb k 0) 1 0 0 rfl (k0_off16_eq k 0) (trip_k0_t1.sl.r_101 arg1 arg2 arg8 arg11 X_arg1 X_arg2 k)  (trip_k0_t1.sl.v1549 arg1 arg2 arg8 X_arg1 X_arg2 k) slices_S128x256_o0_0_S128x128 (v1549_spec arg1 arg2 X_arg1 X_arg2 k arg8) (fun z => (IVr1 arg1 arg2 X_arg1 X_arg2 k arg8 arg11 z).trans (congrArg kinv (AMr1_apply arg1 arg2 X_arg1 X_arg2 k arg8 arg11 z))) y
  · intro y; exact pcRC arg1 arg2 X_arg1 X_arg2 k (k0_off13 k 128#32) (k0_off13_inb k 1) 0 1 128 rfl (k0_off13_eq k 1) (trip_k0_t1.sl.r_93 arg1 arg2 arg8 arg11 X_arg1 X_arg2 k)  (trip_k0_t1.sl.v1508 arg1 arg2 arg8 X_arg1 X_arg2 k) slices_S128x256_o0_128_S128x128 (v1508_spec arg1 arg2 X_arg1 X_arg2 k arg8) (fun z => (IVr0 arg1 arg2 X_arg1 X_arg2 k arg8 arg11 z).trans (congrArg kinv (AMr0_apply arg1 arg2 X_arg1 X_arg2 k arg8 arg11 z))) y
  · intro y; exact pcRC arg1 arg2 X_arg1 X_arg2 k (k0_off13 k 0#32) (k0_off13_inb k 0) 0 0 0 rfl (k0_off13_eq k 0) (trip_k0_t1.sl.r_93 arg1 arg2 arg8 arg11 X_arg1 X_arg2 k)  (trip_k0_t1.sl.v1495 arg1 arg2 arg8 X_arg1 X_arg2 k) slices_S128x256_o0_0_S128x128 (v1495_spec arg1 arg2 X_arg1 X_arg2 k arg8) (fun z => (IVr0 arg1 arg2 X_arg1 X_arg2 k arg8 arg11 z).trans (congrArg kinv (AMr0_apply arg1 arg2 X_arg1 X_arg2 k arg8 arg11 z))) y

theorem spec6 : ∀ p ∈ (trip_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 k).2.1 f_arg4 f_arg6 f_arg8 f_arg9 f_arg10 f_arg11 f_arg12 f_arg13 f_arg14, ∀ y, p.2 y = SCC arg1 arg2 X_arg1 X_arg2 (p.1.emb y) := by
  unfold trip_k0_t1
  simp only [List.forall_mem_cons]
  refine ⟨?_, ?_, ?_, ?_, fun p hp => absurd hp List.not_mem_nil⟩
  · intro y; exact pcCC arg1 arg2 X_arg1 X_arg2 k (k0_off15 k 128#32) (k0_off15_inb k 1) 1 1 128 rfl (k0_off15_eq k 1) (trip_k0_t1.sl.r_98 arg1 arg2 arg10 X_arg1 X_arg2 k)  (trip_k0_t1.sl.v1589 arg1 arg2 arg8 arg9 X_arg1 X_arg2 k) slices_S128x256_o0_128_S128x128 (fun y => tload9 arg1 arg2 X_arg1 X_arg2 k arg8 arg9 1 1 128 rfl _ y) (fun z => (IVc1 arg1 arg2 X_arg1 X_arg2 k arg10 z).trans (congrArg kinv (AMc1_apply arg1 arg2 X_arg1 X_arg2 k arg10 z))) y
  · intro y; exact pcCC arg1 arg2 X_arg1 X_arg2 k (k0_off14 k 128#32) (k0_off14_inb k 1) 0 1 0 rfl (k0_off14_eq k 1) (trip_k0_t1.sl.r_98 arg1 arg2 arg10 X_arg1 X_arg2 k)  (trip_k0_t1.sl.v1576 arg1 arg2 arg8 arg9 X_arg1 X_arg2 k) slices_S128x256_o0_0_S128x128 (fun y => tload9 arg1 arg2 X_arg1 X_arg2 k arg8 arg9 0 1 128 rfl _ y) (fun z => (IVc1 arg1 arg2 X_arg1 X_arg2 k arg10 z).trans (congrArg kinv (AMc1_apply arg1 arg2 X_arg1 X_arg2 k arg10 z))) y
  · intro y; exact pcCC arg1 arg2 X_arg1 X_arg2 k (k0_off15 k 0#32) (k0_off15_inb k 0) 1 0 128 rfl (k0_off15_eq k 0) (trip_k0_t1.sl.r_87 arg1 arg2 arg10 X_arg1 X_arg2 k)  (trip_k0_t1.sl.v1535 arg1 arg2 arg8 arg9 X_arg1 X_arg2 k) slices_S128x256_o0_128_S128x128 (fun y => tload9 arg1 arg2 X_arg1 X_arg2 k arg8 arg9 1 0 0 rfl _ y) (fun z => (IVc0 arg1 arg2 X_arg1 X_arg2 k arg10 z).trans (congrArg kinv (AMc0_apply arg1 arg2 X_arg1 X_arg2 k arg10 z))) y
  · intro y; exact pcCC arg1 arg2 X_arg1 X_arg2 k (k0_off14 k 0#32) (k0_off14_inb k 0) 0 0 0 rfl (k0_off14_eq k 0) (trip_k0_t1.sl.r_87 arg1 arg2 arg10 X_arg1 X_arg2 k)  (trip_k0_t1.sl.v1522 arg1 arg2 arg8 arg9 X_arg1 X_arg2 k) slices_S128x256_o0_0_S128x128 (fun y => tload9 arg1 arg2 X_arg1 X_arg2 k arg8 arg9 0 0 0 rfl _ y) (fun z => (IVc0 arg1 arg2 X_arg1 X_arg2 k arg10 z).trans (congrArg kinv (AMc0_apply arg1 arg2 X_arg1 X_arg2 k arg10 z))) y

theorem spec12 : ∀ p ∈ (trip_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 k).2.2.2.2.2.2.1 f_arg4 f_arg6 f_arg8 f_arg9 f_arg10 f_arg11 f_arg12 f_arg13 f_arg14, ∀ y, p.2 y = SAC arg1 arg2 X_arg1 X_arg2 arg12 f_arg12 (p.1.emb y) := by
  unfold trip_k0_t1
  simp only [List.forall_mem_cons]
  refine ⟨?_, ?_, fun p hp => absurd hp List.not_mem_nil⟩
  · intro y; exact pcAC arg1 arg2 X_arg1 X_arg2 k arg12 f_arg12 (k0_off1 k 128#32) (k0_off1_inb k 1) 1 (k0_off1_eq k 1) shapeCasts_S8x128_S8x128 (k0_off2 k 128#32) (k0_off3 k 128#32) (k0_off4 k 128#32) (k0_off5 k 128#32) (k0_off6 k 128#32) (k0_off7 k 128#32) (k0_off8 k 128#32) (k0_off9 k 128#32) (k0_off2_inb k 1) (k0_off3_inb k 1) (k0_off4_inb k 1) (k0_off5_inb k 1) (k0_off6_inb k 1) (k0_off7_inb k 1) (k0_off8_inb k 1) (k0_off9_inb k 1) (k0_off2_eq k 1) (k0_off3_eq k 1) (k0_off4_eq k 1) (k0_off5_eq k 1) (k0_off6_eq k 1) (k0_off7_eq k 1) (k0_off8_eq k 1) (k0_off9_eq k 1) y
  · intro y; exact pcAC arg1 arg2 X_arg1 X_arg2 k arg12 f_arg12 (k0_off1 k 0#32) (k0_off1_inb k 0) 0 (k0_off1_eq k 0) shapeCasts_S8x128_S8x128 (k0_off2 k 0#32) (k0_off3 k 0#32) (k0_off4 k 0#32) (k0_off5 k 0#32) (k0_off6 k 0#32) (k0_off7 k 0#32) (k0_off8 k 0#32) (k0_off9 k 0#32) (k0_off2_inb k 0) (k0_off3_inb k 0) (k0_off4_inb k 0) (k0_off5_inb k 0) (k0_off6_inb k 0) (k0_off7_inb k 0) (k0_off8_inb k 0) (k0_off9_inb k 0) (k0_off2_eq k 0) (k0_off3_eq k 0) (k0_off4_eq k 0) (k0_off5_eq k 0) (k0_off6_eq k 0) (k0_off7_eq k 0) (k0_off8_eq k 0) (k0_off9_eq k 0) y

theorem spec13 : ∀ p ∈ (trip_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 k).2.2.2.2.2.2.2.1 f_arg4 f_arg6 f_arg8 f_arg9 f_arg10 f_arg11 f_arg12 f_arg13 f_arg14, ∀ y, p.2 y = SRS arg1 arg2 X_arg1 X_arg2 (p.1.emb y) := by
  unfold trip_k0_t1
  simp only [List.forall_mem_cons]
  refine ⟨?_, ?_, fun p hp => absurd hp List.not_mem_nil⟩
  · intro y; exact pcRS arg1 arg2 X_arg1 X_arg2 k (k0_off12 k) (k0_off12_inb k) 1 128 rfl (k0_off12_eq k) _ (fun z => (SCr1 arg1 arg2 X_arg1 X_arg2 k arg8 arg11 z).trans (congrArg kscale (AMr1_apply arg1 arg2 X_arg1 X_arg2 k arg8 arg11 z))) y
  · intro y; exact pcRS arg1 arg2 X_arg1 X_arg2 k (k0_off11 k) (k0_off11_inb k) 0 0 rfl (k0_off11_eq k) _ (fun z => (SCr0 arg1 arg2 X_arg1 X_arg2 k arg8 arg11 z).trans (congrArg kscale (AMr0_apply arg1 arg2 X_arg1 X_arg2 k arg8 arg11 z))) y

theorem spec14 : ∀ p ∈ (trip_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 k).2.2.2.2.2.2.2.2.1 f_arg4 f_arg6 f_arg8 f_arg9 f_arg10 f_arg11 f_arg12 f_arg13 f_arg14, ∀ y, p.2 y = SCS arg1 arg2 X_arg1 X_arg2 (p.1.emb y) := by
  unfold trip_k0_t1
  simp only [List.forall_mem_cons]
  refine ⟨?_, ?_, fun p hp => absurd hp List.not_mem_nil⟩
  · intro y; exact pcCS arg1 arg2 X_arg1 X_arg2 k ((i 0).val % 16) (k0_off10 i k 128#32) (k0_off10_inb i k 1) 1 (k0_off10_eq i k 1) _ (fun z => (SCc1 arg1 arg2 X_arg1 X_arg2 k arg10 z).trans (congrArg kscale (AMc1_apply arg1 arg2 X_arg1 X_arg2 k arg10 z))) y
  · intro y; exact pcCS arg1 arg2 X_arg1 X_arg2 k ((i 0).val % 16) (k0_off10 i k 0#32) (k0_off10_inb i k 0) 0 (k0_off10_eq i k 0) _ (fun z => (SCc0 arg1 arg2 X_arg1 X_arg2 k arg10 z).trans (congrArg kscale (AMc0_apply arg1 arg2 X_arg1 X_arg2 k arg10 z))) y

theorem memT {a b p q r0 c0 : ℕ} (off : Fin 2 → ℕ) (ho : off = ![r0, c0]) (inb) (j : (⟨2, ![a, b]⟩ : Shape).Idx) :
    j ∈ (Rect.unit (s := ⟨2, ![a, b]⟩) off ![p, q] inb).set ↔ r0 ≤ (j 0).val ∧ (j 0).val < r0 + p ∧ c0 ≤ (j 1).val ∧ (j 1).val < c0 + q := by
  subst ho
  rw [Rect.mem_set_unit]
  constructor
  · intro h
    have h0 := h 0; have h1 := h 1
    simp at h0 h1; omega
  · rintro ⟨h0, h1, h2, h3⟩ ax
    match ax with
    | ⟨0, _⟩ => exact ⟨h0, h1⟩
    | ⟨1, _⟩ => exact ⟨h2, h3⟩

theorem mem4_iff (j : S256x4608.Idx) : (∃ p ∈ (trip_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 k).1 f_arg4 f_arg6 f_arg8 f_arg9 f_arg10 f_arg11 f_arg12 f_arg13 f_arg14, j ∈ p.1.set) ↔ (j 1).val / 256 = k.val := by
  have h0 : (j 0).val < 256 := (j 0).isLt
  have h1 : (j 1).val < 4608 := (j 1).isLt
  unfold trip_k0_t1
  simp only [List.exists_mem_cons_iff, List.not_mem_nil, false_and, exists_false, or_false]
  have e0 := memT (a := 256) (b := 4608) (p := 128) (q := 128) (k0_off16 k 128#32) (k0_off16_eq k 1) (k0_off16_inb k 1) j
  have e1 := memT (a := 256) (b := 4608) (p := 128) (q := 128) (k0_off16 k 0#32) (k0_off16_eq k 0) (k0_off16_inb k 0) j
  have e2 := memT (a := 256) (b := 4608) (p := 128) (q := 128) (k0_off13 k 128#32) (k0_off13_eq k 1) (k0_off13_inb k 1) j
  have e3 := memT (a := 256) (b := 4608) (p := 128) (q := 128) (k0_off13 k 0#32) (k0_off13_eq k 0) (k0_off13_inb k 0) j
  refine Iff.trans (or_congr e0 (or_congr e1 (or_congr e2 e3))) ?_
  omega

theorem mem6_iff (j : S4608x256.Idx) : (∃ p ∈ (trip_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 k).2.1 f_arg4 f_arg6 f_arg8 f_arg9 f_arg10 f_arg11 f_arg12 f_arg13 f_arg14, j ∈ p.1.set) ↔ (j 0).val / 256 = k.val := by
  have h0 : (j 0).val < 4608 := (j 0).isLt
  have h1 : (j 1).val < 256 := (j 1).isLt
  unfold trip_k0_t1
  simp only [List.exists_mem_cons_iff, List.not_mem_nil, false_and, exists_false, or_false]
  have e0 := memT (a := 4608) (b := 256) (p := 128) (q := 128) (k0_off15 k 128#32) (k0_off15_eq k 1) (k0_off15_inb k 1) j
  have e1 := memT (a := 4608) (b := 256) (p := 128) (q := 128) (k0_off14 k 128#32) (k0_off14_eq k 1) (k0_off14_inb k 1) j
  have e2 := memT (a := 4608) (b := 256) (p := 128) (q := 128) (k0_off15 k 0#32) (k0_off15_eq k 0) (k0_off15_inb k 0) j
  have e3 := memT (a := 4608) (b := 256) (p := 128) (q := 128) (k0_off14 k 0#32) (k0_off14_eq k 0) (k0_off14_inb k 0) j
  refine Iff.trans (or_congr e0 (or_congr e1 (or_congr e2 e3))) ?_
  omega

theorem mem12_iff (j : S8x4608.Idx) : (∃ p ∈ (trip_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 k).2.2.2.2.2.2.1 f_arg4 f_arg6 f_arg8 f_arg9 f_arg10 f_arg11 f_arg12 f_arg13 f_arg14, j ∈ p.1.set) ↔ (j 1).val / 256 = k.val := by
  have h0 : (j 0).val < 8 := (j 0).isLt
  have h1 : (j 1).val < 4608 := (j 1).isLt
  unfold trip_k0_t1
  simp only [List.exists_mem_cons_iff, List.not_mem_nil, false_and, exists_false, or_false]
  have e0 := memT (a := 8) (b := 4608) (p := 8) (q := 128) (k0_off1 k 128#32) (k0_off1_eq k 1) (k0_off1_inb k 1) j
  have e1 := memT (a := 8) (b := 4608) (p := 8) (q := 128) (k0_off1 k 0#32) (k0_off1_eq k 0) (k0_off1_inb k 0) j
  refine Iff.trans (or_congr e0 e1) ?_
  omega

theorem mem13_iff (j : S144x256.Idx) : (∃ p ∈ (trip_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 k).2.2.2.2.2.2.2.1 f_arg4 f_arg6 f_arg8 f_arg9 f_arg10 f_arg11 f_arg12 f_arg13 f_arg14, j ∈ p.1.set) ↔ (j 0).val / 8 = k.val := by
  have h0 : (j 0).val < 144 := (j 0).isLt
  have h1 : (j 1).val < 256 := (j 1).isLt
  unfold trip_k0_t1
  simp only [List.exists_mem_cons_iff, List.not_mem_nil, false_and, exists_false, or_false]
  have e0 := memT (a := 144) (b := 256) (p := 8) (q := 128) (k0_off12 k) (k0_off12_eq k) (k0_off12_inb k) j
  have e1 := memT (a := 144) (b := 256) (p := 8) (q := 128) (k0_off11 k) (k0_off11_eq k) (k0_off11_inb k) j
  refine Iff.trans (or_congr e0 e1) ?_
  omega

theorem mem14_iff (j : S128x4608.Idx) : (∃ p ∈ (trip_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 k).2.2.2.2.2.2.2.2.1 f_arg4 f_arg6 f_arg8 f_arg9 f_arg10 f_arg11 f_arg12 f_arg13 f_arg14, j ∈ p.1.set) ↔ (j 1).val / 256 = k.val ∧ (j 0).val / 8 = (i 0).val % 16 := by
  have h0 : (j 0).val < 128 := (j 0).isLt
  have h1 : (j 1).val < 4608 := (j 1).isLt
  unfold trip_k0_t1
  simp only [List.exists_mem_cons_iff, List.not_mem_nil, false_and, exists_false, or_false]
  have e0 := memT (a := 128) (b := 4608) (p := 8) (q := 128) (k0_off10 i k 128#32) (k0_off10_eq i k 1) (k0_off10_inb i k 1) j
  have e1 := memT (a := 128) (b := 4608) (p := 8) (q := 128) (k0_off10 i k 0#32) (k0_off10_eq i k 0) (k0_off10_inb i k 0) j
  refine Iff.trans (or_congr e0 e1) ?_
  omega

end Cert.KernelIdeal.Gen
end
-- ==== Proof.KernelIdeal.TripF.lean ====
/- The pieces of all the loop's trips, element by element. -/
module

public import proofs.«01_k».proof.Proof.KernelIdeal.TripE
public import proofs.«01_k».proof.Proof.KernelIdeal.Loop

@[expose] public section

set_option maxRecDepth 8192
set_option maxHeartbeats 2000000

noncomputable section

namespace Cert.KernelIdeal.Gen

open Idealize.ShloMosaic Idealize.ShloMosaic.TcCoe

variable (𝒱 : Variants) (c : Dev nD) (bd : Option 𝒱.V) (i : grid0.Coords) (arg1 : Memref sig .tc .vmem S256x4608 .bf16) (harg1 : arg1.IsWhole) (arg2 : Memref sig .tc .vmem S256x4608 .bf16) (harg2 : arg2.IsWhole) (arg3 : Memref sig .tc .vmem S1x4608 .f32) (harg3 : arg3.IsWhole) (arg4 : Memref sig .tc .vmem S256x4608 .fp8e5m2) (harg4 : arg4.IsWhole) (arg5 : Memref sig .tc .vmem S256x144 .f32) (harg5 : arg5.IsWhole) (arg6 : Memref sig .tc .vmem S4608x256 .fp8e5m2) (harg6 : arg6.IsWhole) (arg7 : Memref sig .tc .vmem S4608x128 .f32) (harg7 : arg7.IsWhole) (arg8 : Memref sig .tc .vmem S2x256x128 .f32) (harg8 : arg8.IsWhole) (arg9 : Memref sig .tc .vmem S2x256x128 .f32) (harg9 : arg9.IsWhole) (arg10 : Memref sig .tc .vmem S2x72x128 .f32) (harg10 : arg10.IsWhole) (arg11 : Memref sig .tc .vmem S2x72x128 .f32) (harg11 : arg11.IsWhole) (arg12 : Memref sig .tc .vmem S8x4608 .f32) (harg12 : arg12.IsWhole) (arg13 : Memref sig .tc .vmem S144x256 .f32) (harg13 : arg13.IsWhole) (arg14 : Memref sig .tc .vmem S128x4608 .f32) (harg14 : arg14.IsWhole) (arg0 : BitVec 32) (X_arg1 : BufTy.Contents (Elt Ideal) arg1.view.ty) (X_arg2 : BufTy.Contents (Elt Ideal) arg2.view.ty)
 (G_arg4 : BufTy.Contents (Elt Ideal) arg4.view.ty) (G_arg6 : BufTy.Contents (Elt Ideal) arg6.view.ty) (G_arg8 : BufTy.Contents (Elt Ideal) arg8.view.ty) (G_arg9 : BufTy.Contents (Elt Ideal) arg9.view.ty) (G_arg10 : BufTy.Contents (Elt Ideal) arg10.view.ty) (G_arg11 : BufTy.Contents (Elt Ideal) arg11.view.ty) (G_arg12 : BufTy.Contents (Elt Ideal) arg12.view.ty) (G_arg13 : BufTy.Contents (Elt Ideal) arg13.view.ty) (G_arg14 : BufTy.Contents (Elt Ideal) arg14.view.ty)

theorem trips_eq : k0_t1_loop.trips = 18 := by decide +kernel

theorem pbsuc4 (k : Fin k0_t1_loop.trips) : (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 (k.val + 1)).1 = (trip_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 k).1 (arg4.view.writes (Elt Ideal) G_arg4 (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 k.val).1) (arg6.view.writes (Elt Ideal) G_arg6 (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 k.val).2.1) (arg8.view.writes (Elt Ideal) G_arg8 (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 k.val).2.2.1) (arg9.view.writes (Elt Ideal) G_arg9 (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 k.val).2.2.2.1) (arg10.view.writes (Elt Ideal) G_arg10 (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 k.val).2.2.2.2.1) (arg11.view.writes (Elt Ideal) G_arg11 (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 k.val).2.2.2.2.2.1) (arg12.view.writes (Elt Ideal) G_arg12 (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 k.val).2.2.2.2.2.2.1) (arg13.view.writes (Elt Ideal) G_arg13 (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 k.val).2.2.2.2.2.2.2.1) (arg14.view.writes (Elt Ideal) G_arg14 (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 k.val).2.2.2.2.2.2.2.2) ++ (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 k.val).1 :=
  congrArg (fun x => x.1) (pb_k0_t1_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 k)

theorem pbmem4 : ∀ (n : ℕ) (_ : n ≤ k0_t1_loop.trips) (j : S256x4608.Idx), (∃ p ∈ (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 n).1, j ∈ p.1.set) ↔ (j 1).val / 256 < n := by
  intro n
  induction n with
  | zero =>
    intro _ j
    constructor
    · rintro ⟨p, hp, _⟩; exact absurd hp (by rw [pb_k0_t1.eq_1]; exact List.not_mem_nil)
    · intro h; omega
  | succ n ih =>
    intro hn j
    have e := pbsuc4 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 ⟨n, hn⟩
    have ih' := ih (by omega) j
    have m := mem4_iff 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 ⟨n, hn⟩ (arg4.view.writes (Elt Ideal) G_arg4 (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 n).1) (arg6.view.writes (Elt Ideal) G_arg6 (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 n).2.1) (arg8.view.writes (Elt Ideal) G_arg8 (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 n).2.2.1) (arg9.view.writes (Elt Ideal) G_arg9 (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 n).2.2.2.1) (arg10.view.writes (Elt Ideal) G_arg10 (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 n).2.2.2.2.1) (arg11.view.writes (Elt Ideal) G_arg11 (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 n).2.2.2.2.2.1) (arg12.view.writes (Elt Ideal) G_arg12 (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 n).2.2.2.2.2.2.1) (arg13.view.writes (Elt Ideal) G_arg13 (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 n).2.2.2.2.2.2.2.1) (arg14.view.writes (Elt Ideal) G_arg14 (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 n).2.2.2.2.2.2.2.2) j
    constructor
    · rintro ⟨p, hp, hj⟩
      rcases List.mem_append.1 (e ▸ hp) with h | h
      · have := m.1 ⟨p, h, hj⟩; dsimp only at this; omega
      · have := ih'.1 ⟨p, h, hj⟩; omega
    · intro h
      by_cases hc : (j 1).val / 256 < n
      · obtain ⟨p, hp, hj⟩ := ih'.2 (by omega)
        exact ⟨p, e ▸ List.mem_append_right _ hp, hj⟩
      · obtain ⟨p, hp, hj⟩ := m.2 (by dsimp only; omega)
        exact ⟨p, e ▸ List.mem_append_left _ hp, hj⟩

theorem pbspec4 : ∀ (n : ℕ) (_ : n ≤ k0_t1_loop.trips), ∀ p ∈ (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 n).1, ∀ y, p.2 y = SRC arg1 arg2 X_arg1 X_arg2 (p.1.emb y) := by
  intro n
  induction n with
  | zero => intro _ p hp; exact absurd hp (by rw [pb_k0_t1.eq_1]; exact List.not_mem_nil)
  | succ n ih =>
    intro hn p hp y
    have e := pbsuc4 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 ⟨n, hn⟩
    rcases List.mem_append.1 (e ▸ hp) with h | h
    · exact spec4 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 ⟨n, hn⟩ (arg4.view.writes (Elt Ideal) G_arg4 (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 n).1) (arg6.view.writes (Elt Ideal) G_arg6 (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 n).2.1) (arg8.view.writes (Elt Ideal) G_arg8 (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 n).2.2.1) (arg9.view.writes (Elt Ideal) G_arg9 (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 n).2.2.2.1) (arg10.view.writes (Elt Ideal) G_arg10 (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 n).2.2.2.2.1) (arg11.view.writes (Elt Ideal) G_arg11 (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 n).2.2.2.2.2.1) (arg12.view.writes (Elt Ideal) G_arg12 (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 n).2.2.2.2.2.2.1) (arg13.view.writes (Elt Ideal) G_arg13 (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 n).2.2.2.2.2.2.2.1) (arg14.view.writes (Elt Ideal) G_arg14 (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 n).2.2.2.2.2.2.2.2) p h y
    · exact ih (by omega) p h y

/-- The contents after the loop, at an element. -/
theorem loop4 (j : S256x4608.Idx) :
    arg4.view.read (Elt Ideal) (arg4.view.writes (Elt Ideal) G_arg4 (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 k0_t1_loop.trips).1) j = SRC arg1 arg2 X_arg1 X_arg2 j := by
  refine View.read_writes_apply_of_pieces arg4.view _ _ _ (pbspec4 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 _ (Nat.le_refl _)) j ?_
  refine (pbmem4 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 _ (Nat.le_refl _) j).2 ?_
  have h0 := (j 0).isLt
  have h1 := (j 1).isLt
  simp at h0 h1
  rw [trips_eq]
  omega

theorem pbsuc6 (k : Fin k0_t1_loop.trips) : (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 (k.val + 1)).2.1 = (trip_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 k).2.1 (arg4.view.writes (Elt Ideal) G_arg4 (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 k.val).1) (arg6.view.writes (Elt Ideal) G_arg6 (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 k.val).2.1) (arg8.view.writes (Elt Ideal) G_arg8 (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 k.val).2.2.1) (arg9.view.writes (Elt Ideal) G_arg9 (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 k.val).2.2.2.1) (arg10.view.writes (Elt Ideal) G_arg10 (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 k.val).2.2.2.2.1) (arg11.view.writes (Elt Ideal) G_arg11 (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 k.val).2.2.2.2.2.1) (arg12.view.writes (Elt Ideal) G_arg12 (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 k.val).2.2.2.2.2.2.1) (arg13.view.writes (Elt Ideal) G_arg13 (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 k.val).2.2.2.2.2.2.2.1) (arg14.view.writes (Elt Ideal) G_arg14 (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 k.val).2.2.2.2.2.2.2.2) ++ (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 k.val).2.1 :=
  congrArg (fun x => x.2.1) (pb_k0_t1_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 k)

theorem pbmem6 : ∀ (n : ℕ) (_ : n ≤ k0_t1_loop.trips) (j : S4608x256.Idx), (∃ p ∈ (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 n).2.1, j ∈ p.1.set) ↔ (j 0).val / 256 < n := by
  intro n
  induction n with
  | zero =>
    intro _ j
    constructor
    · rintro ⟨p, hp, _⟩; exact absurd hp (by rw [pb_k0_t1.eq_1]; exact List.not_mem_nil)
    · intro h; omega
  | succ n ih =>
    intro hn j
    have e := pbsuc6 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 ⟨n, hn⟩
    have ih' := ih (by omega) j
    have m := mem6_iff 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 ⟨n, hn⟩ (arg4.view.writes (Elt Ideal) G_arg4 (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 n).1) (arg6.view.writes (Elt Ideal) G_arg6 (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 n).2.1) (arg8.view.writes (Elt Ideal) G_arg8 (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 n).2.2.1) (arg9.view.writes (Elt Ideal) G_arg9 (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 n).2.2.2.1) (arg10.view.writes (Elt Ideal) G_arg10 (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 n).2.2.2.2.1) (arg11.view.writes (Elt Ideal) G_arg11 (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 n).2.2.2.2.2.1) (arg12.view.writes (Elt Ideal) G_arg12 (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 n).2.2.2.2.2.2.1) (arg13.view.writes (Elt Ideal) G_arg13 (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 n).2.2.2.2.2.2.2.1) (arg14.view.writes (Elt Ideal) G_arg14 (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 n).2.2.2.2.2.2.2.2) j
    constructor
    · rintro ⟨p, hp, hj⟩
      rcases List.mem_append.1 (e ▸ hp) with h | h
      · have := m.1 ⟨p, h, hj⟩; dsimp only at this; omega
      · have := ih'.1 ⟨p, h, hj⟩; omega
    · intro h
      by_cases hc : (j 0).val / 256 < n
      · obtain ⟨p, hp, hj⟩ := ih'.2 (by omega)
        exact ⟨p, e ▸ List.mem_append_right _ hp, hj⟩
      · obtain ⟨p, hp, hj⟩ := m.2 (by dsimp only; omega)
        exact ⟨p, e ▸ List.mem_append_left _ hp, hj⟩

theorem pbspec6 : ∀ (n : ℕ) (_ : n ≤ k0_t1_loop.trips), ∀ p ∈ (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 n).2.1, ∀ y, p.2 y = SCC arg1 arg2 X_arg1 X_arg2 (p.1.emb y) := by
  intro n
  induction n with
  | zero => intro _ p hp; exact absurd hp (by rw [pb_k0_t1.eq_1]; exact List.not_mem_nil)
  | succ n ih =>
    intro hn p hp y
    have e := pbsuc6 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 ⟨n, hn⟩
    rcases List.mem_append.1 (e ▸ hp) with h | h
    · exact spec6 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 ⟨n, hn⟩ (arg4.view.writes (Elt Ideal) G_arg4 (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 n).1) (arg6.view.writes (Elt Ideal) G_arg6 (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 n).2.1) (arg8.view.writes (Elt Ideal) G_arg8 (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 n).2.2.1) (arg9.view.writes (Elt Ideal) G_arg9 (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 n).2.2.2.1) (arg10.view.writes (Elt Ideal) G_arg10 (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 n).2.2.2.2.1) (arg11.view.writes (Elt Ideal) G_arg11 (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 n).2.2.2.2.2.1) (arg12.view.writes (Elt Ideal) G_arg12 (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 n).2.2.2.2.2.2.1) (arg13.view.writes (Elt Ideal) G_arg13 (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 n).2.2.2.2.2.2.2.1) (arg14.view.writes (Elt Ideal) G_arg14 (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 n).2.2.2.2.2.2.2.2) p h y
    · exact ih (by omega) p h y

/-- The contents after the loop, at an element. -/
theorem loop6 (j : S4608x256.Idx) :
    arg6.view.read (Elt Ideal) (arg6.view.writes (Elt Ideal) G_arg6 (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 k0_t1_loop.trips).2.1) j = SCC arg1 arg2 X_arg1 X_arg2 j := by
  refine View.read_writes_apply_of_pieces arg6.view _ _ _ (pbspec6 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 _ (Nat.le_refl _)) j ?_
  refine (pbmem6 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 _ (Nat.le_refl _) j).2 ?_
  have h0 := (j 0).isLt
  have h1 := (j 1).isLt
  simp at h0 h1
  rw [trips_eq]
  omega

theorem pbsuc13 (k : Fin k0_t1_loop.trips) : (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 (k.val + 1)).2.2.2.2.2.2.2.1 = (trip_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 k).2.2.2.2.2.2.2.1 (arg4.view.writes (Elt Ideal) G_arg4 (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 k.val).1) (arg6.view.writes (Elt Ideal) G_arg6 (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 k.val).2.1) (arg8.view.writes (Elt Ideal) G_arg8 (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 k.val).2.2.1) (arg9.view.writes (Elt Ideal) G_arg9 (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 k.val).2.2.2.1) (arg10.view.writes (Elt Ideal) G_arg10 (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 k.val).2.2.2.2.1) (arg11.view.writes (Elt Ideal) G_arg11 (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 k.val).2.2.2.2.2.1) (arg12.view.writes (Elt Ideal) G_arg12 (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 k.val).2.2.2.2.2.2.1) (arg13.view.writes (Elt Ideal) G_arg13 (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 k.val).2.2.2.2.2.2.2.1) (arg14.view.writes (Elt Ideal) G_arg14 (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 k.val).2.2.2.2.2.2.2.2) ++ (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 k.val).2.2.2.2.2.2.2.1 :=
  congrArg (fun x => x.2.2.2.2.2.2.2.1) (pb_k0_t1_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 k)

theorem pbmem13 : ∀ (n : ℕ) (_ : n ≤ k0_t1_loop.trips) (j : S144x256.Idx), (∃ p ∈ (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 n).2.2.2.2.2.2.2.1, j ∈ p.1.set) ↔ (j 0).val / 8 < n := by
  intro n
  induction n with
  | zero =>
    intro _ j
    constructor
    · rintro ⟨p, hp, _⟩; exact absurd hp (by rw [pb_k0_t1.eq_1]; exact List.not_mem_nil)
    · intro h; omega
  | succ n ih =>
    intro hn j
    have e := pbsuc13 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 ⟨n, hn⟩
    have ih' := ih (by omega) j
    have m := mem13_iff 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 ⟨n, hn⟩ (arg4.view.writes (Elt Ideal) G_arg4 (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 n).1) (arg6.view.writes (Elt Ideal) G_arg6 (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 n).2.1) (arg8.view.writes (Elt Ideal) G_arg8 (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 n).2.2.1) (arg9.view.writes (Elt Ideal) G_arg9 (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 n).2.2.2.1) (arg10.view.writes (Elt Ideal) G_arg10 (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 n).2.2.2.2.1) (arg11.view.writes (Elt Ideal) G_arg11 (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 n).2.2.2.2.2.1) (arg12.view.writes (Elt Ideal) G_arg12 (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 n).2.2.2.2.2.2.1) (arg13.view.writes (Elt Ideal) G_arg13 (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 n).2.2.2.2.2.2.2.1) (arg14.view.writes (Elt Ideal) G_arg14 (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 n).2.2.2.2.2.2.2.2) j
    constructor
    · rintro ⟨p, hp, hj⟩
      rcases List.mem_append.1 (e ▸ hp) with h | h
      · have := m.1 ⟨p, h, hj⟩; dsimp only at this; omega
      · have := ih'.1 ⟨p, h, hj⟩; omega
    · intro h
      by_cases hc : (j 0).val / 8 < n
      · obtain ⟨p, hp, hj⟩ := ih'.2 (by omega)
        exact ⟨p, e ▸ List.mem_append_right _ hp, hj⟩
      · obtain ⟨p, hp, hj⟩ := m.2 (by dsimp only; omega)
        exact ⟨p, e ▸ List.mem_append_left _ hp, hj⟩

theorem pbspec13 : ∀ (n : ℕ) (_ : n ≤ k0_t1_loop.trips), ∀ p ∈ (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 n).2.2.2.2.2.2.2.1, ∀ y, p.2 y = SRS arg1 arg2 X_arg1 X_arg2 (p.1.emb y) := by
  intro n
  induction n with
  | zero => intro _ p hp; exact absurd hp (by rw [pb_k0_t1.eq_1]; exact List.not_mem_nil)
  | succ n ih =>
    intro hn p hp y
    have e := pbsuc13 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 ⟨n, hn⟩
    rcases List.mem_append.1 (e ▸ hp) with h | h
    · exact spec13 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 ⟨n, hn⟩ (arg4.view.writes (Elt Ideal) G_arg4 (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 n).1) (arg6.view.writes (Elt Ideal) G_arg6 (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 n).2.1) (arg8.view.writes (Elt Ideal) G_arg8 (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 n).2.2.1) (arg9.view.writes (Elt Ideal) G_arg9 (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 n).2.2.2.1) (arg10.view.writes (Elt Ideal) G_arg10 (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 n).2.2.2.2.1) (arg11.view.writes (Elt Ideal) G_arg11 (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 n).2.2.2.2.2.1) (arg12.view.writes (Elt Ideal) G_arg12 (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 n).2.2.2.2.2.2.1) (arg13.view.writes (Elt Ideal) G_arg13 (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 n).2.2.2.2.2.2.2.1) (arg14.view.writes (Elt Ideal) G_arg14 (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 n).2.2.2.2.2.2.2.2) p h y
    · exact ih (by omega) p h y

/-- The contents after the loop, at an element. -/
theorem loop13 (j : S144x256.Idx) :
    arg13.view.read (Elt Ideal) (arg13.view.writes (Elt Ideal) G_arg13 (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 k0_t1_loop.trips).2.2.2.2.2.2.2.1) j = SRS arg1 arg2 X_arg1 X_arg2 j := by
  refine View.read_writes_apply_of_pieces arg13.view _ _ _ (pbspec13 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 _ (Nat.le_refl _)) j ?_
  refine (pbmem13 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 _ (Nat.le_refl _) j).2 ?_
  have h0 := (j 0).isLt
  have h1 := (j 1).isLt
  simp at h0 h1
  rw [trips_eq]
  omega

theorem pbsuc14 (k : Fin k0_t1_loop.trips) : (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 (k.val + 1)).2.2.2.2.2.2.2.2 = (trip_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 k).2.2.2.2.2.2.2.2.1 (arg4.view.writes (Elt Ideal) G_arg4 (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 k.val).1) (arg6.view.writes (Elt Ideal) G_arg6 (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 k.val).2.1) (arg8.view.writes (Elt Ideal) G_arg8 (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 k.val).2.2.1) (arg9.view.writes (Elt Ideal) G_arg9 (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 k.val).2.2.2.1) (arg10.view.writes (Elt Ideal) G_arg10 (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 k.val).2.2.2.2.1) (arg11.view.writes (Elt Ideal) G_arg11 (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 k.val).2.2.2.2.2.1) (arg12.view.writes (Elt Ideal) G_arg12 (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 k.val).2.2.2.2.2.2.1) (arg13.view.writes (Elt Ideal) G_arg13 (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 k.val).2.2.2.2.2.2.2.1) (arg14.view.writes (Elt Ideal) G_arg14 (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 k.val).2.2.2.2.2.2.2.2) ++ (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 k.val).2.2.2.2.2.2.2.2 :=
  congrArg (fun x => x.2.2.2.2.2.2.2.2) (pb_k0_t1_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 k)

theorem pbmem14 : ∀ (n : ℕ) (_ : n ≤ k0_t1_loop.trips) (j : S128x4608.Idx), (∃ p ∈ (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 n).2.2.2.2.2.2.2.2, j ∈ p.1.set) ↔ (j 1).val / 256 < n ∧ (j 0).val / 8 = (i 0).val % 16 := by
  intro n
  induction n with
  | zero =>
    intro _ j
    constructor
    · rintro ⟨p, hp, _⟩; exact absurd hp (by rw [pb_k0_t1.eq_1]; exact List.not_mem_nil)
    · intro h; omega
  | succ n ih =>
    intro hn j
    have e := pbsuc14 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 ⟨n, hn⟩
    have ih' := ih (by omega) j
    have m := mem14_iff 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 ⟨n, hn⟩ (arg4.view.writes (Elt Ideal) G_arg4 (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 n).1) (arg6.view.writes (Elt Ideal) G_arg6 (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 n).2.1) (arg8.view.writes (Elt Ideal) G_arg8 (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 n).2.2.1) (arg9.view.writes (Elt Ideal) G_arg9 (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 n).2.2.2.1) (arg10.view.writes (Elt Ideal) G_arg10 (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 n).2.2.2.2.1) (arg11.view.writes (Elt Ideal) G_arg11 (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 n).2.2.2.2.2.1) (arg12.view.writes (Elt Ideal) G_arg12 (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 n).2.2.2.2.2.2.1) (arg13.view.writes (Elt Ideal) G_arg13 (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 n).2.2.2.2.2.2.2.1) (arg14.view.writes (Elt Ideal) G_arg14 (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 n).2.2.2.2.2.2.2.2) j
    constructor
    · rintro ⟨p, hp, hj⟩
      rcases List.mem_append.1 (e ▸ hp) with h | h
      · have := m.1 ⟨p, h, hj⟩; dsimp only at this; omega
      · have := ih'.1 ⟨p, h, hj⟩; omega
    · intro h
      by_cases hc : (j 1).val / 256 < n
      · obtain ⟨p, hp, hj⟩ := ih'.2 (by omega)
        exact ⟨p, e ▸ List.mem_append_right _ hp, hj⟩
      · obtain ⟨p, hp, hj⟩ := m.2 (by dsimp only; omega)
        exact ⟨p, e ▸ List.mem_append_left _ hp, hj⟩

theorem pbspec14 : ∀ (n : ℕ) (_ : n ≤ k0_t1_loop.trips), ∀ p ∈ (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 n).2.2.2.2.2.2.2.2, ∀ y, p.2 y = SCS arg1 arg2 X_arg1 X_arg2 (p.1.emb y) := by
  intro n
  induction n with
  | zero => intro _ p hp; exact absurd hp (by rw [pb_k0_t1.eq_1]; exact List.not_mem_nil)
  | succ n ih =>
    intro hn p hp y
    have e := pbsuc14 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 ⟨n, hn⟩
    rcases List.mem_append.1 (e ▸ hp) with h | h
    · exact spec14 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 ⟨n, hn⟩ (arg4.view.writes (Elt Ideal) G_arg4 (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 n).1) (arg6.view.writes (Elt Ideal) G_arg6 (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 n).2.1) (arg8.view.writes (Elt Ideal) G_arg8 (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 n).2.2.1) (arg9.view.writes (Elt Ideal) G_arg9 (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 n).2.2.2.1) (arg10.view.writes (Elt Ideal) G_arg10 (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 n).2.2.2.2.1) (arg11.view.writes (Elt Ideal) G_arg11 (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 n).2.2.2.2.2.1) (arg12.view.writes (Elt Ideal) G_arg12 (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 n).2.2.2.2.2.2.1) (arg13.view.writes (Elt Ideal) G_arg13 (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 n).2.2.2.2.2.2.2.1) (arg14.view.writes (Elt Ideal) G_arg14 (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 n).2.2.2.2.2.2.2.2) p h y
    · exact ih (by omega) p h y

/-- The contents after the loop, at an element. -/
theorem loop14 (j : S128x4608.Idx) (h : (j 0).val / 8 = (i 0).val % 16) :
    arg14.view.read (Elt Ideal) (arg14.view.writes (Elt Ideal) G_arg14 (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 k0_t1_loop.trips).2.2.2.2.2.2.2.2) j = SCS arg1 arg2 X_arg1 X_arg2 j := by
  refine View.read_writes_apply_of_pieces arg14.view _ _ _ (pbspec14 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 _ (Nat.le_refl _)) j ?_
  refine (pbmem14 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 _ (Nat.le_refl _) j).2 ?_
  have h0 := (j 0).isLt
  have h1 := (j 1).isLt
  simp at h0 h1
  rw [trips_eq]
  omega

theorem pbsuc12 (k : Fin k0_t1_loop.trips) : (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 (k.val + 1)).2.2.2.2.2.2.1 = (trip_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 k).2.2.2.2.2.2.1 (arg4.view.writes (Elt Ideal) G_arg4 (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 k.val).1) (arg6.view.writes (Elt Ideal) G_arg6 (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 k.val).2.1) (arg8.view.writes (Elt Ideal) G_arg8 (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 k.val).2.2.1) (arg9.view.writes (Elt Ideal) G_arg9 (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 k.val).2.2.2.1) (arg10.view.writes (Elt Ideal) G_arg10 (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 k.val).2.2.2.2.1) (arg11.view.writes (Elt Ideal) G_arg11 (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 k.val).2.2.2.2.2.1) (arg12.view.writes (Elt Ideal) G_arg12 (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 k.val).2.2.2.2.2.2.1) (arg13.view.writes (Elt Ideal) G_arg13 (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 k.val).2.2.2.2.2.2.2.1) (arg14.view.writes (Elt Ideal) G_arg14 (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 k.val).2.2.2.2.2.2.2.2) ++ (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 k.val).2.2.2.2.2.2.1 :=
  congrArg (fun x => x.2.2.2.2.2.2.1) (pb_k0_t1_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 k)

theorem pbmem12 : ∀ (n : ℕ) (_ : n ≤ k0_t1_loop.trips) (j : S8x4608.Idx), (∃ p ∈ (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 n).2.2.2.2.2.2.1, j ∈ p.1.set) ↔ (j 1).val / 256 < n := by
  intro n
  induction n with
  | zero =>
    intro _ j
    constructor
    · rintro ⟨p, hp, _⟩; exact absurd hp (by rw [pb_k0_t1.eq_1]; exact List.not_mem_nil)
    · intro h; omega
  | succ n ih =>
    intro hn j
    have e := pbsuc12 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 ⟨n, hn⟩
    have ih' := ih (by omega) j
    have m := mem12_iff 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 ⟨n, hn⟩ (arg4.view.writes (Elt Ideal) G_arg4 (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 n).1) (arg6.view.writes (Elt Ideal) G_arg6 (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 n).2.1) (arg8.view.writes (Elt Ideal) G_arg8 (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 n).2.2.1) (arg9.view.writes (Elt Ideal) G_arg9 (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 n).2.2.2.1) (arg10.view.writes (Elt Ideal) G_arg10 (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 n).2.2.2.2.1) (arg11.view.writes (Elt Ideal) G_arg11 (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 n).2.2.2.2.2.1) (arg12.view.writes (Elt Ideal) G_arg12 (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 n).2.2.2.2.2.2.1) (arg13.view.writes (Elt Ideal) G_arg13 (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 n).2.2.2.2.2.2.2.1) (arg14.view.writes (Elt Ideal) G_arg14 (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 n).2.2.2.2.2.2.2.2) j
    constructor
    · rintro ⟨p, hp, hj⟩
      rcases List.mem_append.1 (e ▸ hp) with h | h
      · have := m.1 ⟨p, h, hj⟩; dsimp only at this; omega
      · have := ih'.1 ⟨p, h, hj⟩; omega
    · intro h
      by_cases hc : (j 1).val / 256 < n
      · obtain ⟨p, hp, hj⟩ := ih'.2 (by omega)
        exact ⟨p, e ▸ List.mem_append_right _ hp, hj⟩
      · obtain ⟨p, hp, hj⟩ := m.2 (by dsimp only; omega)
        exact ⟨p, e ▸ List.mem_append_left _ hp, hj⟩

theorem pbspec12 : ∀ (n : ℕ) (_ : n ≤ k0_t1_loop.trips), ∀ p ∈ (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 n).2.2.2.2.2.2.1, ∀ y, p.2 y = SAC arg1 arg2 X_arg1 X_arg2 arg12 G_arg12 (p.1.emb y) := by
  intro n
  induction n with
  | zero => intro _ p hp; exact absurd hp (by rw [pb_k0_t1.eq_1]; exact List.not_mem_nil)
  | succ n ih =>
    intro hn p hp y
    have e := pbsuc12 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 ⟨n, hn⟩
    rcases List.mem_append.1 (e ▸ hp) with h | h
    · rw [spec12 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 ⟨n, hn⟩ (arg4.view.writes (Elt Ideal) G_arg4 (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 n).1) (arg6.view.writes (Elt Ideal) G_arg6 (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 n).2.1) (arg8.view.writes (Elt Ideal) G_arg8 (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 n).2.2.1) (arg9.view.writes (Elt Ideal) G_arg9 (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 n).2.2.2.1) (arg10.view.writes (Elt Ideal) G_arg10 (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 n).2.2.2.2.1) (arg11.view.writes (Elt Ideal) G_arg11 (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 n).2.2.2.2.2.1) (arg12.view.writes (Elt Ideal) G_arg12 (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 n).2.2.2.2.2.2.1) (arg13.view.writes (Elt Ideal) G_arg13 (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 n).2.2.2.2.2.2.2.1) (arg14.view.writes (Elt Ideal) G_arg14 (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 n).2.2.2.2.2.2.2.2) p h y]
      unfold SAC
      congr 1
      refine View.read_writes_apply_of_forall_not_mem arg12.view G_arg12 _ _ ?_
      intro q hq hj
      have m1 := (mem12_iff 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 ⟨n, hn⟩ (arg4.view.writes (Elt Ideal) G_arg4 (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 n).1) (arg6.view.writes (Elt Ideal) G_arg6 (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 n).2.1) (arg8.view.writes (Elt Ideal) G_arg8 (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 n).2.2.1) (arg9.view.writes (Elt Ideal) G_arg9 (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 n).2.2.2.1) (arg10.view.writes (Elt Ideal) G_arg10 (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 n).2.2.2.2.1) (arg11.view.writes (Elt Ideal) G_arg11 (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 n).2.2.2.2.2.1) (arg12.view.writes (Elt Ideal) G_arg12 (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 n).2.2.2.2.2.2.1) (arg13.view.writes (Elt Ideal) G_arg13 (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 n).2.2.2.2.2.2.2.1) (arg14.view.writes (Elt Ideal) G_arg14 (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 n).2.2.2.2.2.2.2.2) (p.1.emb y)).1 ⟨p, h, (LoadRect.mem_set _).2 (fun a => ⟨(y a).val, (y a).isLt, rfl⟩)⟩
      have m2 := (pbmem12 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 n (by omega) (p.1.emb y)).1 ⟨q, hq, hj⟩
      dsimp only at m1
      omega
    · exact ih (by omega) p h y

/-- The contents after the loop, at an element. -/
theorem loop12 (j : S8x4608.Idx) :
    arg12.view.read (Elt Ideal) (arg12.view.writes (Elt Ideal) G_arg12 (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 k0_t1_loop.trips).2.2.2.2.2.2.1) j = SAC arg1 arg2 X_arg1 X_arg2 arg12 G_arg12 j := by
  refine View.read_writes_apply_of_pieces arg12.view _ _ _ (pbspec12 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 _ (Nat.le_refl _)) j ?_
  refine (pbmem12 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 _ (Nat.le_refl _) j).2 ?_
  have h0 := (j 0).isLt
  have h1 := (j 1).isLt
  simp at h0 h1
  rw [trips_eq]
  omega

/-- Outside its band a point leaves the column scales as they were. -/
theorem loop14_off (j : S128x4608.Idx) (h : (j 0).val / 8 ≠ (i 0).val % 16) :
    arg14.view.read (Elt Ideal) (arg14.view.writes (Elt Ideal) G_arg14 (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 k0_t1_loop.trips).2.2.2.2.2.2.2.2) j = arg14.view.read (Elt Ideal) G_arg14 j := by
  refine View.read_writes_apply_of_forall_not_mem arg14.view _ _ _ ?_
  intro q hq hj
  exact h ((pbmem14 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X_arg1 X_arg2 G_arg4 G_arg6 G_arg8 G_arg9 G_arg10 G_arg11 G_arg12 G_arg13 G_arg14 _ (Nat.le_refl _) j).1 ⟨q, hq, hj⟩).2

end Cert.KernelIdeal.Gen
end
-- ==== Proof.KernelIdeal.RunV.lean ====
/- One run of the kernel's body: what it leaves in the outputs' blocks and in the buffers it carries. -/
module

public import proofs.«01_k».proof.Proof.KernelIdeal.TripF
public import proofs.«01_k».proof.Proof.KernelIdeal.Run
public import proofs.«01_k».proof.Proof.Gen.KernelIdeal.Frame

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

local notation "𝕄" => MT nD τ sig Unit (Elt Ideal) ℕ (UR sig nD τ) ℕ

/-- The derivative times the gradient, at an element of a block. -/
def BV (x g : S256x4608.Idx → EReal) (r c : ℕ) : EReal := kd (ext2 (a := 256) (b := 4608) x r c) (ext2 (a := 256) (b := 4608) g r c)
/-- A block's codes along the rows. -/
def BRC (x g : S256x4608.Idx → EReal) (j : S256x4608.Idx) : EReal :=
  kclip (BV x g (j 0).val (j 1).val) (kinv (amaxN (fun c => BV x g (j 0).val c) (32 * ((j 1).val / 32))))
/-- A block's codes along the columns. -/
def BCC (x g : S256x4608.Idx → EReal) (j : S4608x256.Idx) : EReal :=
  kclip (BV x g (j 1).val (j 0).val) (kinv (amaxN (fun r => BV x g r (j 0).val) (32 * ((j 1).val / 32))))
/-- A block's scales along the rows. -/
def BRS (x g : S256x4608.Idx → EReal) (j : S256x144.Idx) : EReal := kscale (amaxN (fun c => BV x g (j 0).val c) (32 * (j 1).val))
/-- A block's scales along the columns, and the earlier blocks'. -/
def BCS (b : ℕ) (x g : S256x4608.Idx → EReal) (d : S128x4608.Idx → EReal) (j : S128x4608.Idx) : EReal :=
  if (j 0).val / 8 = b then kscale (amaxN (fun r => BV x g r (j 1).val) (32 * ((j 0).val % 8))) else d j
/-- The accumulator after a block. -/
def BAC (x g : S256x4608.Idx → EReal) (d : S8x4608.Idx → EReal) (j : S8x4608.Idx) : EReal :=
  accN (d j) (fun r => BV x g r (j 1).val) (j 0).val

theorem VV_eq (arg1 arg2 : Memref sig .tc .vmem S256x4608 .bf16) (harg1 : arg1.IsWhole) (harg2 : arg2.IsWhole) (x0 x1 : Vec Ideal S256x4608 .bf16) :
    VV arg1 arg2 (harg1.unread (Val := Elt Ideal) x0) (harg2.unread (Val := Elt Ideal) x1) = BV x0 x1 := by
  funext r c
  unfold VV BV
  rw [harg1.read_unread, harg2.read_unread]

theorem SRC_eq (arg1 arg2 : Memref sig .tc .vmem S256x4608 .bf16) (harg1 : arg1.IsWhole) (harg2 : arg2.IsWhole) (x0 x1 : Vec Ideal S256x4608 .bf16) (j : S256x4608.Idx) :
    SRC arg1 arg2 (harg1.unread (Val := Elt Ideal) x0) (harg2.unread (Val := Elt Ideal) x1) j = BRC x0 x1 j := by
  unfold SRC BRC; rw [VV_eq]
theorem SCC_eq (arg1 arg2 : Memref sig .tc .vmem S256x4608 .bf16) (harg1 : arg1.IsWhole) (harg2 : arg2.IsWhole) (x0 x1 : Vec Ideal S256x4608 .bf16) (j : S4608x256.Idx) :
    SCC arg1 arg2 (harg1.unread (Val := Elt Ideal) x0) (harg2.unread (Val := Elt Ideal) x1) j = BCC x0 x1 j := by
  unfold SCC BCC; rw [VV_eq]
theorem SRS_eq (arg1 arg2 : Memref sig .tc .vmem S256x4608 .bf16) (harg1 : arg1.IsWhole) (harg2 : arg2.IsWhole) (x0 x1 : Vec Ideal S256x4608 .bf16) (j : S144x256.Idx) (j' : S256x144.Idx)
    (e0 : (j 0).val = (j' 1).val) (e1 : (j 1).val = (j' 0).val) :
    SRS arg1 arg2 (harg1.unread (Val := Elt Ideal) x0) (harg2.unread (Val := Elt Ideal) x1) j = BRS x0 x1 j' := by
  unfold SRS BRS; rw [VV_eq, e0, e1]
theorem SAC_eq (arg1 arg2 : Memref sig .tc .vmem S256x4608 .bf16) (harg1 : arg1.IsWhole) (harg2 : arg2.IsWhole) (x0 x1 : Vec Ideal S256x4608 .bf16)
    (arg12 : Memref sig .tc .vmem S8x4608 .f32) (f) (d : S8x4608.Idx → EReal) (h : arg12.view.read (Elt Ideal) f = d) (j : S8x4608.Idx) :
    SAC arg1 arg2 (harg1.unread (Val := Elt Ideal) x0) (harg2.unread (Val := Elt Ideal) x1) arg12 f j = BAC x0 x1 d j := by
  unfold SAC BAC; rw [VV_eq, h]
/-- A store of a whole buffer leaves its payload. -/
theorem rd_unit {κ sp} {s : Shape} {e} (v : View sig κ sp s e) (f) {off : Fin s.rank → ℕ} (h : off = fun _ => 0) (inb : ∀ a, off a + s.size a ≤ s.size a) (p : s.Idx → Elt Ideal e) :
    v.read (Elt Ideal) (v.writes (Elt Ideal) f [⟨Rect.unit off s.size inb, p⟩]) = p := by
  subst h
  funext y
  refine View.read_writes_apply_of_pieces v f p _ ?_ y ⟨_, List.mem_singleton_self _, by
    show y ∈ (Rect.whole s).set; rw [Rect.set_whole]; exact Finset.mem_univ y⟩
  intro q hq x
  obtain rfl := List.mem_singleton.1 hq
  show p x = p ((Rect.whole s).emb x)
  rw [Rect.emb_whole_apply]
/-- A load of a whole buffer reads its contents. -/
theorem ra_unit {κ sp} {s : Shape} {e} (v : View sig κ sp s e) (f) {off : Fin s.rank → ℕ} (h : off = fun _ => 0) (inb : ∀ a, off a + s.size a ≤ s.size a) :
    v.readAt (Elt Ideal) (Rect.unit off s.size inb).toLoadRect f = v.read (Elt Ideal) f :=
  View.ld_unit_zero h inb _
theorem off2 : (![0, 0] : Fin 2 → ℕ) = fun _ => 0 := by funext a; fin_cases a <;> rfl
theorem pay220_zero : k0_pay220 (F := Ideal) = fun _ => FloatOps.ofBits (F := Ideal) FTy.f32 0#32 := by
  unfold k0_pay220
  funext j
  show shapeCast S8x4608 _ _ j = _
  rw [shapeCast_self]
  rfl

set_option maxHeartbeats 4000000 in
/-- One grid point with the body's three conditions as named: the inputs' blocks come back as they were, and what the outputs' blocks and the carried buffers hold. -/
theorem valRun_A (c : Dev nD) (i : grid0.Coords) (arg1 : Memref sig .tc .vmem S256x4608 .bf16) (harg1 : arg1.IsWhole) (arg2 : Memref sig .tc .vmem S256x4608 .bf16) (harg2 : arg2.IsWhole) (arg3 : Memref sig .tc .vmem S1x4608 .f32) (harg3 : arg3.IsWhole) (arg4 : Memref sig .tc .vmem S256x4608 .fp8e5m2) (harg4 : arg4.IsWhole) (arg5 : Memref sig .tc .vmem S256x144 .f32) (harg5 : arg5.IsWhole) (arg6 : Memref sig .tc .vmem S4608x256 .fp8e5m2) (harg6 : arg6.IsWhole) (arg7 : Memref sig .tc .vmem S4608x128 .f32) (harg7 : arg7.IsWhole) (arg8 : Memref sig .tc .vmem S2x256x128 .f32) (harg8 : arg8.IsWhole) (arg9 : Memref sig .tc .vmem S2x256x128 .f32) (harg9 : arg9.IsWhole) (arg10 : Memref sig .tc .vmem S2x72x128 .f32) (harg10 : arg10.IsWhole) (arg11 : Memref sig .tc .vmem S2x72x128 .f32) (harg11 : arg11.IsWhole) (arg12 : Memref sig .tc .vmem S8x4608 .f32) (harg12 : arg12.IsWhole) (arg13 : Memref sig .tc .vmem S144x256 .f32) (harg13 : arg13.IsWhole) (arg14 : Memref sig .tc .vmem S128x4608 .f32) (harg14 : arg14.IsWhole)
    (hc0 : cond0_0 i) (hc1 : ¬cond0_1 i) (hc2 : ¬cond0_2 i) (x0 : Vec Ideal S256x4608 .bf16) (x1 : Vec Ideal S256x4608 .bf16) (d14 : Vec Ideal S128x4608 .f32) (d12 : Vec Ideal S8x4608 .f32) (E : Set ℕ) (K : PUnit → sProp 𝕄) :
    iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ owns (c : Thread nD τ) arg12 fullShare d12 ∗ (∃ d, owns (c : Thread nD τ) arg13 fullShare d) ∗ owns (c : Thread nD τ) arg14 fullShare d14
        ∗ (iprop(owns (c : Thread nD τ) arg1 fullShare x0 ∗ owns (c : Thread nD τ) arg2 fullShare x1 ∗ (∃ d, ⌜cond0_2 i → d = k0_pay2 (F := Ideal) (BAC x0 x1 d12)⌝ ∗ owns (c : Thread nD τ) arg3 fullShare d) ∗ (∃ d, ⌜∀ j, d j = BRC x0 x1 j⌝ ∗ owns (c : Thread nD τ) arg4 fullShare d) ∗ (∃ d, ⌜∀ j, d j = BRS x0 x1 j⌝ ∗ owns (c : Thread nD τ) arg5 fullShare d) ∗ (∃ d, ⌜∀ j, d j = BCC x0 x1 j⌝ ∗ owns (c : Thread nD τ) arg6 fullShare d) ∗ (∃ d, ⌜cond0_1 i → ∀ (j : S4608x128.Idx) (j' : S128x4608.Idx), (j' 0).val = (j 1).val → (j' 1).val = (j 0).val → d j = BCS ((i 0).val % 16) x0 x1 d14 j'⌝ ∗ owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, ⌜(cond0_0 i → ∀ j, d j = BAC x0 x1 (fun _ => FloatOps.ofBits (F := Ideal) FTy.f32 0#32) j) ∧ (¬cond0_0 i → ∀ j, d j = BAC x0 x1 d12 j)⌝ ∗ owns (c : Thread nD τ) arg12 fullShare d) ∗ (∃ d, owns (c : Thread nD τ) arg13 fullShare d) ∗ (∃ d, ⌜∀ j, d j = BCS ((i 0).val % 16) x0 x1 d14 j⌝ ∗ owns (c : Thread nD τ) arg14 fullShare d)) -∗ K ⟨⟩))
      ⊢ wp frame (wpE (defs₀ (F := Ideal)) Variants.none c none) E (cc0_gelu_bwd_quant (F := Ideal) i arg1 harg1 arg2 harg2 arg3 harg3 arg4 harg4 arg5 harg5 arg6 harg6 arg7 harg7 arg8 harg8 arg9 harg9 arg10 harg10 arg11 harg11 arg12 harg12 arg13 harg13 arg14 harg14) K := by
  simp only [cc0_gelu_bwd_quant_eq_skeleton]; unfold cc0_gelu_bwd_quant_skel
  simp only [k0_part38_eq_skeleton]
  unfold owns
  iintro ⟨⟨%f1, %hf1, H1⟩, ⟨%f2, %hf2, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%f12, %hf12, H12⟩, ⟨%d13, %f13, -, H13⟩, ⟨%f14, %hf14, H14⟩, Hk⟩
  obtain rfl := harg1.eq_unread hf1; obtain rfl := harg2.eq_unread hf2
  obtain rfl := harg14.eq_unread hf14
  obtain rfl := harg12.eq_unread hf12
  sl_exec (disch := first | sl_exact hc0 | sl_exact hc1 | sl_exact hc2)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; swap
    · iexists _; isplitr; swap; · iexact H3
      ipureintro; rfl
    ipureintro
    exact fun h => absurd h hc2
  isplitl [H4]
  · iexists _; isplitr; swap
    · iexists _; isplitr; swap; · iexact H4
      ipureintro; rfl
    ipureintro
    exact fun j => (loop4 Variants.none c none i arg1 harg1 arg2 harg2 arg3 harg3 arg4 harg4 arg5 harg5 arg6 harg6 arg7 harg7 arg8 harg8 arg9 harg9 arg10 harg10 arg11 harg11 arg12 harg12 arg13 harg13 arg14 harg14 _ _ _ _ _ _ _ _ _ _ _ _  j).trans (SRC_eq arg1 arg2 harg1 harg2 x0 x1 j)
  isplitl [H5]
  · iexists _; isplitr; swap
    · iexists _; isplitr; swap; · iexact H5
      ipureintro; rfl
    ipureintro
    intro j
    unfold valRun_A.sl.v33
    rw [rd_unit arg5.view _ off2]
    unfold k0_pay223
    refine (transpose_apply (s := S144x256) (t := S256x144) _ _ _ j (fun a => match a with | ⟨0, _⟩ => ⟨(j 1).val, (j 1).isLt⟩ | ⟨1, _⟩ => ⟨(j 0).val, (j 0).isLt⟩) (fun b => by fin_cases b <;> rfl)).trans ?_
    rw [ra_unit arg13.view _ off2]
    refine (loop13 Variants.none c none i arg1 harg1 arg2 harg2 arg3 harg3 arg4 harg4 arg5 harg5 arg6 harg6 arg7 harg7 arg8 harg8 arg9 harg9 arg10 harg10 arg11 harg11 arg12 harg12 arg13 harg13 arg14 harg14 _ _ _ _ _ _ _ _ _ _ _ _  _).trans (SRS_eq arg1 arg2 harg1 harg2 x0 x1 _ j rfl rfl)
  isplitl [H6]
  · iexists _; isplitr; swap
    · iexists _; isplitr; swap; · iexact H6
      ipureintro; rfl
    ipureintro
    exact fun j => (loop6 Variants.none c none i arg1 harg1 arg2 harg2 arg3 harg3 arg4 harg4 arg5 harg5 arg6 harg6 arg7 harg7 arg8 harg8 arg9 harg9 arg10 harg10 arg11 harg11 arg12 harg12 arg13 harg13 arg14 harg14 _ _ _ _ _ _ _ _ _ _ _ _  j).trans (SCC_eq arg1 arg2 harg1 harg2 x0 x1 j)
  isplitl [H7]
  · iexists _; isplitr; swap
    · iexists _; isplitr; swap; · iexact H7
      ipureintro; rfl
    ipureintro
    exact fun h => absurd h hc1
  isplitl [H8]
  · iexists _, _; isplitr; swap; · iexact H8
    ipureintro; rfl
  isplitl [H9]
  · iexists _, _; isplitr; swap; · iexact H9
    ipureintro; rfl
  isplitl [H10]
  · iexists _, _; isplitr; swap; · iexact H10
    ipureintro; rfl
  isplitl [H11]
  · iexists _, _; isplitr; swap; · iexact H11
    ipureintro; rfl
  isplitl [H12]
  · iexists _; isplitr; swap
    · iexists _; isplitr; swap; · iexact H12
      ipureintro; rfl
    ipureintro
    refine ⟨fun _ => ?_, fun h => absurd hc0 h⟩
    intro j
    rw [View.writes_append]
    refine (loop12 Variants.none c none i arg1 harg1 arg2 harg2 arg3 harg3 arg4 harg4 arg5 harg5 arg6 harg6 arg7 harg7 arg8 harg8 arg9 harg9 arg10 harg10 arg11 harg11 arg12 harg12 arg13 harg13 arg14 harg14 _ _ _ _ _ _ _ _ _ _ _ _  j).trans (SAC_eq arg1 arg2 harg1 harg2 x0 x1 arg12 _ _ ?_ j)
    unfold valRun_A.sl.H12_1
    refine (rd_unit arg12.view _ off2 _ _).trans pay220_zero
  isplitl [H13]
  · iexists _, _; isplitr; swap; · iexact H13
    ipureintro; rfl
  iexists _; isplitr; swap
  · iexists _; isplitr; swap; · iexact H14
    ipureintro; rfl
  ipureintro
  intro j
  unfold BCS
  by_cases hb : (j 0).val / 8 = (i 0).val % 16
  · rw [if_pos hb]
    refine (loop14 Variants.none c none i arg1 harg1 arg2 harg2 arg3 harg3 arg4 harg4 arg5 harg5 arg6 harg6 arg7 harg7 arg8 harg8 arg9 harg9 arg10 harg10 arg11 harg11 arg12 harg12 arg13 harg13 arg14 harg14 _ _ _ _ _ _ _ _ _ _ _ _  j hb).trans ?_
    unfold SCS; rw [VV_eq]
  · rw [if_neg hb]
    refine (loop14_off Variants.none c none i arg1 harg1 arg2 harg2 arg3 harg3 arg4 harg4 arg5 harg5 arg6 harg6 arg7 harg7 arg8 harg8 arg9 harg9 arg10 harg10 arg11 harg11 arg12 harg12 arg13 harg13 arg14 harg14 _ _ _ _ _ _ _ _ _ _ _ _ j hb).trans ?_
    rw [harg14.read_unread]

set_option maxHeartbeats 4000000 in
/-- One grid point with the body's three conditions as named: the inputs' blocks come back as they were, and what the outputs' blocks and the carried buffers hold. -/
theorem valRun_B (c : Dev nD) (i : grid0.Coords) (arg1 : Memref sig .tc .vmem S256x4608 .bf16) (harg1 : arg1.IsWhole) (arg2 : Memref sig .tc .vmem S256x4608 .bf16) (harg2 : arg2.IsWhole) (arg3 : Memref sig .tc .vmem S1x4608 .f32) (harg3 : arg3.IsWhole) (arg4 : Memref sig .tc .vmem S256x4608 .fp8e5m2) (harg4 : arg4.IsWhole) (arg5 : Memref sig .tc .vmem S256x144 .f32) (harg5 : arg5.IsWhole) (arg6 : Memref sig .tc .vmem S4608x256 .fp8e5m2) (harg6 : arg6.IsWhole) (arg7 : Memref sig .tc .vmem S4608x128 .f32) (harg7 : arg7.IsWhole) (arg8 : Memref sig .tc .vmem S2x256x128 .f32) (harg8 : arg8.IsWhole) (arg9 : Memref sig .tc .vmem S2x256x128 .f32) (harg9 : arg9.IsWhole) (arg10 : Memref sig .tc .vmem S2x72x128 .f32) (harg10 : arg10.IsWhole) (arg11 : Memref sig .tc .vmem S2x72x128 .f32) (harg11 : arg11.IsWhole) (arg12 : Memref sig .tc .vmem S8x4608 .f32) (harg12 : arg12.IsWhole) (arg13 : Memref sig .tc .vmem S144x256 .f32) (harg13 : arg13.IsWhole) (arg14 : Memref sig .tc .vmem S128x4608 .f32) (harg14 : arg14.IsWhole)
    (hc0 : ¬cond0_0 i) (hc1 : ¬cond0_1 i) (hc2 : ¬cond0_2 i) (x0 : Vec Ideal S256x4608 .bf16) (x1 : Vec Ideal S256x4608 .bf16) (d14 : Vec Ideal S128x4608 .f32) (d12 : Vec Ideal S8x4608 .f32) (E : Set ℕ) (K : PUnit → sProp 𝕄) :
    iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ owns (c : Thread nD τ) arg12 fullShare d12 ∗ (∃ d, owns (c : Thread nD τ) arg13 fullShare d) ∗ owns (c : Thread nD τ) arg14 fullShare d14
        ∗ (iprop(owns (c : Thread nD τ) arg1 fullShare x0 ∗ owns (c : Thread nD τ) arg2 fullShare x1 ∗ (∃ d, ⌜cond0_2 i → d = k0_pay2 (F := Ideal) (BAC x0 x1 d12)⌝ ∗ owns (c : Thread nD τ) arg3 fullShare d) ∗ (∃ d, ⌜∀ j, d j = BRC x0 x1 j⌝ ∗ owns (c : Thread nD τ) arg4 fullShare d) ∗ (∃ d, ⌜∀ j, d j = BRS x0 x1 j⌝ ∗ owns (c : Thread nD τ) arg5 fullShare d) ∗ (∃ d, ⌜∀ j, d j = BCC x0 x1 j⌝ ∗ owns (c : Thread nD τ) arg6 fullShare d) ∗ (∃ d, ⌜cond0_1 i → ∀ (j : S4608x128.Idx) (j' : S128x4608.Idx), (j' 0).val = (j 1).val → (j' 1).val = (j 0).val → d j = BCS ((i 0).val % 16) x0 x1 d14 j'⌝ ∗ owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, ⌜(cond0_0 i → ∀ j, d j = BAC x0 x1 (fun _ => FloatOps.ofBits (F := Ideal) FTy.f32 0#32) j) ∧ (¬cond0_0 i → ∀ j, d j = BAC x0 x1 d12 j)⌝ ∗ owns (c : Thread nD τ) arg12 fullShare d) ∗ (∃ d, owns (c : Thread nD τ) arg13 fullShare d) ∗ (∃ d, ⌜∀ j, d j = BCS ((i 0).val % 16) x0 x1 d14 j⌝ ∗ owns (c : Thread nD τ) arg14 fullShare d)) -∗ K ⟨⟩))
      ⊢ wp frame (wpE (defs₀ (F := Ideal)) Variants.none c none) E (cc0_gelu_bwd_quant (F := Ideal) i arg1 harg1 arg2 harg2 arg3 harg3 arg4 harg4 arg5 harg5 arg6 harg6 arg7 harg7 arg8 harg8 arg9 harg9 arg10 harg10 arg11 harg11 arg12 harg12 arg13 harg13 arg14 harg14) K := by
  simp only [cc0_gelu_bwd_quant_eq_skeleton]; unfold cc0_gelu_bwd_quant_skel
  simp only [k0_part38_eq_skeleton]
  unfold owns
  iintro ⟨⟨%f1, %hf1, H1⟩, ⟨%f2, %hf2, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%f12, %hf12, H12⟩, ⟨%d13, %f13, -, H13⟩, ⟨%f14, %hf14, H14⟩, Hk⟩
  obtain rfl := harg1.eq_unread hf1; obtain rfl := harg2.eq_unread hf2
  obtain rfl := harg14.eq_unread hf14
  obtain rfl := harg12.eq_unread hf12
  sl_exec (disch := first | sl_exact hc0 | sl_exact hc1 | sl_exact hc2)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; swap
    · iexists _; isplitr; swap; · iexact H3
      ipureintro; rfl
    ipureintro
    exact fun h => absurd h hc2
  isplitl [H4]
  · iexists _; isplitr; swap
    · iexists _; isplitr; swap; · iexact H4
      ipureintro; rfl
    ipureintro
    exact fun j => (loop4 Variants.none c none i arg1 harg1 arg2 harg2 arg3 harg3 arg4 harg4 arg5 harg5 arg6 harg6 arg7 harg7 arg8 harg8 arg9 harg9 arg10 harg10 arg11 harg11 arg12 harg12 arg13 harg13 arg14 harg14 _ _ _ _ _ _ _ _ _ _ _ _  j).trans (SRC_eq arg1 arg2 harg1 harg2 x0 x1 j)
  isplitl [H5]
  · iexists _; isplitr; swap
    · iexists _; isplitr; swap; · iexact H5
      ipureintro; rfl
    ipureintro
    intro j
    unfold valRun_B.sl.v33
    rw [rd_unit arg5.view _ off2]
    unfold k0_pay223
    refine (transpose_apply (s := S144x256) (t := S256x144) _ _ _ j (fun a => match a with | ⟨0, _⟩ => ⟨(j 1).val, (j 1).isLt⟩ | ⟨1, _⟩ => ⟨(j 0).val, (j 0).isLt⟩) (fun b => by fin_cases b <;> rfl)).trans ?_
    rw [ra_unit arg13.view _ off2]
    refine (loop13 Variants.none c none i arg1 harg1 arg2 harg2 arg3 harg3 arg4 harg4 arg5 harg5 arg6 harg6 arg7 harg7 arg8 harg8 arg9 harg9 arg10 harg10 arg11 harg11 arg12 harg12 arg13 harg13 arg14 harg14 _ _ _ _ _ _ _ _ _ _ _ _  _).trans (SRS_eq arg1 arg2 harg1 harg2 x0 x1 _ j rfl rfl)
  isplitl [H6]
  · iexists _; isplitr; swap
    · iexists _; isplitr; swap; · iexact H6
      ipureintro; rfl
    ipureintro
    exact fun j => (loop6 Variants.none c none i arg1 harg1 arg2 harg2 arg3 harg3 arg4 harg4 arg5 harg5 arg6 harg6 arg7 harg7 arg8 harg8 arg9 harg9 arg10 harg10 arg11 harg11 arg12 harg12 arg13 harg13 arg14 harg14 _ _ _ _ _ _ _ _ _ _ _ _  j).trans (SCC_eq arg1 arg2 harg1 harg2 x0 x1 j)
  isplitl [H7]
  · iexists _; isplitr; swap
    · iexists _; isplitr; swap; · iexact H7
      ipureintro; rfl
    ipureintro
    exact fun h => absurd h hc1
  isplitl [H8]
  · iexists _, _; isplitr; swap; · iexact H8
    ipureintro; rfl
  isplitl [H9]
  · iexists _, _; isplitr; swap; · iexact H9
    ipureintro; rfl
  isplitl [H10]
  · iexists _, _; isplitr; swap; · iexact H10
    ipureintro; rfl
  isplitl [H11]
  · iexists _, _; isplitr; swap; · iexact H11
    ipureintro; rfl
  isplitl [H12]
  · iexists _; isplitr; swap
    · iexists _; isplitr; swap; · iexact H12
      ipureintro; rfl
    ipureintro
    refine ⟨fun h => absurd h hc0, fun _ => ?_⟩
    exact fun j => (loop12 Variants.none c none i arg1 harg1 arg2 harg2 arg3 harg3 arg4 harg4 arg5 harg5 arg6 harg6 arg7 harg7 arg8 harg8 arg9 harg9 arg10 harg10 arg11 harg11 arg12 harg12 arg13 harg13 arg14 harg14 _ _ _ _ _ _ _ _ _ _ _ _  j).trans (SAC_eq arg1 arg2 harg1 harg2 x0 x1 arg12 _ _ (harg12.read_unread d12) j)
  isplitl [H13]
  · iexists _, _; isplitr; swap; · iexact H13
    ipureintro; rfl
  iexists _; isplitr; swap
  · iexists _; isplitr; swap; · iexact H14
    ipureintro; rfl
  ipureintro
  intro j
  unfold BCS
  by_cases hb : (j 0).val / 8 = (i 0).val % 16
  · rw [if_pos hb]
    refine (loop14 Variants.none c none i arg1 harg1 arg2 harg2 arg3 harg3 arg4 harg4 arg5 harg5 arg6 harg6 arg7 harg7 arg8 harg8 arg9 harg9 arg10 harg10 arg11 harg11 arg12 harg12 arg13 harg13 arg14 harg14 _ _ _ _ _ _ _ _ _ _ _ _  j hb).trans ?_
    unfold SCS; rw [VV_eq]
  · rw [if_neg hb]
    refine (loop14_off Variants.none c none i arg1 harg1 arg2 harg2 arg3 harg3 arg4 harg4 arg5 harg5 arg6 harg6 arg7 harg7 arg8 harg8 arg9 harg9 arg10 harg10 arg11 harg11 arg12 harg12 arg13 harg13 arg14 harg14 _ _ _ _ _ _ _ _ _ _ _ _ j hb).trans ?_
    rw [harg14.read_unread]

set_option maxHeartbeats 4000000 in
/-- One grid point with the body's three conditions as named: the inputs' blocks come back as they were, and what the outputs' blocks and the carried buffers hold. -/
theorem valRun_C (c : Dev nD) (i : grid0.Coords) (arg1 : Memref sig .tc .vmem S256x4608 .bf16) (harg1 : arg1.IsWhole) (arg2 : Memref sig .tc .vmem S256x4608 .bf16) (harg2 : arg2.IsWhole) (arg3 : Memref sig .tc .vmem S1x4608 .f32) (harg3 : arg3.IsWhole) (arg4 : Memref sig .tc .vmem S256x4608 .fp8e5m2) (harg4 : arg4.IsWhole) (arg5 : Memref sig .tc .vmem S256x144 .f32) (harg5 : arg5.IsWhole) (arg6 : Memref sig .tc .vmem S4608x256 .fp8e5m2) (harg6 : arg6.IsWhole) (arg7 : Memref sig .tc .vmem S4608x128 .f32) (harg7 : arg7.IsWhole) (arg8 : Memref sig .tc .vmem S2x256x128 .f32) (harg8 : arg8.IsWhole) (arg9 : Memref sig .tc .vmem S2x256x128 .f32) (harg9 : arg9.IsWhole) (arg10 : Memref sig .tc .vmem S2x72x128 .f32) (harg10 : arg10.IsWhole) (arg11 : Memref sig .tc .vmem S2x72x128 .f32) (harg11 : arg11.IsWhole) (arg12 : Memref sig .tc .vmem S8x4608 .f32) (harg12 : arg12.IsWhole) (arg13 : Memref sig .tc .vmem S144x256 .f32) (harg13 : arg13.IsWhole) (arg14 : Memref sig .tc .vmem S128x4608 .f32) (harg14 : arg14.IsWhole)
    (hc0 : ¬cond0_0 i) (hc1 : cond0_1 i) (hc2 : ¬cond0_2 i) (x0 : Vec Ideal S256x4608 .bf16) (x1 : Vec Ideal S256x4608 .bf16) (d14 : Vec Ideal S128x4608 .f32) (d12 : Vec Ideal S8x4608 .f32) (E : Set ℕ) (K : PUnit → sProp 𝕄) :
    iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ owns (c : Thread nD τ) arg12 fullShare d12 ∗ (∃ d, owns (c : Thread nD τ) arg13 fullShare d) ∗ owns (c : Thread nD τ) arg14 fullShare d14
        ∗ (iprop(owns (c : Thread nD τ) arg1 fullShare x0 ∗ owns (c : Thread nD τ) arg2 fullShare x1 ∗ (∃ d, ⌜cond0_2 i → d = k0_pay2 (F := Ideal) (BAC x0 x1 d12)⌝ ∗ owns (c : Thread nD τ) arg3 fullShare d) ∗ (∃ d, ⌜∀ j, d j = BRC x0 x1 j⌝ ∗ owns (c : Thread nD τ) arg4 fullShare d) ∗ (∃ d, ⌜∀ j, d j = BRS x0 x1 j⌝ ∗ owns (c : Thread nD τ) arg5 fullShare d) ∗ (∃ d, ⌜∀ j, d j = BCC x0 x1 j⌝ ∗ owns (c : Thread nD τ) arg6 fullShare d) ∗ (∃ d, ⌜cond0_1 i → ∀ (j : S4608x128.Idx) (j' : S128x4608.Idx), (j' 0).val = (j 1).val → (j' 1).val = (j 0).val → d j = BCS ((i 0).val % 16) x0 x1 d14 j'⌝ ∗ owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, ⌜(cond0_0 i → ∀ j, d j = BAC x0 x1 (fun _ => FloatOps.ofBits (F := Ideal) FTy.f32 0#32) j) ∧ (¬cond0_0 i → ∀ j, d j = BAC x0 x1 d12 j)⌝ ∗ owns (c : Thread nD τ) arg12 fullShare d) ∗ (∃ d, owns (c : Thread nD τ) arg13 fullShare d) ∗ (∃ d, ⌜∀ j, d j = BCS ((i 0).val % 16) x0 x1 d14 j⌝ ∗ owns (c : Thread nD τ) arg14 fullShare d)) -∗ K ⟨⟩))
      ⊢ wp frame (wpE (defs₀ (F := Ideal)) Variants.none c none) E (cc0_gelu_bwd_quant (F := Ideal) i arg1 harg1 arg2 harg2 arg3 harg3 arg4 harg4 arg5 harg5 arg6 harg6 arg7 harg7 arg8 harg8 arg9 harg9 arg10 harg10 arg11 harg11 arg12 harg12 arg13 harg13 arg14 harg14) K := by
  simp only [cc0_gelu_bwd_quant_eq_skeleton]; unfold cc0_gelu_bwd_quant_skel
  simp only [k0_part38_eq_skeleton]
  unfold owns
  iintro ⟨⟨%f1, %hf1, H1⟩, ⟨%f2, %hf2, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%f12, %hf12, H12⟩, ⟨%d13, %f13, -, H13⟩, ⟨%f14, %hf14, H14⟩, Hk⟩
  obtain rfl := harg1.eq_unread hf1; obtain rfl := harg2.eq_unread hf2
  obtain rfl := harg14.eq_unread hf14
  obtain rfl := harg12.eq_unread hf12
  sl_exec (disch := first | sl_exact hc0 | sl_exact hc1 | sl_exact hc2)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; swap
    · iexists _; isplitr; swap; · iexact H3
      ipureintro; rfl
    ipureintro
    exact fun h => absurd h hc2
  isplitl [H4]
  · iexists _; isplitr; swap
    · iexists _; isplitr; swap; · iexact H4
      ipureintro; rfl
    ipureintro
    exact fun j => (loop4 Variants.none c none i arg1 harg1 arg2 harg2 arg3 harg3 arg4 harg4 arg5 harg5 arg6 harg6 arg7 harg7 arg8 harg8 arg9 harg9 arg10 harg10 arg11 harg11 arg12 harg12 arg13 harg13 arg14 harg14 _ _ _ _ _ _ _ _ _ _ _ _  j).trans (SRC_eq arg1 arg2 harg1 harg2 x0 x1 j)
  isplitl [H5]
  · iexists _; isplitr; swap
    · iexists _; isplitr; swap; · iexact H5
      ipureintro; rfl
    ipureintro
    intro j
    unfold valRun_C.sl.v33
    rw [rd_unit arg5.view _ off2]
    unfold k0_pay223
    refine (transpose_apply (s := S144x256) (t := S256x144) _ _ _ j (fun a => match a with | ⟨0, _⟩ => ⟨(j 1).val, (j 1).isLt⟩ | ⟨1, _⟩ => ⟨(j 0).val, (j 0).isLt⟩) (fun b => by fin_cases b <;> rfl)).trans ?_
    rw [ra_unit arg13.view _ off2]
    refine (loop13 Variants.none c none i arg1 harg1 arg2 harg2 arg3 harg3 arg4 harg4 arg5 harg5 arg6 harg6 arg7 harg7 arg8 harg8 arg9 harg9 arg10 harg10 arg11 harg11 arg12 harg12 arg13 harg13 arg14 harg14 _ _ _ _ _ _ _ _ _ _ _ _  _).trans (SRS_eq arg1 arg2 harg1 harg2 x0 x1 _ j rfl rfl)
  isplitl [H6]
  · iexists _; isplitr; swap
    · iexists _; isplitr; swap; · iexact H6
      ipureintro; rfl
    ipureintro
    exact fun j => (loop6 Variants.none c none i arg1 harg1 arg2 harg2 arg3 harg3 arg4 harg4 arg5 harg5 arg6 harg6 arg7 harg7 arg8 harg8 arg9 harg9 arg10 harg10 arg11 harg11 arg12 harg12 arg13 harg13 arg14 harg14 _ _ _ _ _ _ _ _ _ _ _ _  j).trans (SCC_eq arg1 arg2 harg1 harg2 x0 x1 j)
  isplitl [H7]
  · iexists _; isplitr; swap
    · iexists _; isplitr; swap; · iexact H7
      ipureintro; rfl
    ipureintro
    intro _ j j' e0 e1
    unfold valRun_C.sl.v54
    refine (congrFun (rd_unit (s := S4608x128) arg7.view _ off2 _ _) j).trans ?_
    unfold k0_pay1
    refine (transpose_apply (s := S128x4608) (t := S4608x128) _ _ _ j j' (fun b => by fin_cases b; exacts [e1, e0])).trans ?_
    refine (congrFun (ra_unit (s := S128x4608) arg14.view _ off2 _) _).trans ?_
    unfold BCS
    by_cases hb : (j' 0).val / 8 = (i 0).val % 16
    · rw [if_pos hb]
      refine (loop14 Variants.none c none i arg1 harg1 arg2 harg2 arg3 harg3 arg4 harg4 arg5 harg5 arg6 harg6 arg7 harg7 arg8 harg8 arg9 harg9 arg10 harg10 arg11 harg11 arg12 harg12 arg13 harg13 arg14 harg14 _ _ _ _ _ _ _ _ _ _ _ _  j' hb).trans ?_
      unfold SCS; rw [VV_eq]
    · rw [if_neg hb]
      refine (loop14_off Variants.none c none i arg1 harg1 arg2 harg2 arg3 harg3 arg4 harg4 arg5 harg5 arg6 harg6 arg7 harg7 arg8 harg8 arg9 harg9 arg10 harg10 arg11 harg11 arg12 harg12 arg13 harg13 arg14 harg14 _ _ _ _ _ _ _ _ _ _ _ _ j' hb).trans ?_
      rw [harg14.read_unread]
  isplitl [H8]
  · iexists _, _; isplitr; swap; · iexact H8
    ipureintro; rfl
  isplitl [H9]
  · iexists _, _; isplitr; swap; · iexact H9
    ipureintro; rfl
  isplitl [H10]
  · iexists _, _; isplitr; swap; · iexact H10
    ipureintro; rfl
  isplitl [H11]
  · iexists _, _; isplitr; swap; · iexact H11
    ipureintro; rfl
  isplitl [H12]
  · iexists _; isplitr; swap
    · iexists _; isplitr; swap; · iexact H12
      ipureintro; rfl
    ipureintro
    refine ⟨fun h => absurd h hc0, fun _ => ?_⟩
    exact fun j => (loop12 Variants.none c none i arg1 harg1 arg2 harg2 arg3 harg3 arg4 harg4 arg5 harg5 arg6 harg6 arg7 harg7 arg8 harg8 arg9 harg9 arg10 harg10 arg11 harg11 arg12 harg12 arg13 harg13 arg14 harg14 _ _ _ _ _ _ _ _ _ _ _ _  j).trans (SAC_eq arg1 arg2 harg1 harg2 x0 x1 arg12 _ _ (harg12.read_unread d12) j)
  isplitl [H13]
  · iexists _, _; isplitr; swap; · iexact H13
    ipureintro; rfl
  iexists _; isplitr; swap
  · iexists _; isplitr; swap; · iexact H14
    ipureintro; rfl
  ipureintro
  intro j
  unfold BCS
  by_cases hb : (j 0).val / 8 = (i 0).val % 16
  · rw [if_pos hb]
    refine (loop14 Variants.none c none i arg1 harg1 arg2 harg2 arg3 harg3 arg4 harg4 arg5 harg5 arg6 harg6 arg7 harg7 arg8 harg8 arg9 harg9 arg10 harg10 arg11 harg11 arg12 harg12 arg13 harg13 arg14 harg14 _ _ _ _ _ _ _ _ _ _ _ _  j hb).trans ?_
    unfold SCS; rw [VV_eq]
  · rw [if_neg hb]
    refine (loop14_off Variants.none c none i arg1 harg1 arg2 harg2 arg3 harg3 arg4 harg4 arg5 harg5 arg6 harg6 arg7 harg7 arg8 harg8 arg9 harg9 arg10 harg10 arg11 harg11 arg12 harg12 arg13 harg13 arg14 harg14 _ _ _ _ _ _ _ _ _ _ _ _ j hb).trans ?_
    rw [harg14.read_unread]

set_option maxHeartbeats 4000000 in
/-- One grid point with the body's three conditions as named: the inputs' blocks come back as they were, and what the outputs' blocks and the carried buffers hold. -/
theorem valRun_D (c : Dev nD) (i : grid0.Coords) (arg1 : Memref sig .tc .vmem S256x4608 .bf16) (harg1 : arg1.IsWhole) (arg2 : Memref sig .tc .vmem S256x4608 .bf16) (harg2 : arg2.IsWhole) (arg3 : Memref sig .tc .vmem S1x4608 .f32) (harg3 : arg3.IsWhole) (arg4 : Memref sig .tc .vmem S256x4608 .fp8e5m2) (harg4 : arg4.IsWhole) (arg5 : Memref sig .tc .vmem S256x144 .f32) (harg5 : arg5.IsWhole) (arg6 : Memref sig .tc .vmem S4608x256 .fp8e5m2) (harg6 : arg6.IsWhole) (arg7 : Memref sig .tc .vmem S4608x128 .f32) (harg7 : arg7.IsWhole) (arg8 : Memref sig .tc .vmem S2x256x128 .f32) (harg8 : arg8.IsWhole) (arg9 : Memref sig .tc .vmem S2x256x128 .f32) (harg9 : arg9.IsWhole) (arg10 : Memref sig .tc .vmem S2x72x128 .f32) (harg10 : arg10.IsWhole) (arg11 : Memref sig .tc .vmem S2x72x128 .f32) (harg11 : arg11.IsWhole) (arg12 : Memref sig .tc .vmem S8x4608 .f32) (harg12 : arg12.IsWhole) (arg13 : Memref sig .tc .vmem S144x256 .f32) (harg13 : arg13.IsWhole) (arg14 : Memref sig .tc .vmem S128x4608 .f32) (harg14 : arg14.IsWhole)
    (hc0 : ¬cond0_0 i) (hc1 : cond0_1 i) (hc2 : cond0_2 i) (x0 : Vec Ideal S256x4608 .bf16) (x1 : Vec Ideal S256x4608 .bf16) (d14 : Vec Ideal S128x4608 .f32) (d12 : Vec Ideal S8x4608 .f32) (E : Set ℕ) (K : PUnit → sProp 𝕄) :
    iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ owns (c : Thread nD τ) arg12 fullShare d12 ∗ (∃ d, owns (c : Thread nD τ) arg13 fullShare d) ∗ owns (c : Thread nD τ) arg14 fullShare d14
        ∗ (iprop(owns (c : Thread nD τ) arg1 fullShare x0 ∗ owns (c : Thread nD τ) arg2 fullShare x1 ∗ (∃ d, ⌜cond0_2 i → d = k0_pay2 (F := Ideal) (BAC x0 x1 d12)⌝ ∗ owns (c : Thread nD τ) arg3 fullShare d) ∗ (∃ d, ⌜∀ j, d j = BRC x0 x1 j⌝ ∗ owns (c : Thread nD τ) arg4 fullShare d) ∗ (∃ d, ⌜∀ j, d j = BRS x0 x1 j⌝ ∗ owns (c : Thread nD τ) arg5 fullShare d) ∗ (∃ d, ⌜∀ j, d j = BCC x0 x1 j⌝ ∗ owns (c : Thread nD τ) arg6 fullShare d) ∗ (∃ d, ⌜cond0_1 i → ∀ (j : S4608x128.Idx) (j' : S128x4608.Idx), (j' 0).val = (j 1).val → (j' 1).val = (j 0).val → d j = BCS ((i 0).val % 16) x0 x1 d14 j'⌝ ∗ owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, ⌜(cond0_0 i → ∀ j, d j = BAC x0 x1 (fun _ => FloatOps.ofBits (F := Ideal) FTy.f32 0#32) j) ∧ (¬cond0_0 i → ∀ j, d j = BAC x0 x1 d12 j)⌝ ∗ owns (c : Thread nD τ) arg12 fullShare d) ∗ (∃ d, owns (c : Thread nD τ) arg13 fullShare d) ∗ (∃ d, ⌜∀ j, d j = BCS ((i 0).val % 16) x0 x1 d14 j⌝ ∗ owns (c : Thread nD τ) arg14 fullShare d)) -∗ K ⟨⟩))
      ⊢ wp frame (wpE (defs₀ (F := Ideal)) Variants.none c none) E (cc0_gelu_bwd_quant (F := Ideal) i arg1 harg1 arg2 harg2 arg3 harg3 arg4 harg4 arg5 harg5 arg6 harg6 arg7 harg7 arg8 harg8 arg9 harg9 arg10 harg10 arg11 harg11 arg12 harg12 arg13 harg13 arg14 harg14) K := by
  simp only [cc0_gelu_bwd_quant_eq_skeleton]; unfold cc0_gelu_bwd_quant_skel
  simp only [k0_part38_eq_skeleton]
  unfold owns
  iintro ⟨⟨%f1, %hf1, H1⟩, ⟨%f2, %hf2, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%f12, %hf12, H12⟩, ⟨%d13, %f13, -, H13⟩, ⟨%f14, %hf14, H14⟩, Hk⟩
  obtain rfl := harg1.eq_unread hf1; obtain rfl := harg2.eq_unread hf2
  obtain rfl := harg14.eq_unread hf14
  obtain rfl := harg12.eq_unread hf12
  sl_exec (disch := first | sl_exact hc0 | sl_exact hc1 | sl_exact hc2)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; swap
    · iexists _; isplitr; swap; · iexact H3
      ipureintro; rfl
    ipureintro
    intro _
    unfold valRun_D.sl.v54_1
    refine (rd_unit (s := S1x4608) arg3.view _ off2 _ _).trans ?_
    refine congrArg (k0_pay2 (F := Ideal)) ?_
    refine (ra_unit (s := S8x4608) arg12.view _ off2 _).trans ?_
    funext j
    exact (loop12 Variants.none c none i arg1 harg1 arg2 harg2 arg3 harg3 arg4 harg4 arg5 harg5 arg6 harg6 arg7 harg7 arg8 harg8 arg9 harg9 arg10 harg10 arg11 harg11 arg12 harg12 arg13 harg13 arg14 harg14 _ _ _ _ _ _ _ _ _ _ _ _  j).trans (SAC_eq arg1 arg2 harg1 harg2 x0 x1 arg12 _ _ (harg12.read_unread d12) j)
  isplitl [H4]
  · iexists _; isplitr; swap
    · iexists _; isplitr; swap; · iexact H4
      ipureintro; rfl
    ipureintro
    exact fun j => (loop4 Variants.none c none i arg1 harg1 arg2 harg2 arg3 harg3 arg4 harg4 arg5 harg5 arg6 harg6 arg7 harg7 arg8 harg8 arg9 harg9 arg10 harg10 arg11 harg11 arg12 harg12 arg13 harg13 arg14 harg14 _ _ _ _ _ _ _ _ _ _ _ _  j).trans (SRC_eq arg1 arg2 harg1 harg2 x0 x1 j)
  isplitl [H5]
  · iexists _; isplitr; swap
    · iexists _; isplitr; swap; · iexact H5
      ipureintro; rfl
    ipureintro
    intro j
    unfold valRun_D.sl.v33
    rw [rd_unit arg5.view _ off2]
    unfold k0_pay223
    refine (transpose_apply (s := S144x256) (t := S256x144) _ _ _ j (fun a => match a with | ⟨0, _⟩ => ⟨(j 1).val, (j 1).isLt⟩ | ⟨1, _⟩ => ⟨(j 0).val, (j 0).isLt⟩) (fun b => by fin_cases b <;> rfl)).trans ?_
    rw [ra_unit arg13.view _ off2]
    refine (loop13 Variants.none c none i arg1 harg1 arg2 harg2 arg3 harg3 arg4 harg4 arg5 harg5 arg6 harg6 arg7 harg7 arg8 harg8 arg9 harg9 arg10 harg10 arg11 harg11 arg12 harg12 arg13 harg13 arg14 harg14 _ _ _ _ _ _ _ _ _ _ _ _  _).trans (SRS_eq arg1 arg2 harg1 harg2 x0 x1 _ j rfl rfl)
  isplitl [H6]
  · iexists _; isplitr; swap
    · iexists _; isplitr; swap; · iexact H6
      ipureintro; rfl
    ipureintro
    exact fun j => (loop6 Variants.none c none i arg1 harg1 arg2 harg2 arg3 harg3 arg4 harg4 arg5 harg5 arg6 harg6 arg7 harg7 arg8 harg8 arg9 harg9 arg10 harg10 arg11 harg11 arg12 harg12 arg13 harg13 arg14 harg14 _ _ _ _ _ _ _ _ _ _ _ _  j).trans (SCC_eq arg1 arg2 harg1 harg2 x0 x1 j)
  isplitl [H7]
  · iexists _; isplitr; swap
    · iexists _; isplitr; swap; · iexact H7
      ipureintro; rfl
    ipureintro
    intro _ j j' e0 e1
    unfold valRun_D.sl.v54
    refine (congrFun (rd_unit (s := S4608x128) arg7.view _ off2 _ _) j).trans ?_
    unfold k0_pay1
    refine (transpose_apply (s := S128x4608) (t := S4608x128) _ _ _ j j' (fun b => by fin_cases b; exacts [e1, e0])).trans ?_
    refine (congrFun (ra_unit (s := S128x4608) arg14.view _ off2 _) _).trans ?_
    unfold BCS
    by_cases hb : (j' 0).val / 8 = (i 0).val % 16
    · rw [if_pos hb]
      refine (loop14 Variants.none c none i arg1 harg1 arg2 harg2 arg3 harg3 arg4 harg4 arg5 harg5 arg6 harg6 arg7 harg7 arg8 harg8 arg9 harg9 arg10 harg10 arg11 harg11 arg12 harg12 arg13 harg13 arg14 harg14 _ _ _ _ _ _ _ _ _ _ _ _  j' hb).trans ?_
      unfold SCS; rw [VV_eq]
    · rw [if_neg hb]
      refine (loop14_off Variants.none c none i arg1 harg1 arg2 harg2 arg3 harg3 arg4 harg4 arg5 harg5 arg6 harg6 arg7 harg7 arg8 harg8 arg9 harg9 arg10 harg10 arg11 harg11 arg12 harg12 arg13 harg13 arg14 harg14 _ _ _ _ _ _ _ _ _ _ _ _ j' hb).trans ?_
      rw [harg14.read_unread]
  isplitl [H8]
  · iexists _, _; isplitr; swap; · iexact H8
    ipureintro; rfl
  isplitl [H9]
  · iexists _, _; isplitr; swap; · iexact H9
    ipureintro; rfl
  isplitl [H10]
  · iexists _, _; isplitr; swap; · iexact H10
    ipureintro; rfl
  isplitl [H11]
  · iexists _, _; isplitr; swap; · iexact H11
    ipureintro; rfl
  isplitl [H12]
  · iexists _; isplitr; swap
    · iexists _; isplitr; swap; · iexact H12
      ipureintro; rfl
    ipureintro
    refine ⟨fun h => absurd h hc0, fun _ => ?_⟩
    exact fun j => (loop12 Variants.none c none i arg1 harg1 arg2 harg2 arg3 harg3 arg4 harg4 arg5 harg5 arg6 harg6 arg7 harg7 arg8 harg8 arg9 harg9 arg10 harg10 arg11 harg11 arg12 harg12 arg13 harg13 arg14 harg14 _ _ _ _ _ _ _ _ _ _ _ _  j).trans (SAC_eq arg1 arg2 harg1 harg2 x0 x1 arg12 _ _ (harg12.read_unread d12) j)
  isplitl [H13]
  · iexists _, _; isplitr; swap; · iexact H13
    ipureintro; rfl
  iexists _; isplitr; swap
  · iexists _; isplitr; swap; · iexact H14
    ipureintro; rfl
  ipureintro
  intro j
  unfold BCS
  by_cases hb : (j 0).val / 8 = (i 0).val % 16
  · rw [if_pos hb]
    refine (loop14 Variants.none c none i arg1 harg1 arg2 harg2 arg3 harg3 arg4 harg4 arg5 harg5 arg6 harg6 arg7 harg7 arg8 harg8 arg9 harg9 arg10 harg10 arg11 harg11 arg12 harg12 arg13 harg13 arg14 harg14 _ _ _ _ _ _ _ _ _ _ _ _  j hb).trans ?_
    unfold SCS; rw [VV_eq]
  · rw [if_neg hb]
    refine (loop14_off Variants.none c none i arg1 harg1 arg2 harg2 arg3 harg3 arg4 harg4 arg5 harg5 arg6 harg6 arg7 harg7 arg8 harg8 arg9 harg9 arg10 harg10 arg11 harg11 arg12 harg12 arg13 harg13 arg14 harg14 _ _ _ _ _ _ _ _ _ _ _ _ j hb).trans ?_
    rw [harg14.read_unread]

end Cert.KernelIdeal.Gen

end
-- ==== Proof.KernelIdeal.SemV.lean ====
/- The specification of the kernel's results over the whole arrays, and a block's values in its terms. -/
module

public import proofs.«01_k».proof.Proof.KernelIdeal.RunV
public import proofs.«01_k».proof.Proof.Gen.KernelIdeal.Frame

@[expose] public section

noncomputable section

namespace Cert.KernelIdeal.Gen

open Idealize.ShloMosaic Idealize.ShloMosaic.TcCoe Idealize.ShloMosaic.Tactic
open Idealize.SL Idealize.SL.RA Idealize.SL.BI
open scoped Idealize.SL.BI

variable (m : (ℓ : Loc nD τ sig) → Buf (Elt Ideal) ℓ)

/-- The input array `x` as the region finds it. -/
def XV (c : Dev nD) : S33792x4608.Idx → EReal := V m c (Pipeline.arrRef spec0 0)
/-- The input array `grad` as the region finds it. -/
def GVar (c : Dev nD) : S33792x4608.Idx → EReal := V m c (Pipeline.arrRef spec0 1)
/-- The derivative times the gradient, at an element of the whole array. -/
def WV (c : Dev nD) (r q : ℕ) : EReal := kd (ext2 (a := 33792) (b := 4608) (XV m c) r q) (ext2 (a := 33792) (b := 4608) (GVar m c) r q)

theorem index0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem index1 : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)

theorem iblk0_apply (c : Dev nD) (t : Fin cfg0.N) (j : S256x4608.Idx) :
    iblk m c 0 t j = ext2 (a := 33792) (b := 4608) (XV m c) (256 * t.val + (j 0).val) (j 1).val := by
  have e := ext2_idx (a := 33792) (b := 4608) (XV m c) ((win0_0.rect t).emb j)
  have e0 : ((win0_0.rect t).emb j (0 : Fin 2)).val = 256 * t.val + (j 0).val := by
    rw [Pipeline.Window.rect_emb_val win0_0 t j 0, (index0 t).1]
    show t.val * 256 + _ = _
    omega
  have e1 : ((win0_0.rect t).emb j (1 : Fin 2)).val = (j 1).val := by
    rw [Pipeline.Window.rect_emb_val win0_0 t j 1, (index0 t).2]
    omega
  rw [← e0, ← e1]
  exact e.symm
theorem iblk1_apply (c : Dev nD) (t : Fin cfg0.N) (j : S256x4608.Idx) :
    iblk m c 1 t j = ext2 (a := 33792) (b := 4608) (GVar m c) (256 * t.val + (j 0).val) (j 1).val := by
  have e := ext2_idx (a := 33792) (b := 4608) (GVar m c) ((win0_1.rect t).emb j)
  have e0 : ((win0_1.rect t).emb j (0 : Fin 2)).val = 256 * t.val + (j 0).val := by
    rw [Pipeline.Window.rect_emb_val win0_1 t j 0, (index1 t).1]
    show t.val * 256 + _ = _
    omega
  have e1 : ((win0_1.rect t).emb j (1 : Fin 2)).val = (j 1).val := by
    rw [Pipeline.Window.rect_emb_val win0_1 t j 1, (index1 t).2]
    omega
  rw [← e0, ← e1]
  exact e.symm

/-- A block's element is the whole array's. -/
theorem BV_eq (c : Dev nD) (t : Fin cfg0.N) (r q : ℕ) (hr : r < 256) :
    BV (iblk m c 0 t) (iblk m c 1 t) r q = WV m c (256 * t.val + r) q := by
  have ht : t.val < 132 := lt_of_lt_of_eq t.isLt (show cfg0.N = 132 from N_0)
  unfold BV WV
  by_cases hq : q < 4608
  · have h0 : ext2 (a := 256) (b := 4608) (iblk m c 0 t) r q = ext2 (a := 33792) (b := 4608) (XV m c) (256 * t.val + r) q := by
      rw [ext2, dif_pos ⟨hr, hq⟩]; exact iblk0_apply m c t _
    have h1 : ext2 (a := 256) (b := 4608) (iblk m c 1 t) r q = ext2 (a := 33792) (b := 4608) (GVar m c) (256 * t.val + r) q := by
      rw [ext2, dif_pos ⟨hr, hq⟩]; exact iblk1_apply m c t _
    rw [h0, h1]
  · unfold ext2
    rw [dif_neg (fun h => hq h.2), dif_neg (fun h => hq h.2), dif_neg (fun h => hq h.2), dif_neg (fun h => hq h.2)]

theorem amaxN_congr (f g : ℕ → EReal) (b b' : ℕ) (h : ∀ k < 32, f (b + k) = g (b' + k)) : amaxN f b = amaxN g b' := by
  have h0 : f b = g b' := h 0 (by decide)
  unfold amaxN gpm
  simp (discharger := decide) only [h, h0, Nat.add_assoc, Nat.reduceAdd]

/-- The codes along the rows. -/
def GRC (W : ℕ → ℕ → EReal) (r q : ℕ) : EReal := kclip (W r q) (kinv (amaxN (W r) (32 * (q / 32))))
/-- The codes along the columns. -/
def GCC (W : ℕ → ℕ → EReal) (q r : ℕ) : EReal := kclip (W r q) (kinv (amaxN (fun r => W r q) (32 * (r / 32))))
/-- The scales along the rows. -/
def GRS (W : ℕ → ℕ → EReal) (r q : ℕ) : EReal := kscale (amaxN (W r) (32 * q))
/-- The scales along the columns. -/
def GCS (W : ℕ → ℕ → EReal) (q r : ℕ) : EReal := kscale (amaxN (fun r => W r q) (32 * r))
/-- The accumulator before a grid point. -/
def GAC (W : ℕ → ℕ → EReal) : ℕ → ℕ → ℕ → EReal
  | 0, _, _ => FloatOps.ofBits (F := Ideal) FTy.f32 0#32
  | t + 1, s, q => accN (GAC W t s q) (fun r => W (256 * t + r) q) s

theorem BRC_eq (c : Dev nD) (t : Fin cfg0.N) (j : S256x4608.Idx) :
    BRC (iblk m c 0 t) (iblk m c 1 t) j = GRC (WV m c) (256 * t.val + (j 0).val) (j 1).val := by
  have h0 : (j 0).val < 256 := (j 0).isLt
  unfold BRC GRC
  refine congrArg₂ kclip (BV_eq m c t _ _ h0) (congrArg kinv (amaxN_congr _ _ _ _ fun k _ => ?_))
  exact BV_eq m c t _ _ h0
theorem BRS_eq (c : Dev nD) (t : Fin cfg0.N) (j : S256x144.Idx) :
    BRS (iblk m c 0 t) (iblk m c 1 t) j = GRS (WV m c) (256 * t.val + (j 0).val) (j 1).val := by
  have h0 : (j 0).val < 256 := (j 0).isLt
  unfold BRS GRS
  refine congrArg (fun a => kscale a) (amaxN_congr _ _ _ _ fun k _ => ?_)
  exact BV_eq m c t _ _ h0
theorem BCC_eq (c : Dev nD) (t : Fin cfg0.N) (j : S4608x256.Idx) :
    BCC (iblk m c 0 t) (iblk m c 1 t) j = GCC (WV m c) (j 0).val (256 * t.val + (j 1).val) := by
  have h0 : (j 1).val < 256 := (j 1).isLt
  unfold BCC GCC
  refine congrArg₂ kclip (BV_eq m c t _ _ h0) (congrArg kinv (amaxN_congr _ _ _ _ fun k hk => ?_))
  refine (BV_eq m c t _ _ (by omega)).trans ?_
  show WV m c _ _ = WV m c _ _
  congr 1
  omega
theorem BCS_eq (c : Dev nD) (t : Fin cfg0.N) (d : S128x4608.Idx → EReal)
    (hd : ∀ j : S128x4608.Idx, (j 0).val < 8 * (t.val % 16) → d j = GCS (WV m c) (j 1).val (128 * (t.val / 16) + (j 0).val))
    (j : S128x4608.Idx) (hj : (j 0).val < 8 * (t.val % 16) + 8) :
    BCS (t.val % 16) (iblk m c 0 t) (iblk m c 1 t) d j = GCS (WV m c) (j 1).val (128 * (t.val / 16) + (j 0).val) := by
  unfold BCS
  by_cases hb : (j 0).val / 8 = t.val % 16
  · rw [if_pos hb]
    unfold GCS
    refine congrArg (fun a => kscale a) (amaxN_congr _ _ _ _ fun k hk => ?_)
    refine (BV_eq m c t _ _ (by omega)).trans ?_
    show WV m c _ _ = WV m c _ _
    congr 1
    omega
  · rw [if_neg hb]
    exact hd j (by omega)
theorem accN_congr (a a' : EReal) (f g : ℕ → EReal) (s : ℕ) (hs : s < 8) (h : ∀ k < 256, f k = g k) (ha : a = a') : accN a f s = accN a' g s := by
  subst ha
  unfold accN grp
  simp only [h _ (show 0 + s < 256 by omega), h _ (show 0 + s + 8 < 256 by omega)]
  have e : ∀ b < 225, (f (b + s) + f (b + s + 8)) + (f (b + s + 16) + f (b + s + 24)) = (g (b + s) + g (b + s + 8)) + (g (b + s + 16) + g (b + s + 24)) := by
    intro b hb
    rw [h _ (by omega), h _ (by omega), h _ (by omega), h _ (by omega)]
  rw [h _ (show 0 + s + 16 < 256 by omega), h _ (show 0 + s + 24 < 256 by omega), e 32 (by decide), e 64 (by decide), e 96 (by decide), e 128 (by decide), e 160 (by decide), e 192 (by decide), e 224 (by decide)]
theorem BAC_eq (c : Dev nD) (t : Fin cfg0.N) (d : S8x4608.Idx → EReal) (hd : ∀ j : S8x4608.Idx, d j = GAC (WV m c) t.val (j 0).val (j 1).val) (j : S8x4608.Idx) :
    BAC (iblk m c 0 t) (iblk m c 1 t) d j = GAC (WV m c) (t.val + 1) (j 0).val (j 1).val :=
  accN_congr _ _ _ _ _ (j 0).isLt (fun k hk => BV_eq m c t k _ hk) (hd j)

end Cert.KernelIdeal.Gen

end
-- ==== Proof.KernelIdeal.FrameV.lean ====
/- The body's obligation with values: what every grid point leaves in the outputs and carries on. -/
module

public import proofs.«01_k».proof.Proof.KernelIdeal.SemV
public import proofs.«01_k».proof.Proof.KernelIdeal.Frame

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- What is carried in the accumulator before point `t`. -/
def PAc (c : Dev nD) (t : ℕ) (d : S8x4608.Idx → EReal) : Prop := t ≠ 0 → ∀ j : S8x4608.Idx, d j = GAC (WV m c) t (j 0).val (j 1).val
/-- What is carried of the column scales before point `t`. -/
def PCs (c : Dev nD) (t : ℕ) (d : S128x4608.Idx → EReal) : Prop :=
  ∀ j : S128x4608.Idx, (j 0).val < 8 * (t % 16) → d j = GCS (WV m c) (j 1).val (128 * (t / 16) + (j 0).val)

/-- The invariant between points. -/
def PhiV (c : Dev nD) (t : ℕ) : sProp 𝕄 :=
  iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, ⌜PAc m c t d⌝ ∗ owns (c : Thread nD τ) scM0_4 fullShare d) ∗ (∃ d, owns (c : Thread nD τ) scM0_5 fullShare d) ∗ (∃ d, ⌜PCs m c t d⌝ ∗ owns (c : Thread nD τ) scM0_6 fullShare d)) ∗ (∃ r, prngReg c r))

/-- The proof data: the arrays as the region finds them, each input's block left in place, the carried buffers as `PhiV` says. -/
def datV (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => Dat.unnamed 2 t
    | ⟨3, _⟩ => Dat.unnamed 3 t
    | ⟨4, _⟩ => Dat.unnamed 4 t
    | ⟨5, _⟩ => Dat.unnamed 5 t
    | ⟨6, _⟩ => Dat.unnamed 6 t
  Φ t := PhiV m c t.val
  q _ := fullShare
  owed _ := 0

/-- What a point leaves of the sum over the rows. -/
def R2 (c : Dev nD) (t : ℕ) (X : S1x4608.Idx → EReal) : Prop :=
  t = 131 → X = k0_pay2 (F := Ideal) (fun j : S8x4608.Idx => GAC (WV m c) 132 (j 0).val (j 1).val)
/-- What a point leaves of the codes along the rows. -/
def R3 (c : Dev nD) (t : ℕ) (X : S256x4608.Idx → EReal) : Prop := ∀ j : S256x4608.Idx, X j = GRC (WV m c) (256 * t + (j 0).val) (j 1).val
/-- What a point leaves of the scales along the rows. -/
def R4 (c : Dev nD) (t : ℕ) (X : S256x144.Idx → EReal) : Prop := ∀ j : S256x144.Idx, X j = GRS (WV m c) (256 * t + (j 0).val) (j 1).val
/-- What a point leaves of the codes along the columns. -/
def R5 (c : Dev nD) (t : ℕ) (X : S4608x256.Idx → EReal) : Prop := ∀ j : S4608x256.Idx, X j = GCC (WV m c) (j 0).val (256 * t + (j 1).val)
/-- What a point leaves of the scales along the columns. -/
def R6 (c : Dev nD) (t : ℕ) (X : S4608x128.Idx → EReal) : Prop :=
  (t % 16 = 15 ∨ t = 131) → ∀ j : S4608x128.Idx, (j 1).val < 8 * (t % 16) + 8 → X j = GCS (WV m c) (j 0).val (128 * (t / 16) + (j 1).val)

/-- What is asked of the outputs. -/
def RlV (c : Dev nD) (w : Fin cfg0.W) (t : Fin cfg0.N) (X : (cfg0.win w).block.Idx → Elt Ideal (cfg0.win w).elt) : Prop :=
  match w, X with
  | ⟨0, _⟩, _ => True
  | ⟨1, _⟩, _ => True
  | ⟨2, _⟩, X => R2 m c t.val X
  | ⟨3, _⟩, X => R3 m c t.val X
  | ⟨4, _⟩, X => R4 m c t.val X
  | ⟨5, _⟩, X => R5 m c t.val X
  | ⟨6, _⟩, X => R6 m c t.val X

/-- The arrays of the proof data. -/
theorem A_eqV (c : Dev nD) (w : Fin cfg0.W) : (datV m 0 c).A w = V m c (Pipeline.arrRef spec0 w) := by
  dsimp only [datV]

theorem after0_0V (c : Dev nD) (t : Fin cfg0.N) : (datV m 0 c).after 0 t = iblk m c 0 t := by dsimp only [datV]
theorem after0_1V (c : Dev nD) (t : Fin cfg0.N) : (datV m 0 c).after 1 t = iblk m c 1 t := by dsimp only [datV]
theorem before0_0V (c : Dev nD) (t : Fin cfg0.N) (d) : (datV m 0 c).before 0 t d = iblk m c 0 t :=
  before0_0_of m (datV m 0 c) (A_eqV m c 0) (after0_0V m c) t d
theorem before0_1V (c : Dev nD) (t : Fin cfg0.N) (d) : (datV m 0 c).before 1 t d = iblk m c 1 t :=
  before0_1_of m (datV m 0 c) (A_eqV m c 1) (after0_1V m c) t d

/-- One grid point, whichever of the body's conditions hold there. -/
theorem valRun (c : Dev nD) (t : Fin cfg0.N) (arg1 : Memref sig .tc .vmem S256x4608 .bf16) (harg1 : arg1.IsWhole) (arg2 : Memref sig .tc .vmem S256x4608 .bf16) (harg2 : arg2.IsWhole) (arg3 : Memref sig .tc .vmem S1x4608 .f32) (harg3 : arg3.IsWhole) (arg4 : Memref sig .tc .vmem S256x4608 .fp8e5m2) (harg4 : arg4.IsWhole) (arg5 : Memref sig .tc .vmem S256x144 .f32) (harg5 : arg5.IsWhole) (arg6 : Memref sig .tc .vmem S4608x256 .fp8e5m2) (harg6 : arg6.IsWhole) (arg7 : Memref sig .tc .vmem S4608x128 .f32) (harg7 : arg7.IsWhole) (arg8 : Memref sig .tc .vmem S2x256x128 .f32) (harg8 : arg8.IsWhole) (arg9 : Memref sig .tc .vmem S2x256x128 .f32) (harg9 : arg9.IsWhole) (arg10 : Memref sig .tc .vmem S2x72x128 .f32) (harg10 : arg10.IsWhole) (arg11 : Memref sig .tc .vmem S2x72x128 .f32) (harg11 : arg11.IsWhole) (arg12 : Memref sig .tc .vmem S8x4608 .f32) (harg12 : arg12.IsWhole) (arg13 : Memref sig .tc .vmem S144x256 .f32) (harg13 : arg13.IsWhole) (arg14 : Memref sig .tc .vmem S128x4608 .f32) (harg14 : arg14.IsWhole)
    (x0 : Vec Ideal S256x4608 .bf16) (x1 : Vec Ideal S256x4608 .bf16) (d14 : Vec Ideal S128x4608 .f32) (d12 : Vec Ideal S8x4608 .f32) (E : Set ℕ) (K : PUnit → sProp 𝕄) :
    iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ owns (c : Thread nD τ) arg12 fullShare d12 ∗ (∃ d, owns (c : Thread nD τ) arg13 fullShare d) ∗ owns (c : Thread nD τ) arg14 fullShare d14
        ∗ (iprop(owns (c : Thread nD τ) arg1 fullShare x0 ∗ owns (c : Thread nD τ) arg2 fullShare x1 ∗ (∃ d, ⌜cond0_2 (grid0.coords t) → d = k0_pay2 (F := Ideal) (BAC x0 x1 d12)⌝ ∗ owns (c : Thread nD τ) arg3 fullShare d) ∗ (∃ d, ⌜∀ j, d j = BRC x0 x1 j⌝ ∗ owns (c : Thread nD τ) arg4 fullShare d) ∗ (∃ d, ⌜∀ j, d j = BRS x0 x1 j⌝ ∗ owns (c : Thread nD τ) arg5 fullShare d) ∗ (∃ d, ⌜∀ j, d j = BCC x0 x1 j⌝ ∗ owns (c : Thread nD τ) arg6 fullShare d) ∗ (∃ d, ⌜cond0_1 (grid0.coords t) → ∀ (j : S4608x128.Idx) (j' : S128x4608.Idx), (j' 0).val = (j 1).val → (j' 1).val = (j 0).val → d j = BCS ((grid0.coords t 0).val % 16) x0 x1 d14 j'⌝ ∗ owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, ⌜(cond0_0 (grid0.coords t) → ∀ j, d j = BAC x0 x1 (fun _ => FloatOps.ofBits (F := Ideal) FTy.f32 0#32) j) ∧ (¬cond0_0 (grid0.coords t) → ∀ j, d j = BAC x0 x1 d12 j)⌝ ∗ owns (c : Thread nD τ) arg12 fullShare d) ∗ (∃ d, owns (c : Thread nD τ) arg13 fullShare d) ∗ (∃ d, ⌜∀ j, d j = BCS ((grid0.coords t 0).val % 16) x0 x1 d14 j⌝ ∗ owns (c : Thread nD τ) arg14 fullShare d)) -∗ K ⟨⟩))
      ⊢ wp Idealize.ShloMosaic.frame (wpE (defs₀ (F := Ideal)) Variants.none c none) E (cc0_gelu_bwd_quant (F := Ideal) (grid0.coords t) arg1 harg1 arg2 harg2 arg3 harg3 arg4 harg4 arg5 harg5 arg6 harg6 arg7 harg7 arg8 harg8 arg9 harg9 arg10 harg10 arg11 harg11 arg12 harg12 arg13 harg13 arg14 harg14) K := by
  by_cases h0 : cond0_0 (grid0.coords t)
  · have e0 := (hcond0_0 t).mp h0
    have h1 : ¬cond0_1 (grid0.coords t) := fun h => by have := (hcond0_1 t).mp h; omega
    have h2 : ¬cond0_2 (grid0.coords t) := fun h => by have := (hcond0_2 t).mp h; omega
    exact valRun_A c (grid0.coords t) _ _ _ _ _ _ _ _ _ _ _ _ _ _ _ _ _ _ _ _ _ _ _ _ _ _ _ _ h0 h1 h2 x0 x1 d14 d12 E K
  · by_cases h1 : cond0_1 (grid0.coords t)
    · by_cases h2 : cond0_2 (grid0.coords t)
      · exact valRun_D c (grid0.coords t) _ _ _ _ _ _ _ _ _ _ _ _ _ _ _ _ _ _ _ _ _ _ _ _ _ _ _ _ h0 h1 h2 x0 x1 d14 d12 E K
      · exact valRun_C c (grid0.coords t) _ _ _ _ _ _ _ _ _ _ _ _ _ _ _ _ _ _ _ _ _ _ _ _ _ _ _ _ h0 h1 h2 x0 x1 d14 d12 E K
    · have h2 : ¬cond0_2 (grid0.coords t) := fun h => h1 ((hcond0_1 t).mpr (by have := (hcond0_2 t).mp h; omega))
      exact valRun_B c (grid0.coords t) _ _ _ _ _ _ _ _ _ _ _ _ _ _ _ _ _ _ _ _ _ _ _ _ _ _ _ _ h0 h1 h2 x0 x1 d14 d12 E K

/-- What the body is called with at point `t`. -/
def bodyPreV (c : Dev nD) (t : Fin cfg0.N) : sProp 𝕄 :=
  iprop((datV m 0 c).Φ t.castSucc ∗ (datV m 0 c).owesAt () t.castSucc
    ∗ (∃ d, owns (c : Thread nD τ) (ms0_0 t) fullShare ((datV m 0 c).before 0 t d))
    ∗ (∃ d, owns (c : Thread nD τ) (ms0_1 t) fullShare ((datV m 0 c).before 1 t d))
    ∗ (∃ Y, ⌜((datV m 0 c).toRRel outs (RlV m c)).Finds 2 t Y⌝ ∗ owns (c : Thread nD τ) (ms0_2 t) fullShare Y)
    ∗ (∃ Y, ⌜((datV m 0 c).toRRel outs (RlV m c)).Finds 3 t Y⌝ ∗ owns (c : Thread nD τ) (ms0_3 t) fullShare Y)
    ∗ (∃ Y, ⌜((datV m 0 c).toRRel outs (RlV m c)).Finds 4 t Y⌝ ∗ owns (c : Thread nD τ) (ms0_4 t) fullShare Y)
    ∗ (∃ Y, ⌜((datV m 0 c).toRRel outs (RlV m c)).Finds 5 t Y⌝ ∗ owns (c : Thread nD τ) (ms0_5 t) fullShare Y)
    ∗ (∃ Y, ⌜((datV m 0 c).toRRel outs (RlV m c)).Finds 6 t Y⌝ ∗ owns (c : Thread nD τ) (ms0_6 t) fullShare Y))

/-- What it returns. -/
def bodyPostV (c : Dev nD) (t : Fin cfg0.N) : sProp 𝕄 :=
  iprop((datV m 0 c).Φ t.succ ∗ (datV m 0 c).owesAt () t.succ
    ∗ owns (c : Thread nD τ) (ms0_0 t) fullShare ((datV m 0 c).after 0 t)
    ∗ owns (c : Thread nD τ) (ms0_1 t) fullShare ((datV m 0 c).after 1 t)
    ∗ (∃ X, ⌜RlV m c 2 t X⌝ ∗ owns (c : Thread nD τ) (ms0_2 t) fullShare X)
    ∗ (∃ X, ⌜RlV m c 3 t X⌝ ∗ owns (c : Thread nD τ) (ms0_3 t) fullShare X)
    ∗ (∃ X, ⌜RlV m c 4 t X⌝ ∗ owns (c : Thread nD τ) (ms0_4 t) fullShare X)
    ∗ (∃ X, ⌜RlV m c 5 t X⌝ ∗ owns (c : Thread nD τ) (ms0_5 t) fullShare X)
    ∗ (∃ X, ⌜RlV m c 6 t X⌝ ∗ owns (c : Thread nD τ) (ms0_6 t) fullShare X))

theorem coords_val0 (t : Fin cfg0.N) : (grid0.coords t 0).val = t.val := by
  have ht : t.val < 132 := Nat.lt_of_lt_of_eq t.isLt N_0
  have e0 : (grid0.coords t 0).val = t.val / 1 % 132 := Pipeline.Grid.coords_val t 0 (by decide) rfl
  omega

set_option maxHeartbeats 4000000 in
/-- The body at any point meets what the pipeline asks of it. -/
theorem sound_bodyV (c : Dev nD) (t : Fin cfg0.N) :
    bodyPreV m c t ⊢ wp Idealize.ShloMosaic.frame (wpE (defs₀ (F := Ideal)) Variants.none c none) Set.univ (bodyAt0 t) (fun _ => bodyPostV m c t) := by
  unfold bodyPreV bodyPostV bodyAt0
  simp only [before0_0V, before0_1V, after0_0V, after0_1V]
  rw [show (datV m 0 c).owesAt () t.succ = (datV m 0 c).owesAt () t.castSucc from rfl]
  rw [show (datV m 0 c).Φ t.castSucc = PhiV m c t.val from rfl, show (datV m 0 c).Φ t.succ = PhiV m c (t.val + 1) from rfl]
  unfold PhiV
  have hN : t.val < 132 := lt_of_lt_of_eq t.isLt (show cfg0.N = 132 from N_0)
  iintro ⟨⟨⟨HS0, HS1, HS2, HS3, ⟨%d12, %hd12, HS4⟩, HS5, ⟨%d14, %hd14, HS6⟩⟩, Hg⟩, Ho, ⟨%d0, H0⟩, ⟨%d1, H1⟩, ⟨%Y2, -, H2⟩, ⟨%Y3, -, H3⟩, ⟨%Y4, -, H4⟩, ⟨%Y5, -, H5⟩, ⟨%Y6, -, H6⟩⟩
  iapply valRun c t _ _ _ _ _ _ _ _ _ _ _ _ _ _ _ _ _ _ _ _ _ _ _ _ _ _ _ _ (iblk m c 0 t) (iblk m c 1 t) d14 d12 Set.univ _
  isplitl [H0]; · iexact H0
  isplitl [H1]; · iexact H1
  isplitl [H2]; · iexists _; iexact H2
  isplitl [H3]; · iexists _; iexact H3
  isplitl [H4]; · iexists _; iexact H4
  isplitl [H5]; · iexists _; iexact H5
  isplitl [H6]; · iexists _; iexact H6
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  iintro ⟨H0, H1, ⟨%X2, %hX2, H2⟩, ⟨%X3, %hX3, H3⟩, ⟨%X4, %hX4, H4⟩, ⟨%X5, %hX5, H5⟩, ⟨%X6, %hX6, H6⟩, HS0, HS1, HS2, HS3, ⟨%e12, %he12, HS4⟩, HS5, ⟨%e14, %he14, HS6⟩⟩
  rw [coords_val0] at hX6 he14
  have hA : ∀ j : S8x4608.Idx, e12 j = GAC (WV m c) (t.val + 1) (j 0).val (j 1).val := by
    intro j
    by_cases h0 : cond0_0 (grid0.coords t)
    · have e0 : t.val = 0 := by have := (hcond0_0 t).mp h0; omega
      refine (he12.1 h0 j).trans (BAC_eq m c t _ (fun j => ?_) j)
      rw [e0]; rfl
    · have e0 : t.val ≠ 0 := fun e => h0 ((hcond0_0 t).mpr (by omega))
      exact (he12.2 h0 j).trans (BAC_eq m c t _ (hd12 e0) j)
  isplitl [HS0 HS1 HS2 HS3 HS4 HS5 HS6 Hg]
  · isplitl [HS0 HS1 HS2 HS3 HS4 HS5 HS6]
    · isplitl [HS0]; · iexact HS0
      isplitl [HS1]; · iexact HS1
      isplitl [HS2]; · iexact HS2
      isplitl [HS3]; · iexact HS3
      isplitl [HS4]
      · iexists _; isplitr; swap; · iexact HS4
        ipureintro; exact fun _ => hA
      isplitl [HS5]; · iexact HS5
      iexists _; isplitr; swap; · iexact HS6
      ipureintro
      intro j hj
      have e : 128 * ((t.val + 1) / 16) = 128 * (t.val / 16) := by omega
      rw [e]
      exact (he14 j).trans (BCS_eq m c t d14 hd14 j (by omega))
    iexact Hg
  isplitl [Ho]; · iexact Ho
  isplitl [H0]; · iexact H0
  isplitl [H1]; · iexact H1
  isplitl [H2]
  · iexists X2; isplitr; swap; · iexact H2
    ipureintro
    intro e
    have h0 : ¬cond0_0 (grid0.coords t) := fun h => by have := (hcond0_0 t).mp h; omega
    refine (hX2 ((hcond0_2 t).mpr (by omega))).trans (congrArg (k0_pay2 (F := Ideal)) ?_)
    funext j
    refine ((he12.2 h0 j).symm.trans (hA j)).trans ?_
    rw [e]
  isplitl [H3]
  · iexists X3; isplitr; swap; · iexact H3
    ipureintro
    exact fun j => (hX3 j).trans (BRC_eq m c t j)
  isplitl [H4]
  · iexists X4; isplitr; swap; · iexact H4
    ipureintro
    exact fun j => (hX4 j).trans (BRS_eq m c t j)
  isplitl [H5]
  · iexists X5; isplitr; swap; · iexact H5
    ipureintro
    exact fun j => (hX5 j).trans (BCC_eq m c t j)
  iexists X6; isplitr; swap; · iexact H6
  ipureintro
  intro e j hj
  have hj0 : (j 1).val < 128 := (j 1).isLt
  refine (hX6 ((hcond0_1 t).mpr (by rw [Nat.mod_eq_of_lt hN]; omega)) j (fun a => match a with | ⟨0, _⟩ => ⟨(j 1).val, (j 1).isLt⟩ | ⟨1, _⟩ => ⟨(j 0).val, (j 0).isLt⟩) rfl rfl).trans ?_
  exact BCS_eq m c t d14 hd14 _ hj

/-- The library's body obligation, at every point. -/
theorem body_obligationV (c : Dev nD) : Pipeline.BodyObligationRel (datV m 0 c) (defs₀ (F := Ideal)) Variants.none () Set.univ outs (RlV m c) := fun t => by
  rw [bigSep_W0, bigSep_W0, defs₀_row]
  exact triple_restated (sound_bodyV m c t) rfl .rfl fun _ => .rfl

theorem PhiV_in (c : Dev nD) : (Pipeline.ΦA spec0 c : sProp 𝕄) ⊢ PhiV m c 0 := by
  rw [PhiA0_eq]
  unfold PhiV
  iintro ⟨⟨HS0, HS1, HS2, HS3, ⟨%d12, HS4⟩, HS5, ⟨%d14, HS6⟩⟩, Hg⟩
  isplitl [HS0 HS1 HS2 HS3 HS4 HS5 HS6]
  · isplitl [HS0]; · iexact HS0
    isplitl [HS1]; · iexact HS1
    isplitl [HS2]; · iexact HS2
    isplitl [HS3]; · iexact HS3
    isplitl [HS4]
    · iexists d12; isplitr; swap; · iexact HS4
      ipureintro; exact fun h => absurd rfl h
    isplitl [HS5]; · iexact HS5
    iexists d14; isplitr; swap; · iexact HS6
    ipureintro; exact fun j hj => absurd hj (by omega)
  iexact Hg
theorem PhiV_out (c : Dev nD) (t : ℕ) : PhiV m c t ⊢ (Pipeline.ΦA spec0 c : sProp 𝕄) := by
  rw [PhiA0_eq]
  unfold PhiV
  iintro ⟨⟨HS0, HS1, HS2, HS3, ⟨%d12, -, HS4⟩, HS5, ⟨%d14, -, HS6⟩⟩, Hg⟩
  isplitl [HS0 HS1 HS2 HS3 HS4 HS5 HS6]
  · isplitl [HS0]; · iexact HS0
    isplitl [HS1]; · iexact HS1
    isplitl [HS2]; · iexact HS2
    isplitl [HS3]; · iexact HS3
    isplitl [HS4]; · iexists d12; iexact HS4
    isplitl [HS5]; · iexact HS5
    iexists d14; iexact HS6
  iexact Hg

set_option backward.isDefEq.respectTransparency.types false in
/-- The launch: the run ends with every array as the relation says and every semaphore counter at zero. -/
theorem run_main_quiescentV : θ_run defs (onTc (τ := τ) (main (F := Ideal))) (s₀ m ρ)
    (fun r => RDat.FramePost cfg0 (fun c => (datV m 0 c).toRRel outs (RlV m c)) (V m) r ∧ r.2.sem = fun _ => 0) :=
  RDat.θ_run_frame_track (Q' := _) cfgs (0 : Fin 1) launch0 defs₀ Variants.none (fun c => (datV m 0 c).toRRel outs (RlV m c)) m ρ main
    (hbody := fun c => (body_obligationV m c).toRRel) (hshare := fun c => (datV m 0 c).share_full fun _ => rfl)
    (howed := fun _ _ => rfl) (V := V m) (hmain := hmain m Variants.none) (hA := A_eqV m)
    (hin := fun c => PhiV_in m c) (hout := fun c => PhiV_out m c _)

end Cert.KernelIdeal.Gen

end
-- ==== Proof.KernelIdeal.ArrV.lean ====
/- The kernel's results after its run, over the whole arrays. -/
module

public import proofs.«01_k».proof.Proof.KernelIdeal.FrameV

@[expose] public section

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.ShloMosaic.Pipeline (Dat RDat Cfg Window)

variable (m : (ℓ : Loc nD τ sig) → Buf (Elt Ideal) ℓ) (ρ : Dev nD → PrngReg)

theorem index3 : ∀ t : Fin cfg0.N, win0_3.index t (0 : Fin 2) = t.val ∧ win0_3.index t (1 : Fin 2) = 0 :=
  (by decide +kernel : ∀ t : Fin grid0.N, win0_3.index t (0 : Fin 2) = t.val ∧ win0_3.index t (1 : Fin 2) = 0)
theorem index4 : ∀ t : Fin cfg0.N, win0_4.index t (0 : Fin 2) = t.val ∧ win0_4.index t (1 : Fin 2) = 0 :=
  (by decide +kernel : ∀ t : Fin grid0.N, win0_4.index t (0 : Fin 2) = t.val ∧ win0_4.index t (1 : Fin 2) = 0)
theorem index5 : ∀ t : Fin cfg0.N, win0_5.index t (0 : Fin 2) = 0 ∧ win0_5.index t (1 : Fin 2) = t.val :=
  (by decide +kernel : ∀ t : Fin grid0.N, win0_5.index t (0 : Fin 2) = 0 ∧ win0_5.index t (1 : Fin 2) = t.val)
theorem index6 : ∀ t : Fin cfg0.N, win0_6.index t (0 : Fin 2) = 0 ∧ win0_6.index t (1 : Fin 2) = t.val / 16 :=
  (by decide +kernel : ∀ t : Fin grid0.N, win0_6.index t (0 : Fin 2) = 0 ∧ win0_6.index t (1 : Fin 2) = t.val / 16)
theorem flush6 : ∀ t : Fin cfg0.N, win0_6.flush t = true → t.val % 16 = 15 ∨ t.val = 131 :=
  (by decide +kernel : ∀ t : Fin grid0.N, win0_6.flush t = true → t.val % 16 = 15 ∨ t.val = 131)
theorem xsize6 : ∀ t : Fin cfg0.N, win0_6.flush t = true → win0_6.xsize (grid0.coords t) (1 : Fin 2) ≤ 8 * (t.val % 16) + 8 :=
  (by decide +kernel : ∀ t : Fin grid0.N, win0_6.flush t = true → win0_6.xsize (grid0.coords t) (1 : Fin 2) ≤ 8 * (t.val % 16) + 8)
theorem whole2 : (win0_2).WholeAt (⟨131, by rw [N_0]; decide⟩ : Fin grid0.N) := by decide +kernel

/-- What the run leaves in the results' arrays. -/
structure Results (c : Dev nD) (s : (ℓ : Loc nD τ sig) → Buf (Elt Ideal) ℓ) : Prop where
  dbias : ∀ j : S1x4608.Idx, s ((c.tc : Thread nD τ).loc main_v0_0) j = k0_pay2 (F := Ideal) (fun j : S8x4608.Idx => GAC (WV m c) 132 (j 0).val (j 1).val) j
  rc : ∀ j : S33792x4608.Idx, s ((c.tc : Thread nD τ).loc main_v0_1) j = GRC (WV m c) (j 0).val (j 1).val
  rs : ∀ j : S33792x144.Idx, s ((c.tc : Thread nD τ).loc main_v0_2) j = GRS (WV m c) (j 0).val (j 1).val
  cc : ∀ j : S4608x33792.Idx, s ((c.tc : Thread nD τ).loc main_v0_3) j = GCC (WV m c) (j 0).val (j 1).val
  cs : ∀ j : S4608x1056.Idx, s ((c.tc : Thread nD τ).loc main_v0_4) j = GCS (WV m c) (j 0).val (j 1).val

theorem results (c : Dev nD) (r : PUnit × MemSt nD τ sig (Elt Ideal))
    (h : RDat.FramePost cfg0 (fun c => (datV m 0 c).toRRel outs (RlV m c)) (V m) r) : Results m c r.2.mem := by
  obtain ⟨after, hL, hA⟩ := RDat.FramePost.exists_exact h c
  have hR : ∀ (w : Fin cfg0.W) (u : Fin cfg0.N), outs w = true → (cfg0.win w).flush u = true → RlV m c w u (after w u) :=
    fun w u ho hf => (datV m 0 c).toRRel_leaves ho (hL w u hf)
  refine ⟨fun j => ?_, fun j => ?_, fun j => ?_, fun j => ?_, fun j => ?_⟩
  · refine (congrFun (hA 2) j).trans ?_
    refine (Dat.arrAt_emb_eq_after_last (((datV m 0 c).toRRel outs (RlV m c)).withAfter after) 2 _ whole2 j).trans ?_
    exact congrFun (hR 2 ⟨131, by rw [show cfg0.N = 132 from N_0]; decide⟩ rfl whole2.1 rfl) j
  · refine (congrFun (hA 3) j).trans ?_
    refine Dat.arrAt_forall_of_covers (((datV m 0 c).toRRel outs (RlV m c)).withAfter after) 3 (fun i v => v = GRC (WV m c) (i (0 : Fin 2)).val (i (1 : Fin 2)).val) (by decide +kernel) (fun t hf y => ?_) j
    refine (hR 3 t rfl hf y).trans ?_
    have e0 := Pipeline.Window.rect_emb_val win0_3 t y (0 : Fin 2)
    have e1 := Pipeline.Window.rect_emb_val win0_3 t y (1 : Fin 2)
    rw [(index3 t).1] at e0
    rw [(index3 t).2] at e1
    have s0 : win0_3.size (0 : Fin 2) = 256 := rfl
    refine congrArg₂ (GRC (WV m c)) (Eq.trans ?_ e0.symm) (Eq.trans ?_ e1.symm)
    · rw [s0]; show 256 * t.val + (y (0 : Fin 2)).val = _; omega
    · show (y (1 : Fin 2)).val = _; omega
  · refine (congrFun (hA 4) j).trans ?_
    refine Dat.arrAt_forall_of_covers (((datV m 0 c).toRRel outs (RlV m c)).withAfter after) 4 (fun i v => v = GRS (WV m c) (i (0 : Fin 2)).val (i (1 : Fin 2)).val) (by decide +kernel) (fun t hf y => ?_) j
    refine (hR 4 t rfl hf y).trans ?_
    have e0 := Pipeline.Window.rect_emb_val win0_4 t y (0 : Fin 2)
    have e1 := Pipeline.Window.rect_emb_val win0_4 t y (1 : Fin 2)
    rw [(index4 t).1] at e0
    rw [(index4 t).2] at e1
    have s0 : win0_4.size (0 : Fin 2) = 256 := rfl
    refine congrArg₂ (GRS (WV m c)) (Eq.trans ?_ e0.symm) (Eq.trans ?_ e1.symm)
    · rw [s0]; show 256 * t.val + (y (0 : Fin 2)).val = _; omega
    · show (y (1 : Fin 2)).val = _; omega
  · refine (congrFun (hA 5) j).trans ?_
    refine Dat.arrAt_forall_of_covers (((datV m 0 c).toRRel outs (RlV m c)).withAfter after) 5 (fun i v => v = GCC (WV m c) (i (0 : Fin 2)).val (i (1 : Fin 2)).val) (by decide +kernel) (fun t hf y => ?_) j
    refine (hR 5 t rfl hf y).trans ?_
    have e0 := Pipeline.Window.rect_emb_val win0_5 t y (0 : Fin 2)
    have e1 := Pipeline.Window.rect_emb_val win0_5 t y (1 : Fin 2)
    rw [(index5 t).1] at e0
    rw [(index5 t).2] at e1
    have s1 : win0_5.size (1 : Fin 2) = 256 := rfl
    refine congrArg₂ (GCC (WV m c)) (Eq.trans ?_ e0.symm) (Eq.trans ?_ e1.symm)
    · show (y (0 : Fin 2)).val = _; omega
    · rw [s1]; show 256 * t.val + (y (1 : Fin 2)).val = _; omega
  · refine (congrFun (hA 6) j).trans ?_
    refine Dat.arrAt_forall_of_covers (((datV m 0 c).toRRel outs (RlV m c)).withAfter after) 6 (fun i v => v = GCS (WV m c) (i (0 : Fin 2)).val (i (1 : Fin 2)).val) (by decide +kernel) (fun t hf y => ?_) j
    have hy := (y (1 : Fin 2)).isLt
    refine (hR 6 t rfl hf (flush6 t hf) _ (lt_of_lt_of_le hy (xsize6 t hf))).trans ?_
    have e0 := Pipeline.Window.rect_emb_val win0_6 t y (0 : Fin 2)
    have e1 := Pipeline.Window.rect_emb_val win0_6 t y (1 : Fin 2)
    rw [(index6 t).1] at e0
    rw [(index6 t).2] at e1
    have s1 : win0_6.size (1 : Fin 2) = 128 := rfl
    refine congrArg₂ (GCS (WV m c)) (Eq.trans ?_ e0.symm) (Eq.trans ?_ e1.symm)
    · show (y (0 : Fin 2)).val = _; omega
    · rw [s1]; show 128 * (t.val / 16) + (y (1 : Fin 2)).val = _; omega

/-- Every weakly fair execution of the kernel ends with the results as specified and the arguments as they were. -/
theorem value_run : θ_run defs (onTc (τ := τ) (main (F := Ideal))) ⟨m, fun _ => 0, ρ⟩ (fun r => ∀ c : Dev nD, Results m c r.2.mem
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨results m c r h.1, (h.1.arr_in c 0 rfl).trans (A_eqV m c 0), (h.1.arr_in c 1 rfl).trans (A_eqV m c 1)⟩) (run_main_quiescentV m ρ)

end Cert.KernelIdeal.Gen

end
-- ==== Proof.ReferenceIdeal.Fn.lean ====
/- What the reference computes, element by element, over the extended reals. -/
module

public import proofs.«01_k».proof.Proof.KernelIdeal.Sem
public import Idealize.ShloMosaic.PureOps.Ideal.Laws

@[expose] public section

noncomputable section

namespace Cert.ReferenceIdeal.Gen

open Idealize.ShloMosaic
open Cert.KernelIdeal.Gen (cst eabs ext2 ext2_idx)

/-- The argument of the hyperbolic tangent. -/
def ru (x : EReal) : EReal := cst 0x3F4C422A#32 * x + cst 0x3D122279#32 * x * x * x

/-- The reference's product of one gradient element and the derivative at one element. -/
def rd (x g : EReal) : EReal :=
  g * (cst 0x3F000000#32 * (cst 0x3F800000#32 + Ideal.tanh (ru x))
    + cst 0x3F000000#32 * x * (cst 0x3F800000#32 - Ideal.tanh (ru x) * Ideal.tanh (ru x))
      * (cst 0x3F4C422A#32 + cst 0x3DDB33B6#32 * x * x))

/-- The largest absolute value of a group, scaled by the format's largest value. -/
def ry (a : EReal) : EReal := a * cst 0x37924925#32

/-- The scale's exponent. -/
def re (a : EReal) : EReal :=
  Scalar.select (Ideal.cmp .olt (ry a) (cst 0x00800000#32)) (cst 0x00000000#32)
    (FloatOps.hostUnary (F := Ideal) (φ := .f32) .floor (Ideal.div (Ideal.log (ry a)) (Ideal.log (cst 0x40000000#32))) + cst 0x3F800000#32)

/-- The scale of a group whose largest absolute value is `a`. -/
def rscale (a : EReal) : EReal := Ideal.pow (cst 0x40000000#32) (re a)
/-- The scale's inverse of a group whose largest absolute value is `a`. -/
def rinv (a : EReal) : EReal := Ideal.pow (cst 0x40000000#32) (-(re a))

/-- A quantised value before the cast. -/
def rclip (v i : EReal) : EReal := min (cst 0x47600000#32) (max (cst 0xC7600000#32) (v * i))

/-- The maximum of the 32 absolute values from `b`. -/
def rmaxN (f : ℕ → EReal) (b : ℕ) : EReal :=
  (Finset.univ : Finset (Fin 32)).fold max (cst 0xFF800000#32) (fun k => eabs (f (b + k.val)))

end Cert.ReferenceIdeal.Gen

end
-- ==== Proof.ReferenceIdeal.Val.lean ====
/- The reference's host operations, read as one function of the arguments, element by element. -/
module

public import proofs.«01_k».proof.Proof.Gen.ReferenceIdeal.Frame
public import proofs.«01_k».proof.Proof.ReferenceIdeal.Fn
public import Idealize.ShloMosaic.Lib.StableHlo.RunRead
public import Idealize.ShloMosaic.Lib.KernelVsHost
public import Idealize.ShloMosaic.Lib.Pointwise.Reduce

@[expose] public section

noncomputable section

namespace Cert.ReferenceIdeal.Gen

open Idealize.ShloMosaic Idealize.ShloMosaic.TcCoe Idealize.ShloMosaic.Tactic
open Idealize.SL Idealize.SL.RA Idealize.SL.BI
open scoped Idealize.SL.BI
open Cert.KernelIdeal.Gen (cst eabs ext2 ext2_idx)

variable (m : (ℓ : Loc nD τ sig) → Buf (Elt Ideal) ℓ)

/-- The first argument. -/
def RX (c : Dev nD) : S33792x4608.Idx → EReal := m (c, (Proc.tc.devRef main_arg0))
/-- The second argument. -/
def RG (c : Dev nD) : S33792x4608.Idx → EReal := m (c, (Proc.tc.devRef main_arg1))
/-- The derivative times the gradient. -/
def RD (c : Dev nD) : S33792x4608.Idx → EReal := fun j => rd (RX m c j) (RG m c j)
/-- The same by two naturals. -/
def RW (c : Dev nD) (r q : ℕ) : EReal := rd (ext2 (a := 33792) (b := 4608) (RX m c) r q) (ext2 (a := 33792) (b := 4608) (RG m c) r q)

theorem RD_RW (c : Dev nD) (j : S33792x4608.Idx) : RD m c j = RW m c (j 0).val (j 1).val :=
  (congrArg₂ rd (ext2_idx (a := 33792) (b := 4608) (RX m c) j) (ext2_idx (a := 33792) (b := 4608) (RG m c) j)).symm

set_option maxHeartbeats 2000000 in
theorem V27 (c : Dev nD) : V m c main_v27 = RD m c := by
  unfold V
  after_reads_simp
  rfl

/-- The groups along the rows. -/
def R30 (c : Dev nD) : FVec Ideal S33792x144x32 .f32 := fun i => shapeCast S33792x144x32 (RD m c) shapeCasts_S33792x4608_S33792x144x32 i
/-- The groups along the columns. -/
def R55 (c : Dev nD) : FVec Ideal S1056x32x4608 .f32 := fun i => shapeCast S1056x32x4608 (RD m c) shapeCasts_S33792x4608_S1056x32x4608 i
/-- The largest absolute values of the groups along the rows. -/
def R32 (c : Dev nD) : FVec Ideal S33792x144 .f32 :=
  Host.reduce FloatOps.maximumf (Host.absf (R30 m c)) (constant S_ FTy.f32 4286578688#32) reducesTo_S33792x144x32_S33792x144_d2 h_S_
/-- The largest absolute values of the groups along the columns. -/
def R57 (c : Dev nD) : FVec Ideal S1056x4608 .f32 :=
  Host.reduce FloatOps.maximumf (Host.absf (R55 m c)) (constant S_ FTy.f32 4286578688#32) reducesTo_S1056x32x4608_S1056x4608_d1 h_S_

set_option maxHeartbeats 2000000 in
theorem V29 (c : Dev nD) : V m c main_v29 = broadcastInDim S1x4608 ![1] bcast_S4608_S1x4608_1
    (Host.reduceAdd (F := Ideal) (φ := .f32) (RD m c) (constant S_ FTy.f32 0#32) reducesTo_S33792x4608_S4608_d0 h_S_) := by
  unfold V
  after_reads_simp
  rfl

set_option maxHeartbeats 2000000 in
theorem V32 (c : Dev nD) : V m c main_v32 = R32 m c := by
  unfold V
  after_reads_simp
  rfl

/-- The exponents of the scales. -/
def EXv {s : Shape} (h : Shape.BroadcastsInDim S_ s ![]) (a : FVec Ideal s .f32) : FVec Ideal s .f32 :=
  select (cmpf .olt (mulf a (broadcastInDim s ![] h (constant S_ FTy.f32 932333861#32))) (broadcastInDim s ![] h (constant S_ FTy.f32 8388608#32)))
    (broadcastInDim s ![] h (constant S_ FTy.f32 0#32))
    (addf (Host.floor (Host.divf (Host.log (mulf a (broadcastInDim s ![] h (constant S_ FTy.f32 932333861#32))))
      (broadcastInDim s ![] h (Host.log (constant S_ FTy.f32 1073741824#32))))) (broadcastInDim s ![] h (constant S_ FTy.f32 1065353216#32)))

theorem EXv_apply {s : Shape} (h) (a : FVec Ideal s .f32) (j : s.Idx) : EXv h a j = re (a j) := rfl

/-- The scales. -/
def SCv {s : Shape} (h : Shape.BroadcastsInDim S_ s ![]) (a : FVec Ideal s .f32) : FVec Ideal s .f32 :=
  Host.powf (broadcastInDim s ![] h (constant S_ FTy.f32 1073741824#32)) (EXv h a)
theorem SCv_apply {s : Shape} (h) (a : FVec Ideal s .f32) (j : s.Idx) : SCv h a j = rscale (a j) := rfl
/-- The inverses of the scales. -/
def IVv {s : Shape} (h : Shape.BroadcastsInDim S_ s ![]) (a : FVec Ideal s .f32) : FVec Ideal s .f32 :=
  Host.powf (broadcastInDim s ![] h (constant S_ FTy.f32 1073741824#32)) (Host.negf (EXv h a))
theorem IVv_apply {s : Shape} (h) (a : FVec Ideal s .f32) (j : s.Idx) : IVv h a j = rinv (a j) := rfl

set_option maxHeartbeats 2000000 in
theorem V46 (c : Dev nD) : V m c main_v46 = SCv bcast_S_S33792x144 (R32 m c) := by
  unfold V
  after_reads_simp
  simp -implicitDefEqProofs only [StableHlo.TRef.toBuf, StableHlo.TRef.ofBuf, cast_cast, cast_eq, id]
  rfl

/-- The clip to the format's range. -/
def CLv {s : Shape} (h : Shape.BroadcastsInDim S_ s ![]) (a : FVec Ideal s .f32) : FVec Ideal s .f32 :=
  minimumf (broadcastInDim s ![] h (constant S_ FTy.f32 0x47600000#32)) (maximumf (broadcastInDim s ![] h (constant S_ FTy.f32 0xC7600000#32)) a)
theorem CLv_apply {s : Shape} (h) (a : FVec Ideal s .f32) (j : s.Idx) :
    CLv h a j = min (cst 0x47600000#32) (max (cst 0xC7600000#32) (a j)) := rfl

set_option maxHeartbeats 2000000 in
theorem V54 (c : Dev nD) : V m c main_v54 = shapeCast S33792x4608 (CLv bcast_S_S33792x144x32 (mulf (R30 m c)
    (broadcastInDim S33792x144x32 ![0, 1, 2] bcast_S33792x144x1_S33792x144x32_0_1_2
      (broadcastInDim S33792x144x1 ![0, 1] bcast_S33792x144_S33792x144x1_0_1 (IVv bcast_S_S33792x144 (R32 m c)))))) shapeCasts_S33792x144x32_S33792x4608 := by
  unfold V
  after_reads_simp
  simp -implicitDefEqProofs only [StableHlo.TRef.toBuf, StableHlo.TRef.ofBuf, cast_cast, cast_eq, id]
  rfl

set_option maxHeartbeats 2000000 in
theorem V81 (c : Dev nD) : V m c main_v81 = transpose S4608x1056 [1, 0] (SCv bcast_S_S1056x4608 (R57 m c)) transposes_S1056x4608_S4608x1056_1_0 := by
  unfold V
  after_reads_simp
  simp -implicitDefEqProofs only [StableHlo.TRef.toBuf, StableHlo.TRef.ofBuf, cast_cast, cast_eq, id]
  rfl

set_option maxHeartbeats 2000000 in
theorem V80 (c : Dev nD) : V m c main_v80 = transpose S4608x33792 [1, 0] (shapeCast S33792x4608 (CLv bcast_S_S1056x32x4608 (mulf (R55 m c)
    (broadcastInDim S1056x32x4608 ![0, 1, 2] bcast_S1056x1x4608_S1056x32x4608_0_1_2
      (broadcastInDim S1056x1x4608 ![0, 2] bcast_S1056x4608_S1056x1x4608_0_2 (IVv bcast_S_S1056x4608 (R57 m c))))))
    shapeCasts_S1056x32x4608_S33792x4608) transposes_S33792x4608_S4608x33792_1_0 := by
  unfold V
  after_reads_simp
  simp -implicitDefEqProofs only [StableHlo.TRef.toBuf, StableHlo.TRef.ofBuf, cast_cast, cast_eq, id]
  rfl

end Cert.ReferenceIdeal.Gen

end
-- ==== Proof.ReferenceIdeal.Val2.lean ====
/- The reference's results before the cast, element by element. -/
module

public import proofs.«01_k».proof.Proof.ReferenceIdeal.Val

@[expose] public section

noncomputable section

namespace Cert.ReferenceIdeal.Gen

open Idealize.ShloMosaic Idealize.ShloMosaic.TcCoe Idealize.ShloMosaic.Tactic
open Cert.KernelIdeal.Gen (cst eabs ext2 ext2_idx)

variable (m : (ℓ : Loc nD τ sig) → Buf (Elt Ideal) ℓ)

/-- An element of the derivative, by its coordinates' values. -/
theorem RD_at (c : Dev nD) (k : S33792x4608.Idx) (r q : ℕ) (h0 : (k 0).val = r) (h1 : (k 1).val = q) : RD m c k = RW m c r q := by
  subst h0; subst h1; exact RD_RW m c k

theorem R30_apply (c : Dev nD) (i : S33792x144x32.Idx) : R30 m c i = RW m c (i 0).val (32 * (i 1).val + (i 2).val) := by
  have h0 : (i 0).val < 33792 := (i 0).isLt
  have h1 : (i 1).val < 144 := (i 1).isLt
  have h2 : (i 2).val < 32 := (i 2).isLt
  refine (shapeCast_apply (RD m c) shapeCasts_S33792x4608_S33792x144x32 i
    (fun a => match a with | ⟨0, _⟩ => ⟨(i 0).val, h0⟩ | ⟨1, _⟩ => ⟨32 * (i 1).val + (i 2).val, by show _ < 4608; omega⟩) ?_).trans (RD_at m c _ _ _ rfl rfl)
  rw [Shape.rowMajor_val_two, Shape.rowMajor_val_three]
  show (i 0).val * 4608 + (32 * (i 1).val + (i 2).val) = ((i 0).val * 144 + (i 1).val) * 32 + (i 2).val
  omega

theorem R55_apply (c : Dev nD) (i : S1056x32x4608.Idx) : R55 m c i = RW m c (32 * (i 0).val + (i 1).val) (i 2).val := by
  have h0 : (i 0).val < 1056 := (i 0).isLt
  have h1 : (i 1).val < 32 := (i 1).isLt
  have h2 : (i 2).val < 4608 := (i 2).isLt
  refine (shapeCast_apply (RD m c) shapeCasts_S33792x4608_S1056x32x4608 i
    (fun a => match a with | ⟨0, _⟩ => ⟨32 * (i 0).val + (i 1).val, by show _ < 33792; omega⟩ | ⟨1, _⟩ => ⟨(i 2).val, h2⟩) ?_).trans (RD_at m c _ _ _ rfl rfl)
  rw [Shape.rowMajor_val_two, Shape.rowMajor_val_three]
  show (32 * (i 0).val + (i 1).val) * 4608 + (i 2).val = ((i 0).val * 32 + (i 1).val) * 4608 + (i 2).val
  omega

theorem R32_apply (c : Dev nD) (j : S33792x144.Idx) : R32 m c j = rmaxN (RW m c (j 0).val) (32 * (j 1).val) := by
  have hR : S33792x144x32.Reduces [2] S33792x144 := by decide
  unfold R32
  have hφ : FKind.Formats .f32 := by decide
  refine (congrFun (hostReduce_maximumf_eq_multiReduction (F := Ideal) (φ := .f32) _ 4286578688#32 _ _ hR hφ rfl) j).trans ?_
  refine (Ideal.multiReduction_maximumf_single _ _ hR hφ rfl j).trans ?_
  exact congrArg (Finset.fold max (cst 0xFF800000#32) · (Finset.univ : Finset (Fin 32))) (funext fun k => congrArg eabs (R30_apply m c (hR.lift j k)))

theorem R57_apply (c : Dev nD) (j : S1056x4608.Idx) : R57 m c j = rmaxN (fun r => RW m c r (j 1).val) (32 * (j 0).val) := by
  have hR : S1056x32x4608.Reduces [1] S1056x4608 := by decide
  unfold R57
  have hφ : FKind.Formats .f32 := by decide
  refine (congrFun (hostReduce_maximumf_eq_multiReduction (F := Ideal) (φ := .f32) _ 4286578688#32 _ _ hR hφ rfl) j).trans ?_
  refine (Ideal.multiReduction_maximumf_single _ _ hR hφ rfl j).trans ?_
  exact congrArg (Finset.fold max (cst 0xFF800000#32) · (Finset.univ : Finset (Fin 32))) (funext fun k => congrArg eabs (R55_apply m c (hR.lift j k)))

theorem V29_apply (c : Dev nD) (j : S1x4608.Idx) : V m c main_v29 j = cst 0#32 + ∑ k : Fin 33792, RW m c k.val (j 1).val := by
  have h1 : (j 1).val < 4608 := (j 1).isLt
  rw [V29]
  refine (broadcastInDim_apply (s := S4608) (t := S1x4608) ![1] _ _ j (fun a => match a with | ⟨0, _⟩ => ⟨(j 1).val, h1⟩) (fun a => by fin_cases a; exacts [(by show _ = if (4608 : ℕ) = 1 then 0 else _; rw [if_neg (by decide)]; rfl)])).trans ?_
  refine (Host.reduceAdd_apply _ _ _ _ _).trans ?_
  refine (Ideal.hostReduceAdd_r2_a0 (n0 := 33792) (n1 := 4608) _ _ _ _).trans ?_
  exact congrArg (cst 0#32 + ·) (Finset.sum_congr rfl fun k _ => RD_at m c _ _ _ rfl rfl)

theorem V46_apply (c : Dev nD) (j : S33792x144.Idx) : V m c main_v46 j = rscale (rmaxN (RW m c (j 0).val) (32 * (j 1).val)) := by
  rw [V46, SCv_apply, R32_apply]

theorem V81_apply (c : Dev nD) (j : S4608x1056.Idx) : V m c main_v81 j = rscale (rmaxN (fun r => RW m c r (j 0).val) (32 * (j 1).val)) := by
  rw [V81]
  refine (transpose_apply (s := S1056x4608) (t := S4608x1056) [1, 0] _ _ j (fun a => match a with | ⟨0, _⟩ => ⟨(j 1).val, (j 1).isLt⟩ | ⟨1, _⟩ => ⟨(j 0).val, (j 0).isLt⟩)
    (fun b => by fin_cases b; exacts [rfl, rfl])).trans ?_
  rw [SCv_apply, R57_apply]

theorem V54_apply (c : Dev nD) (j : S33792x4608.Idx) :
    V m c main_v54 j = rclip (RW m c (j 0).val (j 1).val) (rinv (rmaxN (RW m c (j 0).val) (32 * ((j 1).val / 32)))) := by
  have h0 : (j 0).val < 33792 := (j 0).isLt
  have h1 : (j 1).val < 4608 := (j 1).isLt
  rw [V54]
  refine (shapeCast_apply (s := S33792x144x32) (t := S33792x4608) _ _ j (fun a => match a with
    | ⟨0, _⟩ => ⟨(j 0).val, h0⟩ | ⟨1, _⟩ => ⟨(j 1).val / 32, by show _ < 144; omega⟩ | ⟨2, _⟩ => ⟨(j 1).val % 32, by show _ < 32; omega⟩) ?_).trans ?_
  · rw [Shape.rowMajor_val_three, Shape.rowMajor_val_two]
    show ((j 0).val * 144 + (j 1).val / 32) * 32 + (j 1).val % 32 = (j 0).val * 4608 + (j 1).val
    omega
  rw [CLv_apply]
  refine congrArg (fun a => min (cst 0x47600000#32) (max (cst 0xC7600000#32) a)) (congrArg₂ (fun a b : EReal => a * b) ?_ ?_)
  · rw [R30_apply]
    exact congrArg (RW m c (j 0).val) (Nat.div_add_mod (j 1).val 32)
  · refine (broadcastInDim_apply (s := S33792x144x1) (t := S33792x144x32) ![0, 1, 2] _ _ _ (fun a => match a with
      | ⟨0, _⟩ => ⟨(j 0).val, h0⟩ | ⟨1, _⟩ => ⟨(j 1).val / 32, by show _ < 144; omega⟩ | ⟨2, _⟩ => ⟨0, by show _ < 1; omega⟩)
      (fun a => by fin_cases a; exacts [(by show _ = if (33792 : ℕ) = 1 then 0 else _; rw [if_neg (by decide)]; rfl), (by show _ = if (144 : ℕ) = 1 then 0 else _; rw [if_neg (by decide)]; rfl), rfl])).trans ?_
    refine (broadcastInDim_apply (s := S33792x144) (t := S33792x144x1) ![0, 1] _ _ _ (fun a => match a with
      | ⟨0, _⟩ => ⟨(j 0).val, h0⟩ | ⟨1, _⟩ => ⟨(j 1).val / 32, by show _ < 144; omega⟩)
      (fun a => by fin_cases a; exacts [(by show _ = if (33792 : ℕ) = 1 then 0 else _; rw [if_neg (by decide)]; rfl), (by show _ = if (144 : ℕ) = 1 then 0 else _; rw [if_neg (by decide)]; rfl)])).trans ?_
    rw [IVv_apply, R32_apply]

theorem V80_apply (c : Dev nD) (j : S4608x33792.Idx) :
    V m c main_v80 j = rclip (RW m c (j 1).val (j 0).val) (rinv (rmaxN (fun r => RW m c r (j 0).val) (32 * ((j 1).val / 32)))) := by
  have h0 : (j 0).val < 4608 := (j 0).isLt
  have h1 : (j 1).val < 33792 := (j 1).isLt
  rw [V80]
  refine (transpose_apply (s := S33792x4608) (t := S4608x33792) [1, 0] _ _ j (fun a => match a with | ⟨0, _⟩ => ⟨(j 1).val, h1⟩ | ⟨1, _⟩ => ⟨(j 0).val, h0⟩)
    (fun b => by fin_cases b; exacts [rfl, rfl])).trans ?_
  refine (shapeCast_apply (s := S1056x32x4608) (t := S33792x4608) _ _ _ (fun a => match a with
    | ⟨0, _⟩ => ⟨(j 1).val / 32, by show _ < 1056; omega⟩ | ⟨1, _⟩ => ⟨(j 1).val % 32, by show _ < 32; omega⟩ | ⟨2, _⟩ => ⟨(j 0).val, h0⟩) ?_).trans ?_
  · rw [Shape.rowMajor_val_three, Shape.rowMajor_val_two]
    show ((j 1).val / 32 * 32 + (j 1).val % 32) * 4608 + (j 0).val = (j 1).val * 4608 + (j 0).val
    omega
  rw [CLv_apply]
  refine congrArg (fun a => min (cst 0x47600000#32) (max (cst 0xC7600000#32) a)) (congrArg₂ (fun a b : EReal => a * b) ?_ ?_)
  · rw [R55_apply]
    exact congrArg (fun r => RW m c r (j 0).val) (Nat.div_add_mod (j 1).val 32)
  · refine (broadcastInDim_apply (s := S1056x1x4608) (t := S1056x32x4608) ![0, 1, 2] _ _ _ (fun a => match a with
      | ⟨0, _⟩ => ⟨(j 1).val / 32, by show _ < 1056; omega⟩ | ⟨1, _⟩ => ⟨0, by show _ < 1; omega⟩ | ⟨2, _⟩ => ⟨(j 0).val, h0⟩)
      (fun a => by fin_cases a; exacts [(by show _ = if (1056 : ℕ) = 1 then 0 else _; rw [if_neg (by decide)]; rfl), rfl, (by show _ = if (4608 : ℕ) = 1 then 0 else _; rw [if_neg (by decide)]; rfl)])).trans ?_
    refine (broadcastInDim_apply (s := S1056x4608) (t := S1056x1x4608) ![0, 2] _ _ _ (fun a => match a with
      | ⟨0, _⟩ => ⟨(j 1).val / 32, by show _ < 1056; omega⟩ | ⟨1, _⟩ => ⟨(j 0).val, h0⟩)
      (fun a => by fin_cases a; exacts [(by show _ = if (1056 : ℕ) = 1 then 0 else _; rw [if_neg (by decide)]; rfl), (by show _ = if (4608 : ℕ) = 1 then 0 else _; rw [if_neg (by decide)]; rfl)])).trans ?_
    rw [IVv_apply, R57_apply]

end Cert.ReferenceIdeal.Gen

end
-- ==== Proof.ReferenceIdeal.RunV.lean ====
/- The reference's results after its run, over the whole arrays. -/
module

public import proofs.«01_k».proof.Proof.ReferenceIdeal.Val2
public import Idealize.ShloMosaic.Lib.Pipeline.ValueKit.Geometry

@[expose] public section

noncomputable section

namespace Cert.ReferenceIdeal.Gen

open Idealize.ShloMosaic Idealize.ShloMosaic.TcCoe Idealize.ShloMosaic.Tactic
open Idealize.SL Idealize.SL.RA Idealize.SL.BI
open scoped Idealize.SL.BI
open Idealize.ShloMosaic.Pipeline (Dat RDat Cfg Window)
open Cert.KernelIdeal.Gen (cst eabs ext2 ext2_idx)

variable (m : (ℓ : Loc nD τ sig) → Buf (Elt Ideal) ℓ) (ρ : Dev nD → PrngReg)

/-- What the run leaves in the results' arrays. -/
structure Results (c : Dev nD) (s : (ℓ : Loc nD τ sig) → Buf (Elt Ideal) ℓ) : Prop where
  dbias : ∀ j : S1x4608.Idx, s ((c.tc : Thread nD τ).loc main_v29) j = cst 0#32 + ∑ k : Fin 33792, RW m c k.val (j 1).val
  rc : ∀ j : S33792x4608.Idx, s ((c.tc : Thread nD τ).loc main_v82_0) j
    = rclip (RW m c (j 0).val (j 1).val) (rinv (rmaxN (RW m c (j 0).val) (32 * ((j 1).val / 32))))
  rs : ∀ j : S33792x144.Idx, s ((c.tc : Thread nD τ).loc main_v46) j = rscale (rmaxN (RW m c (j 0).val) (32 * (j 1).val))
  cc : ∀ j : S4608x33792.Idx, s ((c.tc : Thread nD τ).loc main_v82_1) j
    = rclip (RW m c (j 1).val (j 0).val) (rinv (rmaxN (fun r => RW m c r (j 0).val) (32 * ((j 1).val / 32))))
  cs : ∀ j : S4608x1056.Idx, s ((c.tc : Thread nD τ).loc main_v81) j = rscale (rmaxN (fun r => RW m c r (j 0).val) (32 * (j 1).val))

theorem whole2 : (win0_2).WholeAt (⟨0, by rw [N_0]; decide⟩ : Fin grid0.N) := by decide +kernel
theorem whole3 : (win0_3).WholeAt (⟨0, by rw [N_0]; decide⟩ : Fin grid0.N) := by decide +kernel
theorem index0 : ∀ t : Fin cfg0.N, win0_0.index t (0 : Fin 2) = 0 ∧ win0_0.index t (1 : Fin 2) = 0 :=
  (by decide +kernel : ∀ t : Fin grid0.N, win0_0.index t (0 : Fin 2) = 0 ∧ win0_0.index t (1 : Fin 2) = 0)
theorem index1 : ∀ t : Fin cfg0.N, win0_1.index t (0 : Fin 2) = 0 ∧ win0_1.index t (1 : Fin 2) = 0 :=
  (by decide +kernel : ∀ t : Fin grid0.N, win0_1.index t (0 : Fin 2) = 0 ∧ win0_1.index t (1 : Fin 2) = 0)

theorem iblk0_apply (c : Dev nD) (t : Fin cfg0.N) (j : S33792x4608.Idx) : iblk m c 0 t j = V m c main_v54 j := by
  have e0 : ((win0_0.rect t).emb j (0 : Fin 2)).val = (j 0).val := by
    rw [Pipeline.Window.rect_emb_val win0_0 t j 0, (index0 t).1, Nat.zero_mul, Nat.zero_add]
  have e1 : ((win0_0.rect t).emb j (1 : Fin 2)).val = (j 1).val := by
    rw [Pipeline.Window.rect_emb_val win0_0 t j 1, (index0 t).2, Nat.zero_mul, Nat.zero_add]
  exact congrArg (V m c main_v54) (funext fun a => match a with | ⟨0, _⟩ => Fin.ext e0 | ⟨1, _⟩ => Fin.ext e1)
theorem iblk1_apply (c : Dev nD) (t : Fin cfg0.N) (j : S4608x33792.Idx) : iblk m c 1 t j = V m c main_v80 j := by
  have e0 : ((win0_1.rect t).emb j (0 : Fin 2)).val = (j 0).val := by
    rw [Pipeline.Window.rect_emb_val win0_1 t j 0, (index1 t).1, Nat.zero_mul, Nat.zero_add]
  have e1 : ((win0_1.rect t).emb j (1 : Fin 2)).val = (j 1).val := by
    rw [Pipeline.Window.rect_emb_val win0_1 t j 1, (index1 t).2, Nat.zero_mul, Nat.zero_add]
  exact congrArg (V m c main_v80) (funext fun a => match a with | ⟨0, _⟩ => Fin.ext e0 | ⟨1, _⟩ => Fin.ext e1)

theorem hz2 : (![0, 0] : Fin 2 → ℕ) = fun _ => 0 := funext fun a => by fin_cases a <;> rfl

theorem out2_apply (x0 : Vec Ideal S33792x4608 .f32) (x1 : Vec Ideal S4608x33792 .f32) (j : S33792x4608.Idx) : out0_2 x0 x1 j = x0 j := by
  unfold out0_2
  rw [View.canon_unit_zero hz2, View.ld_unit_zero hz2]
  exact congrFun (shapeCast_self x0 shapeCasts_S33792x4608_S33792x4608) j
theorem out3_apply (x0 : Vec Ideal S33792x4608 .f32) (x1 : Vec Ideal S4608x33792 .f32) (j : S4608x33792.Idx) : out0_3 x0 x1 j = x1 j := by
  unfold out0_3
  rw [View.canon_unit_zero hz2, View.ld_unit_zero hz2]
  exact congrFun (shapeCast_self x1 shapeCasts_S4608x33792_S4608x33792) j

theorem results (c : Dev nD) (r : PUnit × MemSt nD τ sig (Elt Ideal)) (h : Pipeline.FramePost cfgs (dats m) 0 (V m) r) : Results m c r.2.mem := by
  have hA := (h c).1
  have hB := (h c).2
  refine ⟨fun j => ?_, fun j => ?_, fun j => ?_, fun j => ?_, fun j => ?_⟩
  · exact (congrFun (hB main_v29 (Pipeline.mem_restRefs_of main_v29 (by decide) (by decide))) j).trans (V29_apply m c j)
  · refine (congrFun (hA 2) j).trans ?_
    refine (Dat.arrAt_emb_eq_after_last (dats m 0 c) 2 _ whole2 j).trans ?_
    refine (congrFun (after0_2 m c _) j).trans ?_
    exact (out2_apply _ _ j).trans ((iblk0_apply m c _ j).trans (V54_apply m c j))
  · exact (congrFun (hB main_v46 (Pipeline.mem_restRefs_of main_v46 (by decide) (by decide))) j).trans (V46_apply m c j)
  · refine (congrFun (hA 3) j).trans ?_
    refine (Dat.arrAt_emb_eq_after_last (dats m 0 c) 3 _ whole3 j).trans ?_
    refine (congrFun (after0_3 m c _) j).trans ?_
    exact (out3_apply _ _ j).trans ((iblk1_apply m c _ j).trans (V80_apply m c j))
  · exact (congrFun (hB main_v81 (Pipeline.mem_restRefs_of main_v81 (by decide) (by decide))) j).trans (V81_apply m c j)

/-- Every weakly fair execution of the reference ends with the results as specified and the arguments as they were. -/
theorem value_run : θ_run defs (onTc (τ := τ) (main (F := Ideal))) ⟨m, fun _ => 0, ρ⟩ (fun r => ∀ c : Dev nD, Results m c r.2.mem
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨results m c r h, ((h c).2 main_arg0 (Pipeline.mem_restRefs_of main_arg0 (by decide) (by decide))).trans (V_main_arg0 m c),
    ((h c).2 main_arg1 (Pipeline.mem_restRefs_of main_arg1 (by decide) (by decide))).trans (V_main_arg1 m c)⟩) (run_main m ρ)

end Cert.ReferenceIdeal.Gen

end
-- ==== Proof.ReferenceIdeal.Alg1.lean ====
/- The two forms of the derivative are equal on the extended reals, and the derivative is at most two. -/
module

public import proofs.«01_k».proof.Proof.ReferenceIdeal.Fn
public import Mathlib.Analysis.SpecialFunctions.Trigonometric.DerivHyp

@[expose] public section

noncomputable section

namespace Cert.ReferenceIdeal.Gen

open Idealize.ShloMosaic
open Cert.KernelIdeal.Gen (cst eabs ext2 ext2_idx kd)

theorem cst_ieee (b : BitVec 32) : cst b = Ideal.ieee 8 23 b := rfl
theorem tanh_coe (r : ℝ) : Ideal.tanh (r : EReal) = ((Real.tanh r : ℝ) : EReal) := rfl
theorem tanh_top : Ideal.tanh ⊤ = 1 := rfl
theorem tanh_bot : Ideal.tanh ⊥ = -1 := rfl

theorem cst_half : cst 0x3F000000#32 = ((1 / 2 : ℝ) : EReal) := by
  rw [cst_ieee]
  simp [Ideal.ieee, -EReal.coe_mul]; norm_num
theorem cst_one : cst 0x3F800000#32 = ((1 : ℝ) : EReal) := by
  rw [cst_ieee]
  simp [Ideal.ieee, -EReal.coe_mul]; norm_num
theorem cst_two : cst 0x40000000#32 = ((2 : ℝ) : EReal) := by
  rw [cst_ieee]
  simp [Ideal.ieee, -EReal.coe_mul]; norm_num
theorem cst_zero : cst 0#32 = 0 := Ideal.ofBits_zero_f32
theorem cst_ninf : cst 0xFF800000#32 = ⊥ := by
  rw [cst_ieee]
  simp [Ideal.ieee]

/-- The first constant of the tangent's argument. -/
def cK : ℝ := 13386282 * 2 ^ (-24 : ℤ)
/-- The second constant of the tangent's argument. -/
def cC : ℝ := 9577081 * 2 ^ (-28 : ℤ)
/-- The constant of the argument's derivative. -/
def cD : ℝ := 14365622 * 2 ^ (-27 : ℤ)

theorem cst_K : cst 0x3F4C422A#32 = ((cK : ℝ) : EReal) := by
  rw [cst_ieee]
  simp [Ideal.ieee, cK, -EReal.coe_mul]
theorem cst_C : cst 0x3D122279#32 = ((cC : ℝ) : EReal) := by
  rw [cst_ieee]
  simp [Ideal.ieee, cC, -EReal.coe_mul]
theorem cst_D : cst 0x3DDB33B6#32 = ((cD : ℝ) : EReal) := by
  rw [cst_ieee]
  simp [Ideal.ieee, cD, -EReal.coe_mul]

theorem cK_pos : 0 < cK := by unfold cK; positivity
theorem cC_pos : 0 < cC := by unfold cC; positivity
theorem cD_pos : 0 < cD := by unfold cD; positivity
theorem cD_le : cD ≤ 4 * cC := by unfold cD cC; norm_num

/-- The derivative over the reals. -/
def drv (x : ℝ) : ℝ :=
  1 / 2 * (1 + Real.tanh (cK * x + cC * x * x * x))
    + 1 / 2 * x * (1 - Real.tanh (cK * x + cC * x * x * x) * Real.tanh (cK * x + cC * x * x * x)) * (cK + cD * x * x)

theorem rd_real (x : ℝ) (g : EReal) : rd x g = g * ((drv x : ℝ) : EReal) := by
  unfold rd ru drv
  simp only [cst_half, cst_one, cst_K, cst_C, cst_D, ← EReal.coe_mul, ← EReal.coe_add, tanh_coe, tanh_top, tanh_bot, ← EReal.coe_sub]

theorem kd_real (x : ℝ) (g : EReal) : kd x g = g * ((drv x : ℝ) : EReal) := by
  have hu : x * (cK + cC * (x * x)) = cK * x + cC * x * x * x := by ring
  unfold kd drv
  simp only [cst_half, cst_one, cst_K, cst_C, cst_D, ← EReal.coe_mul, ← EReal.coe_add, tanh_coe, tanh_top, tanh_bot, ← EReal.coe_sub]
  rw [hu]
  refine congrArg (fun r : ℝ => g * ((r : ℝ) : EReal)) ?_
  ring

theorem top_fac (c : ℝ) (hc : 0 < c) : (c : EReal) * ⊤ = ⊤ := EReal.coe_mul_top_of_pos hc
theorem bot_fac (c : ℝ) (hc : 0 < c) : (c : EReal) * ⊥ = ⊥ := EReal.coe_mul_bot_of_pos hc

theorem one_sub_one : ((1 : ℝ) : EReal) - 1 = 0 := by
  rw [← EReal.coe_one, ← EReal.coe_sub]; simp
theorem one_add_neg : ((1 : ℝ) : EReal) + -1 = 0 := by
  rw [← EReal.coe_one, ← EReal.coe_neg, ← EReal.coe_add]; simp
theorem half_two : ((1 / 2 : ℝ) : EReal) * (((1 : ℝ) : EReal) + 1) = 1 := by
  rw [← EReal.coe_one, ← EReal.coe_add, ← EReal.coe_mul]; norm_num

theorem rd_top (g : EReal) : rd ⊤ g = g := by
  unfold rd ru
  simp only [cst_half, cst_one, cst_K, cst_C, cst_D, top_fac _ cK_pos, top_fac _ cC_pos, top_fac _ cD_pos, EReal.top_mul_top, EReal.top_add_top, EReal.coe_add_top,
    tanh_coe, tanh_top, tanh_bot, mul_one, one_sub_one, mul_zero, zero_mul, add_zero, half_two]
theorem kd_top (g : EReal) : kd ⊤ g = g := by
  have h : ∀ c : ℝ, (c : EReal) + ⊤ = ⊤ := fun c => EReal.coe_add_top c
  unfold kd
  simp only [cst_half, cst_one, cst_K, cst_C, cst_D, top_fac _ cK_pos, top_fac _ cC_pos, top_fac _ cD_pos, EReal.top_mul_top, h,
    tanh_coe, tanh_top, tanh_bot, one_sub_one, mul_zero, zero_mul, add_zero]
  rw [show ((1 : ℝ) : EReal) = 1 from EReal.coe_one, mul_one, show ((1 / 2 : ℝ) : EReal) * ((1 : EReal) + 1) = 1 from half_two, mul_one]
theorem rd_bot (g : EReal) : rd ⊥ g = 0 := by
  unfold rd ru
  have h : ((1 : ℝ) : EReal) - -1 * -1 = 0 := by rw [neg_mul_neg, mul_one, one_sub_one]
  simp only [cst_half, cst_one, cst_K, cst_C, cst_D, bot_fac _ cK_pos, bot_fac _ cC_pos, bot_fac _ cD_pos, EReal.bot_mul_bot, EReal.top_mul_bot,
    EReal.bot_add, tanh_coe, tanh_top, tanh_bot, one_add_neg, h, mul_zero, zero_mul, add_zero]
theorem kd_bot (g : EReal) : kd ⊥ g = 0 := by
  have h : ∀ c : ℝ, (c : EReal) + ⊤ = ⊤ := fun c => EReal.coe_add_top c
  unfold kd
  simp only [cst_half, cst_one, cst_K, cst_C, cst_D, top_fac _ cC_pos, EReal.bot_mul_bot, h, EReal.bot_mul_top,
    tanh_coe, tanh_top, tanh_bot, one_add_neg, mul_zero, zero_mul]

/-- The kernel's and the reference's product are the same, at every extended real. -/
theorem kd_eq_rd (x g : EReal) : kd x g = rd x g := by
  induction x using EReal.rec with
  | bot => rw [kd_bot, rd_bot]
  | coe x => rw [kd_real, rd_real]
  | top => rw [kd_top, rd_top]

theorem sech_le (u : ℝ) : 1 - Real.tanh u * Real.tanh u ≤ 1 / (1 + u ^ 2) := by
  have hc : 0 < Real.cosh u := Real.cosh_pos u
  have h1 : 1 - Real.tanh u * Real.tanh u = 1 / (1 + Real.sinh u ^ 2) := by
    have := Real.cosh_sq u
    rw [Real.tanh_eq_sinh_div_cosh]
    field_simp
    nlinarith
  rw [h1]
  have h2 : u ^ 2 ≤ Real.sinh u ^ 2 := by
    rw [sq_le_sq, Real.abs_sinh]
    exact Real.self_le_sinh_iff.2 (abs_nonneg u)
  exact one_div_le_one_div_of_le (by positivity) (by linarith)

theorem drv_le (x : ℝ) : |drv x| ≤ 2 := by
  set u := cK * x + cC * x * x * x with hu
  have ht : |Real.tanh u| ≤ 1 := (Real.abs_tanh_lt_one u).le
  have hs : 0 ≤ 1 - Real.tanh u * Real.tanh u := by
    have := abs_le.1 ht; nlinarith
  have h1 := sech_le u
  have hx : |x * (cK + cD * x * x)| ≤ 4 * |u| := by
    have e : u = x * (cK + cC * x * x) := by rw [hu]; ring
    have k := cK_pos
    have c := cC_pos
    have d := cD_pos
    have l := cD_le
    have xx := mul_self_nonneg x
    rw [e, abs_mul, abs_mul, abs_of_nonneg (a := cK + cD * x * x) (by nlinarith), abs_of_nonneg (a := cK + cC * x * x) (by nlinarith)]
    have : cK + cD * x * x ≤ 4 * (cK + cC * x * x) := by nlinarith
    nlinarith [abs_nonneg x]
  have h2 : |x * (cK + cD * x * x)| * (1 - Real.tanh u * Real.tanh u) ≤ 2 := by
    refine (mul_le_mul hx h1 hs (by positivity)).trans ?_
    rw [mul_one_div, div_le_iff₀ (by positivity), ← sq_abs u]
    nlinarith [sq_nonneg (|u| - 1)]
  have e : drv x = 1 / 2 * (1 + Real.tanh u) + 1 / 2 * (x * (cK + cD * x * x) * (1 - Real.tanh u * Real.tanh u)) := by
    unfold drv; rw [← hu]; ring
  have h3 : |x * (cK + cD * x * x) * (1 - Real.tanh u * Real.tanh u)| ≤ 2 := by rw [abs_mul, abs_of_nonneg hs]; exact h2
  rw [e, abs_le]
  have a := abs_le.1 ht
  have b := abs_le.1 h3
  constructor <;> linarith [a.1, a.2, b.1, b.2]

/-- The product is a real of at most twice the gradient's bound, when the gradient is a real. -/
theorem rd_bound (x : EReal) (g B : ℝ) (hg : |g| ≤ B) : ∃ w : ℝ, rd x g = w ∧ |w| ≤ 2 * B := by
  have h0 : 0 ≤ B := (abs_nonneg g).trans hg
  induction x using EReal.rec with
  | bot => exact ⟨0, by rw [rd_bot]; rfl, by simpa using h0⟩
  | coe x =>
    refine ⟨g * drv x, by rw [rd_real, EReal.coe_mul], ?_⟩
    rw [abs_mul, mul_comm]
    exact mul_le_mul (drv_le x) hg (abs_nonneg g) (by norm_num)
  | top => exact ⟨g, by rw [rd_top], by linarith⟩

end Cert.ReferenceIdeal.Gen

end
-- ==== Proof.ReferenceIdeal.Alg2.lean ====
/- The scale the kernel searches for in an exponent field is the power of two the reference takes of the logarithm. -/
module

public import proofs.«01_k».proof.Proof.ReferenceIdeal.Fn
public import Mathlib.Analysis.SpecialFunctions.Pow.Real

@[expose] public section

noncomputable section

namespace Cert.ReferenceIdeal.Gen

open Idealize.ShloMosaic
open Cert.KernelIdeal.Gen (cst kstep kbits ksb kscale kinv)

/-- The bit pattern with exponent field `n` and no fraction. -/
def pat (n : ℕ) : BitVec 32 := BitVec.ofNat 32 (n * 2 ^ 23)

theorem pat_bits : ∀ n < 256, ((pat n).extractLsb' (8 + 23) 1 == 1#1) = false ∧ ((pat n).extractLsb' 23 8).toNat = n
    ∧ ((pat n).extractLsb' 0 23).toNat = 0 := by decide +kernel

/-- Such a pattern is a power of two. -/
theorem cst_pat (n : ℕ) (h1 : 1 ≤ n) (h2 : n ≤ 254) : cst (pat n) = (((2 : ℝ) ^ ((n : ℤ) - 127) : ℝ) : EReal) := by
  obtain ⟨a, b, c⟩ := pat_bits n (by omega)
  show Ideal.ieee 8 23 (pat n) = _
  unfold Ideal.ieee
  simp only [a, b, c]
  rw [if_neg (by omega), if_neg (by omega)]
  refine congrArg Real.toEReal ?_
  have e : (2 : ℝ) ^ ((n : ℤ) - 127) = 2 ^ 23 * (2 : ℝ) ^ ((n : ℤ) - 127 - 23) := by
    rw [zpow_sub₀ (by norm_num : (2 : ℝ) ≠ 0) _ 23]
    have h8 : (2 : ℝ) ^ (23 : ℤ) = 8388608 := by norm_num
    rw [h8]
    ring
  rw [e]
  simp
  left
  norm_num
theorem cst_pat_zero : cst (pat 0) = ((0 : ℝ) : EReal) := Ideal.ofBits_zero_f32
theorem cst_pat_top : cst (pat 255) = ⊤ := by
  obtain ⟨a, b, c⟩ := pat_bits 255 (by omega)
  show Ideal.ieee 8 23 (pat 255) = _
  unfold Ideal.ieee
  simp only [a, b, c]
  simp

/-- The value of an exponent field. -/
def ev (n : ℕ) : ℝ := if n = 0 then 0 else (2 : ℝ) ^ ((n : ℤ) - 127)

theorem lt_cst_pat (y : ℝ) (hy : y < 2 ^ 115) (n : ℕ) (h : n ≤ 255) : ((y : EReal) < cst (pat n)) ↔ y < ev n := by
  unfold ev
  rcases Nat.eq_zero_or_pos n with h0 | h0
  · subst h0; rw [cst_pat_zero, EReal.coe_lt_coe_iff, if_pos rfl]
  rw [if_neg (by omega)]
  by_cases h2 : n ≤ 254
  · rw [cst_pat n h0 h2, EReal.coe_lt_coe_iff]
  · obtain rfl : n = 255 := by omega
    rw [cst_pat_top]
    refine ⟨fun _ => hy.trans ?_, fun _ => EReal.coe_lt_top y⟩
    norm_num

theorem pat_add (a b : ℕ) : pat a + pat b = pat (a + b) := by
  unfold pat
  rw [← BitVec.ofNat_add, Nat.add_mul]

theorem kstep_pat (y : ℝ) (hy : y < 2 ^ 115) (n k : ℕ) (h : n + k ≤ 255) :
    kstep y (pat n) (pat k) = pat (if y < ev (n + k) then n else n + k) := by
  unfold kstep
  rw [pat_add]
  have hl := lt_cst_pat y hy (n + k) h
  show Scalar.select (BitVec.ofBool (decide ((y : EReal) < cst (pat (n + k))))) (pat n) (pat (n + k)) = _
  by_cases hc : y < ev (n + k)
  · rw [if_pos hc, decide_eq_true (hl.2 hc)]; rfl
  · rw [if_neg hc, decide_eq_false (fun q => hc (hl.1 q))]; rfl

/-- What the search knows before a step of size `k`. -/
def Inv (y : ℝ) (b : BitVec 32) (k : ℕ) : Prop := ∃ n, b = pat n ∧ ev n ≤ y ∧ y < ev (n + k) ∧ n + k ≤ 256

theorem Inv.step {y : ℝ} (hy : y < 2 ^ 115) {b : BitVec 32} (k : ℕ) (hk : 1 ≤ k) (h : Inv y b (2 * k)) : Inv y (kstep y b (pat k)) k := by
  obtain ⟨n, rfl, h1, h2, h3⟩ := h
  refine ⟨_, kstep_pat y hy n k (by omega), ?_⟩
  by_cases hc : y < ev (n + k)
  · rw [if_pos hc]; exact ⟨h1, hc, by omega⟩
  · rw [if_neg hc]; exact ⟨not_lt.1 hc, by rw [Nat.add_assoc, ← two_mul]; exact h2, by omega⟩

theorem kbits_inv (y : ℝ) (h0 : 0 ≤ y) (hy : y < 2 ^ 115) : Inv y (kbits y) 1 := by
  have i0 : Inv y 0#32 (2 * 128) := ⟨0, rfl, by simpa [ev] using h0, hy.trans (by unfold ev; norm_num), by norm_num⟩
  have i1 := Inv.step hy 128 (by norm_num) i0
  have i2 := Inv.step hy 64 (by norm_num) i1
  have i3 := Inv.step hy 32 (by norm_num) i2
  have i4 := Inv.step hy 16 (by norm_num) i3
  have i5 := Inv.step hy 8 (by norm_num) i4
  have i6 := Inv.step hy 4 (by norm_num) i5
  have i7 := Inv.step hy 2 (by norm_num) i6
  have i8 := Inv.step hy 1 (by norm_num) i7
  exact i8

theorem ksb_pat : ∀ n < 242, ksb (pat n) = pat (if n = 0 then 127 else n + 1) := by decide +kernel
theorem inv_pat : ∀ n < 255, 2130706432#32 - pat n = pat (254 - n) := by decide +kernel

/-- The scale's exponent, from an exponent field. -/
def sexp (n : ℕ) : ℤ := if n = 0 then 0 else (n : ℤ) - 126

theorem cst_ksb (n : ℕ) (h : n < 242) : cst (ksb (pat n)) = (((2 : ℝ) ^ sexp n : ℝ) : EReal)
    ∧ cst (2130706432#32 - ksb (pat n)) = (((2 : ℝ) ^ (-sexp n) : ℝ) : EReal) := by
  rw [ksb_pat n h]
  unfold sexp
  by_cases h0 : n = 0
  · rw [if_pos h0, if_pos h0, inv_pat 127 (by norm_num), show 254 - 127 = 127 from rfl, cst_pat 127 (by norm_num) (by norm_num)]
    norm_num
  · rw [if_neg h0, if_neg h0, inv_pat _ (by omega), cst_pat _ (by omega) (by omega), cst_pat _ (by omega) (by omega)]
    refine ⟨congrArg (fun z : ℤ => (((2 : ℝ) ^ z : ℝ) : EReal)) (by push_cast; ring), congrArg (fun z : ℤ => (((2 : ℝ) ^ z : ℝ) : EReal)) ?_⟩
    omega

/-- The reference's exponent, from the same field. -/
theorem re_eq (a : EReal) (y : ℝ) (ha : ry a = y) (n : ℕ) (h1 : ev n ≤ y) (h2 : y < ev (n + 1)) (c2 : cst 0x40000000#32 = ((2 : ℝ) : EReal))
    (c1 : cst 0x3F800000#32 = ((1 : ℝ) : EReal)) : re a = ((sexp n : ℝ) : EReal) := by
  have hl := lt_cst_pat
  unfold re
  rw [ha, c2, c1]
  have ep : cst 0x00800000#32 = ((ev 1 : ℝ) : EReal) := by
    refine (cst_pat 1 (by norm_num) (by norm_num)).trans (congrArg Real.toEReal ?_)
    unfold ev
    rw [if_neg (by norm_num)]
  rw [ep]
  unfold sexp
  rcases Nat.eq_zero_or_pos n with h0 | h0
  · subst h0
    show Scalar.select (BitVec.ofBool (decide ((y : EReal) < ((ev 1 : ℝ) : EReal)))) _ _ = _
    rw [decide_eq_true (EReal.coe_lt_coe_iff.2 h2), if_pos rfl]
    show cst 0#32 = _
    rw [show cst 0#32 = 0 from Ideal.ofBits_zero_f32]
    simp
  · have hm : ev 1 ≤ ev n := by
      unfold ev
      rw [if_neg (by norm_num), if_neg (by omega)]
      exact zpow_le_zpow_right₀ (by norm_num) (by push_cast; omega)
    have hn : ¬ ((y : EReal) < ((ev 1 : ℝ) : EReal)) := by
      rw [EReal.coe_lt_coe_iff]; exact not_lt.2 (hm.trans h1)
    show Scalar.select (BitVec.ofBool (decide ((y : EReal) < ((ev 1 : ℝ) : EReal)))) _ _ = _
    rw [decide_eq_false hn, if_neg (by omega)]
    have hev : ∀ k : ℕ, 0 < k → ev k = (2 : ℝ) ^ ((k : ℤ) - 127) := fun k hk => by unfold ev; rw [if_neg (by omega)]
    rw [hev n h0] at h1
    rw [hev (n + 1) (by omega)] at h2
    have hy : 0 < y := lt_of_lt_of_le (by positivity) h1
    have l2 : 0 < Real.log 2 := Real.log_pos (by norm_num)
    have g1 : Ideal.log (y : EReal) = ((Real.log y : ℝ) : EReal) := by
      show (if y ≤ 0 then (⊥ : EReal) else _) = _
      rw [if_neg (not_le.2 hy)]
    have g2 : Ideal.log ((2 : ℝ) : EReal) = ((Real.log 2 : ℝ) : EReal) := by
      show (if (2 : ℝ) ≤ 0 then (⊥ : EReal) else _) = _
      rw [if_neg (by norm_num)]
    have g3 : Ideal.div ((Real.log y : ℝ) : EReal) ((Real.log 2 : ℝ) : EReal) = ((Real.log y / Real.log 2 : ℝ) : EReal) := by
      unfold Ideal.div
      rw [if_neg (by rw [EReal.coe_eq_zero]; exact l2.ne'), ← EReal.coe_inv, ← EReal.coe_mul, div_eq_mul_inv]
    have g4 : ⌊Real.log y / Real.log 2⌋ = (n : ℤ) - 127 := by
      rw [Int.floor_eq_iff, le_div_iff₀ l2, div_lt_iff₀ l2]
      constructor
      · have := Real.log_le_log (by positivity) h1
        rwa [Real.log_zpow] at this
      · have := Real.log_lt_log hy h2
        rw [Real.log_zpow] at this
        push_cast at this ⊢
        linarith
    show FloatOps.hostUnary (F := Ideal) (φ := .f32) .floor _ + _ = _
    rw [g1, g2, g3]
    show (((⌊Real.log y / Real.log 2⌋ : ℤ) : ℝ) : EReal) + ((1 : ℝ) : EReal) = _
    rw [g4, ← EReal.coe_add]
    refine congrArg Real.toEReal ?_
    push_cast
    ring

theorem pow_two (z : ℤ) : Ideal.pow ((2 : ℝ) : EReal) (((z : ℤ) : ℝ) : EReal) = (((2 : ℝ) ^ z : ℝ) : EReal) := by
  show ((Real.rpow 2 (z : ℝ) : ℝ) : EReal) = _
  exact congrArg Real.toEReal (Real.rpow_intCast 2 z)

/-- For a group whose largest absolute value is in range, the kernel's scale and inverse are the reference's. -/
theorem scale_eq (a : EReal) (y : ℝ) (ha : ry a = y) (h0 : 0 ≤ y) (hy : y < 2 ^ 115) (c2 : cst 0x40000000#32 = ((2 : ℝ) : EReal))
    (c1 : cst 0x3F800000#32 = ((1 : ℝ) : EReal)) : kscale a = rscale a ∧ kinv a = rinv a := by
  obtain ⟨n, e, h1, h2, _⟩ := kbits_inv y h0 hy
  have hn : n < 242 := by
    by_contra hc
    have : (2 : ℝ) ^ 115 ≤ ev n := by
      unfold ev
      rw [if_neg (by omega), ← zpow_natCast]
      exact zpow_le_zpow_right₀ (by norm_num) (by push_cast; omega)
    linarith
  have hr := re_eq a y ha n h1 h2 c2 c1
  have hk := cst_ksb n hn
  unfold kscale kinv rscale rinv
  have ha' : a * cst 0x37924925#32 = (y : EReal) := ha
  rw [ha', e, hk.1, hk.2, hr, c2, ← EReal.coe_neg, ← Int.cast_neg, pow_two, pow_two]
  exact ⟨rfl, rfl⟩

end Cert.ReferenceIdeal.Gen

end
-- ==== Proof.ReferenceIdeal.Alg3.lean ====
/- The kernel's maximum of a group is the reference's, and its tiled column sums are the sums over all rows. -/
module

public import proofs.«01_k».proof.Proof.ReferenceIdeal.Alg1
public import proofs.«01_k».proof.Proof.ReferenceIdeal.Alg2
public import proofs.«01_k».proof.Proof.KernelIdeal.SemV

@[expose] public section

noncomputable section

namespace Cert.ReferenceIdeal.Gen

open Idealize.ShloMosaic
open Cert.KernelIdeal.Gen (cst eabs ext2 ext2_idx gpm amaxN kscale kinv accN grp GAC)

theorem le_rmaxN (f : ℕ → EReal) (b k : ℕ) (hk : k < 32) : eabs (f (b + k)) ≤ rmaxN f b :=
  (Finset.le_fold_max _).2 (Or.inr ⟨⟨k, hk⟩, Finset.mem_univ _, le_rfl⟩)
theorem rmaxN_le (f : ℕ → EReal) (b : ℕ) (u : EReal) (h : ∀ k < 32, eabs (f (b + k)) ≤ u) : rmaxN f b ≤ u :=
  (Finset.fold_max_le _).2 ⟨by rw [cst_ninf]; exact bot_le, fun k _ => h k.val k.isLt⟩

theorem le_gpm (f : ℕ → EReal) (b : ℕ) : eabs (f b) ≤ gpm f b ∧ eabs (f (b + 8)) ≤ gpm f b ∧ eabs (f (b + 16)) ≤ gpm f b ∧ eabs (f (b + 24)) ≤ gpm f b := by
  unfold gpm
  simp only [le_max_iff, le_refl, true_or, or_true, and_self]
theorem le_amaxN (f : ℕ → EReal) (b s : ℕ) (hs : s < 8) : gpm f (b + s) ≤ amaxN f b := by
  unfold amaxN
  interval_cases s <;> simp only [le_max_iff, le_refl, true_or, or_true, Nat.add_zero]

/-- The two maxima of a group are equal. -/
theorem amaxN_eq (f : ℕ → EReal) (b : ℕ) : amaxN f b = rmaxN f b := by
  refine le_antisymm ?_ (rmaxN_le f b _ fun k hk => ?_)
  · have h0 := le_rmaxN f b 0 (by norm_num)
    have hg : ∀ s < 8, gpm f (b + s) ≤ rmaxN f b := by
      intro s hs
      unfold gpm
      exact max_le (max_le (le_rmaxN f b s (by omega)) (le_rmaxN f b (s + 8) (by omega)))
        (max_le (le_rmaxN f b (s + 16) (by omega)) (le_rmaxN f b (s + 24) (by omega)))
    unfold amaxN
    exact max_le (max_le (max_le (max_le (max_le (max_le (max_le (hg 0 (by norm_num)) (hg 1 (by norm_num))) (hg 2 (by norm_num)))
      (hg 3 (by norm_num))) (hg 4 (by norm_num))) (hg 5 (by norm_num))) (hg 6 (by norm_num))) (hg 7 (by norm_num))
  · have hs := le_amaxN f b (k % 8) (by omega)
    obtain ⟨g0, g1, g2, g3⟩ := le_gpm f (b + k % 8)
    refine le_trans ?_ hs
    have hk' : k = k % 8 ∨ k = k % 8 + 8 ∨ k = k % 8 + 16 ∨ k = k % 8 + 24 := by omega
    rcases hk' with e | e | e | e
    · rw [← e] at g0; rw [← e]; exact g0
    · rw [Nat.add_assoc, ← e] at g1; exact g1
    · rw [Nat.add_assoc, ← e] at g2; exact g2
    · rw [Nat.add_assoc, ← e] at g3; exact g3

theorem eabs_coe (w : ℝ) : eabs (w : EReal) = ((|w| : ℝ) : EReal) := by
  unfold eabs
  rw [← EReal.coe_neg, abs_eq_max_neg]
  exact (EReal.coe_strictMono.monotone.map_max).symm

/-- The reciprocal of the format's largest value, as the programs have it. -/
def cR : ℝ := 9586981 * 2 ^ (-39 : ℤ)
theorem cst_R : cst 0x37924925#32 = ((cR : ℝ) : EReal) := by
  rw [cst_ieee]
  simp [Ideal.ieee, cR, -EReal.coe_mul]

/-- A group of bounded reals: the kernel's scale and inverse are the reference's. -/
theorem group_eq (f : ℕ → EReal) (b : ℕ) (h : ∀ k, ∃ w : ℝ, f k = w ∧ |w| ≤ 2 ^ 129) :
    kscale (amaxN f b) = rscale (rmaxN f b) ∧ kinv (amaxN f b) = rinv (rmaxN f b) := by
  rw [amaxN_eq]
  have h1 : (0 : EReal) ≤ rmaxN f b := by
    refine le_trans ?_ (le_rmaxN f b 0 (by norm_num))
    obtain ⟨w, e, _⟩ := h (b + 0)
    rw [e, eabs_coe, ← EReal.coe_zero, EReal.coe_le_coe_iff]
    exact abs_nonneg w
  have h2 : rmaxN f b ≤ ((2 ^ 129 : ℝ) : EReal) := by
    refine rmaxN_le f b _ fun k _ => ?_
    obtain ⟨w, e, hw⟩ := h (b + k)
    rw [e, eabs_coe, EReal.coe_le_coe_iff]
    exact hw
  generalize rmaxN f b = a at h1 h2
  induction a using EReal.rec with
  | bot => exact absurd h1 (by simp)
  | top => exact absurd h2 (by simp [-EReal.coe_pow])
  | coe a =>
    have g1 : 0 ≤ a := EReal.coe_nonneg.1 h1
    have g2 : a ≤ 2 ^ 129 := EReal.coe_le_coe_iff.1 h2
    have c0 : 0 ≤ cR := by unfold cR; positivity
    have c1 : cR < 2 ^ (-15 : ℤ) := by unfold cR; norm_num
    refine scale_eq _ (a * cR) (by unfold ry; rw [cst_R, EReal.coe_mul]) (mul_nonneg g1 c0) ?_ cst_two cst_one
    calc a * cR ≤ 2 ^ 129 * 2 ^ (-15 : ℤ) := mul_le_mul g2 c1.le c0 (by positivity)
      _ < 2 ^ 115 := by norm_num

/-- The rows one accumulator row takes of a tile. -/
theorem accN_sum (a : EReal) (f : ℕ → EReal) (s : ℕ) : accN a f s = a + ∑ i ∈ Finset.range 32, f (8 * i + s) := by
  unfold accN grp
  simp only [Finset.sum_range_succ, Finset.sum_range_zero, zero_add, Nat.reduceMul]
  have e : ∀ b c : ℕ, b + s + c = b + c + s := fun b c => by omega
  simp only [e, Nat.reduceAdd, Nat.zero_add, Nat.add_zero]
  simp only [Nat.add_comm s, add_assoc]

theorem sum_blocks (g : ℕ → EReal) (n k : ℕ) : ∑ r ∈ Finset.range (n * k), g r = ∑ t ∈ Finset.range n, ∑ i ∈ Finset.range k, g (k * t + i) := by
  induction n with
  | zero => simp
  | succ n ih => rw [Nat.succ_mul, Finset.sum_range_add, ih, Finset.sum_range_succ, Nat.mul_comm n k]

theorem GAC_sum (W : ℕ → ℕ → EReal) (n s q : ℕ) : GAC W n s q = ∑ t ∈ Finset.range n, ∑ i ∈ Finset.range 32, W (256 * t + (8 * i + s)) q := by
  induction n with
  | zero => exact cst_zero
  | succ n ih => rw [Finset.sum_range_succ, ← ih]; exact accN_sum _ _ _

/-- The accumulator's rows add up to the sum over all rows. -/
theorem acc_total (W : ℕ → ℕ → EReal) (q : ℕ) : ∑ s ∈ Finset.range 8, GAC W 132 s q = ∑ r ∈ Finset.range 33792, W r q := by
  simp only [GAC_sum]
  rw [Finset.sum_comm, show (33792 : ℕ) = 132 * 256 from rfl, sum_blocks]
  refine Finset.sum_congr rfl fun t _ => ?_
  rw [Finset.sum_comm, show (256 : ℕ) = 32 * 8 from rfl, sum_blocks (fun r => W (32 * 8 * t + r) q)]

end Cert.ReferenceIdeal.Gen

end
-- ==== Proof.Algebraic.lean ====
/- The idealized kernel and the reference end with equal results, over the extended reals. -/
module

public import proofs.«01_k».proof.Defs
public import proofs.«01_k».proof.Proof.KernelIdeal.ArrV
public import proofs.«01_k».proof.Proof.ReferenceIdeal.RunV
public import proofs.«01_k».proof.Proof.ReferenceIdeal.Alg3
public import Idealize.ShloMosaic.Lib.ReduceAll

@[expose] public section

noncomputable section

namespace Cert.Proof

open Idealize.ShloMosaic Idealize.ShloMosaic.TcCoe Idealize.SL.Sem
open Cert.KernelIdeal.Gen (cst eabs ext2 ext2_idx GAC GRC GRS GCC GCS kclip)
open Cert.ReferenceIdeal.Gen (rd rclip rscale rinv rmaxN kd_eq_rd rd_bound group_eq acc_total cst_ieee cst_zero eabs_coe)

/-- The precondition's side conditions. -/
instance preFacts : Cert.Pre_pre.Facts where
  bitsLt_bf16_f32 := by decide
  bcast_S_S33792x4608 := by decide
  reducesTo_S33792x4608_S_d0_1 := by decide
  h_S_ := by decide

/-- The bound of the gradient's absolute value, as a real. -/
theorem cst_G : cst 0x7F7F0000#32 = ((16711680 * 2 ^ (104 : ℤ) : ℝ) : EReal) := by
  rw [cst_ieee]
  simp [Ideal.ieee, -EReal.coe_mul]

instance : Subsingleton Cert.Pre_pre.S_.Idx := ⟨fun a b => funext fun i => i.elim0⟩

/-- The precondition says that every element of the gradient is a real, of at most the format's largest absolute value. -/
theorem pre_bound (x g : FVec Ideal Cert.Pre_pre.S33792x4608 .bf16) (h : Cert.Pre_pre.fn (F := Ideal) x g = fun _ => 1#1)
    (i : Cert.Pre_pre.S33792x4608.Idx) : ∃ w : ℝ, (g i : EReal) = w ∧ |w| ≤ 2 ^ 128 := by
  have h1 := Host.reduce_andi_all (t := Cert.Pre_pre.S_) _ _ _ _ (fun a => Fin.elim0 a) (congrFun h (fun a => Fin.elim0 a)) i
  have h2 : BitVec.ofBool (decide (eabs (g i) ≤ cst 0x7F7F0000#32)) = 1#1 := h1
  have h3 : eabs (g i) ≤ cst 0x7F7F0000#32 := by
    by_contra hc
    rw [decide_eq_false hc] at h2
    exact absurd h2 (by decide)
  rw [cst_G] at h3
  generalize (g i : EReal) = a at h3 ⊢
  induction a using EReal.rec with
  | bot => exact absurd h3 (by simp [eabs, -EReal.coe_mul])
  | top => exact absurd h3 (by simp [eabs, -EReal.coe_mul])
  | coe w =>
    rw [eabs_coe, EReal.coe_le_coe_iff] at h3
    exact ⟨w, rfl, h3.trans (by norm_num)⟩

/-- Every element of the product is a real in range. -/
theorem W_bound (X G : (⟨2, ![33792, 4608]⟩ : Shape).Idx → EReal) (h : ∀ i, ∃ w : ℝ, G i = w ∧ |w| ≤ 2 ^ 128) (r q : ℕ) :
    ∃ w : ℝ, rd (ext2 X r q) (ext2 G r q) = w ∧ |w| ≤ 2 ^ 129 := by
  have hg : ∃ w : ℝ, ext2 G r q = w ∧ |w| ≤ 2 ^ 128 := by
    unfold ext2
    by_cases hr : r < 33792 ∧ q < 4608
    · rw [dif_pos hr]; exact h _
    · rw [dif_neg hr]; exact ⟨0, rfl, by simp⟩
  obtain ⟨w, e, hw⟩ := hg
  rw [e]
  obtain ⟨v, e', hv⟩ := rd_bound (ext2 X r q) w _ hw
  exact ⟨v, e', hv.trans (by norm_num)⟩

/-- The kernel's last reduction is the sum of the accumulator's rows. -/
theorem pay2_apply (f : ℕ → ℕ → EReal) (j : Cert.KernelIdeal.S1x4608.Idx) :
    Cert.KernelIdeal.Gen.k0_pay2 (F := Ideal) (fun i : Cert.KernelIdeal.S8x4608.Idx => f (i 0).val (i 1).val) j = ∑ s ∈ Finset.range 8, f s (j 1).val := by
  have h1 : (j 1).val < 4608 := (j 1).isLt
  have h0 : (j 0).val < 1 := (j 0).isLt
  unfold Cert.KernelIdeal.Gen.k0_pay2
  refine (shapeCast_apply (s := Cert.KernelIdeal.S4608) (t := Cert.KernelIdeal.S1x4608) _ _ j (fun a => match a with | ⟨0, _⟩ => ⟨(j 1).val, h1⟩) ?_).trans ?_
  · rw [Shape.rowMajor_val_one, Shape.rowMajor_val_two]
    show (j 1).val = (j 0).val * 4608 + (j 1).val
    omega
  refine (multiReduction_add_apply _ _ _ _ _ _).trans ?_
  refine (Ideal.reduceAdd_r2_a0 (n0 := 8) (n1 := 4608) _ _ _).trans ?_
  exact (Finset.sum_range (fun s => f s (j 1).val)).symm

section
variable (m : (ℓ : Loc Cert.KernelIdeal.nD Cert.KernelIdeal.τ Cert.KernelIdeal.sig) → Buf (Elt Ideal) ℓ)
variable (m' : (ℓ : Loc Cert.ReferenceIdeal.nD Cert.ReferenceIdeal.τ Cert.ReferenceIdeal.sig) → Buf (Elt Ideal) ℓ)

/-- From equal arguments the two programs form the same product. -/
theorem W_eq (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) :
    Cert.KernelIdeal.Gen.WV m c = Cert.ReferenceIdeal.Gen.RW m' c := by
  have e0 : Cert.KernelIdeal.Gen.XV m c = Cert.ReferenceIdeal.Gen.RX m' c := h0.symm
  have e1 : Cert.KernelIdeal.Gen.GVar m c = Cert.ReferenceIdeal.Gen.RG m' c := h1.symm
  funext r q
  unfold Cert.KernelIdeal.Gen.WV Cert.ReferenceIdeal.Gen.RW
  rw [kd_eq_rd, e0, e1]

/-- From memories agreeing on the arguments, the gradient real, the idealized kernel and the reference end with equal results. -/
theorem algebraic : Cert.algebraic_KernelIdeal_ReferenceIdeal_pre_pre (hKernelIdeal := Cert.KernelIdeal.Gen.facts)
    (hReferenceIdeal := Cert.ReferenceIdeal.Gen.facts) (hPre_pre := preFacts) := by
  intro m g m' g' hp ha
  have hW : ∀ c, Cert.KernelIdeal.Gen.WV m c = Cert.ReferenceIdeal.Gen.RW m' c := fun c => W_eq m m' c (ha c).1 (ha c).2
  have hG : ∀ c i, ∃ w : ℝ, Cert.ReferenceIdeal.Gen.RG m' c i = w ∧ |w| ≤ 2 ^ 128 := by
    intro c i
    obtain ⟨w, e, hw⟩ := pre_bound _ _ (hp c) i
    exact ⟨w, (congrFun (ha c).2 i).trans e, hw⟩
  have hB : ∀ c r q, ∃ w : ℝ, Cert.ReferenceIdeal.Gen.RW m' c r q = w ∧ |w| ≤ 2 ^ 129 := fun c r q => W_bound _ _ (hG c) r q
  refine ⟨fun c (j : Cert.ReferenceIdeal.S1x4608.Idx) => cst 0#32 + ∑ k : Fin 33792, Cert.ReferenceIdeal.Gen.RW m' c k.val (j 1).val,
    fun c (j : Cert.ReferenceIdeal.S33792x4608.Idx) => rclip (Cert.ReferenceIdeal.Gen.RW m' c (j 0).val (j 1).val)
      (rinv (rmaxN (Cert.ReferenceIdeal.Gen.RW m' c (j 0).val) (32 * ((j 1).val / 32)))),
    fun c (j : Cert.ReferenceIdeal.S33792x144.Idx) => rscale (rmaxN (Cert.ReferenceIdeal.Gen.RW m' c (j 0).val) (32 * (j 1).val)),
    fun c (j : Cert.ReferenceIdeal.S4608x33792.Idx) => rclip (Cert.ReferenceIdeal.Gen.RW m' c (j 1).val (j 0).val)
      (rinv (rmaxN (fun r => Cert.ReferenceIdeal.Gen.RW m' c r (j 0).val) (32 * ((j 1).val / 32)))),
    fun c (j : Cert.ReferenceIdeal.S4608x1056.Idx) => rscale (rmaxN (fun r => Cert.ReferenceIdeal.Gen.RW m' c r (j 0).val) (32 * (j 1).val)), ?_, ?_⟩
  · refine (θ_run Cert.KernelIdeal.defs _ _).mono (fun r h c => ?_) (Cert.KernelIdeal.Gen.value_run m g)
    obtain ⟨hr, a0, a1⟩ := h c
    refine ⟨funext fun j => ?_, funext fun j => ?_, funext fun j => ?_, funext fun j => ?_, funext fun j => ?_, a0, a1⟩
    · refine (hr.dbias j).trans ((pay2_apply _ j).trans ?_)
      rw [acc_total, hW c, Finset.sum_range]
      exact ((congrArg (· + _) cst_zero).trans (zero_add _)).symm
    · refine (hr.rc j).trans ?_
      rw [hW c]
      exact congrArg (kclip _) (group_eq _ _ (fun k => hB c _ k)).2
    · refine (hr.rs j).trans ?_
      rw [hW c]
      exact (group_eq _ _ (fun k => hB c _ k)).1
    · refine (hr.cc j).trans ?_
      rw [hW c]
      exact congrArg (kclip _) (group_eq _ _ (fun k => hB c k _)).2
    · refine (hr.cs j).trans ?_
      rw [hW c]
      exact (group_eq _ _ (fun k => hB c k _)).1
  · refine (θ_run Cert.ReferenceIdeal.defs _ _).mono (fun r h c => ?_) (Cert.ReferenceIdeal.Gen.value_run m' g')
    obtain ⟨hr, a0, a1⟩ := h c
    exact ⟨funext hr.dbias, funext hr.rc, funext hr.rs, funext hr.cc, funext hr.cs, a0, a1⟩

end

end Cert.Proof

end
-- ==== Proof.lean ====
/- The proof of the certificate's claim: the frames of the kernel and of the reference, that the idealized kernel is the kernel itself, and
   that the idealized kernel and the reference end with equal results. -/
module

public import proofs.«01_k».proof.Defs
public import proofs.«01_k».proof.Proof.Kernel.Frame
public import proofs.«01_k».proof.Proof.KernelIdeal.Frame
public import proofs.«01_k».proof.Proof.Gen.ReferenceIdeal
public import proofs.«01_k».proof.Proof.Gen.ReferenceIdeal.Frame
public import proofs.«01_k».proof.Proof.Algebraic

@[expose] public section

noncomputable section

namespace Cert.Proof

open Idealize.ShloMosaic Idealize.SL.Sem

/-- The frames of the kernel, of the idealized kernel and of the reference, and the equality of the results. -/
theorem claim : Cert.Claim := ⟨Cert.Kernel.Gen.facts, Cert.KernelIdeal.Gen.facts, Cert.ReferenceIdeal.Gen.facts, preFacts,
  fun m ρ _ => Cert.Kernel.Gen.frame m ρ, fun m ρ _ => Cert.KernelIdeal.Gen.frame m ρ, fun m ρ _ => Cert.KernelIdeal.Gen.frame m ρ,
  fun m ρ _ => Cert.ReferenceIdeal.Gen.frame m ρ, fun m ρ _ => Cert.ReferenceIdeal.Gen.frame m ρ, trivial, algebraic⟩

end Cert.Proof

end
